-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_inputs_finite [hPre_inputs_finite : Cert.Pre_inputs_finite.Facts] (m : (ℓ : Loc Cert.KernelIdeal.nD Cert.KernelIdeal.τ Cert.KernelIdeal.sig) → Buf (Elt Ideal) ℓ) : Prop :=
  ∀ c : Dev Cert.KernelIdeal.nD,
    (Cert.Pre_inputs_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs_finite [hPre_inputs_finite : Cert.Pre_inputs_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 [hPre_tables_in_range : Cert.Pre_tables_in_range.Facts] (m : (ℓ : Loc Cert.Kernel2.nD Cert.Kernel2.τ Cert.Kernel2.sig) → Buf (Elt Bits) ℓ) : Prop :=
  ∀ c : Dev Cert.Kernel2.nD,
    (Cert.Pre_tables_in_range.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5))) = (fun _ => 1#1)

def Pre_Kernel2Ideal [hPre_tables_in_range : Cert.Pre_tables_in_range.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_tables_in_range.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_tables_in_range [hPre_tables_in_range : Cert.Pre_tables_in_range.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_tables_in_range.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_rows_finite [hPre_rows_finite : Cert.Pre_rows_finite.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_rows_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_rows_finite [hPre_rows_finite : Cert.Pre_rows_finite.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_rows_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_inputs_finite [hKernelIdeal : Cert.KernelIdeal.Facts] [hPre_inputs_finite : Cert.Pre_inputs_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_inputs_finite [hReferenceIdeal : Cert.ReferenceIdeal.Facts] [hPre_inputs_finite : Cert.Pre_inputs_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] [hPre_tables_in_range : Cert.Pre_tables_in_range.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] [hPre_tables_in_range : Cert.Pre_tables_in_range.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_tables_in_range [hReference2Ideal : Cert.Reference2Ideal.Facts] [hPre_tables_in_range : Cert.Pre_tables_in_range.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_tables_in_range m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Kernel4Ideal_pre_rows_finite [hKernel4Ideal : Cert.Kernel4Ideal.Facts] [hPre_rows_finite : Cert.Pre_rows_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_rows_finite m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Reference4Ideal_pre_rows_finite [hReference4Ideal : Cert.Reference4Ideal.Facts] [hPre_rows_finite : Cert.Pre_rows_finite.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_rows_finite m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_inputs_finite [hKernelIdeal : Cert.KernelIdeal.Facts] [hReferenceIdeal : Cert.ReferenceIdeal.Facts] [hPre_inputs_finite : Cert.Pre_inputs_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_inputs_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] [hPre_tables_in_range : Cert.Pre_tables_in_range.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v33) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v3_0)) (v1 : (c : Dev Cert.Kernel3Ideal.nD) → Buf (Elt Ideal) ((c.tc : Thread Cert.Kernel3Ideal.nD Cert.Kernel3Ideal.τ).loc Cert.Kernel3Ideal.main_v3_1)) (v2 : (c : Dev Cert.Kernel3Ideal.nD) → Buf (Elt Ideal) ((c.tc : Thread Cert.Kernel3Ideal.nD Cert.Kernel3Ideal.τ).loc Cert.Kernel3Ideal.main_v3_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3_0) = v0 c
          ∧ r.2.mem ((c.tc : Thread Cert.Kernel3Ideal.nD Cert.Kernel3Ideal.τ).loc Cert.Kernel3Ideal.main_v3_1) = v1 c
          ∧ r.2.mem ((c.tc : Thread Cert.Kernel3Ideal.nD Cert.Kernel3Ideal.τ).loc Cert.Kernel3Ideal.main_v3_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v28) = v0 c
          ∧ r.2.mem ((c.tc : Thread Cert.Reference3Ideal.nD Cert.Reference3Ideal.τ).loc Cert.Reference3Ideal.main_v30) = v1 c
          ∧ r.2.mem ((c.tc : Thread Cert.Reference3Ideal.nD Cert.Reference3Ideal.τ).loc Cert.Reference3Ideal.main_v32) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  IdealRules.named_const.Statement Cert.Kernel4Ideal.κ "mask" .f32 0xF149F2CA#32 ⊥

def algebraic_Kernel4Ideal_Reference4Ideal_pre_rows_finite [hKernel4Ideal : Cert.Kernel4Ideal.Facts] [hReference4Ideal : Cert.Reference4Ideal.Facts] [hPre_rows_finite : Cert.Pre_rows_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_rows_finite m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v31) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_inputs_finite : Cert.Pre_inputs_finite.Facts) (hPre_tables_in_range : Cert.Pre_tables_in_range.Facts) (hPre_rows_finite : Cert.Pre_rows_finite.Facts),
    quiescent_Kernel (hKernel := hKernel)
    ∧ quiescent_KernelIdeal (hKernelIdeal := hKernelIdeal)
    ∧ quiescent_KernelIdeal_pre_inputs_finite (hKernelIdeal := hKernelIdeal) (hPre_inputs_finite := hPre_inputs_finite)
    ∧ quiescent_ReferenceIdeal (hReferenceIdeal := hReferenceIdeal)
    ∧ quiescent_ReferenceIdeal_pre_inputs_finite (hReferenceIdeal := hReferenceIdeal) (hPre_inputs_finite := hPre_inputs_finite)
    ∧ quiescent_Kernel2 (hKernel2 := hKernel2) (hPre_tables_in_range := hPre_tables_in_range)
    ∧ quiescent_Kernel2Ideal (hKernel2Ideal := hKernel2Ideal) (hPre_tables_in_range := hPre_tables_in_range)
    ∧ quiescent_Reference2Ideal (hReference2Ideal := hReference2Ideal)
    ∧ quiescent_Reference2Ideal_pre_tables_in_range (hReference2Ideal := hReference2Ideal) (hPre_tables_in_range := hPre_tables_in_range)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_rows_finite (hKernel4Ideal := hKernel4Ideal) (hPre_rows_finite := hPre_rows_finite)
    ∧ quiescent_Reference4Ideal (hReference4Ideal := hReference4Ideal)
    ∧ quiescent_Reference4Ideal_pre_rows_finite (hReference4Ideal := hReference4Ideal) (hPre_rows_finite := hPre_rows_finite)
    ∧ preserves_Kernel_KernelIdeal
    ∧ algebraic_KernelIdeal_ReferenceIdeal_pre_inputs_finite (hKernelIdeal := hKernelIdeal) (hReferenceIdeal := hReferenceIdeal) (hPre_inputs_finite := hPre_inputs_finite)
    ∧ preserves_Kernel2_Kernel2Ideal
    ∧ algebraic_Kernel2Ideal_Reference2Ideal (hKernel2Ideal := hKernel2Ideal) (hReference2Ideal := hReference2Ideal) (hPre_tables_in_range := hPre_tables_in_range)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_rows_finite (hKernel4Ideal := hKernel4Ideal) (hReference4Ideal := hReference4Ideal) (hPre_rows_finite := hPre_rows_finite)
-- ==== Pre_inputs_finite.lean ====
abbrev S4x512x4096 : Shape := ⟨3, ![4, 512, 4096]⟩
abbrev S4x64 : Shape := ⟨2, ![4, 64]⟩
abbrev S128 : Shape := ⟨1, ![128]⟩
abbrev S_ : Shape := ⟨0, ![]⟩

class Facts : Prop where
  bitsLt_bf16_f32 : FTy.bits .bf16 < FTy.bits .f32
  bcast_S_S4x512x4096 : S_.BroadcastsInDim S4x512x4096 (![] : Fin 0 → Fin S4x512x4096.rank)
  reducesTo_S4x512x4096_S_d0_1_2 : S4x512x4096.ReducesTo [0, 1, 2] S_
  h_S_ : 0 < S_.numel
  bcast_S_S4x64 : S_.BroadcastsInDim S4x64 (![] : Fin 0 → Fin S4x64.rank)
  reducesTo_S4x64_S_d0_1 : S4x64.ReducesTo [0, 1] S_

variable [Facts]

def fn_part1 {F : FTy → Type} [FloatOps F] (main_v16 : IVec S_ 1) (main_v17 : FVec F S4x64 .f32) : IVec S_ 1 :=
  let main_cst_4 : FVec F S_ .f32 := constant S_ .f32 0x7F800000#32
  let main_v18 : FVec F S4x64 .f32 := broadcastInDim S4x64 ![] bcast_S_S4x64 main_cst_4
  let main_v19 : IVec S4x64 1 := cmpf .olt main_v17 main_v18
  let main_c_5 : IVec S_ 1 := constantI S_ 1 1#1
  let main_v20 : IVec S_ 1 := (fun x v => Host.reduce IntOp.andi x v reducesTo_S4x64_S_d0_1 h_S_) main_v19 main_c_5
  let main_v21 : IVec S_ 1 := andi main_v16 main_v20
  main_v21

def fn {F : FTy → Type} [FloatOps F] (main_arg0 : FVec F S4x512x4096 .bf16) (main_arg1 : FVec F S4x512x4096 .bf16) (main_arg2 : FVec F S4x512x4096 .bf16) (main_arg3 : FVec F S4x64 .f32) (main_arg4 : FVec F S128 .f32) : IVec S_ 1 :=
  let main_v0 : FVec F S4x512x4096 .f32 := (extf .f32 · bitsLt_bf16_f32) main_arg0
  let main_v1 : FVec F S4x512x4096 .f32 := Host.absf main_v0
  let main_cst : FVec F S_ .f32 := constant S_ .f32 0x7F800000#32
  let main_v2 : FVec F S4x512x4096 .f32 := broadcastInDim S4x512x4096 ![] bcast_S_S4x512x4096 main_cst
  let main_v3 : IVec S4x512x4096 1 := cmpf .olt main_v1 main_v2
  let main_c : IVec S_ 1 := constantI S_ 1 1#1
  let main_v4 : IVec S_ 1 := (fun x v => Host.reduce IntOp.andi x v reducesTo_S4x512x4096_S_d0_1_2 h_S_) main_v3 main_c
  let main_v5 : FVec F S4x512x4096 .f32 := (extf .f32 · bitsLt_bf16_f32) main_arg1
  let main_v6 : FVec F S4x512x4096 .f32 := Host.absf main_v5
  let main_cst_0 : FVec F S_ .f32 := constant S_ .f32 0x7F800000#32
  let main_v7 : FVec F S4x512x4096 .f32 := broadcastInDim S4x512x4096 ![] bcast_S_S4x512x4096 main_cst_0
  let main_v8 : IVec S4x512x4096 1 := cmpf .olt main_v6 main_v7
  let main_c_1 : IVec S_ 1 := constantI S_ 1 1#1
  let main_v9 : IVec S_ 1 := (fun x v => Host.reduce IntOp.andi x v reducesTo_S4x512x4096_S_d0_1_2 h_S_) main_v8 main_c_1
  let main_v10 : IVec S_ 1 := andi main_v4 main_v9
  let main_v11 : FVec F S4x512x4096 .f32 := (extf .f32 · bitsLt_bf16_f32) main_arg2
  let main_v12 : FVec F S4x512x4096 .f32 := Host.absf main_v11
  let main_cst_2 : FVec F S_ .f32 := constant S_ .f32 0x7F800000#32
  let main_v13 : FVec F S4x512x4096 .f32 := broadcastInDim S4x512x4096 ![] bcast_S_S4x512x4096 main_cst_2
  let main_v14 : IVec S4x512x4096 1 := cmpf .olt main_v12 main_v13
  let main_c_3 : IVec S_ 1 := constantI S_ 1 1#1
  let main_v15 : IVec S_ 1 := (fun x v => Host.reduce IntOp.andi x v reducesTo_S4x512x4096_S_d0_1_2 h_S_) main_v14 main_c_3
  let main_v16 : IVec S_ 1 := andi main_v10 main_v15
  let main_v17 : FVec F S4x64 .f32 := Host.absf main_arg3
  fn_part1 (F := F) main_v16 main_v17
-- ==== Pre_rows_finite.lean ====
abbrev S4x640x4096 : Shape := ⟨3, ![4, 640, 4096]⟩
abbrev S4x512x4096 : Shape := ⟨3, ![4, 512, 4096]⟩
abbrev S_ : Shape := ⟨0, ![]⟩

class Facts : Prop where
  bitsLt_bf16_f32 : FTy.bits .bf16 < FTy.bits .f32
  bcast_S_S4x640x4096 : S_.BroadcastsInDim S4x640x4096 (![] : Fin 0 → Fin S4x640x4096.rank)
  reducesTo_S4x640x4096_S_d0_1_2 : S4x640x4096.ReducesTo [0, 1, 2] S_
  h_S_ : 0 < S_.numel

variable [Facts]

def fn {F : FTy → Type} [FloatOps F] (main_arg0 : FVec F S4x640x4096 .bf16) (main_arg1 : FVec F S4x640x4096 .bf16) (main_arg2 : FVec F S4x512x4096 .bf16) : IVec S_ 1 :=
  let main_v0 : FVec F S4x640x4096 .f32 := (extf .f32 · bitsLt_bf16_f32) main_arg0
  let main_v1 : FVec F S4x640x4096 .f32 := Host.absf main_v0
  let main_cst : FVec F S_ .f32 := constant S_ .f32 0x7F800000#32
  let main_v2 : FVec F S4x640x4096 .f32 := broadcastInDim S4x640x4096 ![] bcast_S_S4x640x4096 main_cst
  let main_v3 : IVec S4x640x4096 1 := cmpf .olt main_v1 main_v2
  let main_c : IVec S_ 1 := constantI S_ 1 1#1
  let main_v4 : IVec S_ 1 := (fun x v => Host.reduce IntOp.andi x v reducesTo_S4x640x4096_S_d0_1_2 h_S_) main_v3 main_c
  let main_v5 : FVec F S4x640x4096 .f32 := (extf .f32 · bitsLt_bf16_f32) main_arg1
  let main_v6 : FVec F S4x640x4096 .f32 := Host.absf main_v5
  let main_cst_0 : FVec F S_ .f32 := constant S_ .f32 0x7F800000#32
  let main_v7 : FVec F S4x640x4096 .f32 := broadcastInDim S4x640x4096 ![] bcast_S_S4x640x4096 main_cst_0
  let main_v8 : IVec S4x640x4096 1 := cmpf .olt main_v6 main_v7
  let main_c_1 : IVec S_ 1 := constantI S_ 1 1#1
  let main_v9 : IVec S_ 1 := (fun x v => Host.reduce IntOp.andi x v reducesTo_S4x640x4096_S_d0_1_2 h_S_) main_v8 main_c_1
  let main_v10 : IVec S_ 1 := andi main_v4 main_v9
  main_v10
-- ==== Pre_tables_in_range.lean ====
abbrev S49152x1024 : Shape := ⟨2, ![49152, 1024]⟩
abbrev S96 : Shape := ⟨1, ![96]⟩
abbrev S1 : Shape := ⟨1, ![1]⟩
abbrev S64x1024x512 : Shape := ⟨3, ![64, 1024, 512]⟩
abbrev S64x512x1024 : Shape := ⟨3, ![64, 512, 1024]⟩
abbrev S_ : Shape := ⟨0, ![]⟩

class Facts : Prop where
  bcast_S_S96 : S_.BroadcastsInDim S96 (![] : Fin 0 → Fin S96.rank)
  reducesTo_S96_S_d0 : S96.ReducesTo [0] S_
  h_S_ : 0 < S_.numel
  shapeCasts_S1_S_ : S1.ShapeCasts S_

variable [Facts]

def fn {F : FTy → Type} [FloatOps F] (main_arg0 : FVec F S49152x1024 .f32) (main_arg1 : IVec S96 32) (main_arg2 : IVec S1 32) (main_arg3 : FVec F S64x1024x512 .f32) (main_arg4 : FVec F S64x1024x512 .f32) (main_arg5 : FVec F S64x512x1024 .f32) : IVec S_ 1 :=
  let main_c : IVec S_ 32 := constantI S_ 32 0#32
  let main_v0 : IVec S96 32 := broadcastInDim S96 ![] bcast_S_S96 main_c
  let main_v1 : IVec S96 1 := cmpi .sge main_arg1 main_v0
  let main_c_0 : IVec S_ 32 := constantI S_ 32 64#32
  let main_v2 : IVec S96 32 := broadcastInDim S96 ![] bcast_S_S96 main_c_0
  let main_v3 : IVec S96 1 := cmpi .slt main_arg1 main_v2
  let main_v4 : IVec S96 1 := andi main_v1 main_v3
  let main_c_1 : IVec S_ 1 := constantI S_ 1 1#1
  let main_v5 : IVec S_ 1 := (fun x v => Host.reduce IntOp.andi x v reducesTo_S96_S_d0 h_S_) main_v4 main_c_1
  let main_v6 : IVec S_ 32 := shapeCast S_ main_arg2 shapeCasts_S1_S_
  let main_c_2 : IVec S_ 32 := constantI S_ 32 1#32
  let main_v7 : IVec S_ 1 := cmpi .sge main_v6 main_c_2
  let main_v8 : IVec S_ 1 := andi main_v5 main_v7
  main_v8
-- ==== Kernel.lean ====
abbrev S4x512x4096 : Shape := ⟨3, ![4, 512, 4096]⟩
abbrev S4x64 : Shape := ⟨2, ![4, 64]⟩
abbrev S128 : Shape := ⟨1, ![128]⟩
abbrev S128x1 : Shape := ⟨2, ![128, 1]⟩
abbrev S4x4096x512 : Shape := ⟨3, ![4, 4096, 512]⟩
abbrev S1x128x4096 : Shape := ⟨3, ![1, 128, 4096]⟩
abbrev S1x4096x128 : Shape := ⟨3, ![1, 4096, 128]⟩
abbrev S1x4096 : Shape := ⟨2, ![1, 4096]⟩
abbrev S128x4096 : Shape := ⟨2, ![128, 4096]⟩
abbrev S1x64x1024 : Shape := ⟨3, ![1, 64, 1024]⟩
abbrev S64x1024 : Shape := ⟨2, ![64, 1024]⟩
abbrev S1x128x1024 : Shape := ⟨3, ![1, 128, 1024]⟩
abbrev S128x1024 : Shape := ⟨2, ![128, 1024]⟩
abbrev S1x64x4096 : Shape := ⟨3, ![1, 64, 4096]⟩
abbrev S64x4096 : Shape := ⟨2, ![64, 4096]⟩
abbrev S1024x4096 : Shape := ⟨2, ![1024, 4096]⟩
abbrev S4096 : Shape := ⟨1, ![4096]⟩
abbrev S1024x1024 : Shape := ⟨2, ![1024, 1024]⟩
abbrev S1024x3072 : Shape := ⟨2, ![1024, 3072]⟩
abbrev S1x64x3072 : Shape := ⟨3, ![1, 64, 3072]⟩
abbrev S64x3072 : Shape := ⟨2, ![64, 3072]⟩
abbrev S1024x2048 : Shape := ⟨2, ![1024, 2048]⟩
abbrev S1x3072 : Shape := ⟨2, ![1, 3072]⟩
abbrev S3072 : Shape := ⟨1, ![3072]⟩
abbrev S128x3072 : Shape := ⟨2, ![128, 3072]⟩
abbrev S1x64x2048 : Shape := ⟨3, ![1, 64, 2048]⟩
abbrev S64x2048 : Shape := ⟨2, ![64, 2048]⟩
abbrev S1x2048 : Shape := ⟨2, ![1, 2048]⟩
abbrev S2048 : Shape := ⟨1, ![2048]⟩
abbrev S128x2048 : Shape := ⟨2, ![128, 2048]⟩
abbrev S1x1024 : Shape := ⟨2, ![1, 1024]⟩
abbrev S1024 : Shape := ⟨1, ![1024]⟩
abbrev S1x64 : Shape := ⟨2, ![1, 64]⟩
abbrev S1 : Shape := ⟨1, ![1]⟩
abbrev S1x1 : Shape := ⟨2, ![1, 1]⟩
abbrev S4096x128 : Shape := ⟨2, ![4096, 128]⟩

abbrev nBuf : Space → Nat
  | .hbm => 7
  | .vmem => 16
  | .smem => 0
  | _ => 0

abbrev bufTy : (tb : Table) → Fin (tcTables nBuf tb) → BufTy
  | .hbm, ⟨0, _⟩ => ⟨S4x512x4096, .bf16⟩
  | .hbm, ⟨1, _⟩ => ⟨S4x512x4096, .bf16⟩
  | .hbm, ⟨2, _⟩ => ⟨S4x512x4096, .bf16⟩
  | .hbm, ⟨3, _⟩ => ⟨S4x64, .f32⟩
  | .hbm, ⟨4, _⟩ => ⟨S128, .f32⟩
  | .hbm, ⟨5, _⟩ => ⟨S128x1, .f32⟩
  | .hbm, ⟨6, _⟩ => ⟨S4x4096x512, .bf16⟩
  | .local _ .vmem, ⟨0, _⟩ => ⟨S1x128x4096, .bf16⟩
  | .local _ .vmem, ⟨1, _⟩ => ⟨S1x128x4096, .bf16⟩
  | .local _ .vmem, ⟨2, _⟩ => ⟨S1x128x4096, .bf16⟩
  | .local _ .vmem, ⟨3, _⟩ => ⟨S1x128x4096, .bf16⟩
  | .local _ .vmem, ⟨4, _⟩ => ⟨S1x128x4096, .bf16⟩
  | .local _ .vmem, ⟨5, _⟩ => ⟨S1x128x4096, .bf16⟩
  | .local _ .vmem, ⟨6, _⟩ => ⟨S4x64, .f32⟩
  | .local _ .vmem, ⟨7, _⟩ => ⟨S128x1, .f32⟩
  | .local _ .vmem, ⟨8, _⟩ => ⟨S1x4096x128, .bf16⟩
  | .local _ .vmem, ⟨9, _⟩ => ⟨S1x4096x128, .bf16⟩
  | .local _ .vmem, ⟨10, _⟩ => ⟨S1x4096, .f32⟩
  | .local _ .vmem, ⟨11, _⟩ => ⟨S1x4096, .f32⟩
  | .local _ .vmem, ⟨12, _⟩ => ⟨S1x4096, .f32⟩
  | .local _ .vmem, ⟨13, _⟩ => ⟨S1x4096, .f32⟩
  | .local _ .vmem, ⟨14, _⟩ => ⟨S128x4096, .f32⟩
  | .local _ .vmem, ⟨15, _⟩ => ⟨S128x4096, .f32⟩
  | _, _ => ⟨S4x512x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_scratch5 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![4, 4, 1], ![false, false, false]⟩

@[reducible] def k0_t1_loop (i : grid0.Coords) : Scf.Loop 32 :=
  let c0_i32_16 : BitVec 32 := 0#32
  let arg2 : BitVec 32 := BitVec.ofNat 32 (i 2).val
  let c4_i32 : BitVec 32 := 4#32
  let v24 : BitVec 32 := Scalar.muli arg2 c4_i32
  let v25 : BitVec 32 := Scalar.subi v24 c0_i32_16
  let c1_i32 : BitVec 32 := 1#32
  let v27 : BitVec 32 := Scalar.divsi v25 c1_i32
  let v28 : BitVec 32 := Scalar.muli v27 c1_i32
  let v29 : BitVec 32 := Scalar.addi c0_i32_16 v28
  let c1_i32_17 : BitVec 32 := 1#32
  ⟨c0_i32_16, v29, c1_i32_17⟩
def k0_mult1 (i : grid0.Coords) (k0_t1 : Fin (k0_t1_loop i).trips) : BitVec 32 :=
  let c0_i32_16 : BitVec 32 := 0#32
  let c1_i32_17 : BitVec 32 := 1#32
  let arg15 : BitVec 32 := Scf.iv c0_i32_16 c1_i32_17 k0_t1
  let c1024_i32_236 : BitVec 32 := 1024#32
  let v456 : BitVec 32 := Scalar.muli arg15 c1024_i32_236
  v456
def k0_off1 (i : grid0.Coords) (k0_t1 : Fin (k0_t1_loop i).trips) : Fin 3 → Nat :=
  let c0_237 : Index := 0#32
  let c0_238 : Index := 0#32
  let c0_i32_16 : BitVec 32 := 0#32
  let c1_i32_17 : BitVec 32 := 1#32
  let arg15 : BitVec 32 := Scf.iv c0_i32_16 c1_i32_17 k0_t1
  let c1024_i32_236 : BitVec 32 := 1024#32
  let v456 : BitVec 32 := Scalar.muli arg15 c1024_i32_236
  let v457 : BitVec 32 := v456
  let v458 : Index := Scalar.indexCast v457
  ![0, 0, v458.toNat]
def k0_off2 (i : grid0.Coords) (k0_t1 : Fin (k0_t1_loop i).trips) : Fin 3 → Nat :=
  let c0_239 : Index := 0#32
  let c0_240 : Index := 0#32
  let c0_i32_16 : BitVec 32 := 0#32
  let c1_i32_17 : BitVec 32 := 1#32
  let arg15 : BitVec 32 := Scf.iv c0_i32_16 c1_i32_17 k0_t1
  let c1024_i32_236 : BitVec 32 := 1024#32
  let v456 : BitVec 32 := Scalar.muli arg15 c1024_i32_236
  let v457 : BitVec 32 := v456
  let v461 : Index := Scalar.indexCast v457
  ![0, 0, v461.toNat]
def k0_off3 (i : grid0.Coords) (k0_t1 : Fin (k0_t1_loop i).trips) : Fin 3 → Nat :=
  let c0_260 : Index := 0#32
  let c64_261 : Index := 64#32
  let c0_i32_16 : BitVec 32 := 0#32
  let c1_i32_17 : BitVec 32 := 1#32
  let arg15 : BitVec 32 := Scf.iv c0_i32_16 c1_i32_17 k0_t1
  let c1024_i32_236 : BitVec 32 := 1024#32
  let v456 : BitVec 32 := Scalar.muli arg15 c1024_i32_236
  let v457 : BitVec 32 := v456
  let v496 : Index := Scalar.indexCast v457
  ![0, 64, v496.toNat]
@[reducible] def k0_t2_loop (i : grid0.Coords) : Scf.Loop 32 :=
  let c0_i32_16 : BitVec 32 := 0#32
  let arg2 : BitVec 32 := BitVec.ofNat 32 (i 2).val
  let c4_i32 : BitVec 32 := 4#32
  let v24 : BitVec 32 := Scalar.muli arg2 c4_i32
  let v25 : BitVec 32 := Scalar.subi v24 c0_i32_16
  let c1_i32 : BitVec 32 := 1#32
  let v27 : BitVec 32 := Scalar.divsi v25 c1_i32
  let v28 : BitVec 32 := Scalar.muli v27 c1_i32
  let v29 : BitVec 32 := Scalar.addi c0_i32_16 v28
  let v26 : BitVec 32 := Scalar.addi c0_i32_16 v25
  let c1_i32_18 : BitVec 32 := 1#32
  ⟨v29, v26, c1_i32_18⟩
def k0_mult2 (i : grid0.Coords) (k0_t2 : Fin (k0_t2_loop i).trips) : BitVec 32 :=
  let c0_i32_16 : BitVec 32 := 0#32
  let arg2 : BitVec 32 := BitVec.ofNat 32 (i 2).val
  let c4_i32 : BitVec 32 := 4#32
  let v24 : BitVec 32 := Scalar.muli arg2 c4_i32
  let v25 : BitVec 32 := Scalar.subi v24 c0_i32_16
  let c1_i32 : BitVec 32 := 1#32
  let v27 : BitVec 32 := Scalar.divsi v25 c1_i32
  let v28 : BitVec 32 := Scalar.muli v27 c1_i32
  let v29 : BitVec 32 := Scalar.addi c0_i32_16 v28
  let c1_i32_18 : BitVec 32 := 1#32
  let arg15 : BitVec 32 := Scf.iv v29 c1_i32_18 k0_t2
  let c1024_i32_236 : BitVec 32 := 1024#32
  let v456 : BitVec 32 := Scalar.muli arg15 c1024_i32_236
  v456
def k0_off4 (i : grid0.Coords) (k0_t2 : Fin (k0_t2_loop i).trips) : Fin 3 → Nat :=
  let c0_237 : Index := 0#32
  let c0_238 : Index := 0#32
  let c0_i32_16 : BitVec 32 := 0#32
  let arg2 : BitVec 32 := BitVec.ofNat 32 (i 2).val
  let c4_i32 : BitVec 32 := 4#32
  let v24 : BitVec 32 := Scalar.muli arg2 c4_i32
  let v25 : BitVec 32 := Scalar.subi v24 c0_i32_16
  let c1_i32 : BitVec 32 := 1#32
  let v27 : BitVec 32 := Scalar.divsi v25 c1_i32
  let v28 : BitVec 32 := Scalar.muli v27 c1_i32
  let v29 : BitVec 32 := Scalar.addi c0_i32_16 v28
  let c1_i32_18 : BitVec 32 := 1#32
  let arg15 : BitVec 32 := Scf.iv v29 c1_i32_18 k0_t2
  let c1024_i32_236 : BitVec 32 := 1024#32
  let v456 : BitVec 32 := Scalar.muli arg15 c1024_i32_236
  let v457 : BitVec 32 := v456
  let v458 : Index := Scalar.indexCast v457
  ![0, 0, v458.toNat]
def k0_off5 (i : grid0.Coords) (k0_t2 : Fin (k0_t2_loop i).trips) : Fin 3 → Nat :=
  let c0_239 : Index := 0#32
  let c0_240 : Index := 0#32
  let c0_i32_16 : BitVec 32 := 0#32
  let arg2 : BitVec 32 := BitVec.ofNat 32 (i 2).val
  let c4_i32 : BitVec 32 := 4#32
  let v24 : BitVec 32 := Scalar.muli arg2 c4_i32
  let v25 : BitVec 32 := Scalar.subi v24 c0_i32_16
  let c1_i32 : BitVec 32 := 1#32
  let v27 : BitVec 32 := Scalar.divsi v25 c1_i32
  let v28 : BitVec 32 := Scalar.muli v27 c1_i32
  let v29 : BitVec 32 := Scalar.addi c0_i32_16 v28
  let c1_i32_18 : BitVec 32 := 1#32
  let arg15 : BitVec 32 := Scf.iv v29 c1_i32_18 k0_t2
  let c1024_i32_236 : BitVec 32 := 1024#32
  let v456 : BitVec 32 := Scalar.muli arg15 c1024_i32_236
  let v457 : BitVec 32 := v456
  let v461 : Index := Scalar.indexCast v457
  ![0, 0, v461.toNat]
def k0_off6 (i : grid0.Coords) (k0_t2 : Fin (k0_t2_loop i).trips) : Fin 3 → Nat :=
  let c0_260 : Index := 0#32
  let c64_261 : Index := 64#32
  let c0_i32_16 : BitVec 32 := 0#32
  let arg2 : BitVec 32 := BitVec.ofNat 32 (i 2).val
  let c4_i32 : BitVec 32 := 4#32
  let v24 : BitVec 32 := Scalar.muli arg2 c4_i32
  let v25 : BitVec 32 := Scalar.subi v24 c0_i32_16
  let c1_i32 : BitVec 32 := 1#32
  let v27 : BitVec 32 := Scalar.divsi v25 c1_i32
  let v28 : BitVec 32 := Scalar.muli v27 c1_i32
  let v29 : BitVec 32 := Scalar.addi c0_i32_16 v28
  let c1_i32_18 : BitVec 32 := 1#32
  let arg15 : BitVec 32 := Scf.iv v29 c1_i32_18 k0_t2
  let c1024_i32_236 : BitVec 32 := 1024#32
  let v456 : BitVec 32 := Scalar.muli arg15 c1024_i32_236
  let v457 : BitVec 32 := v456
  let v496 : Index := Scalar.indexCast v457
  ![0, 64, v496.toNat]
def k0_mult3 (i : grid0.Coords) : BitVec 32 :=
  let arg2 : BitVec 32 := BitVec.ofNat 32 (i 2).val
  let c4_i32 : BitVec 32 := 4#32
  let v24 : BitVec 32 := Scalar.muli arg2 c4_i32
  let c0_i32_19 : BitVec 32 := 0#32
  let v30 : BitVec 32 := Scalar.addi v24 c0_i32_19
  let c1024_i32 : BitVec 32 := 1024#32
  let v31 : BitVec 32 := Scalar.muli v30 c1024_i32
  v31
def k0_off7 (i : grid0.Coords) (c0_i32_19 : BitVec 32) : Fin 3 → Nat :=
  let c0_20 : Index := 0#32
  let c0_21 : Index := 0#32
  let arg2 : BitVec 32 := BitVec.ofNat 32 (i 2).val
  let c4_i32 : BitVec 32 := 4#32
  let v24 : BitVec 32 := Scalar.muli arg2 c4_i32
  let v30 : BitVec 32 := Scalar.addi v24 c0_i32_19
  let c1024_i32 : BitVec 32 := 1024#32
  let v31 : BitVec 32 := Scalar.muli v30 c1024_i32
  let v32 : BitVec 32 := v31
  let v33 : Index := Scalar.indexCast v32
  ![0, 0, v33.toNat]
def k0_off8 (i : grid0.Coords) (c0_i32_19 : BitVec 32) : Fin 3 → Nat :=
  let c0_22 : Index := 0#32
  let c0_23 : Index := 0#32
  let arg2 : BitVec 32 := BitVec.ofNat 32 (i 2).val
  let c4_i32 : BitVec 32 := 4#32
  let v24 : BitVec 32 := Scalar.muli arg2 c4_i32
  let v30 : BitVec 32 := Scalar.addi v24 c0_i32_19
  let c1024_i32 : BitVec 32 := 1024#32
  let v31 : BitVec 32 := Scalar.muli v30 c1024_i32
  let v32 : BitVec 32 := v31
  let v36 : Index := Scalar.indexCast v32
  ![0, 0, v36.toNat]
def k0_off9 (i : grid0.Coords) (c0_i32_19 : BitVec 32) : Fin 3 → Nat :=
  let c0_44 : Index := 0#32
  let c64 : Index := 64#32
  let arg2 : BitVec 32 := BitVec.ofNat 32 (i 2).val
  let c4_i32 : BitVec 32 := 4#32
  let v24 : BitVec 32 := Scalar.muli arg2 c4_i32
  let v30 : BitVec 32 := Scalar.addi v24 c0_i32_19
  let c1024_i32 : BitVec 32 := 1024#32
  let v31 : BitVec 32 := Scalar.muli v30 c1024_i32
  let v32 : BitVec 32 := v31
  let v79 : Index := Scalar.indexCast v32
  ![0, 64, v79.toNat]
def k0_mult4 (i : grid0.Coords) : BitVec 32 :=
  let arg2 : BitVec 32 := BitVec.ofNat 32 (i 2).val
  let c4_i32 : BitVec 32 := 4#32
  let v24 : BitVec 32 := Scalar.muli arg2 c4_i32
  let c1_i32_67 : BitVec 32 := 1#32
  let v125 : BitVec 32 := Scalar.addi v24 c1_i32_67
  let c1024_i32_68 : BitVec 32 := 1024#32
  let v126 : BitVec 32 := Scalar.muli v125 c1024_i32_68
  v126
def k0_mult5 (i : grid0.Coords) : BitVec 32 :=
  let arg2 : BitVec 32 := BitVec.ofNat 32 (i 2).val
  let c4_i32 : BitVec 32 := 4#32
  let v24 : BitVec 32 := Scalar.muli arg2 c4_i32
  let c2_i32 : BitVec 32 := 2#32
  let v220 : BitVec 32 := Scalar.addi v24 c2_i32
  let c1024_i32_116 : BitVec 32 := 1024#32
  let v221 : BitVec 32 := Scalar.muli v220 c1024_i32_116
  v221
def k0_mult6 (i : grid0.Coords) : BitVec 32 :=
  let arg2 : BitVec 32 := BitVec.ofNat 32 (i 2).val
  let c4_i32 : BitVec 32 := 4#32
  let v24 : BitVec 32 := Scalar.muli arg2 c4_i32
  let c3_i32 : BitVec 32 := 3#32
  let v315 : BitVec 32 := Scalar.addi v24 c3_i32
  let c1024_i32_164 : BitVec 32 := 1024#32
  let v316 : BitVec 32 := Scalar.muli v315 c1024_i32_164
  v316
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x128x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x128x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x128x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S4x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S128x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1x4096x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S4x512x4096 : Shape := ⟨3, ![4, 512, 4096]⟩
abbrev S4x64 : Shape := ⟨2, ![4, 64]⟩
abbrev S128 : Shape := ⟨1, ![128]⟩
abbrev S4x4096x512 : Shape := ⟨3, ![4, 4096, 512]⟩
abbrev S4x4096x4x2x64 : Shape := ⟨5, ![4, 4096, 4, 2, 64]⟩
abbrev S4x4096x4x128 : Shape := ⟨4, ![4, 4096, 4, 128]⟩
abbrev S1x64 : Shape := ⟨2, ![1, 64]⟩
abbrev S64 : Shape := ⟨1, ![64]⟩
abbrev S_ : Shape := ⟨0, ![]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S4x4x2x4096x4096 : Shape := ⟨5, ![4, 4, 2, 4096, 4096]⟩
abbrev S4x4x2x4096 : Shape := ⟨4, ![4, 4, 2, 4096]⟩
abbrev S4x4x2x4096x1 : Shape := ⟨5, ![4, 4, 2, 4096, 1]⟩
abbrev S4x4x1x4096x4096 : Shape := ⟨5, ![4, 4, 1, 4096, 4096]⟩
abbrev S4x4x4096x4096 : Shape := ⟨4, ![4, 4, 4096, 4096]⟩
abbrev S4x4x128x4096 : Shape := ⟨4, ![4, 4, 128, 4096]⟩
abbrev S4x4096x4 : Shape := ⟨3, ![4, 4096, 4]⟩
abbrev S4x4096x4x1 : Shape := ⟨4, ![4, 4096, 4, 1]⟩
abbrev S1x1x1x128 : Shape := ⟨4, ![1, 1, 1, 128]⟩

abbrev nBuf : Space → Nat
  | .hbm => 89
  | .vmem => 0
  | .smem => 0
  | _ => 0

abbrev bufTy : (tb : Table) → Fin (tcTables nBuf tb) → BufTy
  | .hbm, ⟨0, _⟩ => ⟨S4x512x4096, .bf16⟩
  | .hbm, ⟨1, _⟩ => ⟨S4x512x4096, .bf16⟩
  | .hbm, ⟨2, _⟩ => ⟨S4x512x4096, .bf16⟩
  | .hbm, ⟨3, _⟩ => ⟨S4x64, .f32⟩
  | .hbm, ⟨4, _⟩ => ⟨S128, .f32⟩
  | .hbm, ⟨5, _⟩ => ⟨S4x512x4096, .f32⟩
  | .hbm, ⟨6, _⟩ => ⟨S4x4096x512, .f32⟩
  | .hbm, ⟨7, _⟩ => ⟨S4x4096x4x2x64, .f32⟩
  | .hbm, ⟨8, _⟩ => ⟨S4x512x4096, .f32⟩
  | .hbm, ⟨9, _⟩ => ⟨S4x4096x512, .f32⟩
  | .hbm, ⟨10, _⟩ => ⟨S4x4096x4x2x64, .f32⟩
  | .hbm, ⟨11, _⟩ => ⟨S4x512x4096, .f32⟩
  | .hbm, ⟨12, _⟩ => ⟨S4x4096x512, .f32⟩
  | .hbm, ⟨13, _⟩ => ⟨S4x4096x4x128, .f32⟩
  | .hbm, ⟨14, _⟩ => ⟨S1x64, .f32⟩
  | .hbm, ⟨15, _⟩ => ⟨S64, .f32⟩
  | .hbm, ⟨16, _⟩ => ⟨S1x64, .f32⟩
  | .hbm, ⟨17, _⟩ => ⟨S64, .f32⟩
  | .hbm, ⟨18, _⟩ => ⟨S64, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S1x64, .f32⟩
  | .hbm, ⟨23, _⟩ => ⟨S64, .f32⟩
  | .hbm, ⟨24, _⟩ => ⟨S1x64, .f32⟩
  | .hbm, ⟨25, _⟩ => ⟨S64, .f32⟩
  | .hbm, ⟨26, _⟩ => ⟨S64, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S4096, .i32⟩
  | .hbm, ⟨34, _⟩ => ⟨S4096x1, .i32⟩
  | .hbm, ⟨35, _⟩ => ⟨S4096, .i32⟩
  | .hbm, ⟨36, _⟩ => ⟨S1x4096, .i32⟩
  | .hbm, ⟨37, _⟩ => ⟨S4096x4096, .i32⟩
  | .hbm, ⟨38, _⟩ => ⟨S4096x4096, .i32⟩
  | .hbm, ⟨39, _⟩ => ⟨S4096x4096, .i1⟩
  | .hbm, ⟨40, _⟩ => ⟨S4x4x2x4096x4096, .f32⟩
  | .hbm, ⟨41, _⟩ => ⟨S_, .f32⟩
  | .hbm, ⟨42, _⟩ => ⟨S_, .f32⟩
  | .hbm, ⟨43, _⟩ => ⟨S4x4x2x4096x4096, .i1⟩
  | .hbm, ⟨44, _⟩ => ⟨S4x4x2x4096x4096, .f32⟩
  | .hbm, ⟨45, _⟩ => ⟨S4x4x2x4096x4096, .f32⟩
  | .hbm, ⟨46, _⟩ => ⟨S_, .f32⟩
  | .hbm, ⟨47, _⟩ => ⟨S4x4x2x4096x4096, .f32⟩
  | .hbm, ⟨48, _⟩ => ⟨S_, .f32⟩
  | .hbm, ⟨49, _⟩ => ⟨S4x4x2x4096, .f32⟩
  | .hbm, ⟨50, _⟩ => ⟨S4x4x2x4096x1, .f32⟩
  | .hbm, ⟨51, _⟩ => ⟨S4x4x2x4096x4096, .f32⟩
  | .hbm, ⟨52, _⟩ => ⟨S4x4x2x4096x4096, .f32⟩
  | .hbm, ⟨53, _⟩ => ⟨S4x4x2x4096x4096, .f32⟩
  | .hbm, ⟨54, _⟩ => ⟨S_, .f32⟩
  | .hbm, ⟨55, _⟩ => ⟨S4x4x2x4096, .f32⟩
  | .hbm, ⟨56, _⟩ => ⟨S4x4x2x4096x1, .f32⟩
  | .hbm, ⟨57, _⟩ => ⟨S4x4x2x4096x4096, .f32⟩
  | .hbm, ⟨58, _⟩ => ⟨S4x4x2x4096x4096, .f32⟩
  | .hbm, ⟨59, _⟩ => ⟨S4x4x1x4096x4096, .f32⟩
  | .hbm, ⟨60, _⟩ => ⟨S4x4x4096x4096, .f32⟩
  | .hbm, ⟨61, _⟩ => ⟨S4x4x1x4096x4096, .f32⟩
  | .hbm, ⟨62, _⟩ => ⟨S4x4x4096x4096, .f32⟩
  | .hbm, ⟨63, _⟩ => ⟨S4x4x4096x4096, .f32⟩
  | .hbm, ⟨64, _⟩ => ⟨S4x4x4096x4096, .f32⟩
  | .hbm, ⟨65, _⟩ => ⟨S4x4x4096x4096, .f32⟩
  | .hbm, ⟨66, _⟩ => ⟨S4x4x128x4096, .f32⟩
  | .hbm, ⟨67, _⟩ => ⟨S4x4096x4x128, .f32⟩
  | .hbm, ⟨68, _⟩ => ⟨S4x4096x4x128, .f32⟩
  | .hbm, ⟨69, _⟩ => ⟨S_, .f32⟩
  | .hbm, ⟨70, _⟩ => ⟨S4x4096x4, .f32⟩
  | .hbm, ⟨71, _⟩ => ⟨S4x4096x4x1, .f32⟩
  | .hbm, ⟨72, _⟩ => ⟨S_, .f32⟩
  | .hbm, ⟨73, _⟩ => ⟨S4x4096x4x1, .f32⟩
  | .hbm, ⟨74, _⟩ => ⟨S4x4096x4x1, .f32⟩
  | .hbm, ⟨75, _⟩ => ⟨S_, .f32⟩
  | .hbm, ⟨76, _⟩ => ⟨S4x4096x4x1, .f32⟩
  | .hbm, ⟨77, _⟩ => ⟨S4x4096x4x1, .f32⟩
  | .hbm, ⟨78, _⟩ => ⟨S4x4096x4x1, .f32⟩
  | .hbm, ⟨79, _⟩ => ⟨S4x4096x4x128, .f32⟩
  | .hbm, ⟨80, _⟩ => ⟨S4x4096x4x128, .f32⟩
  | .hbm, ⟨81, _⟩ => ⟨S1x1x1x128, .f32⟩
  | .hbm, ⟨82, _⟩ => ⟨S4x4096x4x128, .f32⟩
  | .hbm, ⟨83, _⟩ => ⟨S4x4096x4x128, .f32⟩
  | .hbm, ⟨84, _⟩ => ⟨S_, .f32⟩
  | .hbm, ⟨85, _⟩ => ⟨S4x4096x4x128, .f32⟩
  | .hbm, ⟨86, _⟩ => ⟨S4x4096x4x128, .f32⟩
  | .hbm, ⟨87, _⟩ => ⟨S4x4096x512, .f32⟩
  | .hbm, ⟨88, _⟩ => ⟨S4x4096x512, .bf16⟩
  | _, _ => ⟨S4x512x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_0 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_1 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_cst_2 : Ref sig .tc := ⟨.hbm, 41, rfl⟩
abbrev main_call0_v0 : Ref sig .tc := ⟨.hbm, 42, rfl⟩
abbrev main_call0_v1 : Ref sig .tc := ⟨.hbm, 43, rfl⟩
abbrev main_call0_v2 : Ref sig .tc := ⟨.hbm, 44, rfl⟩
abbrev main_v33 : Ref sig .tc := ⟨.hbm, 45, rfl⟩
abbrev main_cst_3 : Ref sig .tc := ⟨.hbm, 46, rfl⟩
abbrev main_v34 : Ref sig .tc := ⟨.hbm, 47, rfl⟩
abbrev main_cst_4 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_5 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_cst_6 : Ref sig .tc := ⟨.hbm, 69, rfl⟩
abbrev main_v54 : Ref sig .tc := ⟨.hbm, 70, rfl⟩
abbrev main_v55 : Ref sig .tc := ⟨.hbm, 71, rfl⟩
abbrev main_cst_7 : Ref sig .tc := ⟨.hbm, 72, rfl⟩
abbrev main_v56 : Ref sig .tc := ⟨.hbm, 73, rfl⟩
abbrev main_v57 : Ref sig .tc := ⟨.hbm, 74, rfl⟩
abbrev main_cst_8 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_cst_9 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩

abbrev nD : Nat := 1
abbrev τ : Topo := Topo.v7x

variable {F : FTy → Type} [FloatOps F]
-- ==== Kernel2.lean ====
abbrev S49152x1024 : Shape := ⟨2, ![49152, 1024]⟩
abbrev S96 : Shape := ⟨1, ![96]⟩
abbrev S1 : Shape := ⟨1, ![1]⟩
abbrev S64x1024x512 : Shape := ⟨3, ![64, 1024, 512]⟩
abbrev S64x512x1024 : Shape := ⟨3, ![64, 512, 1024]⟩
abbrev S512x1024 : Shape := ⟨2, ![512, 1024]⟩
abbrev S1x1024x512 : Shape := ⟨3, ![1, 1024, 512]⟩
abbrev S1x512x1024 : Shape := ⟨3, ![1, 512, 1024]⟩
abbrev S1024x512 : Shape := ⟨2, ![1024, 512]⟩
abbrev S512x512 : Shape := ⟨2, ![512, 512]⟩

abbrev nBuf : Space → Nat
  | .hbm => 5
  | .vmem => 13
  | .smem => 2
  | _ => 0

abbrev bufTy : (tb : Table) → Fin (tcTables nBuf tb) → BufTy
  | .hbm, ⟨0, _⟩ => ⟨S49152x1024, .f32⟩
  | .hbm, ⟨1, _⟩ => ⟨S64x1024x512, .f32⟩
  | .hbm, ⟨2, _⟩ => ⟨S64x1024x512, .f32⟩
  | .hbm, ⟨3, _⟩ => ⟨S64x512x1024, .f32⟩
  | .hbm, ⟨4, _⟩ => ⟨S49152x1024, .f32⟩
  | .local _ .vmem, ⟨0, _⟩ => ⟨S512x1024, .f32⟩
  | .local _ .vmem, ⟨1, _⟩ => ⟨S512x1024, .f32⟩
  | .local _ .vmem, ⟨2, _⟩ => ⟨S1x1024x512, .f32⟩
  | .local _ .vmem, ⟨3, _⟩ => ⟨S1x1024x512, .f32⟩
  | .local _ .vmem, ⟨4, _⟩ => ⟨S1x1024x512, .f32⟩
  | .local _ .vmem, ⟨5, _⟩ => ⟨S1x1024x512, .f32⟩
  | .local _ .vmem, ⟨6, _⟩ => ⟨S1x512x1024, .f32⟩
  | .local _ .vmem, ⟨7, _⟩ => ⟨S1x512x1024, .f32⟩
  | .local _ .vmem, ⟨8, _⟩ => ⟨S512x1024, .f32⟩
  | .local _ .vmem, ⟨9, _⟩ => ⟨S512x1024, .f32⟩
  | .local _ .vmem, ⟨10, _⟩ => ⟨S1024x512, .bf16⟩
  | .local _ .vmem, ⟨11, _⟩ => ⟨S1024x512, .bf16⟩
  | .local _ .vmem, ⟨12, _⟩ => ⟨S512x1024, .bf16⟩
  | .local _ .smem, ⟨0, _⟩ => ⟨S96, .i32⟩
  | .local _ .smem, ⟨1, _⟩ => ⟨S1, .i32⟩
  | _, _ => ⟨S49152x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![96], ![false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let v2 : Index := Scalar.indexCast v1
  ![v2.toNat]
def k0_cond2 (i : grid0.Coords) (v11 : BitVec 32) : BitVec 1 :=
  let arg0 : BitVec 32 := BitVec.ofNat 32 (i 0).val
  let v12 : BitVec 1 := Scalar.cmpi .slt arg0 v11
  let v13 : BitVec 32 := Scalar.extui v12
  let c0_i32_2 : BitVec 32 := 0#32
  let v14 : BitVec 1 := Scalar.cmpi .ne v13 c0_i32_2
  v14

def k0_cond3 (i : grid0.Coords) (v15 : BitVec 32) : BitVec 1 :=
  let arg0 : BitVec 32 := BitVec.ofNat 32 (i 0).val
  let v16 : BitVec 1 := Scalar.cmpi .sge arg0 v15
  let v17 : BitVec 32 := Scalar.extui v16
  let c0_i32_4 : BitVec 32 := 0#32
  let v18 : BitVec 1 := Scalar.cmpi .ne v17 c0_i32_4
  v18

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S96.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S96) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S96.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S96) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S96.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S96) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference2Ideal.lean ====
abbrev S49152x1024 : Shape := ⟨2, ![49152, 1024]⟩
abbrev S96 : Shape := ⟨1, ![96]⟩
abbrev S1 : Shape := ⟨1, ![1]⟩
abbrev S64x1024x512 : Shape := ⟨3, ![64, 1024, 512]⟩
abbrev S64x512x1024 : Shape := ⟨3, ![64, 512, 1024]⟩
abbrev S96x512x1024 : Shape := ⟨3, ![96, 512, 1024]⟩
abbrev S_ : Shape := ⟨0, ![]⟩
abbrev S96x1 : Shape := ⟨2, ![96, 1]⟩
abbrev S96x1024x512 : Shape := ⟨3, ![96, 1024, 512]⟩
abbrev S96x512x512 : Shape := ⟨3, ![96, 512, 512]⟩
abbrev S96x1x1 : Shape := ⟨3, ![96, 1, 1]⟩

abbrev nBuf : Space → Nat
  | .hbm => 58
  | .vmem => 0
  | .smem => 0
  | _ => 0

abbrev bufTy : (tb : Table) → Fin (tcTables nBuf tb) → BufTy
  | .hbm, ⟨0, _⟩ => ⟨S49152x1024, .f32⟩
  | .hbm, ⟨1, _⟩ => ⟨S96, .i32⟩
  | .hbm, ⟨2, _⟩ => ⟨S1, .i32⟩
  | .hbm, ⟨3, _⟩ => ⟨S64x1024x512, .f32⟩
  | .hbm, ⟨4, _⟩ => ⟨S64x1024x512, .f32⟩
  | .hbm, ⟨5, _⟩ => ⟨S64x512x1024, .f32⟩
  | .hbm, ⟨6, _⟩ => ⟨S96x512x1024, .f32⟩
  | .hbm, ⟨7, _⟩ => ⟨S_, .i32⟩
  | .hbm, ⟨8, _⟩ => ⟨S96, .i32⟩
  | .hbm, ⟨9, _⟩ => ⟨S96, .i1⟩
  | .hbm, ⟨10, _⟩ => ⟨S_, .i32⟩
  | .hbm, ⟨11, _⟩ => ⟨S96, .i32⟩
  | .hbm, ⟨12, _⟩ => ⟨S96, .i32⟩
  | .hbm, ⟨13, _⟩ => ⟨S96, .i32⟩
  | .hbm, ⟨14, _⟩ => ⟨S96x1, .i32⟩
  | .hbm, ⟨15, _⟩ => ⟨S96x1024x512, .f32⟩
  | .hbm, ⟨16, _⟩ => ⟨S96x512x512, .f32⟩
  | .hbm, ⟨17, _⟩ => ⟨S_, .i32⟩
  | .hbm, ⟨18, _⟩ => ⟨S96, .i32⟩
  | .hbm, ⟨19, _⟩ => ⟨S96, .i1⟩
  | .hbm, ⟨20, _⟩ => ⟨S_, .i32⟩
  | .hbm, ⟨21, _⟩ => ⟨S96, .i32⟩
  | .hbm, ⟨22, _⟩ => ⟨S96, .i32⟩
  | .hbm, ⟨23, _⟩ => ⟨S96, .i32⟩
  | .hbm, ⟨24, _⟩ => ⟨S96x1, .i32⟩
  | .hbm, ⟨25, _⟩ => ⟨S96x1024x512, .f32⟩
  | .hbm, ⟨26, _⟩ => ⟨S96x512x512, .f32⟩
  | .hbm, ⟨27, _⟩ => ⟨S96x512x512, .f32⟩
  | .hbm, ⟨28, _⟩ => ⟨S96x512x512, .f32⟩
  | .hbm, ⟨29, _⟩ => ⟨S_, .f32⟩
  | .hbm, ⟨30, _⟩ => ⟨S96x512x512, .f32⟩
  | .hbm, ⟨31, _⟩ => ⟨S96x512x512, .f32⟩
  | .hbm, ⟨32, _⟩ => ⟨S_, .f32⟩
  | .hbm, ⟨33, _⟩ => ⟨S96x512x512, .f32⟩
  | .hbm, ⟨34, _⟩ => ⟨S96x512x512, .f32⟩
  | .hbm, ⟨35, _⟩ => ⟨S96x512x512, .f32⟩
  | .hbm, ⟨36, _⟩ => ⟨S96x512x512, .f32⟩
  | .hbm, ⟨37, _⟩ => ⟨S_, .i32⟩
  | .hbm, ⟨38, _⟩ => ⟨S96, .i32⟩
  | .hbm, ⟨39, _⟩ => ⟨S96, .i1⟩
  | .hbm, ⟨40, _⟩ => ⟨S_, .i32⟩
  | .hbm, ⟨41, _⟩ => ⟨S96, .i32⟩
  | .hbm, ⟨42, _⟩ => ⟨S96, .i32⟩
  | .hbm, ⟨43, _⟩ => ⟨S96, .i32⟩
  | .hbm, ⟨44, _⟩ => ⟨S96x1, .i32⟩
  | .hbm, ⟨45, _⟩ => ⟨S96x512x1024, .f32⟩
  | .hbm, ⟨46, _⟩ => ⟨S96x512x1024, .f32⟩
  | .hbm, ⟨47, _⟩ => ⟨S96, .i32⟩
  | .hbm, ⟨48, _⟩ => ⟨S96x1x1, .i32⟩
  | .hbm, ⟨49, _⟩ => ⟨S_, .i32⟩
  | .hbm, ⟨50, _⟩ => ⟨S96x1x1, .i32⟩
  | .hbm, ⟨51, _⟩ => ⟨S96x1x1, .i1⟩
  | .hbm, ⟨52, _⟩ => ⟨S_, .f32⟩
  | .hbm, ⟨53, _⟩ => ⟨S_, .f32⟩
  | .hbm, ⟨54, _⟩ => ⟨S96x512x1024, .i1⟩
  | .hbm, ⟨55, _⟩ => ⟨S96x512x1024, .f32⟩
  | .hbm, ⟨56, _⟩ => ⟨S96x512x1024, .f32⟩
  | .hbm, ⟨57, _⟩ => ⟨S49152x1024, .f32⟩
  | _, _ => ⟨S49152x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c_1 : Ref sig .tc := ⟨.hbm, 17, rfl⟩
abbrev main_v9 : Ref sig .tc := ⟨.hbm, 18, rfl⟩
abbrev main_v10 : Ref sig .tc := ⟨.hbm, 19, rfl⟩
abbrev main_c_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v17 : Ref sig .tc := ⟨.hbm, 35, rfl⟩
abbrev main_v18 : Ref sig .tc := ⟨.hbm, 36, rfl⟩
abbrev main_c_3 : Ref sig .tc := ⟨.hbm, 37, rfl⟩
abbrev main_v19 : Ref sig .tc := ⟨.hbm, 38, rfl⟩
abbrev main_v20 : Ref sig .tc := ⟨.hbm, 39, rfl⟩
abbrev main_c_4 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst : Ref sig .tc := ⟨.hbm, 52, rfl⟩
abbrev main_call1_v0 : Ref sig .tc := ⟨.hbm, 53, rfl⟩
abbrev main_call1_v1 : Ref sig .tc := ⟨.hbm, 54, rfl⟩
abbrev main_call1_v2 : Ref sig .tc := ⟨.hbm, 55, rfl⟩
abbrev main_v32 : Ref sig .tc := ⟨.hbm, 56, rfl⟩
abbrev main_v33 : Ref sig .tc := ⟨.hbm, 57, rfl⟩

abbrev nD : Nat := 1
abbrev τ : Topo := Topo.v7x

variable {F : FTy → Type} [FloatOps F]
-- ==== Kernel3.lean ====
abbrev S4x4096x1024 : Shape := ⟨3, ![4, 4096, 1024]⟩
abbrev S4x6x1024 : Shape := ⟨3, ![4, 6, 1024]⟩
abbrev S1024 : Shape := ⟨1, ![1024]⟩
abbrev S1024x3072 : Shape := ⟨2, ![1024, 3072]⟩
abbrev S3072x1024 : Shape := ⟨2, ![3072, 1024]⟩
abbrev S1x1024 : Shape := ⟨2, ![1, 1024]⟩
abbrev S4x1024x4096 : Shape := ⟨3, ![4, 1024, 4096]⟩
abbrev S1x1024x1024 : Shape := ⟨3, ![1, 1024, 1024]⟩
abbrev S1x6x1024 : Shape := ⟨3, ![1, 6, 1024]⟩
abbrev S1024x1024 : Shape := ⟨2, ![1024, 1024]⟩
abbrev S6x1024 : Shape := ⟨2, ![6, 1024]⟩
abbrev S1024x1 : Shape := ⟨2, ![1024, 1]⟩
abbrev S512x1024 : Shape := ⟨2, ![512, 1024]⟩
abbrev S1x512x1024 : Shape := ⟨3, ![1, 512, 1024]⟩

abbrev nBuf : Space → Nat
  | .hbm => 10
  | .vmem => 12
  | .smem => 0
  | _ => 0

abbrev bufTy : (tb : Table) → Fin (tcTables nBuf tb) → BufTy
  | .hbm, ⟨0, _⟩ => ⟨S4x4096x1024, .f32⟩
  | .hbm, ⟨1, _⟩ => ⟨S4x6x1024, .f32⟩
  | .hbm, ⟨2, _⟩ => ⟨S1024, .f32⟩
  | .hbm, ⟨3, _⟩ => ⟨S1024x3072, .f32⟩
  | .hbm, ⟨4, _⟩ => ⟨S3072x1024, .f32⟩
  | .hbm, ⟨5, _⟩ => ⟨S3072x1024, .bf16⟩
  | .hbm, ⟨6, _⟩ => ⟨S1x1024, .f32⟩
  | .hbm, ⟨7, _⟩ => ⟨S4x1024x4096, .bf16⟩
  | .hbm, ⟨8, _⟩ => ⟨S4x1024x4096, .bf16⟩
  | .hbm, ⟨9, _⟩ => ⟨S4x1024x4096, .bf16⟩
  | .local _ .vmem, ⟨0, _⟩ => ⟨S1x1024x1024, .f32⟩
  | .local _ .vmem, ⟨1, _⟩ => ⟨S1x1024x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S3072x1024, .bf16⟩
  | .local _ .vmem, ⟨6, _⟩ => ⟨S1x1024x1024, .bf16⟩
  | .local _ .vmem, ⟨7, _⟩ => ⟨S1x1024x1024, .bf16⟩
  | .local _ .vmem, ⟨8, _⟩ => ⟨S1x1024x1024, .bf16⟩
  | .local _ .vmem, ⟨9, _⟩ => ⟨S1x1024x1024, .bf16⟩
  | .local _ .vmem, ⟨10, _⟩ => ⟨S1x1024x1024, .bf16⟩
  | .local _ .vmem, ⟨11, _⟩ => ⟨S1x1024x1024, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S3072x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference3Ideal.lean ====
abbrev S4x4096x1024 : Shape := ⟨3, ![4, 4096, 1024]⟩
abbrev S4x6x1024 : Shape := ⟨3, ![4, 6, 1024]⟩
abbrev S1024 : Shape := ⟨1, ![1024]⟩
abbrev S1024x3072 : Shape := ⟨2, ![1024, 3072]⟩
abbrev S4x1x1024 : Shape := ⟨3, ![4, 1, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x3072 : Shape := ⟨3, ![4, 4096, 3072]⟩
abbrev S4x1024x4096 : Shape := ⟨3, ![4, 1024, 4096]⟩

abbrev nBuf : Space → Nat
  | .hbm => 42
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x6x1024, .f32⟩
  | .hbm, ⟨2, _⟩ => ⟨S1024, .f32⟩
  | .hbm, ⟨3, _⟩ => ⟨S1024x3072, .f32⟩
  | .hbm, ⟨4, _⟩ => ⟨S4x1x1024, .f32⟩
  | .hbm, ⟨5, _⟩ => ⟨S4x1x1024, .f32⟩
  | .hbm, ⟨6, _⟩ => ⟨S4x4096x1024, .f32⟩
  | .hbm, ⟨7, _⟩ => ⟨S_, .f32⟩
  | .hbm, ⟨8, _⟩ => ⟨S4x4096, .f32⟩
  | .hbm, ⟨9, _⟩ => ⟨S4x4096x1, .f32⟩
  | .hbm, ⟨10, _⟩ => ⟨S_, .f32⟩
  | .hbm, ⟨11, _⟩ => ⟨S4x4096x1, .f32⟩
  | .hbm, ⟨12, _⟩ => ⟨S4x4096x1, .f32⟩
  | .hbm, ⟨13, _⟩ => ⟨S_, .f32⟩
  | .hbm, ⟨14, _⟩ => ⟨S4x4096x1, .f32⟩
  | .hbm, ⟨15, _⟩ => ⟨S4x4096x1, .f32⟩
  | .hbm, ⟨16, _⟩ => ⟨S4x4096x1, .f32⟩
  | .hbm, ⟨17, _⟩ => ⟨S4x4096x1024, .f32⟩
  | .hbm, ⟨18, _⟩ => ⟨S4x4096x1024, .f32⟩
  | .hbm, ⟨19, _⟩ => ⟨S1x1x1024, .f32⟩
  | .hbm, ⟨20, _⟩ => ⟨S4x4096x1024, .f32⟩
  | .hbm, ⟨21, _⟩ => ⟨S4x4096x1024, .f32⟩
  | .hbm, ⟨22, _⟩ => ⟨S_, .f32⟩
  | .hbm, ⟨23, _⟩ => ⟨S4x1x1024, .f32⟩
  | .hbm, ⟨24, _⟩ => ⟨S4x1x1024, .f32⟩
  | .hbm, ⟨25, _⟩ => ⟨S4x4096x1024, .f32⟩
  | .hbm, ⟨26, _⟩ => ⟨S4x4096x1024, .f32⟩
  | .hbm, ⟨27, _⟩ => ⟨S4x4096x1024, .f32⟩
  | .hbm, ⟨28, _⟩ => ⟨S4x4096x1024, .f32⟩
  | .hbm, ⟨29, _⟩ => ⟨S4x4096x3072, .f32⟩
  | .hbm, ⟨30, _⟩ => ⟨S4x4096x1024, .f32⟩
  | .hbm, ⟨31, _⟩ => ⟨S4x4096x1024, .f32⟩
  | .hbm, ⟨32, _⟩ => ⟨S4x4096x1024, .f32⟩
  | .hbm, ⟨33, _⟩ => ⟨S_, .f32⟩
  | .hbm, ⟨34, _⟩ => ⟨S4x4096x1024, .f32⟩
  | .hbm, ⟨35, _⟩ => ⟨S4x4096x1024, .f32⟩
  | .hbm, ⟨36, _⟩ => ⟨S4x1024x4096, .f32⟩
  | .hbm, ⟨37, _⟩ => ⟨S4x1024x4096, .bf16⟩
  | .hbm, ⟨38, _⟩ => ⟨S4x1024x4096, .f32⟩
  | .hbm, ⟨39, _⟩ => ⟨S4x1024x4096, .bf16⟩
  | .hbm, ⟨40, _⟩ => ⟨S4x1024x4096, .f32⟩
  | .hbm, ⟨41, _⟩ => ⟨S4x1024x4096, .bf16⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_3 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩

abbrev nD : Nat := 1
abbrev τ : Topo := Topo.v7x

variable {F : FTy → Type} [FloatOps F]
-- ==== Kernel4.lean ====
abbrev S4x640x4096 : Shape := ⟨3, ![4, 640, 4096]⟩
abbrev S4x512x4096 : Shape := ⟨3, ![4, 512, 4096]⟩
abbrev S4x4096x512 : Shape := ⟨3, ![4, 4096, 512]⟩
abbrev S1x160x4096 : Shape := ⟨3, ![1, 160, 4096]⟩
abbrev S1x128x4096 : Shape := ⟨3, ![1, 128, 4096]⟩
abbrev S1x4096x128 : Shape := ⟨3, ![1, 4096, 128]⟩
abbrev S1x4096 : Shape := ⟨2, ![1, 4096]⟩
abbrev S64x4096 : Shape := ⟨2, ![64, 4096]⟩
abbrev S1x80x1024 : Shape := ⟨3, ![1, 80, 1024]⟩
abbrev S80x1024 : Shape := ⟨2, ![80, 1024]⟩
abbrev S1x64x1024 : Shape := ⟨3, ![1, 64, 1024]⟩
abbrev S64x1024 : Shape := ⟨2, ![64, 1024]⟩
abbrev S1x80x4096 : Shape := ⟨3, ![1, 80, 4096]⟩
abbrev S80x4096 : Shape := ⟨2, ![80, 4096]⟩
abbrev S1024x4096 : Shape := ⟨2, ![1024, 4096]⟩
abbrev S4096 : Shape := ⟨1, ![4096]⟩
abbrev S1024x1024 : Shape := ⟨2, ![1024, 1024]⟩
abbrev S1024x3072 : Shape := ⟨2, ![1024, 3072]⟩
abbrev S1x80x3072 : Shape := ⟨3, ![1, 80, 3072]⟩
abbrev S80x3072 : Shape := ⟨2, ![80, 3072]⟩
abbrev S1024x2048 : Shape := ⟨2, ![1024, 2048]⟩
abbrev S1x3072 : Shape := ⟨2, ![1, 3072]⟩
abbrev S3072 : Shape := ⟨1, ![3072]⟩
abbrev S64x3072 : Shape := ⟨2, ![64, 3072]⟩
abbrev S1x80x2048 : Shape := ⟨3, ![1, 80, 2048]⟩
abbrev S80x2048 : Shape := ⟨2, ![80, 2048]⟩
abbrev S1x2048 : Shape := ⟨2, ![1, 2048]⟩
abbrev S2048 : Shape := ⟨1, ![2048]⟩
abbrev S64x2048 : Shape := ⟨2, ![64, 2048]⟩
abbrev S1x1024 : Shape := ⟨2, ![1, 1024]⟩
abbrev S1024 : Shape := ⟨1, ![1024]⟩
abbrev S128x4096 : Shape := ⟨2, ![128, 4096]⟩
abbrev S4096x128 : Shape := ⟨2, ![4096, 128]⟩

abbrev nBuf : Space → Nat
  | .hbm => 4
  | .vmem => 14
  | .smem => 0
  | _ => 0

abbrev bufTy : (tb : Table) → Fin (tcTables nBuf tb) → BufTy
  | .hbm, ⟨0, _⟩ => ⟨S4x640x4096, .bf16⟩
  | .hbm, ⟨1, _⟩ => ⟨S4x640x4096, .bf16⟩
  | .hbm, ⟨2, _⟩ => ⟨S4x512x4096, .bf16⟩
  | .hbm, ⟨3, _⟩ => ⟨S4x4096x512, .bf16⟩
  | .local _ .vmem, ⟨0, _⟩ => ⟨S1x160x4096, .bf16⟩
  | .local _ .vmem, ⟨1, _⟩ => ⟨S1x160x4096, .bf16⟩
  | .local _ .vmem, ⟨2, _⟩ => ⟨S1x160x4096, .bf16⟩
  | .local _ .vmem, ⟨3, _⟩ => ⟨S1x160x4096, .bf16⟩
  | .local _ .vmem, ⟨4, _⟩ => ⟨S1x128x4096, .bf16⟩
  | .local _ .vmem, ⟨5, _⟩ => ⟨S1x128x4096, .bf16⟩
  | .local _ .vmem, ⟨6, _⟩ => ⟨S1x4096x128, .bf16⟩
  | .local _ .vmem, ⟨7, _⟩ => ⟨S1x4096x128, .bf16⟩
  | .local _ .vmem, ⟨8, _⟩ => ⟨S1x4096, .f32⟩
  | .local _ .vmem, ⟨9, _⟩ => ⟨S1x4096, .f32⟩
  | .local _ .vmem, ⟨10, _⟩ => ⟨S1x4096, .f32⟩
  | .local _ .vmem, ⟨11, _⟩ => ⟨S1x4096, .f32⟩
  | .local _ .vmem, ⟨12, _⟩ => ⟨S64x4096, .f32⟩
  | .local _ .vmem, ⟨13, _⟩ => ⟨S64x4096, .f32⟩
  | _, _ => ⟨S4x640x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_scratch5 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 1], ![false, false, false]⟩

@[reducible] def k0_t1_loop (i : grid0.Coords) : Scf.Loop 32 :=
  let c0_i32_16 : BitVec 32 := 0#32
  let arg2 : BitVec 32 := BitVec.ofNat 32 (i 2).val
  let c4_i32 : BitVec 32 := 4#32
  let v24 : BitVec 32 := Scalar.muli arg2 c4_i32
  let v25 : BitVec 32 := Scalar.subi v24 c0_i32_16
  let c1_i32 : BitVec 32 := 1#32
  let v27 : BitVec 32 := Scalar.divsi v25 c1_i32
  let v28 : BitVec 32 := Scalar.muli v27 c1_i32
  let v29 : BitVec 32 := Scalar.addi c0_i32_16 v28
  let c1_i32_17 : BitVec 32 := 1#32
  ⟨c0_i32_16, v29, c1_i32_17⟩
def k0_mult1 (i : grid0.Coords) (k0_t1 : Fin (k0_t1_loop i).trips) : BitVec 32 :=
  let c0_i32_16 : BitVec 32 := 0#32
  let c1_i32_17 : BitVec 32 := 1#32
  let arg13 : BitVec 32 := Scf.iv c0_i32_16 c1_i32_17 k0_t1
  let c1024_i32_224 : BitVec 32 := 1024#32
  let v422 : BitVec 32 := Scalar.muli arg13 c1024_i32_224
  v422
def k0_off1 (i : grid0.Coords) (k0_t1 : Fin (k0_t1_loop i).trips) : Fin 3 → Nat :=
  let c0_225 : Index := 0#32
  let c0_226 : Index := 0#32
  let c0_i32_16 : BitVec 32 := 0#32
  let c1_i32_17 : BitVec 32 := 1#32
  let arg13 : BitVec 32 := Scf.iv c0_i32_16 c1_i32_17 k0_t1
  let c1024_i32_224 : BitVec 32 := 1024#32
  let v422 : BitVec 32 := Scalar.muli arg13 c1024_i32_224
  let v423 : BitVec 32 := v422
  let v424 : Index := Scalar.indexCast v423
  ![0, 0, v424.toNat]
def k0_off2 (i : grid0.Coords) (k0_t1 : Fin (k0_t1_loop i).trips) : Fin 3 → Nat :=
  let c0_227 : Index := 0#32
  let c0_228 : Index := 0#32
  let c0_i32_16 : BitVec 32 := 0#32
  let c1_i32_17 : BitVec 32 := 1#32
  let arg13 : BitVec 32 := Scf.iv c0_i32_16 c1_i32_17 k0_t1
  let c1024_i32_224 : BitVec 32 := 1024#32
  let v422 : BitVec 32 := Scalar.muli arg13 c1024_i32_224
  let v423 : BitVec 32 := v422
  let v427 : Index := Scalar.indexCast v423
  ![0, 0, v427.toNat]
def k0_off3 (i : grid0.Coords) (k0_t1 : Fin (k0_t1_loop i).trips) : Fin 3 → Nat :=
  let c0_248 : Index := 0#32
  let c80_249 : Index := 80#32
  let c0_i32_16 : BitVec 32 := 0#32
  let c1_i32_17 : BitVec 32 := 1#32
  let arg13 : BitVec 32 := Scf.iv c0_i32_16 c1_i32_17 k0_t1
  let c1024_i32_224 : BitVec 32 := 1024#32
  let v422 : BitVec 32 := Scalar.muli arg13 c1024_i32_224
  let v423 : BitVec 32 := v422
  let v462 : Index := Scalar.indexCast v423
  ![0, 80, v462.toNat]
def k0_off4 (i : grid0.Coords) (k0_t1 : Fin (k0_t1_loop i).trips) : Fin 3 → Nat :=
  let c0_250 : Index := 0#32
  let c64_251 : Index := 64#32
  let c0_i32_16 : BitVec 32 := 0#32
  let c1_i32_17 : BitVec 32 := 1#32
  let arg13 : BitVec 32 := Scf.iv c0_i32_16 c1_i32_17 k0_t1
  let c1024_i32_224 : BitVec 32 := 1024#32
  let v422 : BitVec 32 := Scalar.muli arg13 c1024_i32_224
  let v423 : BitVec 32 := v422
  let v465 : Index := Scalar.indexCast v423
  ![0, 64, v465.toNat]
@[reducible] def k0_t2_loop (i : grid0.Coords) : Scf.Loop 32 :=
  let c0_i32_16 : BitVec 32 := 0#32
  let arg2 : BitVec 32 := BitVec.ofNat 32 (i 2).val
  let c4_i32 : BitVec 32 := 4#32
  let v24 : BitVec 32 := Scalar.muli arg2 c4_i32
  let v25 : BitVec 32 := Scalar.subi v24 c0_i32_16
  let c1_i32 : BitVec 32 := 1#32
  let v27 : BitVec 32 := Scalar.divsi v25 c1_i32
  let v28 : BitVec 32 := Scalar.muli v27 c1_i32
  let v29 : BitVec 32 := Scalar.addi c0_i32_16 v28
  let v26 : BitVec 32 := Scalar.addi c0_i32_16 v25
  let c1_i32_18 : BitVec 32 := 1#32
  ⟨v29, v26, c1_i32_18⟩
def k0_mult2 (i : grid0.Coords) (k0_t2 : Fin (k0_t2_loop i).trips) : BitVec 32 :=
  let c0_i32_16 : BitVec 32 := 0#32
  let arg2 : BitVec 32 := BitVec.ofNat 32 (i 2).val
  let c4_i32 : BitVec 32 := 4#32
  let v24 : BitVec 32 := Scalar.muli arg2 c4_i32
  let v25 : BitVec 32 := Scalar.subi v24 c0_i32_16
  let c1_i32 : BitVec 32 := 1#32
  let v27 : BitVec 32 := Scalar.divsi v25 c1_i32
  let v28 : BitVec 32 := Scalar.muli v27 c1_i32
  let v29 : BitVec 32 := Scalar.addi c0_i32_16 v28
  let c1_i32_18 : BitVec 32 := 1#32
  let arg13 : BitVec 32 := Scf.iv v29 c1_i32_18 k0_t2
  let c1024_i32_224 : BitVec 32 := 1024#32
  let v422 : BitVec 32 := Scalar.muli arg13 c1024_i32_224
  v422
def k0_off5 (i : grid0.Coords) (k0_t2 : Fin (k0_t2_loop i).trips) : Fin 3 → Nat :=
  let c0_225 : Index := 0#32
  let c0_226 : Index := 0#32
  let c0_i32_16 : BitVec 32 := 0#32
  let arg2 : BitVec 32 := BitVec.ofNat 32 (i 2).val
  let c4_i32 : BitVec 32 := 4#32
  let v24 : BitVec 32 := Scalar.muli arg2 c4_i32
  let v25 : BitVec 32 := Scalar.subi v24 c0_i32_16
  let c1_i32 : BitVec 32 := 1#32
  let v27 : BitVec 32 := Scalar.divsi v25 c1_i32
  let v28 : BitVec 32 := Scalar.muli v27 c1_i32
  let v29 : BitVec 32 := Scalar.addi c0_i32_16 v28
  let c1_i32_18 : BitVec 32 := 1#32
  let arg13 : BitVec 32 := Scf.iv v29 c1_i32_18 k0_t2
  let c1024_i32_224 : BitVec 32 := 1024#32
  let v422 : BitVec 32 := Scalar.muli arg13 c1024_i32_224
  let v423 : BitVec 32 := v422
  let v424 : Index := Scalar.indexCast v423
  ![0, 0, v424.toNat]
def k0_off6 (i : grid0.Coords) (k0_t2 : Fin (k0_t2_loop i).trips) : Fin 3 → Nat :=
  let c0_227 : Index := 0#32
  let c0_228 : Index := 0#32
  let c0_i32_16 : BitVec 32 := 0#32
  let arg2 : BitVec 32 := BitVec.ofNat 32 (i 2).val
  let c4_i32 : BitVec 32 := 4#32
  let v24 : BitVec 32 := Scalar.muli arg2 c4_i32
  let v25 : BitVec 32 := Scalar.subi v24 c0_i32_16
  let c1_i32 : BitVec 32 := 1#32
  let v27 : BitVec 32 := Scalar.divsi v25 c1_i32
  let v28 : BitVec 32 := Scalar.muli v27 c1_i32
  let v29 : BitVec 32 := Scalar.addi c0_i32_16 v28
  let c1_i32_18 : BitVec 32 := 1#32
  let arg13 : BitVec 32 := Scf.iv v29 c1_i32_18 k0_t2
  let c1024_i32_224 : BitVec 32 := 1024#32
  let v422 : BitVec 32 := Scalar.muli arg13 c1024_i32_224
  let v423 : BitVec 32 := v422
  let v427 : Index := Scalar.indexCast v423
  ![0, 0, v427.toNat]
def k0_off7 (i : grid0.Coords) (k0_t2 : Fin (k0_t2_loop i).trips) : Fin 3 → Nat :=
  let c0_248 : Index := 0#32
  let c80_249 : Index := 80#32
  let c0_i32_16 : BitVec 32 := 0#32
  let arg2 : BitVec 32 := BitVec.ofNat 32 (i 2).val
  let c4_i32 : BitVec 32 := 4#32
  let v24 : BitVec 32 := Scalar.muli arg2 c4_i32
  let v25 : BitVec 32 := Scalar.subi v24 c0_i32_16
  let c1_i32 : BitVec 32 := 1#32
  let v27 : BitVec 32 := Scalar.divsi v25 c1_i32
  let v28 : BitVec 32 := Scalar.muli v27 c1_i32
  let v29 : BitVec 32 := Scalar.addi c0_i32_16 v28
  let c1_i32_18 : BitVec 32 := 1#32
  let arg13 : BitVec 32 := Scf.iv v29 c1_i32_18 k0_t2
  let c1024_i32_224 : BitVec 32 := 1024#32
  let v422 : BitVec 32 := Scalar.muli arg13 c1024_i32_224
  let v423 : BitVec 32 := v422
  let v462 : Index := Scalar.indexCast v423
  ![0, 80, v462.toNat]
def k0_off8 (i : grid0.Coords) (k0_t2 : Fin (k0_t2_loop i).trips) : Fin 3 → Nat :=
  let c0_250 : Index := 0#32
  let c64_251 : Index := 64#32
  let c0_i32_16 : BitVec 32 := 0#32
  let arg2 : BitVec 32 := BitVec.ofNat 32 (i 2).val
  let c4_i32 : BitVec 32 := 4#32
  let v24 : BitVec 32 := Scalar.muli arg2 c4_i32
  let v25 : BitVec 32 := Scalar.subi v24 c0_i32_16
  let c1_i32 : BitVec 32 := 1#32
  let v27 : BitVec 32 := Scalar.divsi v25 c1_i32
  let v28 : BitVec 32 := Scalar.muli v27 c1_i32
  let v29 : BitVec 32 := Scalar.addi c0_i32_16 v28
  let c1_i32_18 : BitVec 32 := 1#32
  let arg13 : BitVec 32 := Scf.iv v29 c1_i32_18 k0_t2
  let c1024_i32_224 : BitVec 32 := 1024#32
  let v422 : BitVec 32 := Scalar.muli arg13 c1024_i32_224
  let v423 : BitVec 32 := v422
  let v465 : Index := Scalar.indexCast v423
  ![0, 64, v465.toNat]
def k0_mult3 (i : grid0.Coords) : BitVec 32 :=
  let arg2 : BitVec 32 := BitVec.ofNat 32 (i 2).val
  let c4_i32 : BitVec 32 := 4#32
  let v24 : BitVec 32 := Scalar.muli arg2 c4_i32
  let c0_i32_19 : BitVec 32 := 0#32
  let v30 : BitVec 32 := Scalar.addi v24 c0_i32_19
  let c1024_i32 : BitVec 32 := 1024#32
  let v31 : BitVec 32 := Scalar.muli v30 c1024_i32
  v31
def k0_off9 (i : grid0.Coords) (c0_i32_19 : BitVec 32) : Fin 3 → Nat :=
  let c0_20 : Index := 0#32
  let c0_21 : Index := 0#32
  let arg2 : BitVec 32 := BitVec.ofNat 32 (i 2).val
  let c4_i32 : BitVec 32 := 4#32
  let v24 : BitVec 32 := Scalar.muli arg2 c4_i32
  let v30 : BitVec 32 := Scalar.addi v24 c0_i32_19
  let c1024_i32 : BitVec 32 := 1024#32
  let v31 : BitVec 32 := Scalar.muli v30 c1024_i32
  let v32 : BitVec 32 := v31
  let v33 : Index := Scalar.indexCast v32
  ![0, 0, v33.toNat]
def k0_off10 (i : grid0.Coords) (c0_i32_19 : BitVec 32) : Fin 3 → Nat :=
  let c0_22 : Index := 0#32
  let c0_23 : Index := 0#32
  let arg2 : BitVec 32 := BitVec.ofNat 32 (i 2).val
  let c4_i32 : BitVec 32 := 4#32
  let v24 : BitVec 32 := Scalar.muli arg2 c4_i32
  let v30 : BitVec 32 := Scalar.addi v24 c0_i32_19
  let c1024_i32 : BitVec 32 := 1024#32
  let v31 : BitVec 32 := Scalar.muli v30 c1024_i32
  let v32 : BitVec 32 := v31
  let v36 : Index := Scalar.indexCast v32
  ![0, 0, v36.toNat]
def k0_off11 (i : grid0.Coords) (c0_i32_19 : BitVec 32) : Fin 3 → Nat :=
  let c0_44 : Index := 0#32
  let c80 : Index := 80#32
  let arg2 : BitVec 32 := BitVec.ofNat 32 (i 2).val
  let c4_i32 : BitVec 32 := 4#32
  let v24 : BitVec 32 := Scalar.muli arg2 c4_i32
  let v30 : BitVec 32 := Scalar.addi v24 c0_i32_19
  let c1024_i32 : BitVec 32 := 1024#32
  let v31 : BitVec 32 := Scalar.muli v30 c1024_i32
  let v32 : BitVec 32 := v31
  let v79 : Index := Scalar.indexCast v32
  ![0, 80, v79.toNat]
def k0_off12 (i : grid0.Coords) (c0_i32_19 : BitVec 32) : Fin 3 → Nat :=
  let c0_45 : Index := 0#32
  let c64 : Index := 64#32
  let arg2 : BitVec 32 := BitVec.ofNat 32 (i 2).val
  let c4_i32 : BitVec 32 := 4#32
  let v24 : BitVec 32 := Scalar.muli arg2 c4_i32
  let v30 : BitVec 32 := Scalar.addi v24 c0_i32_19
  let c1024_i32 : BitVec 32 := 1024#32
  let v31 : BitVec 32 := Scalar.muli v30 c1024_i32
  let v32 : BitVec 32 := v31
  let v82 : Index := Scalar.indexCast v32
  ![0, 64, v82.toNat]
def k0_mult4 (i : grid0.Coords) : BitVec 32 :=
  let arg2 : BitVec 32 := BitVec.ofNat 32 (i 2).val
  let c4_i32 : BitVec 32 := 4#32
  let v24 : BitVec 32 := Scalar.muli arg2 c4_i32
  let c1_i32_66 : BitVec 32 := 1#32
  let v125 : BitVec 32 := Scalar.addi v24 c1_i32_66
  let c1024_i32_67 : BitVec 32 := 1024#32
  let v126 : BitVec 32 := Scalar.muli v125 c1024_i32_67
  v126
def k0_mult5 (i : grid0.Coords) : BitVec 32 :=
  let arg2 : BitVec 32 := BitVec.ofNat 32 (i 2).val
  let c4_i32 : BitVec 32 := 4#32
  let v24 : BitVec 32 := Scalar.muli arg2 c4_i32
  let c2_i32 : BitVec 32 := 2#32
  let v220 : BitVec 32 := Scalar.addi v24 c2_i32
  let c1024_i32_115 : BitVec 32 := 1024#32
  let v221 : BitVec 32 := Scalar.muli v220 c1024_i32_115
  v221
def k0_mult6 (i : grid0.Coords) : BitVec 32 :=
  let arg2 : BitVec 32 := BitVec.ofNat 32 (i 2).val
  let c4_i32 : BitVec 32 := 4#32
  let v24 : BitVec 32 := Scalar.muli arg2 c4_i32
  let c3_i32 : BitVec 32 := 3#32
  let v315 : BitVec 32 := Scalar.addi v24 c3_i32
  let c1024_i32_163 : BitVec 32 := 1024#32
  let v316 : BitVec 32 := Scalar.muli v315 c1024_i32_163
  v316
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x160x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x160x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x128x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== Kernel4Ideal.lean ====
variable {F : FTy → Type} [FloatOps F] [Named F]
def κ : String → Option EReal := fun
  | "mask" => some ⊥
  | _ => none
-- ==== Reference4Ideal.lean ====
abbrev S4x640x4096 : Shape := ⟨3, ![4, 640, 4096]⟩
abbrev S4x512x4096 : Shape := ⟨3, ![4, 512, 4096]⟩
abbrev S4x4096x640 : Shape := ⟨3, ![4, 4096, 640]⟩
abbrev S4x4096x8x80 : Shape := ⟨4, ![4, 4096, 8, 80]⟩
abbrev S4x4096x512 : Shape := ⟨3, ![4, 4096, 512]⟩
abbrev S4x4096x8x64 : Shape := ⟨4, ![4, 4096, 8, 64]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S4x8x4096x4096 : Shape := ⟨4, ![4, 8, 4096, 4096]⟩
abbrev S_ : Shape := ⟨0, ![]⟩
abbrev S4x8x4096 : Shape := ⟨3, ![4, 8, 4096]⟩
abbrev S4x8x4096x1 : Shape := ⟨4, ![4, 8, 4096, 1]⟩
abbrev S4x8x64x4096 : Shape := ⟨4, ![4, 8, 64, 4096]⟩

abbrev nBuf : Space → Nat
  | .hbm => 42
  | .vmem => 0
  | .smem => 0
  | _ => 0

abbrev bufTy : (tb : Table) → Fin (tcTables nBuf tb) → BufTy
  | .hbm, ⟨0, _⟩ => ⟨S4x640x4096, .bf16⟩
  | .hbm, ⟨1, _⟩ => ⟨S4x640x4096, .bf16⟩
  | .hbm, ⟨2, _⟩ => ⟨S4x512x4096, .bf16⟩
  | .hbm, ⟨3, _⟩ => ⟨S4x640x4096, .f32⟩
  | .hbm, ⟨4, _⟩ => ⟨S4x4096x640, .f32⟩
  | .hbm, ⟨5, _⟩ => ⟨S4x4096x8x80, .f32⟩
  | .hbm, ⟨6, _⟩ => ⟨S4x640x4096, .f32⟩
  | .hbm, ⟨7, _⟩ => ⟨S4x4096x640, .f32⟩
  | .hbm, ⟨8, _⟩ => ⟨S4x4096x8x80, .f32⟩
  | .hbm, ⟨9, _⟩ => ⟨S4x512x4096, .f32⟩
  | .hbm, ⟨10, _⟩ => ⟨S4x4096x512, .f32⟩
  | .hbm, ⟨11, _⟩ => ⟨S4x4096x8x64, .f32⟩
  | .hbm, ⟨12, _⟩ => ⟨S4096, .i32⟩
  | .hbm, ⟨13, _⟩ => ⟨S4096x1, .i32⟩
  | .hbm, ⟨14, _⟩ => ⟨S4096, .i32⟩
  | .hbm, ⟨15, _⟩ => ⟨S1x4096, .i32⟩
  | .hbm, ⟨16, _⟩ => ⟨S4096x4096, .i32⟩
  | .hbm, ⟨17, _⟩ => ⟨S4096x4096, .i32⟩
  | .hbm, ⟨18, _⟩ => ⟨S4096x4096, .i1⟩
  | .hbm, ⟨19, _⟩ => ⟨S4x8x4096x4096, .f32⟩
  | .hbm, ⟨20, _⟩ => ⟨S_, .f32⟩
  | .hbm, ⟨21, _⟩ => ⟨S_, .f32⟩
  | .hbm, ⟨22, _⟩ => ⟨S4x8x4096x4096, .i1⟩
  | .hbm, ⟨23, _⟩ => ⟨S4x8x4096x4096, .f32⟩
  | .hbm, ⟨24, _⟩ => ⟨S4x8x4096x4096, .f32⟩
  | .hbm, ⟨25, _⟩ => ⟨S_, .f32⟩
  | .hbm, ⟨26, _⟩ => ⟨S4x8x4096x4096, .f32⟩
  | .hbm, ⟨27, _⟩ => ⟨S_, .f32⟩
  | .hbm, ⟨28, _⟩ => ⟨S4x8x4096, .f32⟩
  | .hbm, ⟨29, _⟩ => ⟨S4x8x4096x1, .f32⟩
  | .hbm, ⟨30, _⟩ => ⟨S4x8x4096x4096, .f32⟩
  | .hbm, ⟨31, _⟩ => ⟨S4x8x4096x4096, .f32⟩
  | .hbm, ⟨32, _⟩ => ⟨S4x8x4096x4096, .f32⟩
  | .hbm, ⟨33, _⟩ => ⟨S_, .f32⟩
  | .hbm, ⟨34, _⟩ => ⟨S4x8x4096, .f32⟩
  | .hbm, ⟨35, _⟩ => ⟨S4x8x4096x1, .f32⟩
  | .hbm, ⟨36, _⟩ => ⟨S4x8x4096x4096, .f32⟩
  | .hbm, ⟨37, _⟩ => ⟨S4x8x4096x4096, .f32⟩
  | .hbm, ⟨38, _⟩ => ⟨S4x8x64x4096, .f32⟩
  | .hbm, ⟨39, _⟩ => ⟨S4x4096x8x64, .f32⟩
  | .hbm, ⟨40, _⟩ => ⟨S4x4096x512, .f32⟩
  | .hbm, ⟨41, _⟩ => ⟨S4x4096x512, .bf16⟩
  | _, _ => ⟨S4x640x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_cst : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_v17 : Ref sig .tc := ⟨.hbm, 24, rfl⟩
abbrev main_cst_0 : Ref sig .tc := ⟨.hbm, 25, rfl⟩
abbrev main_v18 : Ref sig .tc := ⟨.hbm, 26, rfl⟩
abbrev main_cst_1 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_2 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩

abbrev nD : Nat := 1
abbrev τ : Topo := Topo.v7x

variable {F : FTy → Type} [FloatOps F]
-- ==== Proof.AttnRunKernelIdeal.lean ====
module

public import proofs.«01_k».proof.Proof.Gen.KernelIdeal.Frame
public import proofs.«01_k».proof.Proof.Gen.KernelIdeal.Skeleton
public import Idealize.ShloMosaic.Lib.Exec

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F] [Named F]

local notation "𝕄" => MT nD τ sig Unit (Elt F) ℕ (UR sig nD τ) ℕ

/-- The grid's last axis has one point, so the loop over the key tiles below the diagonal makes no trip. -/
theorem trips1 : ∀ i : grid0.Coords, (k0_t1_loop i).trips = 0 := by decide +kernel
/-- The same of the second loop. -/
theorem trips2 : ∀ i : grid0.Coords, (k0_t2_loop i).trips = 0 := by decide +kernel

/-- A loop of no trips returns what it starts from. -/
theorem for_zero.{v} {w : Nat} {E : Type → Type v} {σ : Type} (l : Scf.Loop w) (hok : l.OK) (init : σ)
    (body : Fin l.trips → σ → Prog E σ) (h : l.trips = 0) : Scf.Loop.for l hok init body = .ret init := by
  have hl : List.finRange l.trips = [] := by
    apply List.eq_nil_of_length_eq_zero; rw [List.length_finRange]; exact h
  rw [Scf.Loop.for, Scf.for_eq]
  exact (congrArg (fun ks => Scf.forFrom body ks init) hl)

set_option maxHeartbeats 4000000 in
/-- The body runs from the inputs at their contents and the other buffers at anything, leaves the inputs as they were, and
    leaves in the output buffer the pieces `L8`, which the run finds. -/
def kernelRun (c : Dev nD) (i : grid0.Coords) (arg3 : Memref sig .tc .vmem S1x128x4096 .bf16) (harg3 : arg3.IsWhole) (arg4 : Memref sig .tc .vmem S1x128x4096 .bf16) (harg4 : arg4.IsWhole) (arg5 : Memref sig .tc .vmem S1x128x4096 .bf16) (harg5 : arg5.IsWhole) (arg6 : Memref sig .tc .vmem S4x64 .f32) (harg6 : arg6.IsWhole) (arg7 : Memref sig .tc .vmem S128x1 .f32) (harg7 : arg7.IsWhole) (arg8 : Memref sig .tc .vmem S1x4096x128 .bf16) (harg8 : arg8.IsWhole) (arg9 : Memref sig .tc .vmem S1x4096 .f32) (harg9 : arg9.IsWhole) (arg10 : Memref sig .tc .vmem S1x4096 .f32) (harg10 : arg10.IsWhole) (arg11 : Memref sig .tc .vmem S1x4096 .f32) (harg11 : arg11.IsWhole) (arg12 : Memref sig .tc .vmem S1x4096 .f32) (harg12 : arg12.IsWhole) (arg13 : Memref sig .tc .vmem S128x4096 .f32) (harg13 : arg13.IsWhole) (arg14 : Memref sig .tc .vmem S128x4096 .f32) (harg14 : arg14.IsWhole)
    (x0 : Vec F S1x128x4096 .bf16) (x1 : Vec F S1x128x4096 .bf16) (x2 : Vec F S1x128x4096 .bf16) (x3 : Vec F S4x64 .f32) (x4 : Vec F S128x1 .f32) :
    { L8 : List (View.Piece (Elt F) S1x4096x128 .bf16) // ∀ (K : PUnit → sProp 𝕄),
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
      ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L8) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)) -∗ K ⟨⟩))
    ⊢ wp frame (wpE (defs₀ (F := F)) Variants.none c none) Set.univ (cc0_attn_diff i arg3 harg3 arg4 harg4 arg5 harg5 arg6 harg6 arg7 harg7 arg8 harg8 arg9 harg9 arg10 harg10 arg11 harg11 arg12 harg12 arg13 harg13 arg14 harg14) K } := by
  refine ⟨?_, fun K => ?run⟩
  case run =>
    simp only [cc0_attn_diff_eq_skeleton]; unfold cc0_attn_diff_skel
    simp only [k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton]
    unfold k0_part5_skel k0_part6_skel k0_part7_skel k0_part8_skel k0_part9_skel k0_part10_skel k0_part11_skel k0_part12_skel k0_part13_skel k0_part14_skel k0_part15_skel k0_part16_skel
    simp only [for_zero _ _ _ _ (trips1 i), for_zero _ _ _ _ (trips2 i)]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, Hk⟩
    obtain rfl := harg3.eq_unread hf0; obtain rfl := harg4.eq_unread hf1; obtain rfl := harg5.eq_unread hf2; obtain rfl := harg6.eq_unread hf3; obtain rfl := harg7.eq_unread hf4
    sl_exec!
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    isplitl [H6]
    · iexists _; iexists _; isplitr
      swap; · iexact H6
      ipureintro; rfl
    isplitl [H7]
    · iexists _; iexists _; isplitr
      swap; · iexact H7
      ipureintro; rfl
    isplitl [H8]
    · iexists _; iexists _; isplitr
      swap; · iexact H8
      ipureintro; rfl
    isplitl [H9]
    · iexists _; iexists _; isplitr
      swap; · iexact H9
      ipureintro; rfl
    isplitl [H10]
    · iexists _; iexists _; isplitr
      swap; · iexact H10
      ipureintro; rfl
    iexists _; iexists _; isplitr
    swap; · iexact H11
    ipureintro; rfl

end Cert.KernelIdeal.Body

end
-- ==== Proof.AttnFrameKernelIdeal.lean ====
module

public import proofs.«01_k».proof.Proof.AttnRunKernelIdeal
public import Idealize.ShloMosaic.Lib.Claim

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The body's run on the buffers the pipeline gives it at point `t`, over blocks `x0 … x4`. -/
abbrev runAt (c : Dev nD) (t : Fin cfg0.N) (x0 : Vec F S1x128x4096 .bf16) (x1 : Vec F S1x128x4096 .bf16) (x2 : Vec F S1x128x4096 .bf16) (x3 : Vec F S4x64 .f32) (x4 : Vec F S128x1 .f32) :=
  kernelRun (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) x0 x1 x2 x3 x4

/-- The run's pieces cover the output block. -/
theorem cover8 (c : Dev nD) (t : Fin cfg0.N) (x0 : Vec F S1x128x4096 .bf16) (x1 : Vec F S1x128x4096 .bf16) (x2 : Vec F S1x128x4096 .bf16) (x3 : Vec F S4x64 .f32) (x4 : Vec F S128x1 .f32) (y : S1x4096x128.Idx) :
    ∃ pc ∈ (runAt (F := F) c t x0 x1 x2 x3 x4).1, y ∈ pc.1.set :=
  View.cover_of_tiledL (runAt (F := F) c t x0 x1 x2 x3 x4).1 S1x4096x128.size (by sl_kernel_rfl) y

/-- What the body leaves in the output block, from the input blocks: the pieces read back. -/
def outVal (c : Dev nD) (t : Fin cfg0.N) (x0 : Vec F S1x128x4096 .bf16) (x1 : Vec F S1x128x4096 .bf16) (x2 : Vec F S1x128x4096 .bf16) (x3 : Vec F S4x64 .f32) (x4 : Vec F S128x1 .f32) : Vec F S1x4096x128 .bf16 :=
  View.canon (runAt (F := F) c t x0 x1 x2 x3 x4).1

/-- The proof data of the pipeline: the arrays as the region finds them, after each point the inputs' buffers at their
    blocks and the output's at `outVal` of them. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outVal c t (iblk m c 0 t) (iblk m c 1 t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem before0_0 (c : Dev nD) (t : Fin cfg0.N) (d) : (dats m 0 c).before 0 t d = iblk m c 0 t :=
  before0_0_of m (dats m 0 c) (A_eq m c 0) (after0_0 m c) t d
theorem after0_1 (c : Dev nD) (t : Fin cfg0.N) : (dats m 0 c).after 1 t = iblk m c 1 t := by dsimp only [dats]
theorem before0_1 (c : Dev nD) (t : Fin cfg0.N) (d) : (dats m 0 c).before 1 t d = iblk m c 1 t :=
  before0_1_of m (dats m 0 c) (A_eq m c 1) (after0_1 m c) t d
theorem after0_2 (c : Dev nD) (t : Fin cfg0.N) : (dats m 0 c).after 2 t = iblk m c 2 t := by dsimp only [dats]
theorem before0_2 (c : Dev nD) (t : Fin cfg0.N) (d) : (dats m 0 c).before 2 t d = iblk m c 2 t :=
  before0_2_of m (dats m 0 c) (A_eq m c 2) (after0_2 m c) t d
theorem after0_3 (c : Dev nD) (t : Fin cfg0.N) : (dats m 0 c).after 3 t = iblk m c 3 t := by dsimp only [dats]
theorem before0_3 (c : Dev nD) (t : Fin cfg0.N) (d) : (dats m 0 c).before 3 t d = iblk m c 3 t :=
  before0_3_of m (dats m 0 c) (A_eq m c 3) (after0_3 m c) t d
theorem after0_4 (c : Dev nD) (t : Fin cfg0.N) : (dats m 0 c).after 4 t = iblk m c 4 t := by dsimp only [dats]
theorem before0_4 (c : Dev nD) (t : Fin cfg0.N) (d) : (dats m 0 c).before 4 t d = iblk m c 4 t :=
  before0_4_of m (dats m 0 c) (A_eq m c 4) (after0_4 m c) t d
theorem after0_5 (c : Dev nD) (t : Fin cfg0.N) : (dats m 0 c).after 5 t
    = outVal c t (iblk m c 0 t) (iblk m c 1 t) (iblk m c 2 t) (iblk m c 3 t) (iblk m c 4 t) := by dsimp only [dats]

/-- The pipeline's invariant: the six scratch buffers at some contents and the generator register. -/
theorem PhiA0_eq (c : Dev nD) : (Pipeline.ΦA spec0 c : sProp 𝕄)
    = iprop(((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d)) ∗ (∃ r, prngReg c r)) := by
  unfold Pipeline.ΦA; rw [scopedRest0_eq]; simp only [owns_whole]; try rfl

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  rw [show (dats m 0 c).Φ t.castSucc = Pipeline.ΦA spec0 c from rfl, PhiA0_eq]
  iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩⟩
  iapply ((runAt (F := F) c t (iblk m c 0 t) (iblk m c 1 t) (iblk m c 2 t) (iblk m c 3 t) (iblk m c 4 t)).2 _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, ⟨%e5, H5⟩, HS0, HS1, HS2, HS3, HS4, HS5⟩
  isplitl [HS0 HS1 HS2 HS3 HS4 HS5 Hg]
  · isplitl [HS0 HS1 HS2 HS3 HS4 HS5]
    · isplitl [HS0]; · iexact HS0
      isplitl [HS1]; · iexact HS1
      isplitl [HS2]; · iexact HS2
      isplitl [HS3]; · iexact HS3
      isplitl [HS4]; · iexact HS4
      iexact HS5
    iexact Hg
  isplitl [Ho]; · iexact Ho
  isplitl [H0]; · iexact H0
  isplitl [H1]; · iexact H1
  isplitl [H2]; · iexact H2
  isplitl [H3]; · iexact H3
  isplitl [H4]; · iexact H4
  unfold owns; iexists _; isplitr
  swap; · iexact H5
  ipureintro; exact View.read_writes_eq_canon _ _ _ (cover8 c t _ _ _ _ _)

theorem defs₀_row (t : Fin cfg0.N) :
    defs₀ (F := F) .tc cfg0.body (cfg0.bodyArgs t (cfg0.slots t)) = bodyAt0 t := by
  unfold defs₀; rw [Defs.onTc_tc]

/-- The pipeline's obligation of the body, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The launch, with every semaphore counter at zero at the end. -/
theorem run_main_quiescent : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- Every fair run ends with every array of the pipeline at what the proof data computes. -/
theorem run_main : θ_run defs (onTc (τ := τ) (main (F := F))) (s₀ m ρ) (Pipeline.FramePost cfgs (dats m) 0 (V m)) :=
  (θ_run defs _ _).mono (fun _ h => h.1) (run_main_quiescent m ρ)

/-- The frame: every fair run ends with the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.KernelIdeal.Body

end
-- ==== Proof.AttnRefFrame.lean ====
module

public import proofs.«01_k».proof.Proof.Gen.ReferenceIdeal.Run
public import Idealize.ShloMosaic.Lib.Quiescent

@[expose] public section

noncomputable section

namespace Cert.ReferenceIdeal.Body

open Idealize.ShloMosaic Idealize.ShloMosaic.TcCoe Idealize.SL.Sem Cert.ReferenceIdeal

/-- The reference's frame: every fair run ends with the arguments unchanged and every counter at zero. -/
theorem frame {F : FTy → Type} [FloatOps F] (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => (h c).2, sem_eq_zero_of_no_sems (by decide) r.2⟩)
    (Cert.ReferenceIdeal.Value.run m ρ)

end Cert.ReferenceIdeal.Body

end
-- ==== Proof.AttnStep.lean ====
module

public import Mathlib.Data.Finset.Fold
public import Idealize.ShloMosaic.Lib.Pointwise
public import Idealize.ShloMosaic.Lib.WordCmp
public import proofs.«01_k».proof.Proof.Gen.KernelIdeal.Skeleton

@[expose] public section

set_option maxRecDepth 16384

noncomputable section

namespace Cert.Attn

open Cert.KernelIdeal Cert.KernelIdeal.Gen
open Idealize.ShloMosaic Idealize.ShloMosaic.TcCoe

/-! One step of the online softmax on one column: what a key tile does to the running maximum, sum and output. -/

/-- The running maximum after a tile of scores `s`. -/
def stepM (mo : EReal) (s : Fin 1024 → EReal) : EReal := max mo (Finset.univ.fold max ⊥ s)

/-- The running sum after a tile of scores `s`. -/
def stepL (mo lo : EReal) (s : Fin 1024 → EReal) : EReal :=
  Ideal.exp2 (mo - stepM mo s) * lo + ∑ j, Ideal.exp2 (s j - stepM mo s)

/-- One entry of the running output after a tile of scores `s` and values `v`. -/
def stepA (mo ao : EReal) (s v : Fin 1024 → EReal) : EReal :=
  Ideal.exp2 (mo - stepM mo s) * ao + ∑ j, v j * Ideal.exp2 (s j - stepM mo s)

/-- The masked score of key `j` of a tile and query `x`, both counted from the tile's first key. -/
def tileS (k q : Fin 64 → EReal) (j x : ℕ) : EReal := if j ≤ x then ∑ t, k t * q t else ⊥

/-- The mask's named constant is minus infinity. -/
theorem named_mask : (Named.named κ "mask" (φ := .f32) 0xF149F2CA#32 : Ideal .f32) = (⊥ : EReal) := rfl

theorem negInf : (Ideal.ofBits .f32 0xFF800000#32 : EReal) = ⊥ := by
  unfold Ideal.ofBits Ideal.ieee
  simp

theorem exp2_ideal (x : Ideal .f32) : (FloatOps.exp2 x : Ideal .f32) = Ideal.exp2 x := rfl

/-- A maximum down the columns. -/
theorem colmax {m n : ℕ} (s : FVec Ideal ⟨2, ![m, n]⟩ .f32) (h : Shape.Reduces ⟨2, ![m, n]⟩ [0] ⟨1, ![n]⟩)
    (hφ : FKind.Formats .f32) (hacc : (0xFF800000#32 : BitVec 32) = FKind.maximumf.neutral .f32 hφ) (x : Fin n) :
    multiReduction .maximumf [0] ⟨1, ![n]⟩ s 0xFF800000#32 h hφ hacc (ix1 x)
      = (Finset.univ.fold max ⊥ fun j => s (ix2 j x) : EReal) := by
  pointwise [negInf]

theorem sel_sge {α : Type} (x j : ℕ) (hx : x < 1024) (hj : j < 1024) (a b : α) :
    Scalar.select (IntOp.cmpi .sge (BitVec.ofNat 32 x) (BitVec.ofNat 32 j)) a b = if j ≤ x then a else b := by
  by_cases h : j ≤ x
  · rw [if_pos h, show IntOp.cmpi .sge (BitVec.ofNat 32 x) (BitVec.ofNat 32 j) = 1#1 from by word_cmp]; rfl
  · rw [if_neg h, show IntOp.cmpi .sge (BitVec.ofNat 32 x) (BitVec.ofNat 32 j) = 0#1 from by word_cmp]; rfl

/-- The mask of a tile whose first columns are on the diagonal and whose other columns are past it. -/
theorem mask_ite {n : ℕ} (f : Fin n → EReal) (x : Fin n) (j : Fin 1024) (hlt : ¬ x.val < 1024 → 1024 + (x.val - 1024) < n) :
    (if h : x.val < 1024 then Scalar.select (IntOp.cmpi .sge (BitVec.ofNat 32 x.val) (BitVec.ofNat 32 j.val)) (f x) ⊥
      else f ⟨1024 + (x.val - 1024), hlt h⟩) = if j.val ≤ x.val then f x else ⊥ := by
  by_cases h : x.val < 1024
  · rw [dif_pos h, sel_sge _ _ h j.isLt]
  · rw [dif_neg h, if_pos (by omega)]; congr 1; exact Fin.ext (by simp only; omega)

end Cert.Attn
-- ==== Proof.AttnCol.lean ====
module

public import proofs.«01_k».proof.Proof.AttnStep
public import proofs.«01_k».proof.Proof.AttnRunKernelIdeal
public import Idealize.ShloMosaic.Lib.Pipeline.ValueKit

@[expose] public section

set_option maxRecDepth 16384

noncomputable section

namespace Cert.Attn

open Cert.KernelIdeal Cert.KernelIdeal.Gen
open Idealize.ShloMosaic Idealize.ShloMosaic.TcCoe

/-! The state of one column of the scratch buffers after each key tile, and the reads and writes that keep it. -/

/-- Key `j` of tile `d`, coordinate `t` of component `c`. -/
def kcol (x1 : Vec Ideal S1x128x4096 .bf16) (c d : ℕ) (j : Fin 1024) (t : Fin 64) : EReal :=
  x1 (ix3 0 ⟨(64 * c + t.val) % 128, Nat.mod_lt _ (by decide)⟩ ⟨(1024 * d + j.val) % 4096, Nat.mod_lt _ (by decide)⟩)

/-- Query `x`, coordinate `t` of component `c`. -/
def qcol (x0 : Vec Ideal S1x128x4096 .bf16) (c : ℕ) (x : Fin 4096) (t : Fin 64) : EReal :=
  x0 (ix3 0 ⟨(64 * c + t.val) % 128, Nat.mod_lt _ (by decide)⟩ x)

/-- Value `j` of tile `d`, coordinate `e`. -/
def vcol (x2 : Vec Ideal S1x128x4096 .bf16) (d : ℕ) (e : Fin 128) (j : Fin 1024) : EReal :=
  x2 (ix3 0 e ⟨(1024 * d + j.val) % 4096, Nat.mod_lt _ (by decide)⟩)

/-- The masked scores of query `x` against tile `d`. -/
def scol (x0 x1 : Vec Ideal S1x128x4096 .bf16) (c d : ℕ) (x : Fin 4096) (j : Fin 1024) : EReal :=
  tileS (kcol x1 c d j) (qcol x0 c x) (1024 * d + j.val) x.val

/-- The running maximum of column `x` after the first tiles. -/
def stM (x0 x1 : Vec Ideal S1x128x4096 .bf16) (c : ℕ) (x : Fin 4096) : ℕ → EReal
  | 0 => ⊥
  | d + 1 => if 1024 * d ≤ x.val then stepM (stM x0 x1 c x d) (scol x0 x1 c d x) else stM x0 x1 c x d

/-- The running sum. -/
def stL (x0 x1 : Vec Ideal S1x128x4096 .bf16) (c : ℕ) (x : Fin 4096) : ℕ → EReal
  | 0 => 0
  | d + 1 => if 1024 * d ≤ x.val then stepL (stM x0 x1 c x d) (stL x0 x1 c x d) (scol x0 x1 c d x) else stL x0 x1 c x d

/-- Entry `e` of the running output. -/
def stA (x0 x1 x2 : Vec Ideal S1x128x4096 .bf16) (c : ℕ) (e : Fin 128) (x : Fin 4096) : ℕ → EReal
  | 0 => 0
  | d + 1 => if 1024 * d ≤ x.val then stepA (stM x0 x1 c x d) (stA x0 x1 x2 c e x d) (scol x0 x1 c d x) (vcol x2 d e)
      else stA x0 x1 x2 c e x d

/-- What a write of the columns from `o` on leaves at column `x`. -/
theorem canon_cols {R W : ℕ} (o : ℕ) (ho : o + W = 4096)
    (inb : ∀ a, ![0, o] a + ![R, W] a ≤ (⟨2, ![R, 4096]⟩ : Shape).size a)
    (w : (⟨2, ![R, W]⟩ : Shape).Idx → Elt Ideal .f32) (L : List (View.Piece (Elt Ideal) ⟨2, ![R, 4096]⟩ .f32))
    (e : Fin R) (x : Fin 4096) :
    View.canon ((⟨Rect.unit (s := ⟨2, ![R, 4096]⟩) ![0, o] ![R, W] inb, w⟩ : View.Piece (Elt Ideal) ⟨2, ![R, 4096]⟩ .f32) :: L) (ix2 e x)
      = if h : o ≤ x.val then w (ix2 e ⟨x.val - o, by omega⟩) else View.canon L (ix2 e x) := by
  by_cases h : o ≤ x.val
  · rw [dif_pos h]
    have hx : (ix2 e x : (⟨2, ![R, 4096]⟩ : Shape).Idx)
        = (Rect.unit (s := ⟨2, ![R, 4096]⟩) ![0, o] ![R, W] inb).emb (ix2 e ⟨x.val - o, by omega⟩ : (⟨2, ![R, W]⟩ : Shape).Idx) := by
      funext a
      refine Fin.ext ?_
      rw [ValueKit.rect_emb_unit_val]
      match a with
      | ⟨0, _⟩ => exact (Nat.zero_add _).symm
      | ⟨1, _⟩ => exact (show x.val = o + (x.val - o) by omega)
    rw [hx]
    exact View.canon_cons_emb (Rect.unit (s := ⟨2, ![R, 4096]⟩) ![0, o] ![R, W] inb) w L _
  · rw [dif_neg h]
    refine View.canon_cons_of_not_mem _ L ?_
    intro hm
    have hm' : (ix2 e x : (⟨2, ![R, 4096]⟩ : Shape).Idx) ∈ (Rect.unit (s := ⟨2, ![R, 4096]⟩) ![0, o] ![R, W] inb).set := hm
    rw [Rect.mem_set_unit] at hm'
    exact h (hm' 1).1

/-- What a read of the columns from `o` on finds at column `x` of the box. -/
theorem readCov_cols {R W : ℕ} {sg : RefSig} {κ : Kind} {sp : Space} (v : View sg κ sp ⟨2, ![R, 4096]⟩ .f32) (o : ℕ)
    (inb : ∀ a, ![0, o] a + ![R, W] a ≤ (⟨2, ![R, 4096]⟩ : Shape).size a)
    (L : List (View.Piece (Elt Ideal) ⟨2, ![R, 4096]⟩ .f32)) (e : Fin R) (y : Fin W) (x : Fin 4096) (hx : o + y.val = x.val) :
    v.readCov L (Rect.unit (s := ⟨2, ![R, 4096]⟩) ![0, o] ![R, W] inb).toLoadRect (ix2 e y : (⟨2, ![R, W]⟩ : Shape).Idx)
      = View.canon L (ix2 e x) := by
  rw [View.readCov_eq_canon']
  refine congrArg (View.canon L) ?_
  funext a
  refine Fin.ext ?_
  match a with
  | ⟨0, _⟩ => exact (show 0 + 1 * e.val = e.val by omega)
  | ⟨1, _⟩ => exact (show o + 1 * y.val = x.val by omega)

/-- What a load of part of an input block finds. -/
theorem readAt_at {n w : ℕ} {arg : Memref sig .tc .vmem S1x128x4096 .bf16} (h : arg.IsWhole) (X : Vec Ideal S1x128x4096 .bf16)
    (off : Fin 3 → ℕ) (inb : ∀ a, off a + ![1, n, w] a ≤ S1x128x4096.size a) (r c : ℕ) (hoff : off = ![0, r, c])
    (a : Fin n) (b : Fin w) (a' : Fin 128) (b' : Fin 4096) (ha : r + a.val = a'.val) (hb : c + b.val = b'.val) :
    View.readAt (Elt Ideal) arg.view (Rect.unit (s := S1x128x4096) off ![1, n, w] inb).toLoadRect (h.unread X)
      (ix3 0 a b : (⟨3, ![1, n, w]⟩ : Shape).Idx) = X (ix3 0 a' b') := by
  rw [View.readAt_eq_ld, h.read_unread]
  refine congrArg X ?_
  subst hoff
  funext k
  refine Fin.ext ?_
  match k with
  | ⟨0, _⟩ => rfl
  | ⟨1, _⟩ => exact (show r + 1 * a.val = a'.val by omega)
  | ⟨2, _⟩ => exact (show c + 1 * b.val = b'.val by omega)

/-- The tile of values a load finds, at row `e`. -/
theorem read_vcol {arg : Memref sig .tc .vmem S1x128x4096 .bf16} (h : arg.IsWhole) (X : Vec Ideal S1x128x4096 .bf16)
    (off : Fin 3 → ℕ) (inb : ∀ a, off a + ![1, 128, 1024] a ≤ S1x128x4096.size a) (d : ℕ) (hd : d < 4) (hoff : off = ![0, 0, 1024 * d])
    (e : Fin 128) :
    (fun j : Fin 1024 => (View.readAt (Elt Ideal) arg.view (Rect.unit (s := S1x128x4096) off ![1, 128, 1024] inb).toLoadRect (h.unread X)
      (ix3 0 e j : (⟨3, ![1, 128, 1024]⟩ : Shape).Idx) : EReal)) = vcol X d e := by
  funext j
  exact readAt_at h X off inb 0 (1024 * d) hoff e j e _ (Nat.zero_add _) (by simp only; omega)

theorem tile_scol (x0 x1 : Vec Ideal S1x128x4096 .bf16) (c d : ℕ) (x : Fin 4096) (h : 1024 * d ≤ x.val) (y : ℕ)
    (hy : y = x.val - 1024 * d)
    (kk : Fin 64 → Fin 1024 → EReal) (qq : Fin 64 → EReal) (hk : ∀ t j, kk t j = kcol x1 c d j t) (hq : ∀ t, qq t = qcol x0 c x t) :
    (fun j : Fin 1024 => tileS (fun t => kk t j) qq j.val y) = scol x0 x1 c d x := by
  funext j
  unfold scol
  rw [show (fun t => kk t j) = kcol x1 c d j from funext fun t => hk t j, show qq = qcol x0 c x from funext hq]
  unfold tileS
  by_cases hj : j.val ≤ y
  · rw [if_pos hj, if_pos (by omega)]
  · rw [if_neg hj, if_neg (by omega)]

theorem stepM_st {x0 x1 : Vec Ideal S1x128x4096 .bf16} {c d : ℕ} {x : Fin 4096} (h : 1024 * d ≤ x.val)
    {mo : EReal} {s : Fin 1024 → EReal} (hm : mo = stM x0 x1 c x d) (hs : s = scol x0 x1 c d x) :
    stepM mo s = stM x0 x1 c x (d + 1) := by
  subst hm hs; rw [stM, if_pos h]

theorem stepL_st {x0 x1 : Vec Ideal S1x128x4096 .bf16} {c d : ℕ} {x : Fin 4096} (h : 1024 * d ≤ x.val)
    {mo lo : EReal} {s : Fin 1024 → EReal} (hm : mo = stM x0 x1 c x d) (hl : lo = stL x0 x1 c x d) (hs : s = scol x0 x1 c d x) :
    stepL mo lo s = stL x0 x1 c x (d + 1) := by
  subst hm hl hs; rw [stL, if_pos h]

theorem stepA_st {x0 x1 x2 : Vec Ideal S1x128x4096 .bf16} {c d : ℕ} {e : Fin 128} {x : Fin 4096} (h : 1024 * d ≤ x.val)
    {mo ao : EReal} {s v : Fin 1024 → EReal} (hm : mo = stM x0 x1 c x d) (ha : ao = stA x0 x1 x2 c e x d)
    (hs : s = scol x0 x1 c d x) (hv : v = vcol x2 d e) :
    stepA mo ao s v = stA x0 x1 x2 c e x (d + 1) := by
  subst hm ha hs hv; rw [stA, if_pos h]

theorem i2_zero (i : grid0.Coords) : (i 2).val = 0 := by
  have h : (i 2).val < 1 := (i 2).isLt
  omega

theorem off7 (i : grid0.Coords) (d : Fin 4) : k0_off7 i (BitVec.ofNat 32 d.val) = ![0, 0, 1024 * d.val] := by
  unfold k0_off7; rw [i2_zero]; revert d; decide +kernel
theorem off8 (i : grid0.Coords) (d : Fin 4) : k0_off8 i (BitVec.ofNat 32 d.val) = ![0, 0, 1024 * d.val] := by
  unfold k0_off8; rw [i2_zero]; revert d; decide +kernel
theorem off9 (i : grid0.Coords) (d : Fin 4) : k0_off9 i (BitVec.ofNat 32 d.val) = ![0, 64, 1024 * d.val] := by
  unfold k0_off9; rw [i2_zero]; revert d; decide +kernel

end Cert.Attn
-- ==== Proof.AttnPay3.lean ====
module

public import proofs.«01_k».proof.Proof.AttnStep

@[expose] public section

set_option maxRecDepth 16384

noncomputable section

namespace Cert.Attn

open Cert.KernelIdeal Cert.KernelIdeal.Gen
open Idealize.ShloMosaic Idealize.ShloMosaic.TcCoe

theorem redmax1024 (mo : FVec Ideal S1x1024 .f32) (s : FVec Ideal S1024x1024 .f32) (x : Fin 1024) :
    maximumf mo (shapeCast S1x1024 (multiReduction .maximumf [0] S1024 s 0xFF800000#32 reduces_S1024x1024_S1024 (.inl rfl) rfl) shapeCasts_S1024_S1x1024) (ix2 0 x)
      = max (mo (ix2 0 x)) (Finset.univ.fold max ⊥ fun j => s (ix2 j x)) := by
  have hm : ∀ v : FVec Ideal S1024 .f32, maximumf mo (shapeCast S1x1024 v shapeCasts_S1024_S1x1024) (ix2 0 x) = max (mo (ix2 0 x)) (v (ix1 x)) := by
    intro v; pointwise
  have hc : multiReduction .maximumf [0] S1024 s 0xFF800000#32 reduces_S1024x1024_S1024 (.inl rfl) rfl (ix1 x) = (Finset.univ.fold max ⊥ fun j => s (ix2 j x) : EReal) :=
    colmax s _ _ _ x
  rw [hm, hc]

theorem sc30 (k : Vec Ideal S1x64x1024 .bf16) (q : Vec Ideal S1x64x1024 .bf16) (j : Fin 1024) (x : Fin 1024) :
    k0_pay94 (F := Ideal) (k0_pay93 (F := Ideal) k q) (ix2 j x) = tileS (fun t => k (ix3 0 t j)) (fun t => q (ix3 0 t x)) j.val x.val := by
  pointwise [k0_pay93, k0_pay94, tileS, named_mask]
  exact sel_sge _ _ x.isLt j.isLt _ _

theorem mr30 (k : Vec Ideal S1x64x1024 .bf16) (q : Vec Ideal S1x64x1024 .bf16) (mo : Vec Ideal S1x1024 .f32) (x : Fin 1024) :
    k0_pay95 (F := Ideal) (k0_pay93 (F := Ideal) k q) mo (ix2 0 x) = stepM (mo (ix2 0 x)) (fun j => tileS (fun t => k (ix3 0 t j)) (fun t => q (ix3 0 t x)) j.val x.val) := by
  unfold k0_pay95 stepM
  exact (redmax1024 mo _ x).trans (by simp only [sc30])

theorem m30 (k : Vec Ideal S1x64x1024 .bf16) (q : Vec Ideal S1x64x1024 .bf16) (mo : Vec Ideal S1x1024 .f32) (x : Fin 1024) :
    k0_pay100 (F := Ideal) (k0_pay93 (F := Ideal) k q) mo (ix2 0 x) = stepM (mo (ix2 0 x)) (fun j => tileS (fun t => k (ix3 0 t j)) (fun t => q (ix3 0 t x)) j.val x.val) := by
  pointwise [k0_pay100, mr30]

theorem l30 (k : Vec Ideal S1x64x1024 .bf16) (q : Vec Ideal S1x64x1024 .bf16) (mo : Vec Ideal S1x1024 .f32) (lo : Vec Ideal S1x1024 .f32) (x : Fin 1024) :
    k0_pay98 (F := Ideal) (k0_pay93 (F := Ideal) k q) mo lo (ix2 0 x) = stepL (mo (ix2 0 x)) (lo (ix2 0 x)) (fun j => tileS (fun t => k (ix3 0 t j)) (fun t => q (ix3 0 t x)) j.val x.val) := by
  pointwise [k0_pay96, k0_pay97, k0_pay98, mr30, sc30, stepL, exp2_ideal]

theorem a30 (v : Vec Ideal S1x128x1024 .bf16) (k : Vec Ideal S1x64x1024 .bf16) (q : Vec Ideal S1x64x1024 .bf16) (mo : Vec Ideal S1x1024 .f32) (ao : Vec Ideal S128x1024 .f32) (e : Fin 128) (x : Fin 1024) :
    k0_pay99 (F := Ideal) (k0_pay92 (F := Ideal) v) (k0_pay93 (F := Ideal) k q) mo ao (ix2 e x) = stepA (mo (ix2 0 x)) (ao (ix2 e x)) (fun j => tileS (fun t => k (ix3 0 t j)) (fun t => q (ix3 0 t x)) j.val x.val) (fun j => v (ix3 0 e j)) := by
  pointwise [k0_pay92, k0_pay96, k0_pay97, k0_pay99, mr30, sc30, stepA, exp2_ideal]

theorem sc31 (k : Vec Ideal S1x64x1024 .bf16) (q : Vec Ideal S1x64x1024 .bf16) (j : Fin 1024) (x : Fin 1024) :
    k0_pay102 (F := Ideal) (k0_pay101 (F := Ideal) k) q (ix2 j x) = tileS (fun t => k (ix3 0 t j)) (fun t => q (ix3 0 t x)) j.val x.val := by
  pointwise [k0_pay101, k0_pay102, tileS, named_mask]
  exact sel_sge _ _ x.isLt j.isLt _ _

theorem mr31 (k : Vec Ideal S1x64x1024 .bf16) (q : Vec Ideal S1x64x1024 .bf16) (mo : Vec Ideal S1x1024 .f32) (x : Fin 1024) :
    k0_pay103 (F := Ideal) (k0_pay101 (F := Ideal) k) q mo (ix2 0 x) = stepM (mo (ix2 0 x)) (fun j => tileS (fun t => k (ix3 0 t j)) (fun t => q (ix3 0 t x)) j.val x.val) := by
  unfold k0_pay103 stepM
  exact (redmax1024 mo _ x).trans (by simp only [sc31])

theorem m31 (k : Vec Ideal S1x64x1024 .bf16) (q : Vec Ideal S1x64x1024 .bf16) (mo : Vec Ideal S1x1024 .f32) (x : Fin 1024) :
    k0_pay108 (F := Ideal) (k0_pay103 (F := Ideal) (k0_pay101 (F := Ideal) k) q mo) (ix2 0 x) = stepM (mo (ix2 0 x)) (fun j => tileS (fun t => k (ix3 0 t j)) (fun t => q (ix3 0 t x)) j.val x.val) := by
  pointwise [k0_pay108, mr31]

theorem l31 (k : Vec Ideal S1x64x1024 .bf16) (q : Vec Ideal S1x64x1024 .bf16) (mo : Vec Ideal S1x1024 .f32) (lo : Vec Ideal S1x1024 .f32) (x : Fin 1024) :
    k0_pay106 (F := Ideal) (k0_pay101 (F := Ideal) k) q mo lo (ix2 0 x) = stepL (mo (ix2 0 x)) (lo (ix2 0 x)) (fun j => tileS (fun t => k (ix3 0 t j)) (fun t => q (ix3 0 t x)) j.val x.val) := by
  pointwise [k0_pay104, k0_pay105, k0_pay106, mr31, sc31, stepL, exp2_ideal]

theorem a31 (v : Vec Ideal S1x128x1024 .bf16) (k : Vec Ideal S1x64x1024 .bf16) (q : Vec Ideal S1x64x1024 .bf16) (mo : Vec Ideal S1x1024 .f32) (ao : Vec Ideal S128x1024 .f32) (e : Fin 128) (x : Fin 1024) :
    k0_pay107 (F := Ideal) (k0_pay101 (F := Ideal) k) v q mo ao (ix2 e x) = stepA (mo (ix2 0 x)) (ao (ix2 e x)) (fun j => tileS (fun t => k (ix3 0 t j)) (fun t => q (ix3 0 t x)) j.val x.val) (fun j => v (ix3 0 e j)) := by
  pointwise [k0_pay104, k0_pay105, k0_pay107, mr31, sc31, stepA, exp2_ideal]

end Cert.Attn
-- ==== Proof.AttnPay2.lean ====
module

public import proofs.«01_k».proof.Proof.AttnStep

@[expose] public section

set_option maxRecDepth 16384

noncomputable section

namespace Cert.Attn

open Cert.KernelIdeal Cert.KernelIdeal.Gen
open Idealize.ShloMosaic Idealize.ShloMosaic.TcCoe

theorem redmax2048 (mo : FVec Ideal S1x2048 .f32) (s : FVec Ideal S1024x2048 .f32) (x : Fin 2048) :
    maximumf mo (shapeCast S1x2048 (multiReduction .maximumf [0] S2048 s 0xFF800000#32 reduces_S1024x2048_S2048 (.inl rfl) rfl) shapeCasts_S2048_S1x2048) (ix2 0 x)
      = max (mo (ix2 0 x)) (Finset.univ.fold max ⊥ fun j => s (ix2 j x)) := by
  have hm : ∀ v : FVec Ideal S2048 .f32, maximumf mo (shapeCast S1x2048 v shapeCasts_S2048_S1x2048) (ix2 0 x) = max (mo (ix2 0 x)) (v (ix1 x)) := by
    intro v; pointwise
  have hc : multiReduction .maximumf [0] S2048 s 0xFF800000#32 reduces_S1024x2048_S2048 (.inl rfl) rfl (ix1 x) = (Finset.univ.fold max ⊥ fun j => s (ix2 j x) : EReal) :=
    colmax s _ _ _ x
  rw [hm, hc]

theorem sc20 (k : Vec Ideal S1x64x1024 .bf16) (q : Vec Ideal S1x64x2048 .bf16) (j : Fin 1024) (x : Fin 2048) :
    k0_pay76 (F := Ideal) k q (ix2 j x) = tileS (fun t => k (ix3 0 t j)) (fun t => q (ix3 0 t x)) j.val x.val := by
  pointwise [k0_pay76, tileS, named_mask]
  exact mask_ite (fun x => ∑ t, k (ix3 0 t j) * q (ix3 0 t x)) x j _

theorem mr20 (k : Vec Ideal S1x64x1024 .bf16) (q : Vec Ideal S1x64x2048 .bf16) (mo : Vec Ideal S1x2048 .f32) (x : Fin 2048) :
    k0_pay77 (F := Ideal) k q mo (ix2 0 x) = stepM (mo (ix2 0 x)) (fun j => tileS (fun t => k (ix3 0 t j)) (fun t => q (ix3 0 t x)) j.val x.val) := by
  unfold k0_pay77 stepM
  exact (redmax2048 mo _ x).trans (by simp only [sc20])

theorem m20 (k : Vec Ideal S1x64x1024 .bf16) (q : Vec Ideal S1x64x2048 .bf16) (mo : Vec Ideal S1x2048 .f32) (x : Fin 2048) :
    k0_pay83 (F := Ideal) (k0_pay77 (F := Ideal) k q mo) (ix2 0 x) = stepM (mo (ix2 0 x)) (fun j => tileS (fun t => k (ix3 0 t j)) (fun t => q (ix3 0 t x)) j.val x.val) := by
  pointwise [k0_pay83, mr20]

theorem l20 (k : Vec Ideal S1x64x1024 .bf16) (q : Vec Ideal S1x64x2048 .bf16) (mo : Vec Ideal S1x2048 .f32) (lo : Vec Ideal S1x2048 .f32) (x : Fin 2048) :
    k0_pay81 (F := Ideal) (k0_pay80 (F := Ideal) k q mo lo) (ix2 0 x) = stepL (mo (ix2 0 x)) (lo (ix2 0 x)) (fun j => tileS (fun t => k (ix3 0 t j)) (fun t => q (ix3 0 t x)) j.val x.val) := by
  pointwise [k0_pay78, k0_pay79, k0_pay80, k0_pay81, mr20, sc20, stepL, exp2_ideal]

theorem a20 (v : Vec Ideal S1x128x1024 .bf16) (k : Vec Ideal S1x64x1024 .bf16) (q : Vec Ideal S1x64x2048 .bf16) (mo : Vec Ideal S1x2048 .f32) (ao : Vec Ideal S128x2048 .f32) (e : Fin 128) (x : Fin 2048) :
    k0_pay82 (F := Ideal) (k0_pay75 (F := Ideal) v) (k0_pay78 (F := Ideal) k q mo) (k0_pay79 (F := Ideal) k q mo) ao (ix2 e x) = stepA (mo (ix2 0 x)) (ao (ix2 e x)) (fun j => tileS (fun t => k (ix3 0 t j)) (fun t => q (ix3 0 t x)) j.val x.val) (fun j => v (ix3 0 e j)) := by
  pointwise [k0_pay75, k0_pay78, k0_pay79, k0_pay82, mr20, sc20, stepA, exp2_ideal]

theorem sc21 (k : Vec Ideal S1x64x1024 .bf16) (q : Vec Ideal S1x64x2048 .bf16) (j : Fin 1024) (x : Fin 2048) :
    k0_pay85 (F := Ideal) k q (ix2 j x) = tileS (fun t => k (ix3 0 t j)) (fun t => q (ix3 0 t x)) j.val x.val := by
  pointwise [k0_pay85, tileS, named_mask]
  exact mask_ite (fun x => ∑ t, k (ix3 0 t j) * q (ix3 0 t x)) x j _

theorem mr21 (k : Vec Ideal S1x64x1024 .bf16) (q : Vec Ideal S1x64x2048 .bf16) (mo : Vec Ideal S1x2048 .f32) (x : Fin 2048) :
    k0_pay86 (F := Ideal) k q mo (ix2 0 x) = stepM (mo (ix2 0 x)) (fun j => tileS (fun t => k (ix3 0 t j)) (fun t => q (ix3 0 t x)) j.val x.val) := by
  unfold k0_pay86 stepM
  exact (redmax2048 mo _ x).trans (by simp only [sc21])

theorem m21 (k : Vec Ideal S1x64x1024 .bf16) (q : Vec Ideal S1x64x2048 .bf16) (mo : Vec Ideal S1x2048 .f32) (x : Fin 2048) :
    k0_pay91 (F := Ideal) (k0_pay86 (F := Ideal) k q mo) (ix2 0 x) = stepM (mo (ix2 0 x)) (fun j => tileS (fun t => k (ix3 0 t j)) (fun t => q (ix3 0 t x)) j.val x.val) := by
  pointwise [k0_pay91, mr21]

theorem l21 (k : Vec Ideal S1x64x1024 .bf16) (q : Vec Ideal S1x64x2048 .bf16) (mo : Vec Ideal S1x2048 .f32) (lo : Vec Ideal S1x2048 .f32) (x : Fin 2048) :
    k0_pay89 (F := Ideal) (k0_pay85 (F := Ideal) k q) (k0_pay86 (F := Ideal) k q mo) (k0_pay87 (F := Ideal) k q mo) lo (ix2 0 x) = stepL (mo (ix2 0 x)) (lo (ix2 0 x)) (fun j => tileS (fun t => k (ix3 0 t j)) (fun t => q (ix3 0 t x)) j.val x.val) := by
  pointwise [k0_pay87, k0_pay88, k0_pay89, mr21, sc21, stepL, exp2_ideal]

theorem a21 (v : Vec Ideal S1x128x1024 .bf16) (k : Vec Ideal S1x64x1024 .bf16) (q : Vec Ideal S1x64x2048 .bf16) (mo : Vec Ideal S1x2048 .f32) (ao : Vec Ideal S128x2048 .f32) (e : Fin 128) (x : Fin 2048) :
    k0_pay90 (F := Ideal) (k0_pay84 (F := Ideal) v) (k0_pay85 (F := Ideal) k q) (k0_pay86 (F := Ideal) k q mo) (k0_pay87 (F := Ideal) k q mo) ao (ix2 e x) = stepA (mo (ix2 0 x)) (ao (ix2 e x)) (fun j => tileS (fun t => k (ix3 0 t j)) (fun t => q (ix3 0 t x)) j.val x.val) (fun j => v (ix3 0 e j)) := by
  pointwise [k0_pay84, k0_pay87, k0_pay88, k0_pay90, mr21, sc21, stepA, exp2_ideal]

end Cert.Attn
-- ==== Proof.AttnPay1.lean ====
module

public import proofs.«01_k».proof.Proof.AttnStep

@[expose] public section

set_option maxRecDepth 16384

noncomputable section

namespace Cert.Attn

open Cert.KernelIdeal Cert.KernelIdeal.Gen
open Idealize.ShloMosaic Idealize.ShloMosaic.TcCoe

theorem redmax3072 (mo : FVec Ideal S1x3072 .f32) (s : FVec Ideal S1024x3072 .f32) (x : Fin 3072) :
    maximumf mo (shapeCast S1x3072 (multiReduction .maximumf [0] S3072 s 0xFF800000#32 reduces_S1024x3072_S3072 (.inl rfl) rfl) shapeCasts_S3072_S1x3072) (ix2 0 x)
      = max (mo (ix2 0 x)) (Finset.univ.fold max ⊥ fun j => s (ix2 j x)) := by
  have hm : ∀ v : FVec Ideal S3072 .f32, maximumf mo (shapeCast S1x3072 v shapeCasts_S3072_S1x3072) (ix2 0 x) = max (mo (ix2 0 x)) (v (ix1 x)) := by
    intro v; pointwise
  have hc : multiReduction .maximumf [0] S3072 s 0xFF800000#32 reduces_S1024x3072_S3072 (.inl rfl) rfl (ix1 x) = (Finset.univ.fold max ⊥ fun j => s (ix2 j x) : EReal) :=
    colmax s _ _ _ x
  rw [hm, hc]

theorem sc10 (I0 I1 : IVec S1024x1024 32) (h0 : I0 = iota .tc S1024x1024 32 [0] iota_S1024x1024_d0_w32) (h1 : I1 = iota .tc S1024x1024 32 [1] iota_S1024x1024_d1_w32) (k : Vec Ideal S1x64x1024 .bf16) (q : Vec Ideal S1x64x3072 .bf16) (j : Fin 1024) (x : Fin 3072) :
    k0_pay60 (F := Ideal) (k0_pay59 (F := Ideal) k q) I0 I1 (ix2 j x) = tileS (fun t => k (ix3 0 t j)) (fun t => q (ix3 0 t x)) j.val x.val := by
  subst h0 h1
  pointwise [k0_pay59, k0_pay60, tileS, named_mask]
  exact mask_ite (fun x => ∑ t, k (ix3 0 t j) * q (ix3 0 t x)) x j _

theorem mr10 (I0 I1 : IVec S1024x1024 32) (h0 : I0 = iota .tc S1024x1024 32 [0] iota_S1024x1024_d0_w32) (h1 : I1 = iota .tc S1024x1024 32 [1] iota_S1024x1024_d1_w32) (k : Vec Ideal S1x64x1024 .bf16) (q : Vec Ideal S1x64x3072 .bf16) (mo : Vec Ideal S1x3072 .f32) (x : Fin 3072) :
    k0_pay61 (F := Ideal) (k0_pay59 (F := Ideal) k q) I0 I1 mo (ix2 0 x) = stepM (mo (ix2 0 x)) (fun j => tileS (fun t => k (ix3 0 t j)) (fun t => q (ix3 0 t x)) j.val x.val) := by
  unfold k0_pay61 stepM
  exact (redmax3072 mo _ x).trans (by simp only [sc10 I0 I1 h0 h1])

theorem m10 (I0 I1 : IVec S1024x1024 32) (h0 : I0 = iota .tc S1024x1024 32 [0] iota_S1024x1024_d0_w32) (h1 : I1 = iota .tc S1024x1024 32 [1] iota_S1024x1024_d1_w32) (k : Vec Ideal S1x64x1024 .bf16) (q : Vec Ideal S1x64x3072 .bf16) (mo : Vec Ideal S1x3072 .f32) (x : Fin 3072) :
    k0_pay66 (F := Ideal) (k0_pay59 (F := Ideal) k q) I0 I1 mo (ix2 0 x) = stepM (mo (ix2 0 x)) (fun j => tileS (fun t => k (ix3 0 t j)) (fun t => q (ix3 0 t x)) j.val x.val) := by
  pointwise [k0_pay66, mr10 I0 I1 h0 h1]

theorem l10 (I0 I1 : IVec S1024x1024 32) (h0 : I0 = iota .tc S1024x1024 32 [0] iota_S1024x1024_d0_w32) (h1 : I1 = iota .tc S1024x1024 32 [1] iota_S1024x1024_d1_w32) (k : Vec Ideal S1x64x1024 .bf16) (q : Vec Ideal S1x64x3072 .bf16) (mo : Vec Ideal S1x3072 .f32) (lo : Vec Ideal S1x3072 .f32) (x : Fin 3072) :
    k0_pay64 (F := Ideal) (k0_pay59 (F := Ideal) k q) I0 I1 mo lo (ix2 0 x) = stepL (mo (ix2 0 x)) (lo (ix2 0 x)) (fun j => tileS (fun t => k (ix3 0 t j)) (fun t => q (ix3 0 t x)) j.val x.val) := by
  pointwise [k0_pay62, k0_pay63, k0_pay64, mr10 I0 I1 h0 h1, sc10 I0 I1 h0 h1, stepL, exp2_ideal]

theorem a10 (I0 I1 : IVec S1024x1024 32) (h0 : I0 = iota .tc S1024x1024 32 [0] iota_S1024x1024_d0_w32) (h1 : I1 = iota .tc S1024x1024 32 [1] iota_S1024x1024_d1_w32) (v : Vec Ideal S1x128x1024 .bf16) (k : Vec Ideal S1x64x1024 .bf16) (q : Vec Ideal S1x64x3072 .bf16) (mo : Vec Ideal S1x3072 .f32) (ao : Vec Ideal S128x3072 .f32) (e : Fin 128) (x : Fin 3072) :
    k0_pay65 (F := Ideal) (k0_pay58 (F := Ideal) v) (k0_pay59 (F := Ideal) k q) I0 I1 mo ao (ix2 e x) = stepA (mo (ix2 0 x)) (ao (ix2 e x)) (fun j => tileS (fun t => k (ix3 0 t j)) (fun t => q (ix3 0 t x)) j.val x.val) (fun j => v (ix3 0 e j)) := by
  pointwise [k0_pay58, k0_pay62, k0_pay63, k0_pay65, mr10 I0 I1 h0 h1, sc10 I0 I1 h0 h1, stepA, exp2_ideal]

theorem sc11 (k : Vec Ideal S1x64x1024 .bf16) (q : Vec Ideal S1x64x3072 .bf16) (j : Fin 1024) (x : Fin 3072) :
    k0_pay68 (F := Ideal) (k0_pay67 (F := Ideal) k) q (ix2 j x) = tileS (fun t => k (ix3 0 t j)) (fun t => q (ix3 0 t x)) j.val x.val := by
  pointwise [k0_pay67, k0_pay68, tileS, named_mask]
  exact mask_ite (fun x => ∑ t, k (ix3 0 t j) * q (ix3 0 t x)) x j _

theorem mr11 (k : Vec Ideal S1x64x1024 .bf16) (q : Vec Ideal S1x64x3072 .bf16) (mo : Vec Ideal S1x3072 .f32) (x : Fin 3072) :
    k0_pay69 (F := Ideal) (k0_pay67 (F := Ideal) k) q mo (ix2 0 x) = stepM (mo (ix2 0 x)) (fun j => tileS (fun t => k (ix3 0 t j)) (fun t => q (ix3 0 t x)) j.val x.val) := by
  unfold k0_pay69 stepM
  exact (redmax3072 mo _ x).trans (by simp only [sc11])

theorem m11 (k : Vec Ideal S1x64x1024 .bf16) (q : Vec Ideal S1x64x3072 .bf16) (mo : Vec Ideal S1x3072 .f32) (x : Fin 3072) :
    k0_pay74 (F := Ideal) (k0_pay69 (F := Ideal) (k0_pay67 (F := Ideal) k) q mo) (ix2 0 x) = stepM (mo (ix2 0 x)) (fun j => tileS (fun t => k (ix3 0 t j)) (fun t => q (ix3 0 t x)) j.val x.val) := by
  pointwise [k0_pay74, mr11]

theorem l11 (k : Vec Ideal S1x64x1024 .bf16) (q : Vec Ideal S1x64x3072 .bf16) (mo : Vec Ideal S1x3072 .f32) (lo : Vec Ideal S1x3072 .f32) (x : Fin 3072) :
    k0_pay72 (F := Ideal) (k0_pay67 (F := Ideal) k) q mo lo (ix2 0 x) = stepL (mo (ix2 0 x)) (lo (ix2 0 x)) (fun j => tileS (fun t => k (ix3 0 t j)) (fun t => q (ix3 0 t x)) j.val x.val) := by
  pointwise [k0_pay70, k0_pay71, k0_pay72, mr11, sc11, stepL, exp2_ideal]

theorem a11 (v : Vec Ideal S1x128x1024 .bf16) (k : Vec Ideal S1x64x1024 .bf16) (q : Vec Ideal S1x64x3072 .bf16) (mo : Vec Ideal S1x3072 .f32) (ao : Vec Ideal S128x3072 .f32) (e : Fin 128) (x : Fin 3072) :
    k0_pay73 (F := Ideal) (k0_pay67 (F := Ideal) k) v q mo ao (ix2 e x) = stepA (mo (ix2 0 x)) (ao (ix2 e x)) (fun j => tileS (fun t => k (ix3 0 t j)) (fun t => q (ix3 0 t x)) j.val x.val) (fun j => v (ix3 0 e j)) := by
  pointwise [k0_pay70, k0_pay71, k0_pay73, mr11, sc11, stepA, exp2_ideal]

end Cert.Attn
-- ==== Proof.AttnPay0.lean ====
module

public import proofs.«01_k».proof.Proof.AttnStep

@[expose] public section

set_option maxRecDepth 16384

noncomputable section

namespace Cert.Attn

open Cert.KernelIdeal Cert.KernelIdeal.Gen
open Idealize.ShloMosaic Idealize.ShloMosaic.TcCoe

theorem redmax4096 (mo : FVec Ideal S1x4096 .f32) (s : FVec Ideal S1024x4096 .f32) (x : Fin 4096) :
    maximumf mo (shapeCast S1x4096 (multiReduction .maximumf [0] S4096 s 0xFF800000#32 reduces_S1024x4096_S4096 (.inl rfl) rfl) shapeCasts_S4096_S1x4096) (ix2 0 x)
      = max (mo (ix2 0 x)) (Finset.univ.fold max ⊥ fun j => s (ix2 j x)) := by
  have hm : ∀ v : FVec Ideal S4096 .f32, maximumf mo (shapeCast S1x4096 v shapeCasts_S4096_S1x4096) (ix2 0 x) = max (mo (ix2 0 x)) (v (ix1 x)) := by
    intro v; pointwise
  have hc : multiReduction .maximumf [0] S4096 s 0xFF800000#32 reduces_S1024x4096_S4096 (.inl rfl) rfl (ix1 x) = (Finset.univ.fold max ⊥ fun j => s (ix2 j x) : EReal) :=
    colmax s _ _ _ x
  rw [hm, hc]

theorem sc00 (k : Vec Ideal S1x64x1024 .bf16) (q : Vec Ideal S1x64x4096 .bf16) (j : Fin 1024) (x : Fin 4096) :
    k0_pay41 (F := Ideal) k q (ix2 j x) = tileS (fun t => k (ix3 0 t j)) (fun t => q (ix3 0 t x)) j.val x.val := by
  pointwise [k0_pay41, tileS, named_mask]
  exact mask_ite (fun x => ∑ t, k (ix3 0 t j) * q (ix3 0 t x)) x j _

theorem mr00 (k : Vec Ideal S1x64x1024 .bf16) (q : Vec Ideal S1x64x4096 .bf16) (mo : Vec Ideal S1x4096 .f32) (x : Fin 4096) :
    k0_pay42 (F := Ideal) k q mo (ix2 0 x) = stepM (mo (ix2 0 x)) (fun j => tileS (fun t => k (ix3 0 t j)) (fun t => q (ix3 0 t x)) j.val x.val) := by
  unfold k0_pay42 stepM
  exact (redmax4096 mo _ x).trans (by simp only [sc00])

theorem m00 (k : Vec Ideal S1x64x1024 .bf16) (q : Vec Ideal S1x64x4096 .bf16) (mo : Vec Ideal S1x4096 .f32) (x : Fin 4096) :
    k0_pay48 (F := Ideal) (k0_pay42 (F := Ideal) k q mo) (ix2 0 x) = stepM (mo (ix2 0 x)) (fun j => tileS (fun t => k (ix3 0 t j)) (fun t => q (ix3 0 t x)) j.val x.val) := by
  pointwise [k0_pay48, mr00]

theorem l00 (k : Vec Ideal S1x64x1024 .bf16) (q : Vec Ideal S1x64x4096 .bf16) (mo : Vec Ideal S1x4096 .f32) (lo : Vec Ideal S1x4096 .f32) (x : Fin 4096) :
    k0_pay46 (F := Ideal) (k0_pay45 (F := Ideal) k q mo lo) (ix2 0 x) = stepL (mo (ix2 0 x)) (lo (ix2 0 x)) (fun j => tileS (fun t => k (ix3 0 t j)) (fun t => q (ix3 0 t x)) j.val x.val) := by
  pointwise [k0_pay43, k0_pay44, k0_pay45, k0_pay46, mr00, sc00, stepL, exp2_ideal]

theorem a00 (v : Vec Ideal S1x128x1024 .bf16) (k : Vec Ideal S1x64x1024 .bf16) (q : Vec Ideal S1x64x4096 .bf16) (mo : Vec Ideal S1x4096 .f32) (ao : Vec Ideal S128x4096 .f32) (e : Fin 128) (x : Fin 4096) :
    k0_pay47 (F := Ideal) (k0_pay40 (F := Ideal) v) (k0_pay43 (F := Ideal) k q mo) (k0_pay44 (F := Ideal) k q mo) ao (ix2 e x) = stepA (mo (ix2 0 x)) (ao (ix2 e x)) (fun j => tileS (fun t => k (ix3 0 t j)) (fun t => q (ix3 0 t x)) j.val x.val) (fun j => v (ix3 0 e j)) := by
  pointwise [k0_pay40, k0_pay43, k0_pay44, k0_pay47, mr00, sc00, stepA, exp2_ideal]

theorem sc01 (k : Vec Ideal S1x64x1024 .bf16) (q : Vec Ideal S1x64x4096 .bf16) (j : Fin 1024) (x : Fin 4096) :
    k0_pay50 (F := Ideal) k q (ix2 j x) = tileS (fun t => k (ix3 0 t j)) (fun t => q (ix3 0 t x)) j.val x.val := by
  pointwise [k0_pay50, tileS, named_mask]
  exact mask_ite (fun x => ∑ t, k (ix3 0 t j) * q (ix3 0 t x)) x j _

theorem mr01 (k : Vec Ideal S1x64x1024 .bf16) (q : Vec Ideal S1x64x4096 .bf16) (mo : Vec Ideal S1x4096 .f32) (x : Fin 4096) :
    k0_pay51 (F := Ideal) k q mo (ix2 0 x) = stepM (mo (ix2 0 x)) (fun j => tileS (fun t => k (ix3 0 t j)) (fun t => q (ix3 0 t x)) j.val x.val) := by
  unfold k0_pay51 stepM
  exact (redmax4096 mo _ x).trans (by simp only [sc01])

theorem m01 (k : Vec Ideal S1x64x1024 .bf16) (q : Vec Ideal S1x64x4096 .bf16) (mo : Vec Ideal S1x4096 .f32) (x : Fin 4096) :
    k0_pay57 (F := Ideal) (k0_pay51 (F := Ideal) k q mo) (ix2 0 x) = stepM (mo (ix2 0 x)) (fun j => tileS (fun t => k (ix3 0 t j)) (fun t => q (ix3 0 t x)) j.val x.val) := by
  pointwise [k0_pay57, mr01]

theorem l01 (k : Vec Ideal S1x64x1024 .bf16) (q : Vec Ideal S1x64x4096 .bf16) (mo : Vec Ideal S1x4096 .f32) (lo : Vec Ideal S1x4096 .f32) (x : Fin 4096) :
    k0_pay55 (F := Ideal) (k0_pay52 (F := Ideal) k q mo) (k0_pay53 (F := Ideal) k q mo) lo (ix2 0 x) = stepL (mo (ix2 0 x)) (lo (ix2 0 x)) (fun j => tileS (fun t => k (ix3 0 t j)) (fun t => q (ix3 0 t x)) j.val x.val) := by
  pointwise [k0_pay52, k0_pay53, k0_pay54, k0_pay55, mr01, sc01, stepL, exp2_ideal]

theorem a01 (v : Vec Ideal S1x128x1024 .bf16) (k : Vec Ideal S1x64x1024 .bf16) (q : Vec Ideal S1x64x4096 .bf16) (mo : Vec Ideal S1x4096 .f32) (ao : Vec Ideal S128x4096 .f32) (e : Fin 128) (x : Fin 4096) :
    k0_pay56 (F := Ideal) (k0_pay49 (F := Ideal) v) (k0_pay52 (F := Ideal) k q mo) (k0_pay53 (F := Ideal) k q mo) ao (ix2 e x) = stepA (mo (ix2 0 x)) (ao (ix2 e x)) (fun j => tileS (fun t => k (ix3 0 t j)) (fun t => q (ix3 0 t x)) j.val x.val) (fun j => v (ix3 0 e j)) := by
  pointwise [k0_pay49, k0_pay52, k0_pay53, k0_pay54, k0_pay56, mr01, sc01, stepA, exp2_ideal]

end Cert.Attn
-- ==== Proof.AttnBlock0.lean ====
module

public import proofs.«01_k».proof.Proof.AttnCol
public import proofs.«01_k».proof.Proof.AttnPay0

@[expose] public section

set_option maxRecDepth 16384

noncomputable section

namespace Cert.Attn

open Cert.KernelIdeal Cert.KernelIdeal.Gen Cert.KernelIdeal.Body
open Idealize.ShloMosaic Idealize.ShloMosaic.TcCoe

theorem H6_1_at (x0 : Vec Ideal S1x128x4096 .bf16) (x1 : Vec Ideal S1x128x4096 .bf16) (x : Fin 4096) :
    View.canon (kernelRun.sl.H6_1 (F := Ideal) ) (ix2 0 x) = stM x0 x1 0 x 0 := by
  unfold kernelRun.sl.H6_1
  refine (canon_cols (R := 1) (W := 4096) 0 rfl _ _ _ 0 x).trans ?_
  rw [dif_pos (Nat.zero_le _)]
  show _ = (⊥ : EReal)
  pointwise [k0_pay30, negInf]

theorem H8_1_at (x0 : Vec Ideal S1x128x4096 .bf16) (x1 : Vec Ideal S1x128x4096 .bf16) (x : Fin 4096) :
    View.canon (kernelRun.sl.H8_1 (F := Ideal) ) (ix2 0 x) = stL x0 x1 0 x 0 := by
  unfold kernelRun.sl.H8_1
  refine (canon_cols (R := 1) (W := 4096) 0 rfl _ _ _ 0 x).trans ?_
  rw [dif_pos (Nat.zero_le _)]
  show _ = (0 : EReal)
  pointwise [k0_pay32, negInf]

theorem H10_1_at (x0 : Vec Ideal S1x128x4096 .bf16) (x1 : Vec Ideal S1x128x4096 .bf16) (x2 : Vec Ideal S1x128x4096 .bf16) (e : Fin 128) (x : Fin 4096) :
    View.canon (kernelRun.sl.H10_1 (F := Ideal) ) (ix2 e x) = stA x0 x1 x2 0 e x 0 := by
  unfold kernelRun.sl.H10_1
  refine (canon_cols (R := 128) (W := 4096) 0 rfl _ _ _ e x).trans ?_
  rw [dif_pos (Nat.zero_le _)]
  show _ = (0 : EReal)
  pointwise [k0_pay34, negInf]

theorem H7_1_at (x0 : Vec Ideal S1x128x4096 .bf16) (x1 : Vec Ideal S1x128x4096 .bf16) (x : Fin 4096) :
    View.canon (kernelRun.sl.H7_1 (F := Ideal) ) (ix2 0 x) = stM x0 x1 1 x 0 := by
  unfold kernelRun.sl.H7_1
  refine (canon_cols (R := 1) (W := 4096) 0 rfl _ _ _ 0 x).trans ?_
  rw [dif_pos (Nat.zero_le _)]
  show _ = (⊥ : EReal)
  pointwise [k0_pay31, negInf]

theorem H9_1_at (x0 : Vec Ideal S1x128x4096 .bf16) (x1 : Vec Ideal S1x128x4096 .bf16) (x : Fin 4096) :
    View.canon (kernelRun.sl.H9_1 (F := Ideal) ) (ix2 0 x) = stL x0 x1 1 x 0 := by
  unfold kernelRun.sl.H9_1
  refine (canon_cols (R := 1) (W := 4096) 0 rfl _ _ _ 0 x).trans ?_
  rw [dif_pos (Nat.zero_le _)]
  show _ = (0 : EReal)
  pointwise [k0_pay33, negInf]

theorem H11_1_at (x0 : Vec Ideal S1x128x4096 .bf16) (x1 : Vec Ideal S1x128x4096 .bf16) (x2 : Vec Ideal S1x128x4096 .bf16) (e : Fin 128) (x : Fin 4096) :
    View.canon (kernelRun.sl.H11_1 (F := Ideal) ) (ix2 e x) = stA x0 x1 x2 1 e x 0 := by
  unfold kernelRun.sl.H11_1
  refine (canon_cols (R := 128) (W := 4096) 0 rfl _ _ _ e x).trans ?_
  rw [dif_pos (Nat.zero_le _)]
  show _ = (0 : EReal)
  pointwise [k0_pay35, negInf]

theorem H6_2_at (c : Dev nD) (i : grid0.Coords) (arg3 : Memref sig .tc .vmem S1x128x4096 .bf16) (harg3 : arg3.IsWhole) (arg4 : Memref sig .tc .vmem S1x128x4096 .bf16) (harg4 : arg4.IsWhole) (arg5 : Memref sig .tc .vmem S1x128x4096 .bf16) (harg5 : arg5.IsWhole) (arg9 : Memref sig .tc .vmem S1x4096 .f32) (arg11 : Memref sig .tc .vmem S1x4096 .f32) (x0 : Vec Ideal S1x128x4096 .bf16) (x1 : Vec Ideal S1x128x4096 .bf16) (x2 : Vec Ideal S1x128x4096 .bf16) (x : Fin 4096) :
    View.canon (kernelRun.sl.H6_2 (F := Ideal) c i arg3 harg3 arg4 harg4 arg5 harg5 arg9 arg11 x0 x1 x2) (ix2 0 x) = stM x0 x1 0 x 1 := by
  unfold kernelRun.sl.H6_2
  refine (canon_cols (R := 1) (W := 4096) 0 rfl _ _ _ 0 x).trans ?_
  by_cases h : 1024 * 0 ≤ x.val
  · rw [dif_pos (show 0 ≤ x.val by omega)]
    have hM : kernelRun.sl.v50 (F := Ideal) c arg9 (ix2 0 ⟨x.val - 0, by omega⟩) = stM x0 x1 0 x 0 := by
      unfold kernelRun.sl.v50
      exact (readCov_cols (R := 1) (W := 4096) _ 0 _ _ 0 ⟨x.val - 0, by omega⟩ x (by simp only; omega)).trans (H6_1_at x0 x1 x)
    try dsimp only
    refine Eq.trans (m00 _ _ _ _) ?_
    exact stepM_st (d := 0) h hM (tile_scol x0 x1 0 0 x h _ rfl _ _
        (fun t j => readAt_at harg4 x1 _ _ 0 0 (off7 i 0) t j _ _ (by simp only; omega) (by simp only; omega))
        (fun t => readAt_at harg3 x0 _ _ 0 0 rfl t ⟨x.val - 0, by omega⟩ _ _ (by simp only; omega) (by simp only; omega)))
  · rw [dif_neg (show ¬ 0 ≤ x.val by omega)]
    refine (H6_1_at x0 x1 x).trans ?_
    simp only [stM, stL, stA, if_neg h]

theorem H8_2_at (c : Dev nD) (i : grid0.Coords) (arg3 : Memref sig .tc .vmem S1x128x4096 .bf16) (harg3 : arg3.IsWhole) (arg4 : Memref sig .tc .vmem S1x128x4096 .bf16) (harg4 : arg4.IsWhole) (arg5 : Memref sig .tc .vmem S1x128x4096 .bf16) (harg5 : arg5.IsWhole) (arg9 : Memref sig .tc .vmem S1x4096 .f32) (arg11 : Memref sig .tc .vmem S1x4096 .f32) (x0 : Vec Ideal S1x128x4096 .bf16) (x1 : Vec Ideal S1x128x4096 .bf16) (x2 : Vec Ideal S1x128x4096 .bf16) (x : Fin 4096) :
    View.canon (kernelRun.sl.H8_2 (F := Ideal) c i arg3 harg3 arg4 harg4 arg5 harg5 arg9 arg11 x0 x1 x2) (ix2 0 x) = stL x0 x1 0 x 1 := by
  unfold kernelRun.sl.H8_2
  refine (canon_cols (R := 1) (W := 4096) 0 rfl _ _ _ 0 x).trans ?_
  by_cases h : 1024 * 0 ≤ x.val
  · rw [dif_pos (show 0 ≤ x.val by omega)]
    have hM : kernelRun.sl.v50 (F := Ideal) c arg9 (ix2 0 ⟨x.val - 0, by omega⟩) = stM x0 x1 0 x 0 := by
      unfold kernelRun.sl.v50
      exact (readCov_cols (R := 1) (W := 4096) _ 0 _ _ 0 ⟨x.val - 0, by omega⟩ x (by simp only; omega)).trans (H6_1_at x0 x1 x)
    have hL : kernelRun.sl.v59 (F := Ideal) c arg11 (ix2 0 ⟨x.val - 0, by omega⟩) = stL x0 x1 0 x 0 := by
      unfold kernelRun.sl.v59
      exact (readCov_cols (R := 1) (W := 4096) _ 0 _ _ 0 ⟨x.val - 0, by omega⟩ x (by simp only; omega)).trans (H8_1_at x0 x1 x)
    try dsimp only
    refine Eq.trans (l00 _ _ _ _ _) ?_
    exact stepL_st (d := 0) h hM hL (tile_scol x0 x1 0 0 x h _ rfl _ _
        (fun t j => readAt_at harg4 x1 _ _ 0 0 (off7 i 0) t j _ _ (by simp only; omega) (by simp only; omega))
        (fun t => readAt_at harg3 x0 _ _ 0 0 rfl t ⟨x.val - 0, by omega⟩ _ _ (by simp only; omega) (by simp only; omega)))
  · rw [dif_neg (show ¬ 0 ≤ x.val by omega)]
    refine (H8_1_at x0 x1 x).trans ?_
    simp only [stM, stL, stA, if_neg h]

theorem H10_2_at (c : Dev nD) (i : grid0.Coords) (arg3 : Memref sig .tc .vmem S1x128x4096 .bf16) (harg3 : arg3.IsWhole) (arg4 : Memref sig .tc .vmem S1x128x4096 .bf16) (harg4 : arg4.IsWhole) (arg5 : Memref sig .tc .vmem S1x128x4096 .bf16) (harg5 : arg5.IsWhole) (arg9 : Memref sig .tc .vmem S1x4096 .f32) (arg11 : Memref sig .tc .vmem S1x4096 .f32) (arg13 : Memref sig .tc .vmem S128x4096 .f32) (x0 : Vec Ideal S1x128x4096 .bf16) (x1 : Vec Ideal S1x128x4096 .bf16) (x2 : Vec Ideal S1x128x4096 .bf16) (e : Fin 128) (x : Fin 4096) :
    View.canon (kernelRun.sl.H10_2 (F := Ideal) c i arg3 harg3 arg4 harg4 arg5 harg5 arg9 arg11 arg13 x0 x1 x2) (ix2 e x) = stA x0 x1 x2 0 e x 1 := by
  unfold kernelRun.sl.H10_2
  refine (canon_cols (R := 128) (W := 4096) 0 rfl _ _ _ e x).trans ?_
  by_cases h : 1024 * 0 ≤ x.val
  · rw [dif_pos (show 0 ≤ x.val by omega)]
    have hM : kernelRun.sl.v50 (F := Ideal) c arg9 (ix2 0 ⟨x.val - 0, by omega⟩) = stM x0 x1 0 x 0 := by
      unfold kernelRun.sl.v50
      exact (readCov_cols (R := 1) (W := 4096) _ 0 _ _ 0 ⟨x.val - 0, by omega⟩ x (by simp only; omega)).trans (H6_1_at x0 x1 x)
    have hA : kernelRun.sl.v67 (F := Ideal) c arg13 (ix2 e ⟨x.val - 0, by omega⟩) = stA x0 x1 x2 0 e x 0 := by
      unfold kernelRun.sl.v67
      exact (readCov_cols (R := 128) (W := 4096) _ 0 _ _ e ⟨x.val - 0, by omega⟩ x (by simp only; omega)).trans (H10_1_at x0 x1 x2 e x)
    try dsimp only
    refine Eq.trans (a00 _ _ _ _ _ e _) ?_
    exact stepA_st (d := 0) h hM hA (tile_scol x0 x1 0 0 x h _ rfl _ _
        (fun t j => readAt_at harg4 x1 _ _ 0 0 (off7 i 0) t j _ _ (by simp only; omega) (by simp only; omega))
        (fun t => readAt_at harg3 x0 _ _ 0 0 rfl t ⟨x.val - 0, by omega⟩ _ _ (by simp only; omega) (by simp only; omega)))
        (read_vcol harg5 x2 _ _ 0 (by decide) (off8 i 0) e)
  · rw [dif_neg (show ¬ 0 ≤ x.val by omega)]
    refine (H10_1_at x0 x1 x2 e x).trans ?_
    simp only [stM, stL, stA, if_neg h]

theorem H7_2_at (c : Dev nD) (i : grid0.Coords) (arg3 : Memref sig .tc .vmem S1x128x4096 .bf16) (harg3 : arg3.IsWhole) (arg4 : Memref sig .tc .vmem S1x128x4096 .bf16) (harg4 : arg4.IsWhole) (arg5 : Memref sig .tc .vmem S1x128x4096 .bf16) (harg5 : arg5.IsWhole) (arg10 : Memref sig .tc .vmem S1x4096 .f32) (x0 : Vec Ideal S1x128x4096 .bf16) (x1 : Vec Ideal S1x128x4096 .bf16) (x2 : Vec Ideal S1x128x4096 .bf16) (x : Fin 4096) :
    View.canon (kernelRun.sl.H7_2 (F := Ideal) c i arg3 harg3 arg4 harg4 arg5 harg5 arg10 x0 x1 x2) (ix2 0 x) = stM x0 x1 1 x 1 := by
  unfold kernelRun.sl.H7_2
  refine (canon_cols (R := 1) (W := 4096) 0 rfl _ _ _ 0 x).trans ?_
  by_cases h : 1024 * 0 ≤ x.val
  · rw [dif_pos (show 0 ≤ x.val by omega)]
    have hM : kernelRun.sl.v96 (F := Ideal) c arg10 (ix2 0 ⟨x.val - 0, by omega⟩) = stM x0 x1 1 x 0 := by
      unfold kernelRun.sl.v96
      exact (readCov_cols (R := 1) (W := 4096) _ 0 _ _ 0 ⟨x.val - 0, by omega⟩ x (by simp only; omega)).trans (H7_1_at x0 x1 x)
    try dsimp only
    refine Eq.trans (m01 _ _ _ _) ?_
    exact stepM_st (d := 0) h hM (tile_scol x0 x1 1 0 x h _ rfl _ _
        (fun t j => readAt_at harg4 x1 _ _ 64 0 (off9 i 0) t j _ _ (by simp only; omega) (by simp only; omega))
        (fun t => readAt_at harg3 x0 _ _ 64 0 rfl t ⟨x.val - 0, by omega⟩ _ _ (by simp only; omega) (by simp only; omega)))
  · rw [dif_neg (show ¬ 0 ≤ x.val by omega)]
    refine (H7_1_at x0 x1 x).trans ?_
    simp only [stM, stL, stA, if_neg h]

theorem H9_2_at (c : Dev nD) (i : grid0.Coords) (arg3 : Memref sig .tc .vmem S1x128x4096 .bf16) (harg3 : arg3.IsWhole) (arg4 : Memref sig .tc .vmem S1x128x4096 .bf16) (harg4 : arg4.IsWhole) (arg5 : Memref sig .tc .vmem S1x128x4096 .bf16) (harg5 : arg5.IsWhole) (arg10 : Memref sig .tc .vmem S1x4096 .f32) (arg12 : Memref sig .tc .vmem S1x4096 .f32) (x0 : Vec Ideal S1x128x4096 .bf16) (x1 : Vec Ideal S1x128x4096 .bf16) (x2 : Vec Ideal S1x128x4096 .bf16) (x : Fin 4096) :
    View.canon (kernelRun.sl.H9_2 (F := Ideal) c i arg3 harg3 arg4 harg4 arg5 harg5 arg10 arg12 x0 x1 x2) (ix2 0 x) = stL x0 x1 1 x 1 := by
  unfold kernelRun.sl.H9_2
  refine (canon_cols (R := 1) (W := 4096) 0 rfl _ _ _ 0 x).trans ?_
  by_cases h : 1024 * 0 ≤ x.val
  · rw [dif_pos (show 0 ≤ x.val by omega)]
    have hM : kernelRun.sl.v96 (F := Ideal) c arg10 (ix2 0 ⟨x.val - 0, by omega⟩) = stM x0 x1 1 x 0 := by
      unfold kernelRun.sl.v96
      exact (readCov_cols (R := 1) (W := 4096) _ 0 _ _ 0 ⟨x.val - 0, by omega⟩ x (by simp only; omega)).trans (H7_1_at x0 x1 x)
    have hL : kernelRun.sl.v105 (F := Ideal) c arg12 (ix2 0 ⟨x.val - 0, by omega⟩) = stL x0 x1 1 x 0 := by
      unfold kernelRun.sl.v105
      exact (readCov_cols (R := 1) (W := 4096) _ 0 _ _ 0 ⟨x.val - 0, by omega⟩ x (by simp only; omega)).trans (H9_1_at x0 x1 x)
    try dsimp only
    refine Eq.trans (l01 _ _ _ _ _) ?_
    exact stepL_st (d := 0) h hM hL (tile_scol x0 x1 1 0 x h _ rfl _ _
        (fun t j => readAt_at harg4 x1 _ _ 64 0 (off9 i 0) t j _ _ (by simp only; omega) (by simp only; omega))
        (fun t => readAt_at harg3 x0 _ _ 64 0 rfl t ⟨x.val - 0, by omega⟩ _ _ (by simp only; omega) (by simp only; omega)))
  · rw [dif_neg (show ¬ 0 ≤ x.val by omega)]
    refine (H9_1_at x0 x1 x).trans ?_
    simp only [stM, stL, stA, if_neg h]

theorem H11_2_at (c : Dev nD) (i : grid0.Coords) (arg3 : Memref sig .tc .vmem S1x128x4096 .bf16) (harg3 : arg3.IsWhole) (arg4 : Memref sig .tc .vmem S1x128x4096 .bf16) (harg4 : arg4.IsWhole) (arg5 : Memref sig .tc .vmem S1x128x4096 .bf16) (harg5 : arg5.IsWhole) (arg10 : Memref sig .tc .vmem S1x4096 .f32) (arg14 : Memref sig .tc .vmem S128x4096 .f32) (x0 : Vec Ideal S1x128x4096 .bf16) (x1 : Vec Ideal S1x128x4096 .bf16) (x2 : Vec Ideal S1x128x4096 .bf16) (e : Fin 128) (x : Fin 4096) :
    View.canon (kernelRun.sl.H11_2 (F := Ideal) c i arg3 harg3 arg4 harg4 arg5 harg5 arg10 arg14 x0 x1 x2) (ix2 e x) = stA x0 x1 x2 1 e x 1 := by
  unfold kernelRun.sl.H11_2
  refine (canon_cols (R := 128) (W := 4096) 0 rfl _ _ _ e x).trans ?_
  by_cases h : 1024 * 0 ≤ x.val
  · rw [dif_pos (show 0 ≤ x.val by omega)]
    have hM : kernelRun.sl.v96 (F := Ideal) c arg10 (ix2 0 ⟨x.val - 0, by omega⟩) = stM x0 x1 1 x 0 := by
      unfold kernelRun.sl.v96
      exact (readCov_cols (R := 1) (W := 4096) _ 0 _ _ 0 ⟨x.val - 0, by omega⟩ x (by simp only; omega)).trans (H7_1_at x0 x1 x)
    have hA : kernelRun.sl.v113 (F := Ideal) c arg14 (ix2 e ⟨x.val - 0, by omega⟩) = stA x0 x1 x2 1 e x 0 := by
      unfold kernelRun.sl.v113
      exact (readCov_cols (R := 128) (W := 4096) _ 0 _ _ e ⟨x.val - 0, by omega⟩ x (by simp only; omega)).trans (H11_1_at x0 x1 x2 e x)
    try dsimp only
    refine Eq.trans (a01 _ _ _ _ _ e _) ?_
    exact stepA_st (d := 0) h hM hA (tile_scol x0 x1 1 0 x h _ rfl _ _
        (fun t j => readAt_at harg4 x1 _ _ 64 0 (off9 i 0) t j _ _ (by simp only; omega) (by simp only; omega))
        (fun t => readAt_at harg3 x0 _ _ 64 0 rfl t ⟨x.val - 0, by omega⟩ _ _ (by simp only; omega) (by simp only; omega)))
        (read_vcol harg5 x2 _ _ 0 (by decide) (off8 i 0) e)
  · rw [dif_neg (show ¬ 0 ≤ x.val by omega)]
    refine (H11_1_at x0 x1 x2 e x).trans ?_
    simp only [stM, stL, stA, if_neg h]

end Cert.Attn
-- ==== Proof.AttnBlock1.lean ====
module

public import proofs.«01_k».proof.Proof.AttnCol
public import proofs.«01_k».proof.Proof.AttnPay1
public import proofs.«01_k».proof.Proof.AttnBlock0

@[expose] public section

set_option maxRecDepth 16384

noncomputable section

namespace Cert.Attn

open Cert.KernelIdeal Cert.KernelIdeal.Gen Cert.KernelIdeal.Body
open Idealize.ShloMosaic Idealize.ShloMosaic.TcCoe

theorem H6_3_at (c : Dev nD) (i : grid0.Coords) (arg3 : Memref sig .tc .vmem S1x128x4096 .bf16) (harg3 : arg3.IsWhole) (arg4 : Memref sig .tc .vmem S1x128x4096 .bf16) (harg4 : arg4.IsWhole) (arg5 : Memref sig .tc .vmem S1x128x4096 .bf16) (harg5 : arg5.IsWhole) (arg9 : Memref sig .tc .vmem S1x4096 .f32) (arg11 : Memref sig .tc .vmem S1x4096 .f32) (x0 : Vec Ideal S1x128x4096 .bf16) (x1 : Vec Ideal S1x128x4096 .bf16) (x2 : Vec Ideal S1x128x4096 .bf16) (x : Fin 4096) :
    View.canon (kernelRun.sl.H6_3 (F := Ideal) c i arg3 harg3 arg4 harg4 arg5 harg5 arg9 arg11 x0 x1 x2) (ix2 0 x) = stM x0 x1 0 x 2 := by
  unfold kernelRun.sl.H6_3
  refine (canon_cols (R := 1) (W := 3072) 1024 rfl _ _ _ 0 x).trans ?_
  by_cases h : 1024 * 1 ≤ x.val
  · rw [dif_pos (show 1024 ≤ x.val by omega)]
    have hM : kernelRun.sl.v145 (F := Ideal) c i arg3 harg3 arg4 harg4 arg5 harg5 arg9 arg11 x0 x1 x2 (ix2 0 ⟨x.val - 1024, by omega⟩) = stM x0 x1 0 x 1 := by
      unfold kernelRun.sl.v145
      exact (readCov_cols (R := 1) (W := 3072) _ 1024 _ _ 0 ⟨x.val - 1024, by omega⟩ x (by simp only; omega)).trans (H6_2_at c i arg3 harg3 arg4 harg4 arg5 harg5 arg9 arg11 x0 x1 x2 x)
    try dsimp only
    refine Eq.trans (m10 _ _ rfl rfl _ _ _ _) ?_
    exact stepM_st (d := 1) h hM (tile_scol x0 x1 0 1 x h _ rfl _ _
        (fun t j => readAt_at harg4 x1 _ _ 0 1024 (off7 i 1) t j _ _ (by simp only; omega) (by simp only; omega))
        (fun t => readAt_at harg3 x0 _ _ 0 1024 rfl t ⟨x.val - 1024, by omega⟩ _ _ (by simp only; omega) (by simp only; omega)))
  · rw [dif_neg (show ¬ 1024 ≤ x.val by omega)]
    refine (H6_2_at c i arg3 harg3 arg4 harg4 arg5 harg5 arg9 arg11 x0 x1 x2 x).trans ?_
    simp only [stM, stL, stA, if_neg h]

theorem H8_3_at (c : Dev nD) (i : grid0.Coords) (arg3 : Memref sig .tc .vmem S1x128x4096 .bf16) (harg3 : arg3.IsWhole) (arg4 : Memref sig .tc .vmem S1x128x4096 .bf16) (harg4 : arg4.IsWhole) (arg5 : Memref sig .tc .vmem S1x128x4096 .bf16) (harg5 : arg5.IsWhole) (arg9 : Memref sig .tc .vmem S1x4096 .f32) (arg11 : Memref sig .tc .vmem S1x4096 .f32) (x0 : Vec Ideal S1x128x4096 .bf16) (x1 : Vec Ideal S1x128x4096 .bf16) (x2 : Vec Ideal S1x128x4096 .bf16) (x : Fin 4096) :
    View.canon (kernelRun.sl.H8_3 (F := Ideal) c i arg3 harg3 arg4 harg4 arg5 harg5 arg9 arg11 x0 x1 x2) (ix2 0 x) = stL x0 x1 0 x 2 := by
  unfold kernelRun.sl.H8_3
  refine (canon_cols (R := 1) (W := 3072) 1024 rfl _ _ _ 0 x).trans ?_
  by_cases h : 1024 * 1 ≤ x.val
  · rw [dif_pos (show 1024 ≤ x.val by omega)]
    have hM : kernelRun.sl.v145 (F := Ideal) c i arg3 harg3 arg4 harg4 arg5 harg5 arg9 arg11 x0 x1 x2 (ix2 0 ⟨x.val - 1024, by omega⟩) = stM x0 x1 0 x 1 := by
      unfold kernelRun.sl.v145
      exact (readCov_cols (R := 1) (W := 3072) _ 1024 _ _ 0 ⟨x.val - 1024, by omega⟩ x (by simp only; omega)).trans (H6_2_at c i arg3 harg3 arg4 harg4 arg5 harg5 arg9 arg11 x0 x1 x2 x)
    have hL : kernelRun.sl.v154 (F := Ideal) c i arg3 harg3 arg4 harg4 arg5 harg5 arg9 arg11 x0 x1 x2 (ix2 0 ⟨x.val - 1024, by omega⟩) = stL x0 x1 0 x 1 := by
      unfold kernelRun.sl.v154
      exact (readCov_cols (R := 1) (W := 3072) _ 1024 _ _ 0 ⟨x.val - 1024, by omega⟩ x (by simp only; omega)).trans (H8_2_at c i arg3 harg3 arg4 harg4 arg5 harg5 arg9 arg11 x0 x1 x2 x)
    try dsimp only
    refine Eq.trans (l10 _ _ rfl rfl _ _ _ _ _) ?_
    exact stepL_st (d := 1) h hM hL (tile_scol x0 x1 0 1 x h _ rfl _ _
        (fun t j => readAt_at harg4 x1 _ _ 0 1024 (off7 i 1) t j _ _ (by simp only; omega) (by simp only; omega))
        (fun t => readAt_at harg3 x0 _ _ 0 1024 rfl t ⟨x.val - 1024, by omega⟩ _ _ (by simp only; omega) (by simp only; omega)))
  · rw [dif_neg (show ¬ 1024 ≤ x.val by omega)]
    refine (H8_2_at c i arg3 harg3 arg4 harg4 arg5 harg5 arg9 arg11 x0 x1 x2 x).trans ?_
    simp only [stM, stL, stA, if_neg h]

theorem H10_3_at (c : Dev nD) (i : grid0.Coords) (arg3 : Memref sig .tc .vmem S1x128x4096 .bf16) (harg3 : arg3.IsWhole) (arg4 : Memref sig .tc .vmem S1x128x4096 .bf16) (harg4 : arg4.IsWhole) (arg5 : Memref sig .tc .vmem S1x128x4096 .bf16) (harg5 : arg5.IsWhole) (arg9 : Memref sig .tc .vmem S1x4096 .f32) (arg11 : Memref sig .tc .vmem S1x4096 .f32) (arg13 : Memref sig .tc .vmem S128x4096 .f32) (x0 : Vec Ideal S1x128x4096 .bf16) (x1 : Vec Ideal S1x128x4096 .bf16) (x2 : Vec Ideal S1x128x4096 .bf16) (e : Fin 128) (x : Fin 4096) :
    View.canon (kernelRun.sl.H10_3 (F := Ideal) c i arg3 harg3 arg4 harg4 arg5 harg5 arg9 arg11 arg13 x0 x1 x2) (ix2 e x) = stA x0 x1 x2 0 e x 2 := by
  unfold kernelRun.sl.H10_3
  refine (canon_cols (R := 128) (W := 3072) 1024 rfl _ _ _ e x).trans ?_
  by_cases h : 1024 * 1 ≤ x.val
  · rw [dif_pos (show 1024 ≤ x.val by omega)]
    have hM : kernelRun.sl.v145 (F := Ideal) c i arg3 harg3 arg4 harg4 arg5 harg5 arg9 arg11 x0 x1 x2 (ix2 0 ⟨x.val - 1024, by omega⟩) = stM x0 x1 0 x 1 := by
      unfold kernelRun.sl.v145
      exact (readCov_cols (R := 1) (W := 3072) _ 1024 _ _ 0 ⟨x.val - 1024, by omega⟩ x (by simp only; omega)).trans (H6_2_at c i arg3 harg3 arg4 harg4 arg5 harg5 arg9 arg11 x0 x1 x2 x)
    have hA : kernelRun.sl.v162 (F := Ideal) c i arg3 harg3 arg4 harg4 arg5 harg5 arg9 arg11 arg13 x0 x1 x2 (ix2 e ⟨x.val - 1024, by omega⟩) = stA x0 x1 x2 0 e x 1 := by
      unfold kernelRun.sl.v162
      exact (readCov_cols (R := 128) (W := 3072) _ 1024 _ _ e ⟨x.val - 1024, by omega⟩ x (by simp only; omega)).trans (H10_2_at c i arg3 harg3 arg4 harg4 arg5 harg5 arg9 arg11 arg13 x0 x1 x2 e x)
    try dsimp only
    refine Eq.trans (a10 _ _ rfl rfl _ _ _ _ _ e _) ?_
    exact stepA_st (d := 1) h hM hA (tile_scol x0 x1 0 1 x h _ rfl _ _
        (fun t j => readAt_at harg4 x1 _ _ 0 1024 (off7 i 1) t j _ _ (by simp only; omega) (by simp only; omega))
        (fun t => readAt_at harg3 x0 _ _ 0 1024 rfl t ⟨x.val - 1024, by omega⟩ _ _ (by simp only; omega) (by simp only; omega)))
        (read_vcol harg5 x2 _ _ 1 (by decide) (off8 i 1) e)
  · rw [dif_neg (show ¬ 1024 ≤ x.val by omega)]
    refine (H10_2_at c i arg3 harg3 arg4 harg4 arg5 harg5 arg9 arg11 arg13 x0 x1 x2 e x).trans ?_
    simp only [stM, stL, stA, if_neg h]

theorem H7_3_at (c : Dev nD) (i : grid0.Coords) (arg3 : Memref sig .tc .vmem S1x128x4096 .bf16) (harg3 : arg3.IsWhole) (arg4 : Memref sig .tc .vmem S1x128x4096 .bf16) (harg4 : arg4.IsWhole) (arg5 : Memref sig .tc .vmem S1x128x4096 .bf16) (harg5 : arg5.IsWhole) (arg10 : Memref sig .tc .vmem S1x4096 .f32) (arg14 : Memref sig .tc .vmem S128x4096 .f32) (x0 : Vec Ideal S1x128x4096 .bf16) (x1 : Vec Ideal S1x128x4096 .bf16) (x2 : Vec Ideal S1x128x4096 .bf16) (x : Fin 4096) :
    View.canon (kernelRun.sl.H7_3 (F := Ideal) c i arg3 harg3 arg4 harg4 arg5 harg5 arg10 arg14 x0 x1 x2) (ix2 0 x) = stM x0 x1 1 x 2 := by
  unfold kernelRun.sl.H7_3
  refine (canon_cols (R := 1) (W := 3072) 1024 rfl _ _ _ 0 x).trans ?_
  by_cases h : 1024 * 1 ≤ x.val
  · rw [dif_pos (show 1024 ≤ x.val by omega)]
    have hM : kernelRun.sl.v191 (F := Ideal) c i arg3 harg3 arg4 harg4 arg5 harg5 arg10 x0 x1 x2 (ix2 0 ⟨x.val - 1024, by omega⟩) = stM x0 x1 1 x 1 := by
      unfold kernelRun.sl.v191
      exact (readCov_cols (R := 1) (W := 3072) _ 1024 _ _ 0 ⟨x.val - 1024, by omega⟩ x (by simp only; omega)).trans (H7_2_at c i arg3 harg3 arg4 harg4 arg5 harg5 arg10 x0 x1 x2 x)
    try dsimp only
    refine Eq.trans (m11 _ _ _ _) ?_
    exact stepM_st (d := 1) h hM (tile_scol x0 x1 1 1 x h _ rfl _ _
        (fun t j => readAt_at harg4 x1 _ _ 64 1024 (off9 i 1) t j _ _ (by simp only; omega) (by simp only; omega))
        (fun t => readAt_at harg3 x0 _ _ 64 1024 rfl t ⟨x.val - 1024, by omega⟩ _ _ (by simp only; omega) (by simp only; omega)))
  · rw [dif_neg (show ¬ 1024 ≤ x.val by omega)]
    refine (H7_2_at c i arg3 harg3 arg4 harg4 arg5 harg5 arg10 x0 x1 x2 x).trans ?_
    simp only [stM, stL, stA, if_neg h]

theorem H9_3_at (c : Dev nD) (i : grid0.Coords) (arg3 : Memref sig .tc .vmem S1x128x4096 .bf16) (harg3 : arg3.IsWhole) (arg4 : Memref sig .tc .vmem S1x128x4096 .bf16) (harg4 : arg4.IsWhole) (arg5 : Memref sig .tc .vmem S1x128x4096 .bf16) (harg5 : arg5.IsWhole) (arg10 : Memref sig .tc .vmem S1x4096 .f32) (arg12 : Memref sig .tc .vmem S1x4096 .f32) (x0 : Vec Ideal S1x128x4096 .bf16) (x1 : Vec Ideal S1x128x4096 .bf16) (x2 : Vec Ideal S1x128x4096 .bf16) (x : Fin 4096) :
    View.canon (kernelRun.sl.H9_3 (F := Ideal) c i arg3 harg3 arg4 harg4 arg5 harg5 arg10 arg12 x0 x1 x2) (ix2 0 x) = stL x0 x1 1 x 2 := by
  unfold kernelRun.sl.H9_3
  refine (canon_cols (R := 1) (W := 3072) 1024 rfl _ _ _ 0 x).trans ?_
  by_cases h : 1024 * 1 ≤ x.val
  · rw [dif_pos (show 1024 ≤ x.val by omega)]
    have hM : kernelRun.sl.v191 (F := Ideal) c i arg3 harg3 arg4 harg4 arg5 harg5 arg10 x0 x1 x2 (ix2 0 ⟨x.val - 1024, by omega⟩) = stM x0 x1 1 x 1 := by
      unfold kernelRun.sl.v191
      exact (readCov_cols (R := 1) (W := 3072) _ 1024 _ _ 0 ⟨x.val - 1024, by omega⟩ x (by simp only; omega)).trans (H7_2_at c i arg3 harg3 arg4 harg4 arg5 harg5 arg10 x0 x1 x2 x)
    have hL : kernelRun.sl.v200 (F := Ideal) c i arg3 harg3 arg4 harg4 arg5 harg5 arg10 arg12 x0 x1 x2 (ix2 0 ⟨x.val - 1024, by omega⟩) = stL x0 x1 1 x 1 := by
      unfold kernelRun.sl.v200
      exact (readCov_cols (R := 1) (W := 3072) _ 1024 _ _ 0 ⟨x.val - 1024, by omega⟩ x (by simp only; omega)).trans (H9_2_at c i arg3 harg3 arg4 harg4 arg5 harg5 arg10 arg12 x0 x1 x2 x)
    try dsimp only
    refine Eq.trans (l11 _ _ _ _ _) ?_
    exact stepL_st (d := 1) h hM hL (tile_scol x0 x1 1 1 x h _ rfl _ _
        (fun t j => readAt_at harg4 x1 _ _ 64 1024 (off9 i 1) t j _ _ (by simp only; omega) (by simp only; omega))
        (fun t => readAt_at harg3 x0 _ _ 64 1024 rfl t ⟨x.val - 1024, by omega⟩ _ _ (by simp only; omega) (by simp only; omega)))
  · rw [dif_neg (show ¬ 1024 ≤ x.val by omega)]
    refine (H9_2_at c i arg3 harg3 arg4 harg4 arg5 harg5 arg10 arg12 x0 x1 x2 x).trans ?_
    simp only [stM, stL, stA, if_neg h]

theorem H11_3_at (c : Dev nD) (i : grid0.Coords) (arg3 : Memref sig .tc .vmem S1x128x4096 .bf16) (harg3 : arg3.IsWhole) (arg4 : Memref sig .tc .vmem S1x128x4096 .bf16) (harg4 : arg4.IsWhole) (arg5 : Memref sig .tc .vmem S1x128x4096 .bf16) (harg5 : arg5.IsWhole) (arg10 : Memref sig .tc .vmem S1x4096 .f32) (arg14 : Memref sig .tc .vmem S128x4096 .f32) (x0 : Vec Ideal S1x128x4096 .bf16) (x1 : Vec Ideal S1x128x4096 .bf16) (x2 : Vec Ideal S1x128x4096 .bf16) (e : Fin 128) (x : Fin 4096) :
    View.canon (kernelRun.sl.H11_3 (F := Ideal) c i arg3 harg3 arg4 harg4 arg5 harg5 arg10 arg14 x0 x1 x2) (ix2 e x) = stA x0 x1 x2 1 e x 2 := by
  unfold kernelRun.sl.H11_3
  refine (canon_cols (R := 128) (W := 3072) 1024 rfl _ _ _ e x).trans ?_
  by_cases h : 1024 * 1 ≤ x.val
  · rw [dif_pos (show 1024 ≤ x.val by omega)]
    have hM : kernelRun.sl.v191 (F := Ideal) c i arg3 harg3 arg4 harg4 arg5 harg5 arg10 x0 x1 x2 (ix2 0 ⟨x.val - 1024, by omega⟩) = stM x0 x1 1 x 1 := by
      unfold kernelRun.sl.v191
      exact (readCov_cols (R := 1) (W := 3072) _ 1024 _ _ 0 ⟨x.val - 1024, by omega⟩ x (by simp only; omega)).trans (H7_2_at c i arg3 harg3 arg4 harg4 arg5 harg5 arg10 x0 x1 x2 x)
    have hA : kernelRun.sl.v208 (F := Ideal) c i arg3 harg3 arg4 harg4 arg5 harg5 arg10 arg14 x0 x1 x2 (ix2 e ⟨x.val - 1024, by omega⟩) = stA x0 x1 x2 1 e x 1 := by
      unfold kernelRun.sl.v208
      exact (readCov_cols (R := 128) (W := 3072) _ 1024 _ _ e ⟨x.val - 1024, by omega⟩ x (by simp only; omega)).trans (H11_2_at c i arg3 harg3 arg4 harg4 arg5 harg5 arg10 arg14 x0 x1 x2 e x)
    try dsimp only
    refine Eq.trans (a11 _ _ _ _ _ e _) ?_
    exact stepA_st (d := 1) h hM hA (tile_scol x0 x1 1 1 x h _ rfl _ _
        (fun t j => readAt_at harg4 x1 _ _ 64 1024 (off9 i 1) t j _ _ (by simp only; omega) (by simp only; omega))
        (fun t => readAt_at harg3 x0 _ _ 64 1024 rfl t ⟨x.val - 1024, by omega⟩ _ _ (by simp only; omega) (by simp only; omega)))
        (read_vcol harg5 x2 _ _ 1 (by decide) (off8 i 1) e)
  · rw [dif_neg (show ¬ 1024 ≤ x.val by omega)]
    refine (H11_2_at c i arg3 harg3 arg4 harg4 arg5 harg5 arg10 arg14 x0 x1 x2 e x).trans ?_
    simp only [stM, stL, stA, if_neg h]

end Cert.Attn
-- ==== Proof.AttnBlock2.lean ====
module

public import proofs.«01_k».proof.Proof.AttnCol
public import proofs.«01_k».proof.Proof.AttnPay2
public import proofs.«01_k».proof.Proof.AttnBlock1

@[expose] public section

set_option maxRecDepth 16384

noncomputable section

namespace Cert.Attn

open Cert.KernelIdeal Cert.KernelIdeal.Gen Cert.KernelIdeal.Body
open Idealize.ShloMosaic Idealize.ShloMosaic.TcCoe

theorem H6_4_at (c : Dev nD) (i : grid0.Coords) (arg3 : Memref sig .tc .vmem S1x128x4096 .bf16) (harg3 : arg3.IsWhole) (arg4 : Memref sig .tc .vmem S1x128x4096 .bf16) (harg4 : arg4.IsWhole) (arg5 : Memref sig .tc .vmem S1x128x4096 .bf16) (harg5 : arg5.IsWhole) (arg9 : Memref sig .tc .vmem S1x4096 .f32) (arg11 : Memref sig .tc .vmem S1x4096 .f32) (x0 : Vec Ideal S1x128x4096 .bf16) (x1 : Vec Ideal S1x128x4096 .bf16) (x2 : Vec Ideal S1x128x4096 .bf16) (x : Fin 4096) :
    View.canon (kernelRun.sl.H6_4 (F := Ideal) c i arg3 harg3 arg4 harg4 arg5 harg5 arg9 arg11 x0 x1 x2) (ix2 0 x) = stM x0 x1 0 x 3 := by
  unfold kernelRun.sl.H6_4
  refine (canon_cols (R := 1) (W := 2048) 2048 rfl _ _ _ 0 x).trans ?_
  by_cases h : 1024 * 2 ≤ x.val
  · rw [dif_pos (show 2048 ≤ x.val by omega)]
    have hM : kernelRun.sl.v240 (F := Ideal) c i arg3 harg3 arg4 harg4 arg5 harg5 arg9 arg11 x0 x1 x2 (ix2 0 ⟨x.val - 2048, by omega⟩) = stM x0 x1 0 x 2 := by
      unfold kernelRun.sl.v240
      exact (readCov_cols (R := 1) (W := 2048) _ 2048 _ _ 0 ⟨x.val - 2048, by omega⟩ x (by simp only; omega)).trans (H6_3_at c i arg3 harg3 arg4 harg4 arg5 harg5 arg9 arg11 x0 x1 x2 x)
    try dsimp only
    refine Eq.trans (m20 _ _ _ _) ?_
    exact stepM_st (d := 2) h hM (tile_scol x0 x1 0 2 x h _ rfl _ _
        (fun t j => readAt_at harg4 x1 _ _ 0 2048 (off7 i 2) t j _ _ (by simp only; omega) (by simp only; omega))
        (fun t => readAt_at harg3 x0 _ _ 0 2048 rfl t ⟨x.val - 2048, by omega⟩ _ _ (by simp only; omega) (by simp only; omega)))
  · rw [dif_neg (show ¬ 2048 ≤ x.val by omega)]
    refine (H6_3_at c i arg3 harg3 arg4 harg4 arg5 harg5 arg9 arg11 x0 x1 x2 x).trans ?_
    simp only [stM, stL, stA, if_neg h]

theorem H8_4_at (c : Dev nD) (i : grid0.Coords) (arg3 : Memref sig .tc .vmem S1x128x4096 .bf16) (harg3 : arg3.IsWhole) (arg4 : Memref sig .tc .vmem S1x128x4096 .bf16) (harg4 : arg4.IsWhole) (arg5 : Memref sig .tc .vmem S1x128x4096 .bf16) (harg5 : arg5.IsWhole) (arg9 : Memref sig .tc .vmem S1x4096 .f32) (arg11 : Memref sig .tc .vmem S1x4096 .f32) (x0 : Vec Ideal S1x128x4096 .bf16) (x1 : Vec Ideal S1x128x4096 .bf16) (x2 : Vec Ideal S1x128x4096 .bf16) (x : Fin 4096) :
    View.canon (kernelRun.sl.H8_4 (F := Ideal) c i arg3 harg3 arg4 harg4 arg5 harg5 arg9 arg11 x0 x1 x2) (ix2 0 x) = stL x0 x1 0 x 3 := by
  unfold kernelRun.sl.H8_4
  refine (canon_cols (R := 1) (W := 2048) 2048 rfl _ _ _ 0 x).trans ?_
  by_cases h : 1024 * 2 ≤ x.val
  · rw [dif_pos (show 2048 ≤ x.val by omega)]
    have hM : kernelRun.sl.v240 (F := Ideal) c i arg3 harg3 arg4 harg4 arg5 harg5 arg9 arg11 x0 x1 x2 (ix2 0 ⟨x.val - 2048, by omega⟩) = stM x0 x1 0 x 2 := by
      unfold kernelRun.sl.v240
      exact (readCov_cols (R := 1) (W := 2048) _ 2048 _ _ 0 ⟨x.val - 2048, by omega⟩ x (by simp only; omega)).trans (H6_3_at c i arg3 harg3 arg4 harg4 arg5 harg5 arg9 arg11 x0 x1 x2 x)
    have hL : kernelRun.sl.v249 (F := Ideal) c i arg3 harg3 arg4 harg4 arg5 harg5 arg9 arg11 x0 x1 x2 (ix2 0 ⟨x.val - 2048, by omega⟩) = stL x0 x1 0 x 2 := by
      unfold kernelRun.sl.v249
      exact (readCov_cols (R := 1) (W := 2048) _ 2048 _ _ 0 ⟨x.val - 2048, by omega⟩ x (by simp only; omega)).trans (H8_3_at c i arg3 harg3 arg4 harg4 arg5 harg5 arg9 arg11 x0 x1 x2 x)
    try dsimp only
    refine Eq.trans (l20 _ _ _ _ _) ?_
    exact stepL_st (d := 2) h hM hL (tile_scol x0 x1 0 2 x h _ rfl _ _
        (fun t j => readAt_at harg4 x1 _ _ 0 2048 (off7 i 2) t j _ _ (by simp only; omega) (by simp only; omega))
        (fun t => readAt_at harg3 x0 _ _ 0 2048 rfl t ⟨x.val - 2048, by omega⟩ _ _ (by simp only; omega) (by simp only; omega)))
  · rw [dif_neg (show ¬ 2048 ≤ x.val by omega)]
    refine (H8_3_at c i arg3 harg3 arg4 harg4 arg5 harg5 arg9 arg11 x0 x1 x2 x).trans ?_
    simp only [stM, stL, stA, if_neg h]

theorem H10_4_at (c : Dev nD) (i : grid0.Coords) (arg3 : Memref sig .tc .vmem S1x128x4096 .bf16) (harg3 : arg3.IsWhole) (arg4 : Memref sig .tc .vmem S1x128x4096 .bf16) (harg4 : arg4.IsWhole) (arg5 : Memref sig .tc .vmem S1x128x4096 .bf16) (harg5 : arg5.IsWhole) (arg9 : Memref sig .tc .vmem S1x4096 .f32) (arg11 : Memref sig .tc .vmem S1x4096 .f32) (arg13 : Memref sig .tc .vmem S128x4096 .f32) (x0 : Vec Ideal S1x128x4096 .bf16) (x1 : Vec Ideal S1x128x4096 .bf16) (x2 : Vec Ideal S1x128x4096 .bf16) (e : Fin 128) (x : Fin 4096) :
    View.canon (kernelRun.sl.H10_4 (F := Ideal) c i arg3 harg3 arg4 harg4 arg5 harg5 arg9 arg11 arg13 x0 x1 x2) (ix2 e x) = stA x0 x1 x2 0 e x 3 := by
  unfold kernelRun.sl.H10_4
  refine (canon_cols (R := 128) (W := 2048) 2048 rfl _ _ _ e x).trans ?_
  by_cases h : 1024 * 2 ≤ x.val
  · rw [dif_pos (show 2048 ≤ x.val by omega)]
    have hM : kernelRun.sl.v240 (F := Ideal) c i arg3 harg3 arg4 harg4 arg5 harg5 arg9 arg11 x0 x1 x2 (ix2 0 ⟨x.val - 2048, by omega⟩) = stM x0 x1 0 x 2 := by
      unfold kernelRun.sl.v240
      exact (readCov_cols (R := 1) (W := 2048) _ 2048 _ _ 0 ⟨x.val - 2048, by omega⟩ x (by simp only; omega)).trans (H6_3_at c i arg3 harg3 arg4 harg4 arg5 harg5 arg9 arg11 x0 x1 x2 x)
    have hA : kernelRun.sl.v257 (F := Ideal) c i arg3 harg3 arg4 harg4 arg5 harg5 arg9 arg11 arg13 x0 x1 x2 (ix2 e ⟨x.val - 2048, by omega⟩) = stA x0 x1 x2 0 e x 2 := by
      unfold kernelRun.sl.v257
      exact (readCov_cols (R := 128) (W := 2048) _ 2048 _ _ e ⟨x.val - 2048, by omega⟩ x (by simp only; omega)).trans (H10_3_at c i arg3 harg3 arg4 harg4 arg5 harg5 arg9 arg11 arg13 x0 x1 x2 e x)
    try dsimp only
    refine Eq.trans (a20 _ _ _ _ _ e _) ?_
    exact stepA_st (d := 2) h hM hA (tile_scol x0 x1 0 2 x h _ rfl _ _
        (fun t j => readAt_at harg4 x1 _ _ 0 2048 (off7 i 2) t j _ _ (by simp only; omega) (by simp only; omega))
        (fun t => readAt_at harg3 x0 _ _ 0 2048 rfl t ⟨x.val - 2048, by omega⟩ _ _ (by simp only; omega) (by simp only; omega)))
        (read_vcol harg5 x2 _ _ 2 (by decide) (off8 i 2) e)
  · rw [dif_neg (show ¬ 2048 ≤ x.val by omega)]
    refine (H10_3_at c i arg3 harg3 arg4 harg4 arg5 harg5 arg9 arg11 arg13 x0 x1 x2 e x).trans ?_
    simp only [stM, stL, stA, if_neg h]

theorem H7_4_at (c : Dev nD) (i : grid0.Coords) (arg3 : Memref sig .tc .vmem S1x128x4096 .bf16) (harg3 : arg3.IsWhole) (arg4 : Memref sig .tc .vmem S1x128x4096 .bf16) (harg4 : arg4.IsWhole) (arg5 : Memref sig .tc .vmem S1x128x4096 .bf16) (harg5 : arg5.IsWhole) (arg10 : Memref sig .tc .vmem S1x4096 .f32) (arg14 : Memref sig .tc .vmem S128x4096 .f32) (x0 : Vec Ideal S1x128x4096 .bf16) (x1 : Vec Ideal S1x128x4096 .bf16) (x2 : Vec Ideal S1x128x4096 .bf16) (x : Fin 4096) :
    View.canon (kernelRun.sl.H7_4 (F := Ideal) c i arg3 harg3 arg4 harg4 arg5 harg5 arg10 arg14 x0 x1 x2) (ix2 0 x) = stM x0 x1 1 x 3 := by
  unfold kernelRun.sl.H7_4
  refine (canon_cols (R := 1) (W := 2048) 2048 rfl _ _ _ 0 x).trans ?_
  by_cases h : 1024 * 2 ≤ x.val
  · rw [dif_pos (show 2048 ≤ x.val by omega)]
    have hM : kernelRun.sl.v286 (F := Ideal) c i arg3 harg3 arg4 harg4 arg5 harg5 arg10 arg14 x0 x1 x2 (ix2 0 ⟨x.val - 2048, by omega⟩) = stM x0 x1 1 x 2 := by
      unfold kernelRun.sl.v286
      exact (readCov_cols (R := 1) (W := 2048) _ 2048 _ _ 0 ⟨x.val - 2048, by omega⟩ x (by simp only; omega)).trans (H7_3_at c i arg3 harg3 arg4 harg4 arg5 harg5 arg10 arg14 x0 x1 x2 x)
    try dsimp only
    refine Eq.trans (m21 _ _ _ _) ?_
    exact stepM_st (d := 2) h hM (tile_scol x0 x1 1 2 x h _ rfl _ _
        (fun t j => readAt_at harg4 x1 _ _ 64 2048 (off9 i 2) t j _ _ (by simp only; omega) (by simp only; omega))
        (fun t => readAt_at harg3 x0 _ _ 64 2048 rfl t ⟨x.val - 2048, by omega⟩ _ _ (by simp only; omega) (by simp only; omega)))
  · rw [dif_neg (show ¬ 2048 ≤ x.val by omega)]
    refine (H7_3_at c i arg3 harg3 arg4 harg4 arg5 harg5 arg10 arg14 x0 x1 x2 x).trans ?_
    simp only [stM, stL, stA, if_neg h]

theorem H9_4_at (c : Dev nD) (i : grid0.Coords) (arg3 : Memref sig .tc .vmem S1x128x4096 .bf16) (harg3 : arg3.IsWhole) (arg4 : Memref sig .tc .vmem S1x128x4096 .bf16) (harg4 : arg4.IsWhole) (arg5 : Memref sig .tc .vmem S1x128x4096 .bf16) (harg5 : arg5.IsWhole) (arg10 : Memref sig .tc .vmem S1x4096 .f32) (arg12 : Memref sig .tc .vmem S1x4096 .f32) (arg14 : Memref sig .tc .vmem S128x4096 .f32) (x0 : Vec Ideal S1x128x4096 .bf16) (x1 : Vec Ideal S1x128x4096 .bf16) (x2 : Vec Ideal S1x128x4096 .bf16) (x : Fin 4096) :
    View.canon (kernelRun.sl.H9_4 (F := Ideal) c i arg3 harg3 arg4 harg4 arg5 harg5 arg10 arg12 arg14 x0 x1 x2) (ix2 0 x) = stL x0 x1 1 x 3 := by
  unfold kernelRun.sl.H9_4
  refine (canon_cols (R := 1) (W := 2048) 2048 rfl _ _ _ 0 x).trans ?_
  by_cases h : 1024 * 2 ≤ x.val
  · rw [dif_pos (show 2048 ≤ x.val by omega)]
    have hM : kernelRun.sl.v286 (F := Ideal) c i arg3 harg3 arg4 harg4 arg5 harg5 arg10 arg14 x0 x1 x2 (ix2 0 ⟨x.val - 2048, by omega⟩) = stM x0 x1 1 x 2 := by
      unfold kernelRun.sl.v286
      exact (readCov_cols (R := 1) (W := 2048) _ 2048 _ _ 0 ⟨x.val - 2048, by omega⟩ x (by simp only; omega)).trans (H7_3_at c i arg3 harg3 arg4 harg4 arg5 harg5 arg10 arg14 x0 x1 x2 x)
    have hL : kernelRun.sl.v295 (F := Ideal) c i arg3 harg3 arg4 harg4 arg5 harg5 arg10 arg12 x0 x1 x2 (ix2 0 ⟨x.val - 2048, by omega⟩) = stL x0 x1 1 x 2 := by
      unfold kernelRun.sl.v295
      exact (readCov_cols (R := 1) (W := 2048) _ 2048 _ _ 0 ⟨x.val - 2048, by omega⟩ x (by simp only; omega)).trans (H9_3_at c i arg3 harg3 arg4 harg4 arg5 harg5 arg10 arg12 x0 x1 x2 x)
    try dsimp only
    refine Eq.trans (l21 _ _ _ _ _) ?_
    exact stepL_st (d := 2) h hM hL (tile_scol x0 x1 1 2 x h _ rfl _ _
        (fun t j => readAt_at harg4 x1 _ _ 64 2048 (off9 i 2) t j _ _ (by simp only; omega) (by simp only; omega))
        (fun t => readAt_at harg3 x0 _ _ 64 2048 rfl t ⟨x.val - 2048, by omega⟩ _ _ (by simp only; omega) (by simp only; omega)))
  · rw [dif_neg (show ¬ 2048 ≤ x.val by omega)]
    refine (H9_3_at c i arg3 harg3 arg4 harg4 arg5 harg5 arg10 arg12 x0 x1 x2 x).trans ?_
    simp only [stM, stL, stA, if_neg h]

theorem H11_4_at (c : Dev nD) (i : grid0.Coords) (arg3 : Memref sig .tc .vmem S1x128x4096 .bf16) (harg3 : arg3.IsWhole) (arg4 : Memref sig .tc .vmem S1x128x4096 .bf16) (harg4 : arg4.IsWhole) (arg5 : Memref sig .tc .vmem S1x128x4096 .bf16) (harg5 : arg5.IsWhole) (arg10 : Memref sig .tc .vmem S1x4096 .f32) (arg14 : Memref sig .tc .vmem S128x4096 .f32) (x0 : Vec Ideal S1x128x4096 .bf16) (x1 : Vec Ideal S1x128x4096 .bf16) (x2 : Vec Ideal S1x128x4096 .bf16) (e : Fin 128) (x : Fin 4096) :
    View.canon (kernelRun.sl.H11_4 (F := Ideal) c i arg3 harg3 arg4 harg4 arg5 harg5 arg10 arg14 x0 x1 x2) (ix2 e x) = stA x0 x1 x2 1 e x 3 := by
  unfold kernelRun.sl.H11_4
  refine (canon_cols (R := 128) (W := 2048) 2048 rfl _ _ _ e x).trans ?_
  by_cases h : 1024 * 2 ≤ x.val
  · rw [dif_pos (show 2048 ≤ x.val by omega)]
    have hM : kernelRun.sl.v286 (F := Ideal) c i arg3 harg3 arg4 harg4 arg5 harg5 arg10 arg14 x0 x1 x2 (ix2 0 ⟨x.val - 2048, by omega⟩) = stM x0 x1 1 x 2 := by
      unfold kernelRun.sl.v286
      exact (readCov_cols (R := 1) (W := 2048) _ 2048 _ _ 0 ⟨x.val - 2048, by omega⟩ x (by simp only; omega)).trans (H7_3_at c i arg3 harg3 arg4 harg4 arg5 harg5 arg10 arg14 x0 x1 x2 x)
    have hA : kernelRun.sl.v303 (F := Ideal) c i arg3 harg3 arg4 harg4 arg5 harg5 arg10 arg14 x0 x1 x2 (ix2 e ⟨x.val - 2048, by omega⟩) = stA x0 x1 x2 1 e x 2 := by
      unfold kernelRun.sl.v303
      exact (readCov_cols (R := 128) (W := 2048) _ 2048 _ _ e ⟨x.val - 2048, by omega⟩ x (by simp only; omega)).trans (H11_3_at c i arg3 harg3 arg4 harg4 arg5 harg5 arg10 arg14 x0 x1 x2 e x)
    try dsimp only
    refine Eq.trans (a21 _ _ _ _ _ e _) ?_
    exact stepA_st (d := 2) h hM hA (tile_scol x0 x1 1 2 x h _ rfl _ _
        (fun t j => readAt_at harg4 x1 _ _ 64 2048 (off9 i 2) t j _ _ (by simp only; omega) (by simp only; omega))
        (fun t => readAt_at harg3 x0 _ _ 64 2048 rfl t ⟨x.val - 2048, by omega⟩ _ _ (by simp only; omega) (by simp only; omega)))
        (read_vcol harg5 x2 _ _ 2 (by decide) (off8 i 2) e)
  · rw [dif_neg (show ¬ 2048 ≤ x.val by omega)]
    refine (H11_3_at c i arg3 harg3 arg4 harg4 arg5 harg5 arg10 arg14 x0 x1 x2 e x).trans ?_
    simp only [stM, stL, stA, if_neg h]

end Cert.Attn
-- ==== Proof.AttnBlock3.lean ====
module

public import proofs.«01_k».proof.Proof.AttnCol
public import proofs.«01_k».proof.Proof.AttnPay3
public import proofs.«01_k».proof.Proof.AttnBlock2

@[expose] public section

set_option maxRecDepth 16384

noncomputable section

namespace Cert.Attn

open Cert.KernelIdeal Cert.KernelIdeal.Gen Cert.KernelIdeal.Body
open Idealize.ShloMosaic Idealize.ShloMosaic.TcCoe

theorem H6_5_at (c : Dev nD) (i : grid0.Coords) (arg3 : Memref sig .tc .vmem S1x128x4096 .bf16) (harg3 : arg3.IsWhole) (arg4 : Memref sig .tc .vmem S1x128x4096 .bf16) (harg4 : arg4.IsWhole) (arg5 : Memref sig .tc .vmem S1x128x4096 .bf16) (harg5 : arg5.IsWhole) (arg9 : Memref sig .tc .vmem S1x4096 .f32) (arg11 : Memref sig .tc .vmem S1x4096 .f32) (x0 : Vec Ideal S1x128x4096 .bf16) (x1 : Vec Ideal S1x128x4096 .bf16) (x2 : Vec Ideal S1x128x4096 .bf16) (x : Fin 4096) :
    View.canon (kernelRun.sl.H6_5 (F := Ideal) c i arg3 harg3 arg4 harg4 arg5 harg5 arg9 arg11 x0 x1 x2) (ix2 0 x) = stM x0 x1 0 x 4 := by
  unfold kernelRun.sl.H6_5
  refine (canon_cols (R := 1) (W := 1024) 3072 rfl _ _ _ 0 x).trans ?_
  by_cases h : 1024 * 3 ≤ x.val
  · rw [dif_pos (show 3072 ≤ x.val by omega)]
    have hM : kernelRun.sl.v332 (F := Ideal) c i arg3 harg3 arg4 harg4 arg5 harg5 arg9 arg11 x0 x1 x2 (ix2 0 ⟨x.val - 3072, by omega⟩) = stM x0 x1 0 x 3 := by
      unfold kernelRun.sl.v332
      exact (readCov_cols (R := 1) (W := 1024) _ 3072 _ _ 0 ⟨x.val - 3072, by omega⟩ x (by simp only; omega)).trans (H6_4_at c i arg3 harg3 arg4 harg4 arg5 harg5 arg9 arg11 x0 x1 x2 x)
    try dsimp only
    refine Eq.trans (m30 _ _ _ _) ?_
    exact stepM_st (d := 3) h hM (tile_scol x0 x1 0 3 x h _ rfl _ _
        (fun t j => readAt_at harg4 x1 _ _ 0 3072 (off7 i 3) t j _ _ (by simp only; omega) (by simp only; omega))
        (fun t => readAt_at harg3 x0 _ _ 0 3072 rfl t ⟨x.val - 3072, by omega⟩ _ _ (by simp only; omega) (by simp only; omega)))
  · rw [dif_neg (show ¬ 3072 ≤ x.val by omega)]
    refine (H6_4_at c i arg3 harg3 arg4 harg4 arg5 harg5 arg9 arg11 x0 x1 x2 x).trans ?_
    simp only [stM, stL, stA, if_neg h]

theorem H8_5_at (c : Dev nD) (i : grid0.Coords) (arg3 : Memref sig .tc .vmem S1x128x4096 .bf16) (harg3 : arg3.IsWhole) (arg4 : Memref sig .tc .vmem S1x128x4096 .bf16) (harg4 : arg4.IsWhole) (arg5 : Memref sig .tc .vmem S1x128x4096 .bf16) (harg5 : arg5.IsWhole) (arg9 : Memref sig .tc .vmem S1x4096 .f32) (arg11 : Memref sig .tc .vmem S1x4096 .f32) (x0 : Vec Ideal S1x128x4096 .bf16) (x1 : Vec Ideal S1x128x4096 .bf16) (x2 : Vec Ideal S1x128x4096 .bf16) (x : Fin 4096) :
    View.canon (kernelRun.sl.H8_5 (F := Ideal) c i arg3 harg3 arg4 harg4 arg5 harg5 arg9 arg11 x0 x1 x2) (ix2 0 x) = stL x0 x1 0 x 4 := by
  unfold kernelRun.sl.H8_5
  refine (canon_cols (R := 1) (W := 1024) 3072 rfl _ _ _ 0 x).trans ?_
  by_cases h : 1024 * 3 ≤ x.val
  · rw [dif_pos (show 3072 ≤ x.val by omega)]
    have hM : kernelRun.sl.v332 (F := Ideal) c i arg3 harg3 arg4 harg4 arg5 harg5 arg9 arg11 x0 x1 x2 (ix2 0 ⟨x.val - 3072, by omega⟩) = stM x0 x1 0 x 3 := by
      unfold kernelRun.sl.v332
      exact (readCov_cols (R := 1) (W := 1024) _ 3072 _ _ 0 ⟨x.val - 3072, by omega⟩ x (by simp only; omega)).trans (H6_4_at c i arg3 harg3 arg4 harg4 arg5 harg5 arg9 arg11 x0 x1 x2 x)
    have hL : kernelRun.sl.v341 (F := Ideal) c i arg3 harg3 arg4 harg4 arg5 harg5 arg9 arg11 x0 x1 x2 (ix2 0 ⟨x.val - 3072, by omega⟩) = stL x0 x1 0 x 3 := by
      unfold kernelRun.sl.v341
      exact (readCov_cols (R := 1) (W := 1024) _ 3072 _ _ 0 ⟨x.val - 3072, by omega⟩ x (by simp only; omega)).trans (H8_4_at c i arg3 harg3 arg4 harg4 arg5 harg5 arg9 arg11 x0 x1 x2 x)
    try dsimp only
    refine Eq.trans (l30 _ _ _ _ _) ?_
    exact stepL_st (d := 3) h hM hL (tile_scol x0 x1 0 3 x h _ rfl _ _
        (fun t j => readAt_at harg4 x1 _ _ 0 3072 (off7 i 3) t j _ _ (by simp only; omega) (by simp only; omega))
        (fun t => readAt_at harg3 x0 _ _ 0 3072 rfl t ⟨x.val - 3072, by omega⟩ _ _ (by simp only; omega) (by simp only; omega)))
  · rw [dif_neg (show ¬ 3072 ≤ x.val by omega)]
    refine (H8_4_at c i arg3 harg3 arg4 harg4 arg5 harg5 arg9 arg11 x0 x1 x2 x).trans ?_
    simp only [stM, stL, stA, if_neg h]

theorem H10_5_at (c : Dev nD) (i : grid0.Coords) (arg3 : Memref sig .tc .vmem S1x128x4096 .bf16) (harg3 : arg3.IsWhole) (arg4 : Memref sig .tc .vmem S1x128x4096 .bf16) (harg4 : arg4.IsWhole) (arg5 : Memref sig .tc .vmem S1x128x4096 .bf16) (harg5 : arg5.IsWhole) (arg9 : Memref sig .tc .vmem S1x4096 .f32) (arg11 : Memref sig .tc .vmem S1x4096 .f32) (arg13 : Memref sig .tc .vmem S128x4096 .f32) (x0 : Vec Ideal S1x128x4096 .bf16) (x1 : Vec Ideal S1x128x4096 .bf16) (x2 : Vec Ideal S1x128x4096 .bf16) (e : Fin 128) (x : Fin 4096) :
    View.canon (kernelRun.sl.H10_5 (F := Ideal) c i arg3 harg3 arg4 harg4 arg5 harg5 arg9 arg11 arg13 x0 x1 x2) (ix2 e x) = stA x0 x1 x2 0 e x 4 := by
  unfold kernelRun.sl.H10_5
  refine (canon_cols (R := 128) (W := 1024) 3072 rfl _ _ _ e x).trans ?_
  by_cases h : 1024 * 3 ≤ x.val
  · rw [dif_pos (show 3072 ≤ x.val by omega)]
    have hM : kernelRun.sl.v332 (F := Ideal) c i arg3 harg3 arg4 harg4 arg5 harg5 arg9 arg11 x0 x1 x2 (ix2 0 ⟨x.val - 3072, by omega⟩) = stM x0 x1 0 x 3 := by
      unfold kernelRun.sl.v332
      exact (readCov_cols (R := 1) (W := 1024) _ 3072 _ _ 0 ⟨x.val - 3072, by omega⟩ x (by simp only; omega)).trans (H6_4_at c i arg3 harg3 arg4 harg4 arg5 harg5 arg9 arg11 x0 x1 x2 x)
    have hA : kernelRun.sl.v349 (F := Ideal) c i arg3 harg3 arg4 harg4 arg5 harg5 arg9 arg11 arg13 x0 x1 x2 (ix2 e ⟨x.val - 3072, by omega⟩) = stA x0 x1 x2 0 e x 3 := by
      unfold kernelRun.sl.v349
      exact (readCov_cols (R := 128) (W := 1024) _ 3072 _ _ e ⟨x.val - 3072, by omega⟩ x (by simp only; omega)).trans (H10_4_at c i arg3 harg3 arg4 harg4 arg5 harg5 arg9 arg11 arg13 x0 x1 x2 e x)
    try dsimp only
    refine Eq.trans (a30 _ _ _ _ _ e _) ?_
    exact stepA_st (d := 3) h hM hA (tile_scol x0 x1 0 3 x h _ rfl _ _
        (fun t j => readAt_at harg4 x1 _ _ 0 3072 (off7 i 3) t j _ _ (by simp only; omega) (by simp only; omega))
        (fun t => readAt_at harg3 x0 _ _ 0 3072 rfl t ⟨x.val - 3072, by omega⟩ _ _ (by simp only; omega) (by simp only; omega)))
        (read_vcol harg5 x2 _ _ 3 (by decide) (off8 i 3) e)
  · rw [dif_neg (show ¬ 3072 ≤ x.val by omega)]
    refine (H10_4_at c i arg3 harg3 arg4 harg4 arg5 harg5 arg9 arg11 arg13 x0 x1 x2 e x).trans ?_
    simp only [stM, stL, stA, if_neg h]

theorem H7_5_at (c : Dev nD) (i : grid0.Coords) (arg3 : Memref sig .tc .vmem S1x128x4096 .bf16) (harg3 : arg3.IsWhole) (arg4 : Memref sig .tc .vmem S1x128x4096 .bf16) (harg4 : arg4.IsWhole) (arg5 : Memref sig .tc .vmem S1x128x4096 .bf16) (harg5 : arg5.IsWhole) (arg10 : Memref sig .tc .vmem S1x4096 .f32) (arg14 : Memref sig .tc .vmem S128x4096 .f32) (x0 : Vec Ideal S1x128x4096 .bf16) (x1 : Vec Ideal S1x128x4096 .bf16) (x2 : Vec Ideal S1x128x4096 .bf16) (x : Fin 4096) :
    View.canon (kernelRun.sl.H7_5 (F := Ideal) c i arg3 harg3 arg4 harg4 arg5 harg5 arg10 arg14 x0 x1 x2) (ix2 0 x) = stM x0 x1 1 x 4 := by
  unfold kernelRun.sl.H7_5
  refine (canon_cols (R := 1) (W := 1024) 3072 rfl _ _ _ 0 x).trans ?_
  by_cases h : 1024 * 3 ≤ x.val
  · rw [dif_pos (show 3072 ≤ x.val by omega)]
    have hM : kernelRun.sl.v375 (F := Ideal) c i arg3 harg3 arg4 harg4 arg5 harg5 arg10 arg14 x0 x1 x2 (ix2 0 ⟨x.val - 3072, by omega⟩) = stM x0 x1 1 x 3 := by
      unfold kernelRun.sl.v375
      exact (readCov_cols (R := 1) (W := 1024) _ 3072 _ _ 0 ⟨x.val - 3072, by omega⟩ x (by simp only; omega)).trans (H7_4_at c i arg3 harg3 arg4 harg4 arg5 harg5 arg10 arg14 x0 x1 x2 x)
    try dsimp only
    refine Eq.trans (m31 _ _ _ _) ?_
    exact stepM_st (d := 3) h hM (tile_scol x0 x1 1 3 x h _ rfl _ _
        (fun t j => readAt_at harg4 x1 _ _ 64 3072 (off9 i 3) t j _ _ (by simp only; omega) (by simp only; omega))
        (fun t => readAt_at harg3 x0 _ _ 64 3072 rfl t ⟨x.val - 3072, by omega⟩ _ _ (by simp only; omega) (by simp only; omega)))
  · rw [dif_neg (show ¬ 3072 ≤ x.val by omega)]
    refine (H7_4_at c i arg3 harg3 arg4 harg4 arg5 harg5 arg10 arg14 x0 x1 x2 x).trans ?_
    simp only [stM, stL, stA, if_neg h]

theorem H9_5_at (c : Dev nD) (i : grid0.Coords) (arg3 : Memref sig .tc .vmem S1x128x4096 .bf16) (harg3 : arg3.IsWhole) (arg4 : Memref sig .tc .vmem S1x128x4096 .bf16) (harg4 : arg4.IsWhole) (arg5 : Memref sig .tc .vmem S1x128x4096 .bf16) (harg5 : arg5.IsWhole) (arg10 : Memref sig .tc .vmem S1x4096 .f32) (arg12 : Memref sig .tc .vmem S1x4096 .f32) (arg14 : Memref sig .tc .vmem S128x4096 .f32) (x0 : Vec Ideal S1x128x4096 .bf16) (x1 : Vec Ideal S1x128x4096 .bf16) (x2 : Vec Ideal S1x128x4096 .bf16) (x : Fin 4096) :
    View.canon (kernelRun.sl.H9_5 (F := Ideal) c i arg3 harg3 arg4 harg4 arg5 harg5 arg10 arg12 arg14 x0 x1 x2) (ix2 0 x) = stL x0 x1 1 x 4 := by
  unfold kernelRun.sl.H9_5
  refine (canon_cols (R := 1) (W := 1024) 3072 rfl _ _ _ 0 x).trans ?_
  by_cases h : 1024 * 3 ≤ x.val
  · rw [dif_pos (show 3072 ≤ x.val by omega)]
    have hM : kernelRun.sl.v375 (F := Ideal) c i arg3 harg3 arg4 harg4 arg5 harg5 arg10 arg14 x0 x1 x2 (ix2 0 ⟨x.val - 3072, by omega⟩) = stM x0 x1 1 x 3 := by
      unfold kernelRun.sl.v375
      exact (readCov_cols (R := 1) (W := 1024) _ 3072 _ _ 0 ⟨x.val - 3072, by omega⟩ x (by simp only; omega)).trans (H7_4_at c i arg3 harg3 arg4 harg4 arg5 harg5 arg10 arg14 x0 x1 x2 x)
    have hL : kernelRun.sl.v384 (F := Ideal) c i arg3 harg3 arg4 harg4 arg5 harg5 arg10 arg12 arg14 x0 x1 x2 (ix2 0 ⟨x.val - 3072, by omega⟩) = stL x0 x1 1 x 3 := by
      unfold kernelRun.sl.v384
      exact (readCov_cols (R := 1) (W := 1024) _ 3072 _ _ 0 ⟨x.val - 3072, by omega⟩ x (by simp only; omega)).trans (H9_4_at c i arg3 harg3 arg4 harg4 arg5 harg5 arg10 arg12 arg14 x0 x1 x2 x)
    try dsimp only
    refine Eq.trans (l31 _ _ _ _ _) ?_
    exact stepL_st (d := 3) h hM hL (tile_scol x0 x1 1 3 x h _ rfl _ _
        (fun t j => readAt_at harg4 x1 _ _ 64 3072 (off9 i 3) t j _ _ (by simp only; omega) (by simp only; omega))
        (fun t => readAt_at harg3 x0 _ _ 64 3072 rfl t ⟨x.val - 3072, by omega⟩ _ _ (by simp only; omega) (by simp only; omega)))
  · rw [dif_neg (show ¬ 3072 ≤ x.val by omega)]
    refine (H9_4_at c i arg3 harg3 arg4 harg4 arg5 harg5 arg10 arg12 arg14 x0 x1 x2 x).trans ?_
    simp only [stM, stL, stA, if_neg h]

theorem H11_5_at (c : Dev nD) (i : grid0.Coords) (arg3 : Memref sig .tc .vmem S1x128x4096 .bf16) (harg3 : arg3.IsWhole) (arg4 : Memref sig .tc .vmem S1x128x4096 .bf16) (harg4 : arg4.IsWhole) (arg5 : Memref sig .tc .vmem S1x128x4096 .bf16) (harg5 : arg5.IsWhole) (arg10 : Memref sig .tc .vmem S1x4096 .f32) (arg14 : Memref sig .tc .vmem S128x4096 .f32) (x0 : Vec Ideal S1x128x4096 .bf16) (x1 : Vec Ideal S1x128x4096 .bf16) (x2 : Vec Ideal S1x128x4096 .bf16) (e : Fin 128) (x : Fin 4096) :
    View.canon (kernelRun.sl.H11_5 (F := Ideal) c i arg3 harg3 arg4 harg4 arg5 harg5 arg10 arg14 x0 x1 x2) (ix2 e x) = stA x0 x1 x2 1 e x 4 := by
  unfold kernelRun.sl.H11_5
  refine (canon_cols (R := 128) (W := 1024) 3072 rfl _ _ _ e x).trans ?_
  by_cases h : 1024 * 3 ≤ x.val
  · rw [dif_pos (show 3072 ≤ x.val by omega)]
    have hM : kernelRun.sl.v375 (F := Ideal) c i arg3 harg3 arg4 harg4 arg5 harg5 arg10 arg14 x0 x1 x2 (ix2 0 ⟨x.val - 3072, by omega⟩) = stM x0 x1 1 x 3 := by
      unfold kernelRun.sl.v375
      exact (readCov_cols (R := 1) (W := 1024) _ 3072 _ _ 0 ⟨x.val - 3072, by omega⟩ x (by simp only; omega)).trans (H7_4_at c i arg3 harg3 arg4 harg4 arg5 harg5 arg10 arg14 x0 x1 x2 x)
    have hA : kernelRun.sl.v392 (F := Ideal) c i arg3 harg3 arg4 harg4 arg5 harg5 arg10 arg14 x0 x1 x2 (ix2 e ⟨x.val - 3072, by omega⟩) = stA x0 x1 x2 1 e x 3 := by
      unfold kernelRun.sl.v392
      exact (readCov_cols (R := 128) (W := 1024) _ 3072 _ _ e ⟨x.val - 3072, by omega⟩ x (by simp only; omega)).trans (H11_4_at c i arg3 harg3 arg4 harg4 arg5 harg5 arg10 arg14 x0 x1 x2 e x)
    try dsimp only
    refine Eq.trans (a31 _ _ _ _ _ e _) ?_
    exact stepA_st (d := 3) h hM hA (tile_scol x0 x1 1 3 x h _ rfl _ _
        (fun t j => readAt_at harg4 x1 _ _ 64 3072 (off9 i 3) t j _ _ (by simp only; omega) (by simp only; omega))
        (fun t => readAt_at harg3 x0 _ _ 64 3072 rfl t ⟨x.val - 3072, by omega⟩ _ _ (by simp only; omega) (by simp only; omega)))
        (read_vcol harg5 x2 _ _ 3 (by decide) (off8 i 3) e)
  · rw [dif_neg (show ¬ 3072 ≤ x.val by omega)]
    refine (H11_4_at c i arg3 harg3 arg4 harg4 arg5 harg5 arg10 arg14 x0 x1 x2 e x).trans ?_
    simp only [stM, stL, stA, if_neg h]

end Cert.Attn
-- ==== Proof.AttnMath.lean ====
module

public import proofs.«01_k».proof.Proof.AttnStep
public import Mathlib.Data.EReal.Operations
public import Mathlib.Analysis.SpecialFunctions.Pow.Real

@[expose] public section

noncomputable section

namespace Cert.Attn

open Idealize.ShloMosaic

/-! The online softmax over the reals: its running state after some tiles, and that its last quotient does not depend on
the running maximum. -/

theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The maximum of scores that are reals or minus infinity, one of them real, is real. -/
theorem fold_real {n : ℕ} (s : Fin n → EReal) (p : Fin n → Prop) [DecidablePred p] (r : Fin n → ℝ)
    (hs : ∀ j, s j = if p j then (r j : EReal) else ⊥) (j0 : Fin n) (h0 : p j0) :
    ∃ m : ℝ, (Finset.univ.fold max ⊥ s : EReal) = (m : EReal) := by
  have htop : (Finset.univ.fold max ⊥ s : EReal) < ⊤ := by
    rw [Finset.fold_max_lt]
    refine ⟨bot_lt_top, fun j _ => ?_⟩
    rw [hs j]; split
    · exact EReal.coe_lt_top _
    · exact bot_lt_top
  have hbot : (⊥ : EReal) < Finset.univ.fold max ⊥ s := by
    rw [Finset.lt_fold_max]
    exact Or.inr ⟨j0, Finset.mem_univ _, by rw [hs j0, if_pos h0]; exact EReal.bot_lt_coe _⟩
  exact ⟨_, (EReal.coe_toReal htop.ne hbot.ne').symm⟩

theorem exp2_sub_ite (p : Prop) [Decidable p] (r μ : ℝ) :
    Ideal.exp2 ((if p then (r : EReal) else ⊥) - (μ : EReal)) = ((if p then (2 : ℝ) ^ (r - μ) else 0 : ℝ) : EReal) := by
  split
  · rw [← EReal.coe_sub]; rfl
  · rw [sub_eq_add_neg, EReal.bot_add]; rfl

/-- The partial sum of weights `w` times powers over the keys below `n` that are not past the query `x`. -/
def psum (s w : ℕ → ℝ) (x : ℕ) (μ : ℝ) (n : ℕ) : ℝ :=
  ∑ j ∈ Finset.range n, if j ≤ x then w j * (2 : ℝ) ^ (s j - μ) else 0

theorem psum_shift (s w : ℕ → ℝ) (x : ℕ) (μ μ' : ℝ) (n : ℕ) :
    (2 : ℝ) ^ (μ - μ') * psum s w x μ n = psum s w x μ' n := by
  unfold psum
  rw [Finset.mul_sum]
  refine Finset.sum_congr rfl fun j _ => ?_
  split
  · rw [mul_left_comm, ← Real.rpow_add (by norm_num : (0 : ℝ) < 2)]; congr 2; ring
  · exact mul_zero _

theorem psum_tile (s w : ℕ → ℝ) (x : ℕ) (μ : ℝ) (d : ℕ) :
    psum s w x μ (1024 * (d + 1)) = psum s w x μ (1024 * d)
      + ∑ j : Fin 1024, if 1024 * d + j.val ≤ x then w (1024 * d + j.val) * (2 : ℝ) ^ (s (1024 * d + j.val) - μ) else 0 := by
  unfold psum
  rw [show 1024 * (d + 1) = 1024 * d + 1024 by ring, Finset.sum_range_add,
    ← Fin.sum_univ_eq_sum_range (fun j => if 1024 * d + j ≤ x then w (1024 * d + j) * (2 : ℝ) ^ (s (1024 * d + j) - μ) else 0)]

theorem psum_past (s w : ℕ → ℝ) (x : ℕ) (μ : ℝ) (d : ℕ) (h : ¬ 1024 * d ≤ x) :
    psum s w x μ (1024 * (d + 1)) = psum s w x μ (1024 * d) := by
  rw [psum_tile, Finset.sum_eq_zero, add_zero]
  intro j _
  rw [if_neg (by omega)]

/-- What the state is after `d` tiles. -/
def Inv (s : ℕ → ℝ) (v : ℕ → ℕ → ℝ) (x d : ℕ) (M L : EReal) (A : ℕ → EReal) : Prop :=
  ∃ μ : ℝ, M = (μ : EReal) ∧ L = ((psum s (fun _ => 1) x μ (1024 * d) : ℝ) : EReal)
    ∧ ∀ e < 128, A e = ((psum s (v e) x μ (1024 * d) : ℝ) : EReal)

/-- One tile, from a state that is real or the first one. -/
theorem inv_step (s : ℕ → ℝ) (v : ℕ → ℕ → ℝ) (x d : ℕ) (hx : 1024 * d ≤ x) (M L : EReal) (A : ℕ → EReal)
    (h : Inv s v x d M L A ∨ (d = 0 ∧ M = ⊥ ∧ L = 0 ∧ ∀ e < 128, A e = 0))
    (sc : Fin 1024 → EReal) (hsc : ∀ j, sc j = if 1024 * d + j.val ≤ x then (s (1024 * d + j.val) : EReal) else ⊥)
    (vc : ℕ → Fin 1024 → EReal) (hvc : ∀ e < 128, ∀ j, vc e j = (v e (1024 * d + j.val) : EReal)) :
    Inv s v x (d + 1) (stepM M sc) (stepL M L sc) (fun e => stepA M (A e) sc (vc e)) := by
  obtain ⟨m, hm⟩ := fold_real sc (fun j => 1024 * d + j.val ≤ x) (fun j => s (1024 * d + j.val)) hsc ⟨0, by norm_num⟩ (by simpa using hx)
  have hM : ∃ μ' : ℝ, stepM M sc = (μ' : EReal) := by
    unfold stepM
    rw [hm]
    rcases h with ⟨μ, h, -, -⟩ | ⟨-, h, -, -⟩
    · exact ⟨max μ m, by rw [h]; exact (EReal.coe_strictMono.monotone.map_max (a := μ) (b := m)).symm⟩
    · exact ⟨m, by rw [h]; exact max_eq_right bot_le⟩
  obtain ⟨μ', hμ⟩ := hM
  have key : ∀ (w : ℕ → ℝ) (X : EReal),
      ((∃ μ : ℝ, M = (μ : EReal) ∧ X = ((psum s w x μ (1024 * d) : ℝ) : EReal)) ∨ (d = 0 ∧ M = ⊥ ∧ X = 0)) →
      Ideal.exp2 (M - (μ' : EReal)) * X + ((∑ j : Fin 1024, if 1024 * d + j.val ≤ x then w (1024 * d + j.val) * (2 : ℝ) ^ (s (1024 * d + j.val) - μ') else 0 : ℝ) : EReal)
        = ((psum s w x μ' (1024 * (d + 1)) : ℝ) : EReal) := by
    intro w X hX
    rw [psum_tile, EReal.coe_add]
    congr 1
    rcases hX with ⟨μ, hM, hX⟩ | ⟨hd, hM, hX⟩
    · have hE : Ideal.exp2 ((μ : EReal) - (μ' : EReal)) = (((2 : ℝ) ^ (μ - μ') : ℝ) : EReal) := by
        rw [← EReal.coe_sub]; rfl
      rw [hM, hX, hE, ← EReal.coe_mul, psum_shift]
    · rw [hX, hd, mul_zero]; simp [psum]
  have hE : ∀ j, Ideal.exp2 (sc j - (μ' : EReal)) = ((if 1024 * d + j.val ≤ x then (2 : ℝ) ^ (s (1024 * d + j.val) - μ') else 0 : ℝ) : EReal) := by
    intro j; rw [hsc j, exp2_sub_ite]
  refine ⟨μ', hμ, ?_, ?_⟩
  · unfold stepL
    rw [hμ, ← key (fun _ => 1) L (by
      rcases h with ⟨μ, h, h', -⟩ | ⟨h0, h, h', -⟩
      · exact Or.inl ⟨μ, h, h'⟩
      · exact Or.inr ⟨h0, h, h'⟩), Finset.sum_congr rfl fun j _ => hE j, coe_sum]
    simp only [one_mul]
  · intro e he
    show stepA M (A e) sc (vc e) = _
    unfold stepA
    rw [hμ, ← key (v e) (A e) (by
      rcases h with ⟨μ, h, -, h'⟩ | ⟨h0, h, -, h'⟩
      · exact Or.inl ⟨μ, h, h' e he⟩
      · exact Or.inr ⟨h0, h, h' e he⟩)]
    congr 1
    rw [← coe_sum]
    refine Finset.sum_congr rfl fun j _ => ?_
    rw [hE j, hvc e he j, ← EReal.coe_mul]
    congr 1
    split <;> simp

theorem inv_past (s : ℕ → ℝ) (v : ℕ → ℕ → ℝ) (x d : ℕ) (hx : ¬ 1024 * d ≤ x) (M L : EReal) (A : ℕ → EReal)
    (h : Inv s v x d M L A) : Inv s v x (d + 1) M L A := by
  obtain ⟨μ, hM, hL, hA⟩ := h
  exact ⟨μ, hM, by rw [hL, psum_past _ _ _ _ _ hx], fun e he => by rw [hA e he, psum_past _ _ _ _ _ hx]⟩

/-- The softmax-weighted mean of `w` over the keys below 4096 that are not past `x`. -/
def smean (s w : ℕ → ℝ) (x : ℕ) : ℝ := psum s w x 0 4096 / psum s (fun _ => 1) x 0 4096

theorem psum_one_pos (s : ℕ → ℝ) (x : ℕ) (μ : ℝ) (n : ℕ) (hn : 0 < n) : 0 < psum s (fun _ => 1) x μ n := by
  unfold psum
  refine Finset.sum_pos' (fun j _ => ?_) ⟨0, Finset.mem_range.mpr hn, ?_⟩
  · split
    · rw [one_mul]; exact (Real.rpow_pos_of_pos (by norm_num) _).le
    · exact le_rfl
  · rw [if_pos (Nat.zero_le _), one_mul]; exact Real.rpow_pos_of_pos (by norm_num) _

theorem smean_eq (s w : ℕ → ℝ) (x : ℕ) (μ : ℝ) : psum s w x μ 4096 / psum s (fun _ => 1) x μ 4096 = smean s w x := by
  unfold smean
  rw [← psum_shift s w x 0 μ, ← psum_shift s (fun _ => 1) x 0 μ]
  exact mul_div_mul_left _ _ (Real.rpow_pos_of_pos (by norm_num) _).ne'

/-- The quotient the kernel forms at the end, from the last state. -/
theorem inv_last (s : ℕ → ℝ) (v : ℕ → ℕ → ℝ) (x : ℕ) (M L : EReal) (A : ℕ → EReal) (h : Inv s v x 4 M L A) (e : ℕ) (he : e < 128) :
    A e * Ideal.div 1 L = ((smean s (v e) x : ℝ) : EReal) := by
  obtain ⟨μ, hM, hL, hA⟩ := h
  rw [hL, hA e he, Ideal.div_coe (psum_one_pos s x μ _ (by norm_num)).ne', one_mul, ← EReal.coe_mul, mul_one_div, smean_eq]

/-- The reference's weights: the power of two of the score less the maximum, over their sum. -/
theorem ref_weights (s : ℕ → ℝ) (x : Fin 4096) (sc : Fin 4096 → EReal) (hsc : ∀ j, sc j = if j.val ≤ x.val then (s j.val : EReal) else ⊥) :
    ∃ μ : ℝ, ∀ j : Fin 4096, Ideal.div (Ideal.pow ((2 : ℝ) : EReal) (sc j - Finset.univ.fold max ⊥ sc))
        (∑ k : Fin 4096, Ideal.pow ((2 : ℝ) : EReal) (sc k - Finset.univ.fold max ⊥ sc))
      = (((if j.val ≤ x.val then (2 : ℝ) ^ (s j.val - μ) else 0) / psum s (fun _ => 1) x μ 4096 : ℝ) : EReal) := by
  obtain ⟨m, hm⟩ := fold_real sc (fun j => j.val ≤ x.val) (fun j => s j.val) hsc ⟨0, by norm_num⟩ (Nat.zero_le _)
  refine ⟨m, fun j => ?_⟩
  have hp : ∀ j : Fin 4096, Ideal.pow ((2 : ℝ) : EReal) (sc j - (m : EReal)) = ((if j.val ≤ x.val then (2 : ℝ) ^ (s j.val - m) else 0 : ℝ) : EReal) := by
    intro j
    rw [hsc j]
    split
    · rw [← EReal.coe_sub]; rfl
    · rw [sub_eq_add_neg, EReal.bot_add, Ideal.pow_coe_bot, if_neg (by norm_num), if_pos (by norm_num)]; rfl
  rw [hm, Finset.sum_congr rfl fun k _ => hp k, coe_sum, hp j]
  have hs : (∑ k : Fin 4096, if k.val ≤ x.val then (2 : ℝ) ^ (s k.val - m) else 0) = psum s (fun _ => 1) x m 4096 := by
    unfold psum
    rw [← Fin.sum_univ_eq_sum_range (fun j => if j ≤ x.val then (1 : ℝ) * (2 : ℝ) ^ (s j - m) else 0)]
    simp only [one_mul]
  rw [hs, Ideal.div_coe (psum_one_pos s x m _ (by norm_num)).ne', ← EReal.coe_mul, mul_one_div]

/-- The difference of two softmax-weighted means from the difference of the weights. -/
theorem ref_mean (s0 s1 w : ℕ → ℝ) (x : Fin 4096) (l μ0 μ1 : ℝ) :
    (∑ j : Fin 4096, w j.val * ((if j.val ≤ x.val then (2 : ℝ) ^ (s0 j.val - μ0) else 0) / psum s0 (fun _ => 1) x μ0 4096
        - l * ((if j.val ≤ x.val then (2 : ℝ) ^ (s1 j.val - μ1) else 0) / psum s1 (fun _ => 1) x μ1 4096)))
      = smean s0 w x - l * smean s1 w x := by
  have h : ∀ (s : ℕ → ℝ) (μ : ℝ), (∑ j : Fin 4096, w j.val * ((if j.val ≤ x.val then (2 : ℝ) ^ (s j.val - μ) else 0) / psum s (fun _ => 1) x μ 4096)) = smean s w x := by
    intro s μ
    have hw : psum s w x μ 4096 = ∑ j ∈ Finset.range 4096, (fun j => if j ≤ x.val then w j * (2 : ℝ) ^ (s j - μ) else 0) j := rfl
    rw [← smean_eq s w x μ, hw, ← Fin.sum_univ_eq_sum_range (fun j => if j ≤ x.val then w j * (2 : ℝ) ^ (s j - μ) else 0), Finset.sum_div]
    refine Finset.sum_congr rfl fun j _ => ?_
    rw [← mul_div_assoc]; congr 1; split <;> simp
  rw [← h s0 μ0, ← h s1 μ1, Finset.mul_sum, ← Finset.sum_sub_distrib]
  refine Finset.sum_congr rfl fun j _ => ?_
  ring

end Cert.Attn
-- ==== Proof.AttnOut.lean ====
module

public import proofs.«01_k».proof.Proof.AttnBlock3
public import proofs.«01_k».proof.Proof.AttnMath
public import proofs.«01_k».proof.Proof.AttnFrameKernelIdeal

@[expose] public section

set_option maxRecDepth 16384

noncomputable section

namespace Cert.Attn

open Cert.KernelIdeal Cert.KernelIdeal.Gen Cert.KernelIdeal.Body
open Idealize.ShloMosaic Idealize.ShloMosaic.TcCoe

/-! What the body leaves in the output block, entry by entry. -/

/-- The weight of the second component, from the four rows of `lam`. -/
def lamV (x3 : Vec Ideal S4x64 .f32) : EReal :=
  Ideal.exp (∑ t, x3 (ix2 0 t) * x3 (ix2 1 t)) - Ideal.exp (∑ t, x3 (ix2 2 t) * x3 (ix2 3 t)) + Ideal.ofBits .f32 0x3E4CCCCD#32

/-- The last step: the mean square of the 128 entries, the gain and the constant factor. -/
def normV (o : Fin 128 → EReal) (g : EReal) (e : Fin 128) : EReal :=
  o e * Ideal.rsqrt (Ideal.div (∑ k, o k * o k) (Ideal.ofBits .f32 0x43000000#32) + Ideal.ofBits .f32 0x358637BD#32) * g
    * Ideal.ofBits .f32 0x3F4CCCCD#32

/-- Entry `e` of the difference of the two components at query `x`, from the last state. -/
def diffV (x0 x1 x2 : Vec Ideal S1x128x4096 .bf16) (x3 : Vec Ideal S4x64 .f32) (x : Fin 4096) (e : Fin 128) : EReal :=
  stA x0 x1 x2 0 e x 4 * Ideal.div 1 (stL x0 x1 0 x 4) - lamV x3 * (stA x0 x1 x2 1 e x 4 * Ideal.div 1 (stL x0 x1 1 x 4))

theorem pay109_at (x3 : Vec Ideal S4x64 .f32) (a0 a1 : Vec Ideal S128x4096 .f32) (l0 l1 : Vec Ideal S1x4096 .f32) (e : Fin 128) (x : Fin 4096) :
    k0_pay109 (F := Ideal) x3 a0 l0 a1 l1 (ix2 e x)
      = a0 (ix2 e x) * Ideal.div 1 (l0 (ix2 0 x)) - lamV x3 * (a1 (ix2 e x) * Ideal.div 1 (l1 (ix2 0 x))) := by
  pointwise [k0_pay109, lamV]

theorem pay110_at (x3 : Vec Ideal S4x64 .f32) (a0 a1 : Vec Ideal S128x4096 .f32) (l0 l1 : Vec Ideal S1x4096 .f32) (x : Fin 4096) :
    k0_pay110 (F := Ideal) x3 a0 l0 a1 l1 (ix2 0 x)
      = Ideal.rsqrt (Ideal.div (∑ k, k0_pay109 (F := Ideal) x3 a0 l0 a1 l1 (ix2 k x) * k0_pay109 (F := Ideal) x3 a0 l0 a1 l1 (ix2 k x)) (Ideal.ofBits .f32 0x43000000#32) + Ideal.ofBits .f32 0x358637BD#32) := by
  pointwise [k0_pay110]

theorem pay1_at (d : FVec Ideal S128x4096 .f32) (r : FVec Ideal S1x4096 .f32) (g : Vec Ideal S128x1 .f32) (e : Fin 128) (x : Fin 4096) :
    k0_pay1 (F := Ideal) d r g (ix3 0 x e) = d (ix2 e x) * r (ix2 0 x) * g (ix2 e 0) * Ideal.ofBits .f32 0x3F4CCCCD#32 := by
  pointwise [k0_pay1]

theorem pay_out (x3 : Vec Ideal S4x64 .f32) (a0 a1 : Vec Ideal S128x4096 .f32) (l0 l1 : Vec Ideal S1x4096 .f32) (g : Vec Ideal S128x1 .f32)
    (o : Fin 128 → EReal) (x : Fin 4096)
    (ho : ∀ k, a0 (ix2 k x) * Ideal.div 1 (l0 (ix2 0 x)) - lamV x3 * (a1 (ix2 k x) * Ideal.div 1 (l1 (ix2 0 x))) = o k) (e : Fin 128) :
    k0_pay1 (F := Ideal) (k0_pay109 (F := Ideal) x3 a0 l0 a1 l1) (k0_pay110 (F := Ideal) x3 a0 l0 a1 l1) g (ix3 0 x e) = normV o (g (ix2 e 0)) e := by
  rw [pay1_at, pay110_at]
  simp only [pay109_at, ho]
  rfl

/-- A whole block written at once, read back. -/
theorem canon_whole (inb : ∀ a, ![0, 0, 0] a + ![1, 4096, 128] a ≤ S1x4096x128.size a) (w : S1x4096x128.Idx → Elt Ideal .bf16) :
    View.canon [(⟨Rect.unit (s := S1x4096x128) ![0, 0, 0] ![1, 4096, 128] inb, w⟩ : View.Piece (Elt Ideal) S1x4096x128 .bf16)] = w :=
  View.canon_cons_unit_lit' _ _ _ (by decide)

theorem readAt_whole {R C : ℕ} {arg : Memref sig .tc .vmem ⟨2, ![R, C]⟩ .f32} (h : arg.IsWhole) (X : Vec Ideal ⟨2, ![R, C]⟩ .f32)
    (inb : ∀ a, ![0, 0] a + ![R, C] a ≤ (⟨2, ![R, C]⟩ : Shape).size a) :
    View.readAt (Elt Ideal) arg.view (Rect.unit (s := ⟨2, ![R, C]⟩) ![0, 0] ![R, C] inb).toLoadRect (h.unread X) = X := by
  rw [View.readAt_eq_ld, h.read_unread]
  funext y
  refine congrArg X ?_
  funext k
  refine Fin.ext ?_
  match k with
  | ⟨0, _⟩ => exact (show 0 + 1 * (y 0).val = (y 0).val by omega)
  | ⟨1, _⟩ => exact (show 0 + 1 * (y 1).val = (y 1).val by omega)

theorem H5_1_at (c : Dev nD) (i : grid0.Coords) (arg3 : Memref sig .tc .vmem S1x128x4096 .bf16) (harg3 : arg3.IsWhole) (arg4 : Memref sig .tc .vmem S1x128x4096 .bf16) (harg4 : arg4.IsWhole) (arg5 : Memref sig .tc .vmem S1x128x4096 .bf16) (harg5 : arg5.IsWhole)
    (arg6 : Memref sig .tc .vmem S4x64 .f32) (harg6 : arg6.IsWhole) (arg7 : Memref sig .tc .vmem S128x1 .f32) (harg7 : arg7.IsWhole)
    (arg9 arg10 arg11 arg12 : Memref sig .tc .vmem S1x4096 .f32) (arg13 arg14 : Memref sig .tc .vmem S128x4096 .f32)
    (x0 x1 x2 : Vec Ideal S1x128x4096 .bf16) (x3 : Vec Ideal S4x64 .f32) (x4 : Vec Ideal S128x1 .f32) (x : Fin 4096) (e : Fin 128) :
    View.canon (kernelRun.sl.H5_1 (F := Ideal) c i arg3 harg3 arg4 harg4 arg5 harg5 arg6 harg6 arg7 harg7 arg9 arg10 arg11 arg12 arg13 arg14 x0 x1 x2 x3 x4) (ix3 0 x e)
      = normV (diffV x0 x1 x2 x3 x) (x4 (ix2 e 0)) e := by
  unfold kernelRun.sl.H5_1
  refine (congrFun (canon_whole _ _) _).trans ?_
  dsimp only
  erw [readAt_whole (R := 4) (C := 64) harg6 x3, readAt_whole (R := 128) (C := 1) harg7 x4]
  refine pay_out x3 _ _ _ _ x4 _ x (fun k => ?_) e
  unfold diffV
  congr 1
  · congr 1
    · exact (readCov_cols (R := 128) (W := 4096) _ 0 _ _ k x x (Nat.zero_add _)).trans (H10_5_at c i arg3 harg3 arg4 harg4 arg5 harg5 arg9 arg11 arg13 x0 x1 x2 k x)
    · exact congrArg _ ((readCov_cols (R := 1) (W := 4096) _ 0 _ _ 0 x x (Nat.zero_add _)).trans (H8_5_at c i arg3 harg3 arg4 harg4 arg5 harg5 arg9 arg11 x0 x1 x2 x))
  · congr 1
    congr 1
    · exact (readCov_cols (R := 128) (W := 4096) _ 0 _ _ k x x (Nat.zero_add _)).trans (H11_5_at c i arg3 harg3 arg4 harg4 arg5 harg5 arg10 arg14 x0 x1 x2 k x)
    · exact congrArg _ ((readCov_cols (R := 1) (W := 4096) _ 0 _ _ 0 x x (Nat.zero_add _)).trans (H9_5_at c i arg3 harg3 arg4 harg4 arg5 harg5 arg10 arg12 arg14 x0 x1 x2 x))

theorem outVal_at (c : Dev nD) (t : Fin cfg0.N) (x0 x1 x2 : Vec Ideal S1x128x4096 .bf16) (x3 : Vec Ideal S4x64 .f32) (x4 : Vec Ideal S128x1 .f32)
    (x : Fin 4096) (e : Fin 128) :
    outVal (F := Ideal) c t x0 x1 x2 x3 x4 (ix3 0 x e) = normV (diffV x0 x1 x2 x3 x) (x4 (ix2 e 0)) e := by
  unfold outVal
  exact H5_1_at c (grid0.coords t) _ _ _ _ _ _ _ _ _ _ _ _ _ _ _ _ x0 x1 x2 x3 x4 x e

/-! Over real blocks. -/

/-- The score of key `j` and query `x` in component `c`. -/
def scR (f0 f1 : ℕ → ℕ → ℝ) (c x j : ℕ) : ℝ := ∑ t : Fin 64, f0 (64 * c + t.val) x * f1 (64 * c + t.val) j

theorem inv_all (x0 x1 x2 : Vec Ideal S1x128x4096 .bf16) (f0 f1 f2 : ℕ → ℕ → ℝ)
    (h0 : ∀ (r : Fin 128) (x : Fin 4096), x0 (ix3 0 r x) = (f0 r.val x.val : EReal))
    (h1 : ∀ (r : Fin 128) (x : Fin 4096), x1 (ix3 0 r x) = (f1 r.val x.val : EReal))
    (h2 : ∀ (r : Fin 128) (x : Fin 4096), x2 (ix3 0 r x) = (f2 r.val x.val : EReal))
    (c : ℕ) (hc : c < 2) (x : Fin 4096) (d : ℕ) (hd : d < 4) :
    Inv (scR f0 f1 c x.val) f2 x.val (d + 1) (stM x0 x1 c x (d + 1)) (stL x0 x1 c x (d + 1))
      (fun e => if h : e < 128 then stA x0 x1 x2 c ⟨e, h⟩ x (d + 1) else 0) := by
  have hsc : ∀ d < 4, ∀ j : Fin 1024, scol x0 x1 c d x j
      = if 1024 * d + j.val ≤ x.val then (scR f0 f1 c x.val (1024 * d + j.val) : EReal) else ⊥ := by
    intro d hd j
    unfold scol tileS
    congr 1
    unfold scR
    rw [← coe_sum]
    refine Finset.sum_congr rfl fun t _ => ?_
    unfold kcol qcol
    rw [h0, h1, ← EReal.coe_mul, mul_comm]
    simp only [Nat.mod_eq_of_lt (show 64 * c + t.val < 128 by omega), Nat.mod_eq_of_lt (show 1024 * d + j.val < 4096 by omega)]
  have hvc : ∀ d < 4, ∀ e (he : e < 128), ∀ j : Fin 1024, vcol x2 d ⟨e, he⟩ j = (f2 e (1024 * d + j.val) : EReal) := by
    intro d hd e he j
    unfold vcol
    rw [h2]
    simp only [Nat.mod_eq_of_lt (show 1024 * d + j.val < 4096 by omega)]
  have step : ∀ d < 4, 1024 * d ≤ x.val →
      (Inv (scR f0 f1 c x.val) f2 x.val d (stM x0 x1 c x d) (stL x0 x1 c x d) (fun e => if h : e < 128 then stA x0 x1 x2 c ⟨e, h⟩ x d else 0)
        ∨ (d = 0 ∧ stM x0 x1 c x d = ⊥ ∧ stL x0 x1 c x d = 0 ∧ ∀ e < 128, (if h : e < 128 then stA x0 x1 x2 c ⟨e, h⟩ x d else 0) = 0)) →
      Inv (scR f0 f1 c x.val) f2 x.val (d + 1) (stM x0 x1 c x (d + 1)) (stL x0 x1 c x (d + 1))
        (fun e => if h : e < 128 then stA x0 x1 x2 c ⟨e, h⟩ x (d + 1) else 0) := by
    intro d hd hx h
    have hi := inv_step (scR f0 f1 c x.val) f2 x.val d hx (stM x0 x1 c x d) (stL x0 x1 c x d)
      (fun e => if h : e < 128 then stA x0 x1 x2 c ⟨e, h⟩ x d else 0) h (scol x0 x1 c d x) (hsc d hd)
      (fun e j => if h : e < 128 then vcol x2 d ⟨e, h⟩ j else 0) (fun e he j => by rw [dif_pos he]; exact hvc d hd e he j)
    obtain ⟨μ, a, b, cc⟩ := hi
    refine ⟨μ, by rw [stM, if_pos hx]; exact a, by rw [stL, if_pos hx]; exact b, fun e he => ?_⟩
    have := cc e he
    simp only [dif_pos he] at this ⊢
    rw [stA, if_pos hx]; exact this
  induction d with
  | zero => exact step 0 (by norm_num) (Nat.zero_le _) (Or.inr ⟨rfl, rfl, rfl, fun e he => by rw [dif_pos he]; rfl⟩)
  | succ d ih =>
    have hi := ih (by omega)
    by_cases hx : 1024 * (d + 1) ≤ x.val
    · exact step (d + 1) hd hx (Or.inl hi)
    · have hp := inv_past _ _ _ _ hx _ _ _ hi
      obtain ⟨μ, a, b, cc⟩ := hp
      refine ⟨μ, by rw [stM, if_neg hx]; exact a, by rw [stL, if_neg hx]; exact b, fun e he => ?_⟩
      have := cc e he
      simp only [dif_pos he] at this ⊢
      rw [stA, if_neg hx]; exact this

/-- The difference over real blocks. -/
theorem diffV_real (x0 x1 x2 : Vec Ideal S1x128x4096 .bf16) (x3 : Vec Ideal S4x64 .f32) (f0 f1 f2 : ℕ → ℕ → ℝ) (l : ℝ)
    (h0 : ∀ (r : Fin 128) (x : Fin 4096), x0 (ix3 0 r x) = (f0 r.val x.val : EReal))
    (h1 : ∀ (r : Fin 128) (x : Fin 4096), x1 (ix3 0 r x) = (f1 r.val x.val : EReal))
    (h2 : ∀ (r : Fin 128) (x : Fin 4096), x2 (ix3 0 r x) = (f2 r.val x.val : EReal))
    (h3 : lamV x3 = (l : EReal)) (x : Fin 4096) (e : Fin 128) :
    diffV x0 x1 x2 x3 x e = ((smean (scR f0 f1 0 x.val) (f2 e.val) x.val - l * smean (scR f0 f1 1 x.val) (f2 e.val) x.val : ℝ) : EReal) := by
  have key : ∀ c < 2, stA x0 x1 x2 c e x 4 * Ideal.div 1 (stL x0 x1 c x 4) = ((smean (scR f0 f1 c x.val) (f2 e.val) x.val : ℝ) : EReal) := by
    intro c hc
    have h := inv_last _ _ _ _ _ _ (inv_all x0 x1 x2 f0 f1 f2 h0 h1 h2 c hc x 3 (by norm_num)) e.val e.isLt
    simp only [dif_pos e.isLt] at h
    exact h
  unfold diffV
  rw [key 0 (by norm_num), key 1 (by norm_num), h3, ← EReal.coe_mul, ← EReal.coe_sub]

end Cert.Attn
-- ==== Proof.AttnRef.lean ====
module

public import proofs.«01_k».proof.Proof.AttnOut
public import proofs.«01_k».proof.Proof.Gen.ReferenceIdeal.Read
public import Idealize.ShloMosaic.Lib.Pointwise
public import Idealize.ShloMosaic.Lib.WordCmp

@[expose] public section

set_option maxRecDepth 16384

noncomputable section

namespace Cert.AttnRef

open Cert.ReferenceIdeal Cert.ReferenceIdeal.Read Cert.ReferenceIdeal.Gen Cert.Attn
open Idealize.ShloMosaic Idealize.ShloMosaic.TcCoe

/-! What the reference computes, entry by entry. -/

/-- A maximum over the last axis. -/
theorem lastmax {m n p q r : ℕ} (s : FVec Ideal ⟨5, ![m, n, p, q, r]⟩ .f32) (cst : FVec Ideal ⟨0, ![]⟩ .f32)
    (h : Shape.ReducesTo ⟨5, ![m, n, p, q, r]⟩ [4] ⟨4, ![m, n, p, q]⟩) (h0 : 0 < (⟨0, ![]⟩ : Shape).numel)
    (b : Fin m) (hh : Fin n) (c : Fin p) (x : Fin q) :
    Host.reduce (α := Ideal .f32) (s := ⟨5, ![m, n, p, q, r]⟩) (axes := [4]) FloatOps.maximumf s cst h h0 (ix4 b hh c x)
      = (Finset.univ.fold max (cst (Shape.Idx.first h0)) fun j => s (ix5 b hh c x j) : EReal) := by
  pointwise []

theorem sel_sge (x j : Fin 4096) (a b : EReal) :
    Scalar.select (IntOp.cmpi .sge (BitVec.ofNat 32 x.val) (BitVec.ofNat 32 j.val)) a b = if j.val ≤ x.val then a else b := by
  have hx := x.isLt
  have hj := j.isLt
  by_cases h : j.val ≤ x.val
  · rw [if_pos h, show IntOp.cmpi .sge (BitVec.ofNat 32 x.val) (BitVec.ofNat 32 j.val) = 1#1 from by word_cmp]; rfl
  · rw [if_neg h, show IntOp.cmpi .sge (BitVec.ofNat 32 x.val) (BitVec.ofNat 32 j.val) = 0#1 from by word_cmp]; rfl

theorem two : (Ideal.ofBits .f32 0x40000000#32 : EReal) = ((2 : ℝ) : EReal) := by
  unfold Ideal.ofBits Ideal.ieee
  simp
  rw [← EReal.coe_mul]
  norm_num

theorem init_real : ∃ r : ℝ, (Ideal.ofBits .f32 0x3E4CCCCD#32 : EReal) = (r : EReal) := by
  unfold Ideal.ofBits Ideal.ieee
  simp
  rw [← EReal.coe_mul]
  exact ⟨_, rfl⟩

/-- The weight of the second component is real when the four rows are. -/
theorem lamV_real (x3 : (⟨S4x64, .f32⟩ : BufTy).Contents (Elt Ideal)) (f3 : ℕ → ℕ → ℝ)
    (h3 : ∀ (r : Fin 4) (t : Fin 64), x3 (ix2 r t) = (f3 r.val t.val : EReal)) : ∃ l : ℝ, lamV x3 = (l : EReal) := by
  obtain ⟨z, hz⟩ := init_real
  unfold lamV
  simp only [h3, ← EReal.coe_mul, coe_sum, hz]
  exact ⟨_, rfl⟩

theorem v24_at (x3 : (⟨S4x64, .f32⟩ : BufTy).Contents (Elt Ideal)) (i : S_.Idx) : val_main_v24 (F := Ideal) x3 i = lamV x3 := by
  pointwise [val_main_v24, val_main_v23, val_main_v22, val_main_v21, val_main_v20, val_main_v19, val_main_v18, val_main_v17, val_main_v16, val_main_v15, val_main_v14, val_main_v13, val_main_v12, val_main_v11, val_main_v10, val_main_v9, val_main_cst, val_main_cst_0, val_main_cst_1, lamV]

theorem v2_at (x0 : (⟨S4x512x4096, .bf16⟩ : BufTy).Contents (Elt Ideal)) (b : Fin 4) (h : Fin 4) (c : Fin 2) (t : Fin 64) (x : Fin 4096) :
    val_main_v2 (F := Ideal) x0 (ix5 b x h c t) = x0 (ix3 b ⟨h.val * 128 + c.val * 64 + t.val, by omega⟩ x) := by
  pointwise [val_main_v2, val_main_v1, val_main_v0]

theorem v5_at (x1 : (⟨S4x512x4096, .bf16⟩ : BufTy).Contents (Elt Ideal)) (b : Fin 4) (h : Fin 4) (c : Fin 2) (t : Fin 64) (x : Fin 4096) :
    val_main_v5 (F := Ideal) x1 (ix5 b x h c t) = x1 (ix3 b ⟨h.val * 128 + c.val * 64 + t.val, by omega⟩ x) := by
  pointwise [val_main_v5, val_main_v4, val_main_v3]

theorem v8_at (x2 : (⟨S4x512x4096, .bf16⟩ : BufTy).Contents (Elt Ideal)) (b : Fin 4) (h : Fin 4) (e : Fin 128) (x : Fin 4096) :
    val_main_v8 (F := Ideal) x2 (ix4 b x h e) = x2 (ix3 b ⟨h.val * 128 + e.val, by omega⟩ x) := by
  pointwise [val_main_v8, val_main_v7, val_main_v6]

theorem v33_at (x0 x1 : (⟨S4x512x4096, .bf16⟩ : BufTy).Contents (Elt Ideal)) (b : Fin 4) (h : Fin 4) (c : Fin 2) (x j : Fin 4096) :
    val_main_v33 (F := Ideal) x0 x1 (ix5 b h c x j)
      = if j.val ≤ x.val then ∑ t, val_main_v2 (F := Ideal) x0 (ix5 b x h c t) * val_main_v5 (F := Ideal) x1 (ix5 b j h c t) else ⊥ := by
  rw [← sel_sge]
  pointwise [val_main_v33, val_main_v32, val_main_v31, val_main_v30, val_main_v29, val_main_v28, val_main_v27, val_main_v26, val_main_v25, val_main_call0_v1, val_main_call0_v2, val_main_call0_v0, val_main_cst_2, id, negInf]

theorem v35_at (x0 x1 : (⟨S4x512x4096, .bf16⟩ : BufTy).Contents (Elt Ideal)) (b : Fin 4) (h : Fin 4) (c : Fin 2) (x : Fin 4096) :
    val_main_v35 (F := Ideal) x0 x1 (ix4 b h c x) = (Finset.univ.fold max ⊥ fun j => val_main_v33 (F := Ideal) x0 x1 (ix5 b h c x j) : EReal) := by
  unfold val_main_v35
  refine (lastmax _ _ _ _ b h c x).trans ?_
  rw [show (val_main_cst_4 (F := Ideal) (Shape.Idx.first h_S_) : EReal) = ⊥ from negInf]

theorem v43_at (x0 x1 : (⟨S4x512x4096, .bf16⟩ : BufTy).Contents (Elt Ideal)) (b : Fin 4) (h : Fin 4) (c : Fin 2) (x j : Fin 4096) :
    val_main_v43 (F := Ideal) x0 x1 (ix5 b h c x j)
      = Ideal.div (Ideal.pow ((2 : ℝ) : EReal) (val_main_v33 (F := Ideal) x0 x1 (ix5 b h c x j) - val_main_v35 (F := Ideal) x0 x1 (ix4 b h c x)))
          (∑ k : Fin 4096, Ideal.pow ((2 : ℝ) : EReal) (val_main_v33 (F := Ideal) x0 x1 (ix5 b h c x k) - val_main_v35 (F := Ideal) x0 x1 (ix4 b h c x))) := by
  pointwise [val_main_v43, val_main_v42, val_main_v41, val_main_v40, val_main_v39, val_main_v38, val_main_v37, val_main_v36, val_main_v34, val_main_cst_3, val_main_cst_5, two]

theorem v45_at (x0 x1 : (⟨S4x512x4096, .bf16⟩ : BufTy).Contents (Elt Ideal)) (b : Fin 4) (h : Fin 4) (x j : Fin 4096) :
    val_main_v45 (F := Ideal) x0 x1 (ix4 b h x j) = val_main_v43 (F := Ideal) x0 x1 (ix5 b h 0 x j) := by
  rw [val_main_v45_apply, val_main_v44_apply]
  congr 1
  funext a
  refine Fin.ext ?_
  match a with
  | ⟨0, _⟩ => show (((b.val * 4 + h.val) * 4096 + x.val) * 4096 + j.val) / 67108864 = b.val; omega
  | ⟨1, _⟩ => show (((b.val * 4 + h.val) * 4096 + x.val) * 4096 + j.val) / 16777216 % 4 = h.val; omega
  | ⟨2, _⟩ => rfl
  | ⟨3, _⟩ => show (((b.val * 4 + h.val) * 4096 + x.val) * 4096 + j.val) / 4096 % 4096 = x.val; omega
  | ⟨4, _⟩ => show (((b.val * 4 + h.val) * 4096 + x.val) * 4096 + j.val) % 4096 = j.val; omega

theorem v47_at (x0 x1 : (⟨S4x512x4096, .bf16⟩ : BufTy).Contents (Elt Ideal)) (b : Fin 4) (h : Fin 4) (x j : Fin 4096) :
    val_main_v47 (F := Ideal) x0 x1 (ix4 b h x j) = val_main_v43 (F := Ideal) x0 x1 (ix5 b h 1 x j) := by
  rw [val_main_v47_apply, val_main_v46_apply]
  congr 1
  funext a
  refine Fin.ext ?_
  match a with
  | ⟨0, _⟩ => show (((b.val * 4 + h.val) * 4096 + x.val) * 4096 + j.val) / 67108864 = b.val; omega
  | ⟨1, _⟩ => show (((b.val * 4 + h.val) * 4096 + x.val) * 4096 + j.val) / 16777216 % 4 = h.val; omega
  | ⟨2, _⟩ => rfl
  | ⟨3, _⟩ => show (((b.val * 4 + h.val) * 4096 + x.val) * 4096 + j.val) / 4096 % 4096 = x.val; omega
  | ⟨4, _⟩ => show (((b.val * 4 + h.val) * 4096 + x.val) * 4096 + j.val) % 4096 = j.val; omega

theorem v50_at (x0 x1 : (⟨S4x512x4096, .bf16⟩ : BufTy).Contents (Elt Ideal)) (x3 : (⟨S4x64, .f32⟩ : BufTy).Contents (Elt Ideal)) (b : Fin 4) (h : Fin 4) (x j : Fin 4096) :
    val_main_v50 (F := Ideal) x0 x1 x3 (ix4 b h x j)
      = val_main_v43 (F := Ideal) x0 x1 (ix5 b h 0 x j) - lamV x3 * val_main_v43 (F := Ideal) x0 x1 (ix5 b h 1 x j) := by
  rw [val_main_v50_apply, val_main_v49_apply, val_main_v48_apply, v24_at, v45_at, v47_at]
  rfl

theorem v52_at (x0 x1 x2 : (⟨S4x512x4096, .bf16⟩ : BufTy).Contents (Elt Ideal)) (x3 : (⟨S4x64, .f32⟩ : BufTy).Contents (Elt Ideal)) (b : Fin 4) (h : Fin 4) (e : Fin 128) (x : Fin 4096) :
    val_main_v52 (F := Ideal) x0 x1 x2 x3 (ix4 b x h e)
      = ∑ j, val_main_v8 (F := Ideal) x2 (ix4 b j h e) * val_main_v50 (F := Ideal) x0 x1 x3 (ix4 b h x j) := by
  pointwise [val_main_v52, val_main_v51]

/-- The difference over real arguments, for head `h` of batch `b`. -/
theorem v52_real (x0 x1 x2 : (⟨S4x512x4096, .bf16⟩ : BufTy).Contents (Elt Ideal)) (x3 : (⟨S4x64, .f32⟩ : BufTy).Contents (Elt Ideal))
    (b : Fin 4) (h : Fin 4) (f0 f1 f2 : ℕ → ℕ → ℝ) (l : ℝ)
    (h0 : ∀ (r : Fin 128) (x : Fin 4096), x0 (ix3 b ⟨h.val * 128 + r.val, by omega⟩ x) = (f0 r.val x.val : EReal))
    (h1 : ∀ (r : Fin 128) (x : Fin 4096), x1 (ix3 b ⟨h.val * 128 + r.val, by omega⟩ x) = (f1 r.val x.val : EReal))
    (h2 : ∀ (r : Fin 128) (x : Fin 4096), x2 (ix3 b ⟨h.val * 128 + r.val, by omega⟩ x) = (f2 r.val x.val : EReal))
    (h3 : lamV x3 = (l : EReal)) (x : Fin 4096) (e : Fin 128) :
    val_main_v52 (F := Ideal) x0 x1 x2 x3 (ix4 b x h e)
      = ((smean (scR f0 f1 0 x.val) (f2 e.val) x.val - l * smean (scR f0 f1 1 x.val) (f2 e.val) x.val : ℝ) : EReal) := by
  have hs : ∀ (c : Fin 2) (j : Fin 4096), val_main_v33 (F := Ideal) x0 x1 (ix5 b h c x j)
      = if j.val ≤ x.val then (scR f0 f1 c.val x.val j.val : EReal) else ⊥ := by
    intro c j
    rw [v33_at]
    congr 1
    unfold scR
    rw [← coe_sum]
    refine Finset.sum_congr rfl fun t _ => ?_
    rw [v2_at, v5_at, EReal.coe_mul]
    have q0 := h0 ⟨64 * c.val + t.val, by omega⟩ x
    have q1 := h1 ⟨64 * c.val + t.val, by omega⟩ j
    rw [← q0, ← q1]
    congr 3 <;> (refine Fin.ext ?_; simp only; omega)
  have hw : ∀ c : Fin 2, ∃ μ : ℝ, ∀ j : Fin 4096, val_main_v43 (F := Ideal) x0 x1 (ix5 b h c x j)
      = (((if j.val ≤ x.val then (2 : ℝ) ^ (scR f0 f1 c.val x.val j.val - μ) else 0) / psum (scR f0 f1 c.val x.val) (fun _ => 1) x.val μ 4096 : ℝ) : EReal) := by
    intro c
    obtain ⟨μ, hμ⟩ := ref_weights (scR f0 f1 c.val x.val) x (fun j => val_main_v33 (F := Ideal) x0 x1 (ix5 b h c x j)) (hs c)
    refine ⟨μ, fun j => ?_⟩
    rw [v43_at, v35_at]
    exact hμ j
  obtain ⟨μ0, w0⟩ := hw 0
  obtain ⟨μ1, w1⟩ := hw 1
  rw [v52_at, ← ref_mean _ _ _ _ _ μ0 μ1, ← coe_sum]
  refine Finset.sum_congr rfl fun j _ => ?_
  rw [v50_at, w0 j, w1 j, h3, v8_at, h2, EReal.coe_mul, EReal.coe_sub, EReal.coe_mul]
  rfl

theorem v67_at (x0 x1 x2 : (⟨S4x512x4096, .bf16⟩ : BufTy).Contents (Elt Ideal)) (x3 : (⟨S4x64, .f32⟩ : BufTy).Contents (Elt Ideal)) (x4 : (⟨S128, .f32⟩ : BufTy).Contents (Elt Ideal)) (b : Fin 4) (h : Fin 4) (e : Fin 128) (x : Fin 4096) :
    val_main_v67 (F := Ideal) x0 x1 x2 x3 x4 (ix4 b x h e) = normV (fun k => val_main_v52 (F := Ideal) x0 x1 x2 x3 (ix4 b x h k)) (x4 (ix1 e)) e := by
  pointwise [val_main_v67, val_main_v66, val_main_v65, val_main_v64, val_main_v63, val_main_v62, val_main_v61, val_main_v60, val_main_v59, val_main_v58, val_main_v57, val_main_v56, val_main_v55, val_main_v54, val_main_v53, val_main_cst_6, val_main_cst_7, val_main_cst_8, val_main_cst_9, normV]

theorem v69_at (x0 x1 x2 : (⟨S4x512x4096, .bf16⟩ : BufTy).Contents (Elt Ideal)) (x3 : (⟨S4x64, .f32⟩ : BufTy).Contents (Elt Ideal)) (x4 : (⟨S128, .f32⟩ : BufTy).Contents (Elt Ideal)) (b : Fin 4) (r : Fin 512) (x : Fin 4096) :
    val_main_v69 (F := Ideal) x0 x1 x2 x3 x4 (ix3 b x r)
      = val_main_v67 (F := Ideal) x0 x1 x2 x3 x4 (ix4 b x ⟨r.val / 128, by omega⟩ ⟨r.val % 128, by omega⟩) := by
  pointwise [val_main_v69, val_main_v68]

end Cert.AttnRef
-- ==== Proof.AttnPre.lean ====
module

public import proofs.«01_k».proof.Defs
public import proofs.«01_k».proof.Proof.Gen.Pre_inputs_finite
public import Idealize.ShloMosaic.Lib.ReduceAll
public import Idealize.ShloMosaic.Lib.Pointwise

@[expose] public section

set_option maxRecDepth 16384

noncomputable section

namespace Cert.AttnPre

open Idealize.ShloMosaic Cert.Pre_inputs_finite

/-! What the precondition says: every entry of the queries, keys, values and the four rows is real. -/

theorem posInf : (Ideal.ofBits .f32 0x7F800000#32 : EReal) = ⊤ := by
  unfold Ideal.ofBits Ideal.ieee
  simp

theorem real_of_lt (x : EReal) (h : Ideal.cmp .olt (max x (-x)) ⊤ = 1#1) : ∃ r : ℝ, x = (r : EReal) := by
  induction x using EReal.rec with
  | bot => exact absurd h (by simp [Ideal.cmp])
  | top => exact absurd h (by simp [Ideal.cmp])
  | coe r => exact ⟨r, rfl⟩

/-- A test of a whole array, read back. -/
theorem all_real {s : Shape} {axes : List (Fin s.rank)} (x : FVec Ideal s .f32) (hb : S_.BroadcastsInDim s (![] : Fin 0 → Fin s.rank))
    (hr : s.ReducesTo axes S_) (h0 : 0 < S_.numel) (init : S_.Idx → BitVec 1) (j : S_.Idx)
    (h : Host.reduce IntOp.andi (cmpf .olt (Host.absf x) (broadcastInDim s ![] hb (constant (F := Ideal) S_ .f32 0x7F800000#32))) init hr h0 j = 1#1)
    (i : s.Idx) : ∃ r : ℝ, (x i : EReal) = (r : EReal) := by
  haveI : Subsingleton S_.Idx := ⟨fun a b => funext fun k => k.elim0⟩
  have hi := Host.reduce_andi_all _ _ _ _ _ h i
  refine real_of_lt _ ?_
  rw [← posInf]
  exact hi

theorem inputs (a0 a1 a2 : FVec Ideal S4x512x4096 .bf16) (a3 : FVec Ideal S4x64 .f32) (a4 : FVec Ideal S128 .f32)
    (h : Cert.Pre_inputs_finite.fn (F := Ideal) a0 a1 a2 a3 a4 = fun _ => 1#1) :
    (∀ i, ∃ r : ℝ, (a0 i : EReal) = (r : EReal)) ∧ (∀ i, ∃ r : ℝ, (a1 i : EReal) = (r : EReal))
      ∧ (∀ i, ∃ r : ℝ, (a2 i : EReal) = (r : EReal)) ∧ (∀ i, ∃ r : ℝ, (a3 i : EReal) = (r : EReal)) := by
  have h' := congrFun h (Shape.Idx.first Gen.h_S_)
  unfold Cert.Pre_inputs_finite.fn Cert.Pre_inputs_finite.fn_part1 at h'
  obtain ⟨h012, h3⟩ := IntOp.andi_eq_one.1 h'
  obtain ⟨h01, h2⟩ := IntOp.andi_eq_one.1 h012
  obtain ⟨h0, h1⟩ := IntOp.andi_eq_one.1 h01
  exact ⟨all_real _ _ _ _ _ _ h0, all_real _ _ _ _ _ _ h1, all_real _ _ _ _ _ _ h2, all_real _ _ _ _ _ _ h3⟩

end Cert.AttnPre
-- ==== Proof.AttnValue.lean ====
module

public import proofs.«01_k».proof.Proof.AttnRef
public import proofs.«01_k».proof.Proof.AttnPre
public import Idealize.ShloMosaic.Lib.Claim

@[expose] public section

set_option maxRecDepth 16384

noncomputable section

namespace Cert.AttnValue

open Cert.KernelIdeal Cert.KernelIdeal.Gen Cert.KernelIdeal.Body Cert.Attn
open Idealize.ShloMosaic Idealize.ShloMosaic.TcCoe

/-! The equation of the two results: the output array block by block. -/

/-- Where each window's block lies at a point. -/
theorem idx : ∀ t : Fin cfg0.N,
    win0_0.index t = ![(grid0.coords t 0).val, (grid0.coords t 1).val, 0]
      ∧ win0_1.index t = ![(grid0.coords t 0).val, (grid0.coords t 1).val, 0]
      ∧ win0_2.index t = ![(grid0.coords t 0).val, (grid0.coords t 1).val, 0]
      ∧ win0_3.index t = ![0, 0]
      ∧ win0_4.index t = ![0, 0]
      ∧ win0_5.index t = ![(grid0.coords t 0).val, 0, (grid0.coords t 1).val] :=
  (by decide +kernel : ∀ t : Fin grid0.N, _)

variable (m : (ℓ : Loc nD τ sig) → Buf (Elt Ideal) ℓ)

theorem blk0 (c : Dev nD) (t : Fin cfg0.N) (r : Fin 128) (x : Fin 4096) (b : Fin 4) (h : Fin 4) (hb : (grid0.coords t 0).val = b.val) (hh : (grid0.coords t 1).val = h.val) :
    (iblk m c 0 t : Vec Ideal S1x128x4096 .bf16) (ix3 0 r x) = (m ((c.tc : Thread nD τ).loc main_arg0) : S4x512x4096.Idx → Elt Ideal .bf16) (ix3 b ⟨h.val * 128 + r.val, by omega⟩ x) := by
  obtain ⟨e0, e1, e2, e3, e4, e5⟩ := idx t
  blk_simp [iblk]
  refine (congrFun (V_main_arg0 m c) _).trans ?_
  refine congrArg _ ?_
  blk_ext [e0]

theorem blk1 (c : Dev nD) (t : Fin cfg0.N) (r : Fin 128) (x : Fin 4096) (b : Fin 4) (h : Fin 4) (hb : (grid0.coords t 0).val = b.val) (hh : (grid0.coords t 1).val = h.val) :
    (iblk m c 1 t : Vec Ideal S1x128x4096 .bf16) (ix3 0 r x) = (m ((c.tc : Thread nD τ).loc main_arg1) : S4x512x4096.Idx → Elt Ideal .bf16) (ix3 b ⟨h.val * 128 + r.val, by omega⟩ x) := by
  obtain ⟨e0, e1, e2, e3, e4, e5⟩ := idx t
  blk_simp [iblk]
  refine (congrFun (V_main_arg1 m c) _).trans ?_
  refine congrArg _ ?_
  blk_ext [e1]

theorem blk2 (c : Dev nD) (t : Fin cfg0.N) (r : Fin 128) (x : Fin 4096) (b : Fin 4) (h : Fin 4) (hb : (grid0.coords t 0).val = b.val) (hh : (grid0.coords t 1).val = h.val) :
    (iblk m c 2 t : Vec Ideal S1x128x4096 .bf16) (ix3 0 r x) = (m ((c.tc : Thread nD τ).loc main_arg2) : S4x512x4096.Idx → Elt Ideal .bf16) (ix3 b ⟨h.val * 128 + r.val, by omega⟩ x) := by
  obtain ⟨e0, e1, e2, e3, e4, e5⟩ := idx t
  blk_simp [iblk]
  refine (congrFun (V_main_arg2 m c) _).trans ?_
  refine congrArg _ ?_
  blk_ext [e2]

theorem blk3 (c : Dev nD) (t : Fin cfg0.N) :
    (iblk m c 3 t : Vec Ideal S4x64 .f32) = (m ((c.tc : Thread nD τ).loc main_arg3) : S4x64.Idx → Elt Ideal .f32) := by
  obtain ⟨e0, e1, e2, e3, e4, e5⟩ := idx t
  funext y
  blk_simp [iblk]
  refine (congrFun (V_main_arg3 m c) _).trans ?_
  refine congrArg _ ?_
  blk_ext [e3]

theorem blk4 (c : Dev nD) (t : Fin cfg0.N) (e : Fin 128) :
    (iblk m c 4 t : Vec Ideal S128x1 .f32) (ix2 e 0) = (m ((c.tc : Thread nD τ).loc main_arg4) : S128.Idx → Elt Ideal .f32) (ix1 e) := by
  obtain ⟨e0, e1, e2, e3, e4, e5⟩ := idx t
  blk_simp [iblk]
  entry_read
  pointwise
  refine congrArg _ ?_
  blk_ext [e4]

/-- A value that is a real is the coercion of its real part. -/
theorem real_of {a : EReal} (h : ∃ r : ℝ, a = (r : EReal)) : a = ((a.toReal : ℝ) : EReal) := by
  obtain ⟨r, rfl⟩ := h
  rfl

/-- The block's values and the reference's at one point. -/
theorem entry (c : Dev nD) (t : Fin cfg0.N) (a0 a1 a2 : S4x512x4096.Idx → Elt Ideal .bf16) (a3 : S4x64.Idx → Elt Ideal .f32) (a4 : S128.Idx → Elt Ideal .f32)
    (x0 x1 x2 : Vec Ideal S1x128x4096 .bf16) (x4 : Vec Ideal S128x1 .f32) (b h : Fin 4)
    (r0 : ∀ i, ∃ r : ℝ, (a0 i : EReal) = r) (r1 : ∀ i, ∃ r : ℝ, (a1 i : EReal) = r) (r2 : ∀ i, ∃ r : ℝ, (a2 i : EReal) = r) (r3 : ∀ i, ∃ r : ℝ, (a3 i : EReal) = r)
    (h0 : ∀ (r : Fin 128) (x : Fin 4096), x0 (ix3 0 r x) = a0 (ix3 b ⟨h.val * 128 + r.val, by omega⟩ x))
    (h1 : ∀ (r : Fin 128) (x : Fin 4096), x1 (ix3 0 r x) = a1 (ix3 b ⟨h.val * 128 + r.val, by omega⟩ x))
    (h2 : ∀ (r : Fin 128) (x : Fin 4096), x2 (ix3 0 r x) = a2 (ix3 b ⟨h.val * 128 + r.val, by omega⟩ x))
    (h4 : ∀ e : Fin 128, x4 (ix2 e 0) = a4 (ix1 e)) (x : Fin 4096) (e : Fin 128) :
    outVal (F := Ideal) c t x0 x1 x2 a3 x4 (ix3 0 x e) = Cert.ReferenceIdeal.Read.val_main_v69 a0 a1 a2 a3 a4 (ix3 b x ⟨h.val * 128 + e.val, by omega⟩) := by
  have q (a : S4x512x4096.Idx → Elt Ideal .bf16) (ra : ∀ i, ∃ r : ℝ, (a i : EReal) = r) : ∃ f : ℕ → ℕ → ℝ, ∀ (r : Fin 128) (x : Fin 4096), (a (ix3 b ⟨h.val * 128 + r.val, by omega⟩ x) : EReal) = (f r.val x.val : EReal) := by
    refine ⟨fun r x => if hr : r < 128 then if hx : x < 4096 then (a (ix3 b ⟨h.val * 128 + r, by omega⟩ ⟨x, hx⟩) : EReal).toReal else 0 else 0, fun r x => ?_⟩
    simp only [r.isLt, x.isLt, dif_pos]
    exact real_of (ra _)
  obtain ⟨f0, k0⟩ := q a0 r0
  obtain ⟨f1, k1⟩ := q a1 r1
  obtain ⟨f2, k2⟩ := q a2 r2
  have q3 : ∃ f : ℕ → ℕ → ℝ, ∀ (r : Fin 4) (t : Fin 64), (a3 (ix2 r t) : EReal) = (f r.val t.val : EReal) := by
    refine ⟨fun r x => if hr : r < 4 then if hx : x < 64 then (a3 (ix2 ⟨r, hr⟩ ⟨x, hx⟩) : EReal).toReal else 0 else 0, fun r x => ?_⟩
    simp only [r.isLt, x.isLt, dif_pos]
    exact real_of (r3 _)
  obtain ⟨f3, k3⟩ := q3
  obtain ⟨l, hl⟩ := Cert.AttnRef.lamV_real a3 f3 k3
  rw [outVal_at, Cert.AttnRef.v69_at]
  have e1 : (⟨(h.val * 128 + e.val) / 128, by omega⟩ : Fin 4) = h := Fin.ext (by simp only []; omega)
  have e2 : (⟨(h.val * 128 + e.val) % 128, by omega⟩ : Fin 128) = e := Fin.ext (by simp only []; omega)
  simp only [e1, e2]
  rw [Cert.AttnRef.v67_at, h4]
  congr 1
  funext k
  rw [diffV_real x0 x1 x2 a3 f0 f1 f2 l (fun r x => (h0 r x).trans (k0 r x)) (fun r x => (h1 r x).trans (k1 r x)) (fun r x => (h2 r x).trans (k2 r x)) hl x k,
    Cert.AttnRef.v52_real a0 a1 a2 a3 b h f0 f1 f2 l k0 k1 k2 hl x k]

/-- The kernel's array is the reference's result, the inputs being real numbers. -/
theorem result (c : Dev nD) (hp : Cert.Pre_inputs_finite.fn (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) = fun _ => 1#1) :
    (dats m 0 c).arrAt 5 cfg0.N = Cert.ReferenceIdeal.Read.val_main_v69 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  obtain ⟨r0, r1, r2, r3⟩ := Cert.AttnPre.inputs _ _ _ _ _ hp
  refine (dats m 0 c).arrAt_eq_of_covers 5 _ (by decide +kernel) fun t _ y => ?_
  blk_simp
  rw [after0_5]
  obtain ⟨e0, e1, e2, e3, e4, e5⟩ := idx t
  have hb : (grid0.coords t 0).val < 4 := (grid0.coords t 0).isLt
  have hh : (grid0.coords t 1).val < 4 := (grid0.coords t 1).isLt
  obtain ⟨z, x, e, rfl⟩ : ∃ (z : Fin 1) (x : Fin 4096) (e : Fin 128), y = ix3 z x e := ⟨_, _, _, eq_ix3 y⟩
  obtain rfl : z = 0 := Subsingleton.elim _ _
  rw [blk3]
  refine (entry c t (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) _ _ _ _ ⟨_, hb⟩ ⟨_, hh⟩ r0 r1 r2 r3
    (fun r x => blk0 m c t r x _ _ rfl rfl) (fun r x => blk1 m c t r x _ _ rfl rfl) (fun r x => blk2 m c t r x _ _ rfl rfl) (fun e => blk4 m c t e) x e).trans ?_
  refine congrArg _ ?_
  blk_ext [e5]

end Cert.AttnValue
-- ==== Proof.ExpRunKernel2.lean ====
module

public import proofs.«01_k».proof.Proof.Gen.Kernel2.Flash.Runs
public import Idealize.ShloMosaic.Lib.VecWindow

@[expose] public section

set_option maxRecDepth 16384

noncomputable section

namespace Cert.Kernel2.Exp

open Cert.Kernel2 Cert.Kernel2.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

local notation "𝕄" => MT nD τ sig Unit (Elt Bits) ℕ (UR sig nD τ) ℕ

/-- The word of the tile table the body reads for its own tile. -/
abbrev here (i : grid0.Coords) (T0 : S96.Idx → Elt Bits .i32) : BitVec 32 :=
  View.readAt (Elt Bits) (tbM0_0).view (Rect.unit (s := S96) (k0_off1 i) S1.size (k0_off1_inb i)).toLoadRect T0 (Shape.Idx.first (numel1_S1.symm ▸ Nat.one_pos))
/-- The word of the tile table the body reads for the tile before. -/
abbrev back (i : grid0.Coords) (T0 : S96.Idx → Elt Bits .i32) : BitVec 32 :=
  View.readAt (Elt Bits) (tbM0_0).view (Rect.unit (s := S96) (k0_off2 i) S1.size (k0_off2_inb i)).toLoadRect T0 (Shape.Idx.first (numel1_S1.symm ▸ Nat.one_pos))
/-- The number of used tiles, as the body reads it. -/
abbrev used (T1 : S1.Idx → Elt Bits .i32) : BitVec 32 :=
  View.readAt (Elt Bits) (tbM0_1).view (Rect.unit (s := S1) ![0] S1.size inb_S1_S1_0).toLoadRect T1 (Shape.Idx.first (numel1_S1.symm ▸ Nat.one_pos))
/-- The body rounds the expert's weights anew at this tile. -/
abbrev Loads (i : grid0.Coords) (T0 : S96.Idx → Elt Bits .i32) : Prop :=
  (Scalar.cmpi .ne (Scalar.extui (Scalar.ori (Scalar.cmpi .eq (BitVec.ofNat 32 (i 0).val) 0#32) (Scalar.cmpi .ne (here i T0) (back i T0)))) 0#32) = 1#1

/-- What the body leaves in its output tile, from the tile's rows and its expert's weights. -/
def outV (i : grid0.Coords) (T1 : S1.Idx → Elt Bits .i32) (x0 : S512x1024.Idx → Elt Bits .f32) (x1 : S1x1024x512.Idx → Elt Bits .f32)
    (x2 : S1x1024x512.Idx → Elt Bits .f32) (x3 : S1x512x1024.Idx → Elt Bits .f32) : S512x1024.Idx → Elt Bits .f32 :=
  if k0_cond2 i (used T1) = 1#1 then k0_pay4 (F := Bits) x0 (k0_pay1 x1) (k0_pay2 x2) (k0_pay3 x3) else k0_pay5 (F := Bits)

/-- A whole scratch buffer stored over holds what was stored. -/
theorem whole_store {b : Ref sig .tc} (L : List (View.Piece (Elt Bits) b.ty.shape b.ty.elt)) (f w : b.ty.Contents (Elt Bits))
    (h : (View.whole b).read (Elt Bits) ((View.whole b).writes (Elt Bits) f L) = w) : (View.whole b).writes (Elt Bits) f L = w := h

/-- What the run of a tile that loads its expert and is used leaves. -/
theorem val_A (c : Dev nD) (i : grid0.Coords) (arg3 : Memref sig .tc .vmem S512x1024 .f32) (harg3 : arg3.IsWhole) (arg4 : Memref sig .tc .vmem S1x1024x512 .f32) (harg4 : arg4.IsWhole) (arg5 : Memref sig .tc .vmem S1x1024x512 .f32) (harg5 : arg5.IsWhole) (arg6 : Memref sig .tc .vmem S1x512x1024 .f32) (harg6 : arg6.IsWhole) (arg7 : Memref sig .tc .vmem S512x1024 .f32) (harg7 : arg7.IsWhole) (T0 : (S96.Idx → Elt Bits .i32)) (T1 : (S1.Idx → Elt Bits .i32))
    (x0 : (S512x1024.Idx → Elt Bits .f32)) (x1 : (S1x1024x512.Idx → Elt Bits .f32)) (x2 : (S1x1024x512.Idx → Elt Bits .f32)) (x3 : (S1x512x1024.Idx → Elt Bits .f32))
    (hc0 : Loads i T0) (h2 : (k0_cond2 i (used T1) = 1#1)) (h3 : ¬(k0_cond3 i (used T1) = 1#1)) (f : arg7.view.ty.Contents (Elt Bits)) :
    (kernelRun0_A c i arg3 harg3 arg4 harg4 arg5 harg5 arg6 harg6 arg7 harg7 T0 T1 x0 x1 x2 x3 hc0 h2 h3).2.1 = k0_pay1 x1
      ∧ (kernelRun0_A c i arg3 harg3 arg4 harg4 arg5 harg5 arg6 harg6 arg7 harg7 T0 T1 x0 x1 x2 x3 hc0 h2 h3).2.2.1 = k0_pay2 x2
      ∧ (kernelRun0_A c i arg3 harg3 arg4 harg4 arg5 harg5 arg6 harg6 arg7 harg7 T0 T1 x0 x1 x2 x3 hc0 h2 h3).2.2.2.1 = k0_pay3 x3
      ∧ arg7.view.read (Elt Bits) (arg7.view.writes (Elt Bits) f (kernelRun0_A c i arg3 harg3 arg4 harg4 arg5 harg5 arg6 harg6 arg7 harg7 T0 T1 x0 x1 x2 x3 hc0 h2 h3).1) = k0_pay4 (F := Bits) x0 (k0_pay1 x1) (k0_pay2 x2) (k0_pay3 x3) := by
  unfold kernelRun0_A
  dsimp only
  delta kernelRun0_A.sl.HS0_1 kernelRun0_A.sl.HS1_1 kernelRun0_A.sl.HS2_1; dsimp only
  delta kernelRun0_A.sl.HO4_1; dsimp only
  refine ⟨whole_store _ _ _ ((View.read_writes_full (View.whole cc0_scratch0) _ _ _ []).trans (congrArg k0_pay1 (View.readAt_rep_full arg4.view x1 _))), ?_⟩
  refine ⟨whole_store _ _ _ ((View.read_writes_full (View.whole cc0_scratch1) _ _ _ []).trans (congrArg k0_pay2 (View.readAt_rep_full arg5.view x2 _))), ?_⟩
  refine ⟨whole_store _ _ _ ((View.read_writes_full (View.whole cc0_scratch2) _ _ _ []).trans (congrArg k0_pay3 (View.readAt_rep_full arg6.view x3 _))), ?_⟩
  refine (View.read_writes_full arg7.view f _ _ []).trans ?_
  delta kernelRun0_A.sl.v21 kernelRun0_A.sl.v23 kernelRun0_A.sl.v29; dsimp only
  delta kernelRun0_A.sl.HS0_1 kernelRun0_A.sl.HS1_1 kernelRun0_A.sl.HS2_1; dsimp only
  exact congr (congr (congr (congrArg _ (View.readAt_rep_full arg3.view x0 _))
    ((View.readCov_full (View.whole cc0_scratch0) _ _ _ []).trans (congrArg k0_pay1 (View.readAt_rep_full arg4.view x1 _))))
    ((View.readCov_full (View.whole cc0_scratch1) _ _ _ []).trans (congrArg k0_pay2 (View.readAt_rep_full arg5.view x2 _))))
    ((View.readCov_full (View.whole cc0_scratch2) _ _ _ []).trans (congrArg k0_pay3 (View.readAt_rep_full arg6.view x3 _)))

/-- What the run of a used tile of the expert before leaves. -/
theorem val_B (c : Dev nD) (i : grid0.Coords) (arg3 : Memref sig .tc .vmem S512x1024 .f32) (harg3 : arg3.IsWhole) (arg4 : Memref sig .tc .vmem S1x1024x512 .f32) (harg4 : arg4.IsWhole) (arg5 : Memref sig .tc .vmem S1x1024x512 .f32) (harg5 : arg5.IsWhole) (arg6 : Memref sig .tc .vmem S1x512x1024 .f32) (harg6 : arg6.IsWhole) (arg7 : Memref sig .tc .vmem S512x1024 .f32) (harg7 : arg7.IsWhole) (T0 : (S96.Idx → Elt Bits .i32)) (T1 : (S1.Idx → Elt Bits .i32))
    (x0 : (S512x1024.Idx → Elt Bits .f32)) (x1 : (S1x1024x512.Idx → Elt Bits .f32)) (x2 : (S1x1024x512.Idx → Elt Bits .f32)) (x3 : (S1x512x1024.Idx → Elt Bits .f32))
    (xa0 : Buf (Elt Bits) ((c : Thread nD τ).loc cc0_scratch0)) (xa1 : Buf (Elt Bits) ((c : Thread nD τ).loc cc0_scratch1)) (xa2 : Buf (Elt Bits) ((c : Thread nD τ).loc cc0_scratch2))
    (hc0 : ¬Loads i T0) (h2 : (k0_cond2 i (used T1) = 1#1)) (h3 : ¬(k0_cond3 i (used T1) = 1#1)) (f : arg7.view.ty.Contents (Elt Bits)) :
    (kernelRun0_B c i arg3 harg3 arg4 harg4 arg5 harg5 arg6 harg6 arg7 harg7 T0 T1 x0 x1 x2 x3 xa0 xa1 xa2 hc0 h2 h3).2.1 = xa0
      ∧ (kernelRun0_B c i arg3 harg3 arg4 harg4 arg5 harg5 arg6 harg6 arg7 harg7 T0 T1 x0 x1 x2 x3 xa0 xa1 xa2 hc0 h2 h3).2.2.1 = xa1
      ∧ (kernelRun0_B c i arg3 harg3 arg4 harg4 arg5 harg5 arg6 harg6 arg7 harg7 T0 T1 x0 x1 x2 x3 xa0 xa1 xa2 hc0 h2 h3).2.2.2.1 = xa2
      ∧ arg7.view.read (Elt Bits) (arg7.view.writes (Elt Bits) f (kernelRun0_B c i arg3 harg3 arg4 harg4 arg5 harg5 arg6 harg6 arg7 harg7 T0 T1 x0 x1 x2 x3 xa0 xa1 xa2 hc0 h2 h3).1) = k0_pay4 (F := Bits) x0 xa0 xa1 xa2 := by
  unfold kernelRun0_B
  dsimp only
  delta kernelRun0_B.sl.HO4_1; dsimp only
  refine ⟨rfl, rfl, rfl, ?_⟩
  refine (View.read_writes_full arg7.view f _ _ []).trans ?_
  exact congr (congr (congr (congrArg _ (View.readAt_rep_full arg3.view x0 _)) (View.readAt_full (View.whole cc0_scratch0) xa0 _))
    (View.readAt_full (View.whole cc0_scratch1) xa1 _)) (View.readAt_full (View.whole cc0_scratch2) xa2 _)

/-- What the run of an unused tile that loads its expert leaves. -/
theorem val_C (c : Dev nD) (i : grid0.Coords) (arg3 : Memref sig .tc .vmem S512x1024 .f32) (harg3 : arg3.IsWhole) (arg4 : Memref sig .tc .vmem S1x1024x512 .f32) (harg4 : arg4.IsWhole) (arg5 : Memref sig .tc .vmem S1x1024x512 .f32) (harg5 : arg5.IsWhole) (arg6 : Memref sig .tc .vmem S1x512x1024 .f32) (harg6 : arg6.IsWhole) (arg7 : Memref sig .tc .vmem S512x1024 .f32) (harg7 : arg7.IsWhole) (T0 : (S96.Idx → Elt Bits .i32)) (T1 : (S1.Idx → Elt Bits .i32))
    (x0 : (S512x1024.Idx → Elt Bits .f32)) (x1 : (S1x1024x512.Idx → Elt Bits .f32)) (x2 : (S1x1024x512.Idx → Elt Bits .f32)) (x3 : (S1x512x1024.Idx → Elt Bits .f32))
    (hc0 : Loads i T0) (h2 : ¬(k0_cond2 i (used T1) = 1#1)) (h3 : (k0_cond3 i (used T1) = 1#1)) (f : arg7.view.ty.Contents (Elt Bits)) :
    (kernelRun0_C c i arg3 harg3 arg4 harg4 arg5 harg5 arg6 harg6 arg7 harg7 T0 T1 x0 x1 x2 x3 hc0 h2 h3).2.1 = k0_pay1 x1
      ∧ (kernelRun0_C c i arg3 harg3 arg4 harg4 arg5 harg5 arg6 harg6 arg7 harg7 T0 T1 x0 x1 x2 x3 hc0 h2 h3).2.2.1 = k0_pay2 x2
      ∧ (kernelRun0_C c i arg3 harg3 arg4 harg4 arg5 harg5 arg6 harg6 arg7 harg7 T0 T1 x0 x1 x2 x3 hc0 h2 h3).2.2.2.1 = k0_pay3 x3
      ∧ arg7.view.read (Elt Bits) (arg7.view.writes (Elt Bits) f (kernelRun0_C c i arg3 harg3 arg4 harg4 arg5 harg5 arg6 harg6 arg7 harg7 T0 T1 x0 x1 x2 x3 hc0 h2 h3).1) = k0_pay5 (F := Bits) := by
  unfold kernelRun0_C
  dsimp only
  delta kernelRun0_C.sl.HS0_1 kernelRun0_C.sl.HS1_1 kernelRun0_C.sl.HS2_1; dsimp only
  delta kernelRun0_C.sl.HO4_1; dsimp only
  refine ⟨whole_store _ _ _ ((View.read_writes_full (View.whole cc0_scratch0) _ _ _ []).trans (congrArg k0_pay1 (View.readAt_rep_full arg4.view x1 _))), ?_⟩
  refine ⟨whole_store _ _ _ ((View.read_writes_full (View.whole cc0_scratch1) _ _ _ []).trans (congrArg k0_pay2 (View.readAt_rep_full arg5.view x2 _))), ?_⟩
  refine ⟨whole_store _ _ _ ((View.read_writes_full (View.whole cc0_scratch2) _ _ _ []).trans (congrArg k0_pay3 (View.readAt_rep_full arg6.view x3 _))), ?_⟩
  exact View.read_writes_full arg7.view f _ _ []

/-- What the run of an unused tile of the expert before leaves. -/
theorem val_D (c : Dev nD) (i : grid0.Coords) (arg3 : Memref sig .tc .vmem S512x1024 .f32) (harg3 : arg3.IsWhole) (arg4 : Memref sig .tc .vmem S1x1024x512 .f32) (harg4 : arg4.IsWhole) (arg5 : Memref sig .tc .vmem S1x1024x512 .f32) (harg5 : arg5.IsWhole) (arg6 : Memref sig .tc .vmem S1x512x1024 .f32) (harg6 : arg6.IsWhole) (arg7 : Memref sig .tc .vmem S512x1024 .f32) (harg7 : arg7.IsWhole) (T0 : (S96.Idx → Elt Bits .i32)) (T1 : (S1.Idx → Elt Bits .i32))
    (x0 : (S512x1024.Idx → Elt Bits .f32)) (x1 : (S1x1024x512.Idx → Elt Bits .f32)) (x2 : (S1x1024x512.Idx → Elt Bits .f32)) (x3 : (S1x512x1024.Idx → Elt Bits .f32))
    (xa0 : Buf (Elt Bits) ((c : Thread nD τ).loc cc0_scratch0)) (xa1 : Buf (Elt Bits) ((c : Thread nD τ).loc cc0_scratch1)) (xa2 : Buf (Elt Bits) ((c : Thread nD τ).loc cc0_scratch2))
    (hc0 : ¬Loads i T0) (h2 : ¬(k0_cond2 i (used T1) = 1#1)) (h3 : (k0_cond3 i (used T1) = 1#1)) (f : arg7.view.ty.Contents (Elt Bits)) :
    (kernelRun0_D c i arg3 harg3 arg4 harg4 arg5 harg5 arg6 harg6 arg7 harg7 T0 T1 x0 x1 x2 x3 xa0 xa1 xa2 hc0 h2 h3).2.1 = xa0
      ∧ (kernelRun0_D c i arg3 harg3 arg4 harg4 arg5 harg5 arg6 harg6 arg7 harg7 T0 T1 x0 x1 x2 x3 xa0 xa1 xa2 hc0 h2 h3).2.2.1 = xa1
      ∧ (kernelRun0_D c i arg3 harg3 arg4 harg4 arg5 harg5 arg6 harg6 arg7 harg7 T0 T1 x0 x1 x2 x3 xa0 xa1 xa2 hc0 h2 h3).2.2.2.1 = xa2
      ∧ arg7.view.read (Elt Bits) (arg7.view.writes (Elt Bits) f (kernelRun0_D c i arg3 harg3 arg4 harg4 arg5 harg5 arg6 harg6 arg7 harg7 T0 T1 x0 x1 x2 x3 xa0 xa1 xa2 hc0 h2 h3).1) = k0_pay5 (F := Bits) := by
  unfold kernelRun0_D
  dsimp only
  delta kernelRun0_D.sl.HO4_1; dsimp only
  refine ⟨rfl, rfl, rfl, ?_⟩
  exact View.read_writes_full arg7.view f _ _ []

set_option maxHeartbeats 1600000 in
/-- The body's run, its four control paths in one: the rounded weights and the output tile as the blocks say, whichever
    path is taken, once a tile that does not load finds its own expert's weights. -/
theorem exp_run (c : Dev nD) (i : grid0.Coords) (arg3 : Memref sig .tc .vmem S512x1024 .f32) (harg3 : arg3.IsWhole) (arg4 : Memref sig .tc .vmem S1x1024x512 .f32) (harg4 : arg4.IsWhole) (arg5 : Memref sig .tc .vmem S1x1024x512 .f32) (harg5 : arg5.IsWhole) (arg6 : Memref sig .tc .vmem S1x512x1024 .f32) (harg6 : arg6.IsWhole) (arg7 : Memref sig .tc .vmem S512x1024 .f32) (harg7 : arg7.IsWhole) (T0 : (S96.Idx → Elt Bits .i32)) (T1 : (S1.Idx → Elt Bits .i32))
    (x0 : (S512x1024.Idx → Elt Bits .f32)) (x1 : (S1x1024x512.Idx → Elt Bits .f32)) (x2 : (S1x1024x512.Idx → Elt Bits .f32)) (x3 : (S1x512x1024.Idx → Elt Bits .f32))
    (xa0 : Buf (Elt Bits) ((c : Thread nD τ).loc cc0_scratch0)) (xa1 : Buf (Elt Bits) ((c : Thread nD τ).loc cc0_scratch1)) (xa2 : Buf (Elt Bits) ((c : Thread nD τ).loc cc0_scratch2))
    (hs : ¬ Loads i T0 → xa0 = k0_pay1 x1 ∧ xa1 = k0_pay2 x2 ∧ xa2 = k0_pay3 x3)
    (hx : k0_cond3 i (used T1) = 1#1 ↔ ¬ k0_cond2 i (used T1) = 1#1) (K : PUnit → sProp 𝕄) :
    iprop((owns (c : Thread nD τ) arg3 fullShare x0)
      ∗ (owns (c : Thread nD τ) arg4 fullShare x1)
      ∗ (owns (c : Thread nD τ) arg5 fullShare x2)
      ∗ (owns (c : Thread nD τ) arg6 fullShare x3)
      ∗ (tbM0_0.view.loc (c : Thread nD τ) ↦{fullShare.right} T0)
      ∗ (tbM0_1.view.loc (c : Thread nD τ) ↦{fullShare.right} T1)
      ∗ (∃ d, owns (c : Thread nD τ) arg7 fullShare d)
      ∗ (scM0_0.view.loc (c : Thread nD τ) ↦{fullShare} xa0)
      ∗ (scM0_1.view.loc (c : Thread nD τ) ↦{fullShare} xa1)
      ∗ (scM0_2.view.loc (c : Thread nD τ) ↦{fullShare} xa2)
      ∗ (iprop((owns (c : Thread nD τ) arg3 fullShare x0)
          ∗ (owns (c : Thread nD τ) arg4 fullShare x1)
          ∗ (owns (c : Thread nD τ) arg5 fullShare x2)
          ∗ (owns (c : Thread nD τ) arg6 fullShare x3)
          ∗ (tbM0_0.view.loc (c : Thread nD τ) ↦{fullShare.right} T0)
          ∗ (tbM0_1.view.loc (c : Thread nD τ) ↦{fullShare.right} T1)
          ∗ (owns (c : Thread nD τ) arg7 fullShare (outV i T1 x0 x1 x2 x3))
          ∗ (scM0_0.view.loc (c : Thread nD τ) ↦{fullShare} (show Buf (Elt Bits) ((c : Thread nD τ).loc cc0_scratch0) from k0_pay1 x1))
          ∗ (scM0_1.view.loc (c : Thread nD τ) ↦{fullShare} (show Buf (Elt Bits) ((c : Thread nD τ).loc cc0_scratch1) from k0_pay2 x2))
          ∗ (scM0_2.view.loc (c : Thread nD τ) ↦{fullShare} (show Buf (Elt Bits) ((c : Thread nD τ).loc cc0_scratch2) from k0_pay3 x3))) -∗ K ⟨⟩))
      ⊢ wp frame (wpE (defs₀ (F := Bits)) Variants.none c none) Set.univ (cc0_moe_experts i tbM0_0 (Memref.isWhole_whole _) tbM0_1 (Memref.isWhole_whole _) arg3 harg3 arg4 harg4 arg5 harg5 arg6 harg6 arg7 harg7 scM0_0 (Memref.isWhole_whole _) scM0_1 (Memref.isWhole_whole _) scM0_2 (Memref.isWhole_whole _)) K := by
  iintro ⟨H0, H1, H2, H3, HT0, HT1, H4, HS0, HS1, HS2, Hk⟩
  by_cases q0 : Loads i T0
  · by_cases q1 : k0_cond2 i (used T1) = 1#1
    · have q2 : ¬ k0_cond3 i (used T1) = 1#1 := fun h => hx.1 h q1
      iapply ((kernelRun0_A c i arg3 harg3 arg4 harg4 arg5 harg5 arg6 harg6 arg7 harg7 T0 T1 x0 x1 x2 x3 q0 q1 q2).2.2.2.2 xa0 xa1 xa2 _)
      isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      isplitl [HT1]; · iexact HT1
      isplitl [H4]; · iexact H4
      isplitl [HS0]; · iexact HS0
      isplitl [HS1]; · iexact HS1
      isplitl [HS2]; · iexact HS2
      iintro ⟨H0, H1, H2, H3, HT0, HT1, ⟨%e4, H4⟩, HS0, HS1, HS2⟩
      have hv := val_A c i arg3 harg3 arg4 harg4 arg5 harg5 arg6 harg6 arg7 harg7 T0 T1 x0 x1 x2 x3 q0 q1 q2 e4
      iapply Hk
      isplitl [H0]; · iapply owns_of_rep; iexact H0
      isplitl [H1]; · iapply owns_of_rep; iexact H1
      isplitl [H2]; · iapply owns_of_rep; iexact H2
      isplitl [H3]; · iapply owns_of_rep; iexact H3
      isplitl [HT0]; · iexact HT0
      isplitl [HT1]; · iexact HT1
      isplitl [H4]
      · unfold owns; iexists _; isplitr
        swap; · iexact H4
        ipureintro; refine hv.2.2.2.trans ?_
        unfold outV; rw [if_pos q1]
      isplitl [HS0]; · rw [← (show _ = _ from hv.1)]; iexact HS0
      isplitl [HS1]; · rw [← (show _ = _ from hv.2.1)]; iexact HS1
      rw [← (show _ = _ from hv.2.2.1)]; iexact HS2
    · have q2 : k0_cond3 i (used T1) = 1#1 := hx.2 q1
      iapply ((kernelRun0_C c i arg3 harg3 arg4 harg4 arg5 harg5 arg6 harg6 arg7 harg7 T0 T1 x0 x1 x2 x3 q0 q1 q2).2.2.2.2 xa0 xa1 xa2 _)
      isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      isplitl [HT1]; · iexact HT1
      isplitl [H4]; · iexact H4
      isplitl [HS0]; · iexact HS0
      isplitl [HS1]; · iexact HS1
      isplitl [HS2]; · iexact HS2
      iintro ⟨H0, H1, H2, H3, HT0, HT1, ⟨%e4, H4⟩, HS0, HS1, HS2⟩
      have hv := val_C c i arg3 harg3 arg4 harg4 arg5 harg5 arg6 harg6 arg7 harg7 T0 T1 x0 x1 x2 x3 q0 q1 q2 e4
      iapply Hk
      isplitl [H0]; · iapply owns_of_rep; iexact H0
      isplitl [H1]; · iapply owns_of_rep; iexact H1
      isplitl [H2]; · iapply owns_of_rep; iexact H2
      isplitl [H3]; · iapply owns_of_rep; iexact H3
      isplitl [HT0]; · iexact HT0
      isplitl [HT1]; · iexact HT1
      isplitl [H4]
      · unfold owns; iexists _; isplitr
        swap; · iexact H4
        ipureintro; refine hv.2.2.2.trans ?_
        unfold outV; rw [if_neg q1]
      isplitl [HS0]; · rw [← (show _ = _ from hv.1)]; iexact HS0
      isplitl [HS1]; · rw [← (show _ = _ from hv.2.1)]; iexact HS1
      rw [← (show _ = _ from hv.2.2.1)]; iexact HS2
  · by_cases q1 : k0_cond2 i (used T1) = 1#1
    · have q2 : ¬ k0_cond3 i (used T1) = 1#1 := fun h => hx.1 h q1
      iapply ((kernelRun0_B c i arg3 harg3 arg4 harg4 arg5 harg5 arg6 harg6 arg7 harg7 T0 T1 x0 x1 x2 x3 xa0 xa1 xa2 q0 q1 q2).2.2.2.2 _)
      isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      isplitl [HT1]; · iexact HT1
      isplitl [H4]; · iexact H4
      isplitl [HS0]; · iexact HS0
      isplitl [HS1]; · iexact HS1
      isplitl [HS2]; · iexact HS2
      iintro ⟨H0, H1, H2, H3, HT0, HT1, ⟨%e4, H4⟩, HS0, HS1, HS2⟩
      have hv := val_B c i arg3 harg3 arg4 harg4 arg5 harg5 arg6 harg6 arg7 harg7 T0 T1 x0 x1 x2 x3 xa0 xa1 xa2 q0 q1 q2 e4
      iapply Hk
      isplitl [H0]; · iapply owns_of_rep; iexact H0
      isplitl [H1]; · iapply owns_of_rep; iexact H1
      isplitl [H2]; · iapply owns_of_rep; iexact H2
      isplitl [H3]; · iapply owns_of_rep; iexact H3
      isplitl [HT0]; · iexact HT0
      isplitl [HT1]; · iexact HT1
      isplitl [H4]
      · unfold owns; iexists _; isplitr
        swap; · iexact H4
        ipureintro; refine hv.2.2.2.trans ?_
        unfold outV; rw [if_pos q1]; rw [(hs q0).1, (hs q0).2.1, (hs q0).2.2]
      isplitl [HS0]; · rw [← (show _ = _ from (hv.1.trans (hs q0).1))]; iexact HS0
      isplitl [HS1]; · rw [← (show _ = _ from (hv.2.1.trans (hs q0).2.1))]; iexact HS1
      rw [← (show _ = _ from (hv.2.2.1.trans (hs q0).2.2))]; iexact HS2
    · have q2 : k0_cond3 i (used T1) = 1#1 := hx.2 q1
      iapply ((kernelRun0_D c i arg3 harg3 arg4 harg4 arg5 harg5 arg6 harg6 arg7 harg7 T0 T1 x0 x1 x2 x3 xa0 xa1 xa2 q0 q1 q2).2.2.2.2 _)
      isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      isplitl [HT1]; · iexact HT1
      isplitl [H4]; · iexact H4
      isplitl [HS0]; · iexact HS0
      isplitl [HS1]; · iexact HS1
      isplitl [HS2]; · iexact HS2
      iintro ⟨H0, H1, H2, H3, HT0, HT1, ⟨%e4, H4⟩, HS0, HS1, HS2⟩
      have hv := val_D c i arg3 harg3 arg4 harg4 arg5 harg5 arg6 harg6 arg7 harg7 T0 T1 x0 x1 x2 x3 xa0 xa1 xa2 q0 q1 q2 e4
      iapply Hk
      isplitl [H0]; · iapply owns_of_rep; iexact H0
      isplitl [H1]; · iapply owns_of_rep; iexact H1
      isplitl [H2]; · iapply owns_of_rep; iexact H2
      isplitl [H3]; · iapply owns_of_rep; iexact H3
      isplitl [HT0]; · iexact HT0
      isplitl [HT1]; · iexact HT1
      isplitl [H4]
      · unfold owns; iexists _; isplitr
        swap; · iexact H4
        ipureintro; refine hv.2.2.2.trans ?_
        unfold outV; rw [if_neg q1]
      isplitl [HS0]; · rw [← (show _ = _ from (hv.1.trans (hs q0).1))]; iexact HS0
      isplitl [HS1]; · rw [← (show _ = _ from (hv.2.1.trans (hs q0).2.1))]; iexact HS1
      rw [← (show _ = _ from (hv.2.2.1.trans (hs q0).2.2))]; iexact HS2

end Cert.Kernel2.Exp

end
-- ==== Proof.ExpDataKernel2.lean ====
module

public import proofs.«01_k».proof.Proof.ExpWordsKernel2
public import proofs.«01_k».proof.Proof.Gen.Kernel2.Launch

@[expose] public section

set_option maxRecDepth 16384

noncomputable section

namespace Cert.Kernel2.Exp

open Cert.Kernel2 Cert.Kernel2.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

local notation "𝕄" => MT nD τ sig Unit (Elt Bits) ℕ (UR sig nD τ) ℕ

/-- The tables the kernel may be run at: every tile's expert one of the 64, and at least one tile used. -/
structure Tabs where
  te : S96.Idx → Elt Bits .i32
  nu : S1.Idx → Elt Bits .i32
  te_lt : ∀ x, BitVec.toNat (te x) < 64
  nu_pos : ∀ x, 0 < BitVec.toInt (nu x)

variable (A : Tabs)

/-- The tables as the pipeline takes them. -/
def pfT : pre0.Contents (Elt Bits) := fun | ⟨0, _⟩ => A.te | ⟨1, _⟩ => A.nu | ⟨_ + 2, h⟩ => absurd h (by simp)

/-- How many tiles are used, as a natural. -/
def nuN : ℕ := BitVec.toNat (A.nu pt1)
/-- The expert of a tile, as a natural. -/
def teN (i : grid0.Coords) : ℕ := BitVec.toNat (A.te (pt i))

theorem nuN_pos : 1 ≤ nuN A := (pos_word _ (A.nu_pos pt1)).1
theorem teN_lt (i : grid0.Coords) : teN A i < 64 := A.te_lt _

theorem at0 (i : grid0.Coords) (h : ∀ a, (k0_off1 i) a + S1.size a ≤ S96.size a) (n : S1.numel = 1) :
    (pfT A).at 0 (Rect.unit (s := S96) (k0_off1 i) S1.size h) n = A.te (pt i) := here_eq i A.te
theorem at1 (n : S1.numel = 1) :
    (pfT A).at 1 (Rect.unit (s := S1) ![0] S1.size inb_S1_S1_0) n = A.nu pt1 := used_eq A.nu

/-- The row window's block. -/
theorem ix_0 (i : grid0.Coords) : cc0_transform_0 inb_S1_S1_0 numel1_S1 (pfT A) i = ![min (i 0).val (nuN A - 1), 0] := by
  have h : (Scalar.minsi (BitVec.ofNat 32 (i 0).val) (Scalar.subi ((pfT A).at 1 (Rect.unit (s := S1) ![0] S1.size inb_S1_S1_0) numel1_S1) 1#32)).toNat
      = min (i 0).val (nuN A - 1) :=
    (congrArg (fun v : BitVec 32 => (Scalar.minsi (BitVec.ofNat 32 (i 0).val) (Scalar.subi v 1#32)).toNat) (at1 A numel1_S1)).trans
      (min_word _ (i 0).isLt _ (A.nu_pos pt1))
  unfold cc0_transform_0
  exact congrArg (fun n : ℕ => (![n, 0] : Fin 2 → ℕ)) h
/-- The weights' windows' blocks. -/
theorem ix_1 (i : grid0.Coords) : cc0_transform_1 k0_off1_inb numel1_S1 (pfT A) i = ![teN A i, 0, 0] := by
  unfold cc0_transform_1
  exact congrArg (fun v : BitVec 32 => (![v.toNat, 0, 0] : Fin 3 → ℕ)) (at0 A i (k0_off1_inb i) numel1_S1)
theorem ix_2 (i : grid0.Coords) : cc0_transform_2 k0_off1_inb numel1_S1 (pfT A) i = ![teN A i, 0, 0] := by
  unfold cc0_transform_2
  exact congrArg (fun v : BitVec 32 => (![v.toNat, 0, 0] : Fin 3 → ℕ)) (at0 A i (k0_off1_inb i) numel1_S1)
theorem ix_3 (i : grid0.Coords) : cc0_transform_3 k0_off1_inb numel1_S1 (pfT A) i = ![teN A i, 0, 0] := by
  unfold cc0_transform_3
  exact congrArg (fun v : BitVec 32 => (![v.toNat, 0, 0] : Fin 3 → ℕ)) (at0 A i (k0_off1_inb i) numel1_S1)
theorem ix_4 : ∀ i : grid0.Coords, cc0_transform_4 i = ![(i 0).val, 0] := by decide +kernel

/-- The side condition of the blocks, at such tables. -/
theorem okT : ok0 (F := Bits) (pfT A) := by
  refine ⟨fun i => ⟨?_, .inl rfl⟩, fun i => ⟨?_, .inl rfl⟩, fun i => ⟨?_, .inl rfl⟩, fun i => ⟨?_, .inl rfl⟩⟩
  · have hi : (i 0).val < 96 := (i 0).isLt
    rw [ix_0]; intro a; fin_cases a
    · show (min (i 0).val (nuN A - 1) + 1) * 512 ≤ 49152; omega
    · show (0 + 1) * 1024 ≤ 1024; omega
  · have hi := teN_lt A i
    rw [ix_1]; intro a; fin_cases a
    · show (teN A i + 1) * 1 ≤ 64; omega
    · show (0 + 1) * 1024 ≤ 1024; omega
    · show (0 + 1) * 512 ≤ 512; omega
  · have hi := teN_lt A i
    rw [ix_2]; intro a; fin_cases a
    · show (teN A i + 1) * 1 ≤ 64; omega
    · show (0 + 1) * 1024 ≤ 1024; omega
    · show (0 + 1) * 512 ≤ 512; omega
  · have hi := teN_lt A i
    rw [ix_3]; intro a; fin_cases a
    · show (teN A i + 1) * 1 ≤ 64; omega
    · show (0 + 1) * 512 ≤ 512; omega
    · show (0 + 1) * 1024 ≤ 1024; omega

/-- The tables as admissible contents, and the pipeline there. -/
def admT : (pcfg0 (F := Bits)).Adm := ⟨pfT A, okT A⟩
abbrev cfgT : Pipeline.Cfg sig Λ₀ := cfg0 (F := Bits) (admT A)
abbrev pcsT : Fin 1 → Pipeline.Cfg sig Λ₀ := Pipeline.pin (pcfgs (F := Bits)) fun _ => admT A

abbrev crdT (t : Fin (cfgT A).N) : (cfgT A).grid.Coords := (cfgT A).grid.coords t

/-- The output window is idle nowhere: every tile is used or not. -/
theorem idle4 (i : grid0.Coords) : (cfgT A).idle (4 : Fin 5) i = false := by
  show (!(k0_cond2 i ((pfT A).atD 1 ![0]) == 1#1) && !(k0_cond3 i ((pfT A).atD 1 ![0]) == 1#1)) = false
  have h := cond_xor i ((pfT A).atD 1 ![0])
  by_cases q : k0_cond2 i ((pfT A).atD 1 ![0]) = 1#1
  · rw [q]; rfl
  · rw [h.2 q]; simp

abbrev ms_0 (t : Fin (cfgT A).N) : Memref sig .tc .vmem S512x1024 .f32 := spec0_0.stage ((cfgT A).slots t (0 : Fin 5))
abbrev hs_0 (t : Fin (cfgT A).N) : (ms_0 A t).IsWhole := hstage0_0 (((cfgT A).slots t (0 : Fin 5)).cast nbuf0_0)
abbrev ms_1 (t : Fin (cfgT A).N) : Memref sig .tc .vmem S1x1024x512 .f32 := spec0_1.stage ((cfgT A).slots t (1 : Fin 5))
abbrev hs_1 (t : Fin (cfgT A).N) : (ms_1 A t).IsWhole := hstage0_1 (((cfgT A).slots t (1 : Fin 5)).cast nbuf0_1)
abbrev ms_2 (t : Fin (cfgT A).N) : Memref sig .tc .vmem S1x1024x512 .f32 := spec0_2.stage ((cfgT A).slots t (2 : Fin 5))
abbrev hs_2 (t : Fin (cfgT A).N) : (ms_2 A t).IsWhole := hstage0_2 (((cfgT A).slots t (2 : Fin 5)).cast nbuf0_2)
abbrev ms_3 (t : Fin (cfgT A).N) : Memref sig .tc .vmem S1x512x1024 .f32 := spec0_3.stage ((cfgT A).slots t (3 : Fin 5))
abbrev hs_3 (t : Fin (cfgT A).N) : (ms_3 A t).IsWhole := hstage0_3 (((cfgT A).slots t (3 : Fin 5)).cast nbuf0_3)
abbrev ms_4 (t : Fin (cfgT A).N) : Memref sig .tc .vmem S512x1024 .f32 := spec0_4.stage ((cfgT A).slots t (4 : Fin 5))
abbrev hs_4 (t : Fin (cfgT A).N) : (ms_4 A t).IsWhole := hstage0_4 (((cfgT A).slots t (4 : Fin 5)).cast nbuf0_4)

variable (m : (ℓ : Loc nD τ sig) → Buf (Elt Bits) ℓ) (ρ : Dev nD → PrngReg)

/-- Window `w`'s block at point `t`, read off its array at launch. -/
def iblkT (c : Dev nD) (w : Fin (cfgT A).W) (t : Fin (cfgT A).N) : (((cfgT A).win w).xblock (crdT A t)).Idx → Elt Bits ((cfgT A).win w).elt :=
  (((cfgT A).win w).blk t).view.read (Elt Bits) (m (((cfgT A).win w).arr.view.loc (c : Thread nD τ)))

/-- The tile's rows: those of its own block, a tile past the used ones reading the last used block. -/
theorem iblk_0 (c : Dev nD) (t : Fin (cfgT A).N) (y : S512x1024.Idx) (z : S49152x1024.Idx)
    (h0 : (z 0).val = min (crdT A t 0).val (nuN A - 1) * 512 + (y 0).val) (h1 : (z 1).val = (y 1).val) :
    iblkT A m c (0 : Fin 5) t y = m ((c : Thread nD τ).loc main_arg0) z := by
  have e := ix_0 A (crdT A t)
  refine congrArg (m ((c : Thread nD τ).loc main_arg0)) (funext fun a => Fin.ext ?_)
  fin_cases a
  · show cc0_transform_0 inb_S1_S1_0 numel1_S1 (pfT A) (crdT A t) 0 * 512 + 1 * (y 0).val = (z 0).val
    rw [e, h0, one_mul]; rfl
  · show cc0_transform_0 inb_S1_S1_0 numel1_S1 (pfT A) (crdT A t) 1 * 1024 + 1 * (y 1).val = (z 1).val
    rw [e, h1, one_mul]; exact Nat.zero_add _
theorem iblk_1 (c : Dev nD) (t : Fin (cfgT A).N) (y : S1x1024x512.Idx) (z : S64x1024x512.Idx)
    (h0 : (z 0).val = teN A (crdT A t)) (h1 : (z 1).val = (y 1).val) (h2 : (z 2).val = (y 2).val) :
    iblkT A m c (1 : Fin 5) t y = m ((c : Thread nD τ).loc main_arg3) z := by
  have e := ix_1 A (crdT A t)
  have hy : (y 0).val = 0 := Nat.lt_one_iff.1 (y 0).isLt
  refine congrArg (m ((c : Thread nD τ).loc main_arg3)) (funext fun a => Fin.ext ?_)
  fin_cases a
  · show cc0_transform_1 k0_off1_inb numel1_S1 (pfT A) (crdT A t) 0 * 1 + 1 * (y 0).val = (z 0).val
    rw [e, h0, hy]; show teN A (crdT A t) * 1 + 1 * 0 = _; omega
  · show cc0_transform_1 k0_off1_inb numel1_S1 (pfT A) (crdT A t) 1 * 1024 + 1 * (y 1).val = (z 1).val
    rw [e, h1, one_mul]; exact Nat.zero_add _
  · show cc0_transform_1 k0_off1_inb numel1_S1 (pfT A) (crdT A t) 2 * 512 + 1 * (y 2).val = (z 2).val
    rw [e, h2, one_mul]; exact Nat.zero_add _
theorem iblk_2 (c : Dev nD) (t : Fin (cfgT A).N) (y : S1x1024x512.Idx) (z : S64x1024x512.Idx)
    (h0 : (z 0).val = teN A (crdT A t)) (h1 : (z 1).val = (y 1).val) (h2 : (z 2).val = (y 2).val) :
    iblkT A m c (2 : Fin 5) t y = m ((c : Thread nD τ).loc main_arg4) z := by
  have e := ix_2 A (crdT A t)
  have hy : (y 0).val = 0 := Nat.lt_one_iff.1 (y 0).isLt
  refine congrArg (m ((c : Thread nD τ).loc main_arg4)) (funext fun a => Fin.ext ?_)
  fin_cases a
  · show cc0_transform_2 k0_off1_inb numel1_S1 (pfT A) (crdT A t) 0 * 1 + 1 * (y 0).val = (z 0).val
    rw [e, h0, hy]; show teN A (crdT A t) * 1 + 1 * 0 = _; omega
  · show cc0_transform_2 k0_off1_inb numel1_S1 (pfT A) (crdT A t) 1 * 1024 + 1 * (y 1).val = (z 1).val
    rw [e, h1, one_mul]; exact Nat.zero_add _
  · show cc0_transform_2 k0_off1_inb numel1_S1 (pfT A) (crdT A t) 2 * 512 + 1 * (y 2).val = (z 2).val
    rw [e, h2, one_mul]; exact Nat.zero_add _
theorem iblk_3 (c : Dev nD) (t : Fin (cfgT A).N) (y : S1x512x1024.Idx) (z : S64x512x1024.Idx)
    (h0 : (z 0).val = teN A (crdT A t)) (h1 : (z 1).val = (y 1).val) (h2 : (z 2).val = (y 2).val) :
    iblkT A m c (3 : Fin 5) t y = m ((c : Thread nD τ).loc main_arg5) z := by
  have e := ix_3 A (crdT A t)
  have hy : (y 0).val = 0 := Nat.lt_one_iff.1 (y 0).isLt
  refine congrArg (m ((c : Thread nD τ).loc main_arg5)) (funext fun a => Fin.ext ?_)
  fin_cases a
  · show cc0_transform_3 k0_off1_inb numel1_S1 (pfT A) (crdT A t) 0 * 1 + 1 * (y 0).val = (z 0).val
    rw [e, h0, hy]; show teN A (crdT A t) * 1 + 1 * 0 = _; omega
  · show cc0_transform_3 k0_off1_inb numel1_S1 (pfT A) (crdT A t) 1 * 512 + 1 * (y 1).val = (z 1).val
    rw [e, h1, one_mul]; exact Nat.zero_add _
  · show cc0_transform_3 k0_off1_inb numel1_S1 (pfT A) (crdT A t) 2 * 1024 + 1 * (y 2).val = (z 2).val
    rw [e, h2, one_mul]; exact Nat.zero_add _

/-- Two tiles of one expert hold the same weights. -/
theorem same_1 (c : Dev nD) (t t' : Fin (cfgT A).N) (h : teN A (crdT A t) = teN A (crdT A t')) :
    (iblkT A m c (1 : Fin 5) t : S1x1024x512.Idx → Elt Bits .f32) = iblkT A m c (1 : Fin 5) t' := by
  funext y
  exact (iblk_1 A m c t y (fun a => match a with | ⟨0, _⟩ => ⟨teN A (crdT A t), teN_lt A _⟩ | ⟨1, _⟩ => y 1 | ⟨2, _⟩ => y 2) rfl rfl rfl).trans
    (iblk_1 A m c t' y _ h rfl rfl).symm
theorem same_2 (c : Dev nD) (t t' : Fin (cfgT A).N) (h : teN A (crdT A t) = teN A (crdT A t')) :
    (iblkT A m c (2 : Fin 5) t : S1x1024x512.Idx → Elt Bits .f32) = iblkT A m c (2 : Fin 5) t' := by
  funext y
  exact (iblk_2 A m c t y (fun a => match a with | ⟨0, _⟩ => ⟨teN A (crdT A t), teN_lt A _⟩ | ⟨1, _⟩ => y 1 | ⟨2, _⟩ => y 2) rfl rfl rfl).trans
    (iblk_2 A m c t' y _ h rfl rfl).symm
theorem same_3 (c : Dev nD) (t t' : Fin (cfgT A).N) (h : teN A (crdT A t) = teN A (crdT A t')) :
    (iblkT A m c (3 : Fin 5) t : S1x512x1024.Idx → Elt Bits .f32) = iblkT A m c (3 : Fin 5) t' := by
  funext y
  exact (iblk_3 A m c t y (fun a => match a with | ⟨0, _⟩ => ⟨teN A (crdT A t), teN_lt A _⟩ | ⟨1, _⟩ => y 1 | ⟨2, _⟩ => y 2) rfl rfl rfl).trans
    (iblk_3 A m c t' y _ h rfl rfl).symm

/-- A point's one coordinate is its number. -/
theorem crd_val (t : Fin grid0.N) : (grid0.coords t 0).val = t.val := by
  revert t; decide +kernel

end Cert.Kernel2.Exp

end
-- ==== Proof.ExpFrameKernel2.lean ====
module

public import proofs.«01_k».proof.Proof.ExpDataKernel2

@[expose] public section

set_option maxRecDepth 16384

noncomputable section

namespace Cert.Kernel2.Exp

open Cert.Kernel2 Cert.Kernel2.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

local notation "𝕄" => MT nD τ sig Unit (Elt Bits) ℕ (UR sig nD τ) ℕ

open Idealize.ShloMosaic.Rounds

variable (A : Tabs) (m : (ℓ : Loc nD τ sig) → Buf (Elt Bits) ℓ) (ρ : Dev nD → PrngReg)

/-- The launch's pipelines in the ghost state. -/
abbrev EP : Emb (UR sig nD τ) 𝕄 := emb₁

/-- The invariant before a point: past the first, the three scratch buffers hold the rounded weights of the point before's
    expert; the body's halves of the tables. -/
def PhiT (c : Dev nD) (t : Fin ((cfgT A).N + 1)) : sProp 𝕄 :=
  iprop((∃ a, ⌜∀ h : t.val ≠ 0, a = (show Buf (Elt Bits) ((c : Thread nD τ).loc cc0_scratch0) from k0_pay1 (iblkT A m c (1 : Fin 5) ⟨t.val - 1, by omega⟩))⌝ ∗ (scM0_0.view.loc (c : Thread nD τ) ↦{fullShare} a)) ∗ (∃ a, ⌜∀ h : t.val ≠ 0, a = (show Buf (Elt Bits) ((c : Thread nD τ).loc cc0_scratch1) from k0_pay2 (iblkT A m c (2 : Fin 5) ⟨t.val - 1, by omega⟩))⌝ ∗ (scM0_1.view.loc (c : Thread nD τ) ↦{fullShare} a)) ∗ (∃ a, ⌜∀ h : t.val ≠ 0, a = (show Buf (Elt Bits) ((c : Thread nD τ).loc cc0_scratch2) from k0_pay3 (iblkT A m c (3 : Fin 5) ⟨t.val - 1, by omega⟩))⌝ ∗ (scM0_2.view.loc (c : Thread nD τ) ↦{fullShare} a))
    ∗ (tbM0_0.view.loc (c : Thread nD τ) ↦{fullShare.right} A.te) ∗ (tbM0_1.view.loc (c : Thread nD τ) ↦{fullShare.right} A.nu))

/-- The proof data: after each point the inputs' buffers at their blocks, the output's at the tile's result. -/
def dats (_ : Fin 1) (c : Dev nD) : Dat τ (Elt Bits) Unit ℕ (UR sig nD τ) ℕ (cfgT A) c where
  A w := m (((cfgT A).win w).arr.view.loc (c : Thread nD τ))
  after w t := match w with
    | ⟨0, _⟩ => iblkT A m c (0 : Fin 5) t
    | ⟨1, _⟩ => iblkT A m c (1 : Fin 5) t
    | ⟨2, _⟩ => iblkT A m c (2 : Fin 5) t
    | ⟨3, _⟩ => iblkT A m c (3 : Fin 5) t
    | ⟨4, _⟩ => outV (crdT A t) A.nu (iblkT A m c (0 : Fin 5) t) (iblkT A m c (1 : Fin 5) t) (iblkT A m c (2 : Fin 5) t) (iblkT A m c (3 : Fin 5) t)
  Φ t := PhiT A m c t
  q _ := fullShare
  owed _ := 0

theorem after_0 (c : Dev nD) (t : Fin (cfgT A).N) : (dats A m 0 c).after (0 : Fin 5) t = iblkT A m c (0 : Fin 5) t := rfl
theorem after_1 (c : Dev nD) (t : Fin (cfgT A).N) : (dats A m 0 c).after (1 : Fin 5) t = iblkT A m c (1 : Fin 5) t := rfl
theorem after_2 (c : Dev nD) (t : Fin (cfgT A).N) : (dats A m 0 c).after (2 : Fin 5) t = iblkT A m c (2 : Fin 5) t := rfl
theorem after_3 (c : Dev nD) (t : Fin (cfgT A).N) : (dats A m 0 c).after (3 : Fin 5) t = iblkT A m c (3 : Fin 5) t := rfl
theorem after_4 (c : Dev nD) (t : Fin (cfgT A).N) : (dats A m 0 c).after (4 : Fin 5) t = outV (crdT A t) A.nu (iblkT A m c (0 : Fin 5) t) (iblkT A m c (1 : Fin 5) t) (iblkT A m c (2 : Fin 5) t) (iblkT A m c (3 : Fin 5) t) := rfl

theorem before_0 (c : Dev nD) (t : Fin (cfgT A).N) (d) : (dats A m 0 c).before (0 : Fin 5) t d = iblkT A m c (0 : Fin 5) t :=
  ((dats A m 0 c).before_in_eq_fetched (0 : Fin 5) rfl (fun _ => rfl) (fun _ _ _ => rfl) (fun t => by rw [after_0]; unfold Dat.blockOf iblkT; rfl) t d).trans
    (by unfold Dat.fetched Dat.blockOf iblkT; rfl)
theorem before_1 (c : Dev nD) (t : Fin (cfgT A).N) (d) : (dats A m 0 c).before (1 : Fin 5) t d = iblkT A m c (1 : Fin 5) t :=
  ((dats A m 0 c).before_in_eq_fetched (1 : Fin 5) rfl (fun _ => rfl) (fun _ _ _ => rfl) (fun t => by rw [after_1]; unfold Dat.blockOf iblkT; rfl) t d).trans
    (by unfold Dat.fetched Dat.blockOf iblkT; rfl)
theorem before_2 (c : Dev nD) (t : Fin (cfgT A).N) (d) : (dats A m 0 c).before (2 : Fin 5) t d = iblkT A m c (2 : Fin 5) t :=
  ((dats A m 0 c).before_in_eq_fetched (2 : Fin 5) rfl (fun _ => rfl) (fun _ _ _ => rfl) (fun t => by rw [after_2]; unfold Dat.blockOf iblkT; rfl) t d).trans
    (by unfold Dat.fetched Dat.blockOf iblkT; rfl)
theorem before_3 (c : Dev nD) (t : Fin (cfgT A).N) (d) : (dats A m 0 c).before (3 : Fin 5) t d = iblkT A m c (3 : Fin 5) t :=
  ((dats A m 0 c).before_in_eq_fetched (3 : Fin 5) rfl (fun _ => rfl) (fun _ _ _ => rfl) (fun t => by rw [after_3]; unfold Dat.blockOf iblkT; rfl) t d).trans
    (by unfold Dat.fetched Dat.blockOf iblkT; rfl)

/-- A tile that does not load has the weights of the tile before. -/
theorem prev_same (c : Dev nD) (t : Fin (cfgT A).N) (h : ¬ Loads (crdT A t) A.te) :
    ∃ h0 : t.val ≠ 0, teN A (crdT A ⟨t.val - 1, by omega⟩) = teN A (crdT A t) := by
  obtain ⟨h0, h1⟩ := not_loads _ _ h
  have e : (crdT A t 0).val = t.val := crd_val t
  refine ⟨fun h => h0 (e.trans h), congrArg BitVec.toNat ?_⟩
  refine Eq.trans (congrArg A.te (funext fun a => Fin.ext ?_)) h1.symm
  exact (crd_val ⟨t.val - 1, (by have := t.isLt; omega : t.val - 1 < (cfgT A).N)⟩).trans (congrArg (· - 1) e.symm)

/-- The body at point `t` on its staging memrefs. -/
abbrev bodyAt (t : Fin (cfgT A).N) : Prog (TpuEff nD τ sig (Elt Bits) Λ₀ .tc) PUnit :=
  cc0_moe_experts (crdT A t) (Memref.whole main_arg1) (Memref.isWhole_whole _) (Memref.whole main_arg2) (Memref.isWhole_whole _) (ms_0 A t) (hs_0 A t) (ms_1 A t) (hs_1 A t) (ms_2 A t) (hs_2 A t) (ms_3 A t) (hs_3 A t) (ms_4 A t) (hs_4 A t) (Memref.whole cc0_scratch0) (Memref.isWhole_whole _) (Memref.whole cc0_scratch1) (Memref.isWhole_whole _) (Memref.whole cc0_scratch2) (Memref.isWhole_whole _)

set_option maxHeartbeats 4000000 in
/-- The obligation of the body at every point. -/
theorem sound_body (c : Dev nD) (t : Fin (cfgT A).N) :
    iprop((dats A m 0 c).Φ t.castSucc ∗ (dats A m 0 c).owesAt () t.castSucc
        ∗ (∃ d, owns (c : Thread nD τ) (ms_0 A t) fullShare ((dats A m 0 c).before (0 : Fin 5) t d))
        ∗ (∃ d, owns (c : Thread nD τ) (ms_1 A t) fullShare ((dats A m 0 c).before (1 : Fin 5) t d))
        ∗ (∃ d, owns (c : Thread nD τ) (ms_2 A t) fullShare ((dats A m 0 c).before (2 : Fin 5) t d))
        ∗ (∃ d, owns (c : Thread nD τ) (ms_3 A t) fullShare ((dats A m 0 c).before (3 : Fin 5) t d))
        ∗ (∃ d, owns (c : Thread nD τ) (ms_4 A t) fullShare ((dats A m 0 c).before (4 : Fin 5) t d)))
      ⊢ wp frame (wpE (defs₀ (F := Bits)) Variants.none c none) Set.univ (bodyAt A t) fun _ =>
          iprop((dats A m 0 c).Φ t.succ ∗ (dats A m 0 c).owesAt () t.succ
            ∗ bigSep Finset.univ fun w : Fin (cfgT A).W =>
                match (cfgT A).idle w ((cfgT A).grid.coords t) with
                | true =>
                  match ((cfgT A).win w).flush t with
                  | false => iprop(∃ d, owns (c : Thread nD τ) (((cfgT A).win w).stage ((cfgT A).slots t w)) fullShare ((dats A m 0 c).before w t d))
                  | true => owns (c : Thread nD τ) (((cfgT A).win w).stage ((cfgT A).slots t w)) fullShare ((dats A m 0 c).after w t)
                | false => owns (c : Thread nD τ) (((cfgT A).win w).stage ((cfgT A).slots t w)) fullShare ((dats A m 0 c).after w t)) := by
  rw [bigSep_W0]
  rewrite [idle4]
  simp only [before_0, before_1, before_2, before_3, after_0, after_1, after_2, after_3, after_4]
  rewrite [show (dats A m 0 c).Φ t.succ = PhiT A m c t.succ from rfl, show (dats A m 0 c).Φ t.castSucc = PhiT A m c t.castSucc from rfl,
    show (dats A m 0 c).owesAt () t.succ = (dats A m 0 c).owesAt () t.castSucc from rfl]
  unfold PhiT
  iintro ⟨⟨⟨%a0, %ha0, HS0⟩, ⟨%a1, %ha1, HS1⟩, ⟨%a2, %ha2, HS2⟩, HT0, HT1⟩, Ho, ⟨%d0, H0⟩, ⟨%d1, H1⟩, ⟨%d2, H2⟩, ⟨%d3, H3⟩, ⟨%d4, H4⟩⟩
  iapply (exp_run c (crdT A t) (ms_0 A t) (hs_0 A t) (ms_1 A t) (hs_1 A t) (ms_2 A t) (hs_2 A t) (ms_3 A t) (hs_3 A t) (ms_4 A t) (hs_4 A t) A.te A.nu
    (iblkT A m c (0 : Fin 5) t) (iblkT A m c (1 : Fin 5) t) (iblkT A m c (2 : Fin 5) t) (iblkT A m c (3 : Fin 5) t) a0 a1 a2
    (fun hl => by
      obtain ⟨h0, hp⟩ := prev_same A c t hl
      exact ⟨(ha0 h0).trans (congrArg k0_pay1 (same_1 A m c _ _ hp)), (ha1 h0).trans (congrArg k0_pay2 (same_2 A m c _ _ hp)),
        (ha2 h0).trans (congrArg k0_pay3 (same_3 A m c _ _ hp))⟩)
    (cond_xor _ _) _)
  isplitl [H0]; · iexact H0
  isplitl [H1]; · iexact H1
  isplitl [H2]; · iexact H2
  isplitl [H3]; · iexact H3
  isplitl [HT0]; · iexact HT0
  isplitl [HT1]; · iexact HT1
  isplitl [H4]; · iexists _; iexact H4
  isplitl [HS0]; · iexact HS0
  isplitl [HS1]; · iexact HS1
  isplitl [HS2]; · iexact HS2
  iintro ⟨H0, H1, H2, H3, HT0, HT1, H4, HS0, HS1, HS2⟩
  isplitl [HS0 HS1 HS2 HT0 HT1]
  · isplitl [HS0]
    · iexists _; isplitr; swap
      · iexact HS0
      · ipureintro; intro _; rfl
    isplitl [HS1]
    · iexists _; isplitr; swap
      · iexact HS1
      · ipureintro; intro _; rfl
    isplitl [HS2]
    · iexists _; isplitr; swap
      · iexact HS2
      · ipureintro; intro _; rfl
    isplitl [HT0]; · iexact HT0
    iexact HT1
  isplitl [Ho]; · iexact Ho
  isplitl [H0]; · iexact H0
  isplitl [H1]; · iexact H1
  isplitl [H2]; · iexact H2
  isplitl [H3]; · iexact H3
  iexact H4

theorem body_obligation (c : Dev nD) : BodyObligation (dats A m 0 c) (defs₀ (F := Bits)) Variants.none () Set.univ := fun t => by
  rw [bigSep_W0]
  exact sound_body A m c t

/-- The launch's ghost state. -/
def u₀ : UR sig nD τ :=
  initOf (Pipeline.cells (pcsT A) ((launch0 (F := Bits)).cellOf_inj fun _ => admT A))
    (Pipeline.launchToks (pcsT A) ((launch0 (F := Bits)).cellOf_inj fun _ => admT A))

theorem share_eq (c : Dev nD) (w : Fin (cfgT A).W) : (dats A m 0 c).share w = fullShare := by unfold Dat.share; split <;> rfl

/-- The tables as the launch hands them over, one by one. -/
theorem tabs_held (c : Dev nD) (q : Fin 2 → PosShare TreeShare) (v : pre0.Contents (Elt Bits)) :
    (Pipeline.prefHeld (Ix := Unit) (Name := ℕ) (U := UR sig nD τ) (Lvl := ℕ) pre0 c q v : sProp 𝕄)
      = iprop((((c : Thread nD τ).loc main_arg1) ↦{q 0} v 0) ∗ (((c : Thread nD τ).loc main_arg2) ↦{q 1} v 1)) := by
  unfold Pipeline.prefHeld
  rw [show (Finset.univ : Finset (Fin 2)) = insert (0 : Fin 2) {(1 : Fin 2)} from by decide,
    bigSep_insert (by decide), bigSep_singleton]
  rfl

/-- The invariant at the first point, from the tables and the scratch buffers. -/
theorem phi_first (c : Dev nD) :
    iprop(BI.emp ∗ Pipeline.prefHeld pre0 c (fun _ => fullShare.right) (admT A).1 ∗ Pipeline.scopedRest spec0 c) ⊢ (dats A m 0 c).Φ 0 := by
  rw [tabs_held, scopedRest0_eq, show (dats A m 0 c).Φ 0 = PhiT A m c 0 from rfl]
  unfold PhiT
  iintro ⟨-, ⟨HT0, HT1⟩, ⟨%a0, HS0⟩, ⟨%a1, HS1⟩, ⟨%a2, HS2⟩⟩
  isplitl [HS0]
  · iexists a0; isplitr; swap
    · iexact HS0
    · ipureintro; intro h; exact absurd rfl h
  isplitl [HS1]
  · iexists a1; isplitr; swap
    · iexact HS1
    · ipureintro; intro h; exact absurd rfl h
  isplitl [HS2]
  · iexists a2; isplitr; swap
    · iexact HS2
    · ipureintro; intro h; exact absurd rfl h
  isplitl [HT0]; · iexact HT0
  iexact HT1

/-- At the last point it gives the scratch buffers back. -/
theorem phi_last (c : Dev nD) : (dats A m 0 c).Φ (Fin.last (cfgT A).N) ⊢ iprop(BI.emp ∗ Pipeline.scopedRest spec0 c) := by
  rw [scopedRest0_eq, show (dats A m 0 c).Φ (Fin.last (cfgT A).N) = PhiT A m c (Fin.last _) from rfl]
  unfold PhiT
  iintro ⟨⟨%a0, -, HS0⟩, ⟨%a1, -, HS1⟩, ⟨%a2, -, HS2⟩, -, -⟩
  isplitr; · iempintro
  isplitl [HS0]; · iexists a0; iexact HS0
  isplitl [HS1]; · iexists a1; iexact HS1
  iexists a2; iexact HS2

/-- The final state: every array at what the proof data computes, every table as it was. -/
def QC : PUnit × MemSt nD τ sig (Elt Bits) → Prop := fun r =>
  ∀ c : Dev nD, (∀ w : Fin (cfgT A).W, r.2.mem (((cfgT A).win w).arr.view.loc (c : Thread nD τ)) = (dats A m 0 c).arrAt w (cfgT A).N)
    ∧ ∀ j, r.2.mem ((c : Thread nD τ).loc (pre0.ref j)) = (admT A).1 j

/-- The launch memory's tables are `A`'s. -/
def Holds : Prop :=
  (∀ c : Dev nD, m ((c : Thread nD τ).loc main_arg1) = A.te) ∧ (∀ c : Dev nD, m ((c : Thread nD τ).loc main_arg2) = A.nu)

theorem tab_mem (hp : Holds A m) (c : Dev nD) (j : Fin 2) : m ((c : Thread nD τ).loc (pre0.ref j)) = (admT A).1 j := by
  fin_cases j
  · exact hp.1 c
  · exact hp.2 c

set_option backward.isDefEq.respectTransparency.types false in
set_option maxHeartbeats 4000000 in
/-- The launch, with every semaphore counter at zero at the end. -/
theorem run_quiet (hp : Holds A m) : θ_run (defs (F := Bits)) (onTc (τ := τ) (main (F := Bits))) (s₀ m ρ) (fun r => QC A m r ∧ r.2.sem = fun _ => 0) :=
  Pipeline.θ_run_region_noSem_pf_quiescent pcfgs (fun _ => admT A) (dats A m) () ((launch0 (F := Bits)).cellOf_inj fun _ => admT A) (0 : Fin 1)
    (launch0 (F := Bits)).win.to₀ (launch0 (F := Bits)).pre EP defs₀ Variants.none m ρ main
    (hbody := fun c => (body_obligation A m c).loose) (hne := (launch0 (F := Bits)).block_pos)
    (harr := (launch0 (F := Bits)).arr_whole) (hstage := (launch0 (F := Bits)).stage_whole) (howed := fun _ _ => rfl)
    (u₀ := u₀ A) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcsT A) (dats A m) 0 (launch0 (F := Bits)).win.arr_inj c (launch0 (F := Bits)).arr_whole
      (share_eq A m c) _ _ fun _ => rfl)
    (hpf := tab_mem A m hp)
    (X := fun _ => iprop(emp)) (Y := fun _ => iprop(emp)) (Z := fun _ => iprop(emp))
    (hX := fun c => by rw [unscopedRestP0_eq]; iintro -; isplitr <;> iempintro)
    (hin := phi_first A m)
    (hout := phi_last A m)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

theorem run_main (hp : Holds A m) : θ_run (defs (F := Bits)) (onTc (τ := τ) (main (F := Bits))) (s₀ m ρ) (QC A m) :=
  (θ_run defs _ _).mono (fun _ h => h.1) (run_quiet A m ρ hp)

/-- The frame: every fair run ends with the arguments unchanged and every counter at zero. -/
theorem frame (hp : Holds A m) :
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨((h.1 c).1 (0 : Fin 5)).trans ((dats A m 0 c).arrAt_in (0 : Fin 5) rfl _),
    ((h.1 c).2 0).trans (hp.1 c).symm, ((h.1 c).2 1).trans (hp.2 c).symm,
    ((h.1 c).1 (1 : Fin 5)).trans ((dats A m 0 c).arrAt_in (1 : Fin 5) rfl _),
    ((h.1 c).1 (2 : Fin 5)).trans ((dats A m 0 c).arrAt_in (2 : Fin 5) rfl _),
    ((h.1 c).1 (3 : Fin 5)).trans ((dats A m 0 c).arrAt_in (3 : Fin 5) rfl _)⟩, h.2⟩) (run_quiet A m ρ hp)

end Cert.Kernel2.Exp

end
-- ==== Proof.ExpRunKernel2Ideal.lean ====
module

public import proofs.«01_k».proof.Proof.Gen.Kernel2Ideal.Flash.Runs
public import Idealize.ShloMosaic.Lib.VecWindow

@[expose] public section

set_option maxRecDepth 16384

noncomputable section

namespace Cert.Kernel2Ideal.Exp

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

local notation "𝕄" => MT nD τ sig Unit (Elt Ideal) ℕ (UR sig nD τ) ℕ

/-- The word of the tile table the body reads for its own tile. -/
abbrev here (i : grid0.Coords) (T0 : S96.Idx → Elt Ideal .i32) : BitVec 32 :=
  View.readAt (Elt Ideal) (tbM0_0).view (Rect.unit (s := S96) (k0_off1 i) S1.size (k0_off1_inb i)).toLoadRect T0 (Shape.Idx.first (numel1_S1.symm ▸ Nat.one_pos))
/-- The word of the tile table the body reads for the tile before. -/
abbrev back (i : grid0.Coords) (T0 : S96.Idx → Elt Ideal .i32) : BitVec 32 :=
  View.readAt (Elt Ideal) (tbM0_0).view (Rect.unit (s := S96) (k0_off2 i) S1.size (k0_off2_inb i)).toLoadRect T0 (Shape.Idx.first (numel1_S1.symm ▸ Nat.one_pos))
/-- The number of used tiles, as the body reads it. -/
abbrev used (T1 : S1.Idx → Elt Ideal .i32) : BitVec 32 :=
  View.readAt (Elt Ideal) (tbM0_1).view (Rect.unit (s := S1) ![0] S1.size inb_S1_S1_0).toLoadRect T1 (Shape.Idx.first (numel1_S1.symm ▸ Nat.one_pos))
/-- The body rounds the expert's weights anew at this tile. -/
abbrev Loads (i : grid0.Coords) (T0 : S96.Idx → Elt Ideal .i32) : Prop :=
  (Scalar.cmpi .ne (Scalar.extui (Scalar.ori (Scalar.cmpi .eq (BitVec.ofNat 32 (i 0).val) 0#32) (Scalar.cmpi .ne (here i T0) (back i T0)))) 0#32) = 1#1

/-- What the body leaves in its output tile, from the tile's rows and its expert's weights. -/
def outV (i : grid0.Coords) (T1 : S1.Idx → Elt Ideal .i32) (x0 : S512x1024.Idx → Elt Ideal .f32) (x1 : S1x1024x512.Idx → Elt Ideal .f32)
    (x2 : S1x1024x512.Idx → Elt Ideal .f32) (x3 : S1x512x1024.Idx → Elt Ideal .f32) : S512x1024.Idx → Elt Ideal .f32 :=
  if k0_cond2 i (used T1) = 1#1 then k0_pay4 (F := Ideal) x0 (k0_pay1 x1) (k0_pay2 x2) (k0_pay3 x3) else k0_pay5 (F := Ideal)

/-- A whole scratch buffer stored over holds what was stored. -/
theorem whole_store {b : Ref sig .tc} (L : List (View.Piece (Elt Ideal) b.ty.shape b.ty.elt)) (f w : b.ty.Contents (Elt Ideal))
    (h : (View.whole b).read (Elt Ideal) ((View.whole b).writes (Elt Ideal) f L) = w) : (View.whole b).writes (Elt Ideal) f L = w := h

/-- What the run of a tile that loads its expert and is used leaves. -/
theorem val_A (c : Dev nD) (i : grid0.Coords) (arg3 : Memref sig .tc .vmem S512x1024 .f32) (harg3 : arg3.IsWhole) (arg4 : Memref sig .tc .vmem S1x1024x512 .f32) (harg4 : arg4.IsWhole) (arg5 : Memref sig .tc .vmem S1x1024x512 .f32) (harg5 : arg5.IsWhole) (arg6 : Memref sig .tc .vmem S1x512x1024 .f32) (harg6 : arg6.IsWhole) (arg7 : Memref sig .tc .vmem S512x1024 .f32) (harg7 : arg7.IsWhole) (T0 : (S96.Idx → Elt Ideal .i32)) (T1 : (S1.Idx → Elt Ideal .i32))
    (x0 : (S512x1024.Idx → Elt Ideal .f32)) (x1 : (S1x1024x512.Idx → Elt Ideal .f32)) (x2 : (S1x1024x512.Idx → Elt Ideal .f32)) (x3 : (S1x512x1024.Idx → Elt Ideal .f32))
    (hc0 : Loads i T0) (h2 : (k0_cond2 i (used T1) = 1#1)) (h3 : ¬(k0_cond3 i (used T1) = 1#1)) (f : arg7.view.ty.Contents (Elt Ideal)) :
    (kernelRun0_A c i arg3 harg3 arg4 harg4 arg5 harg5 arg6 harg6 arg7 harg7 T0 T1 x0 x1 x2 x3 hc0 h2 h3).2.1 = k0_pay1 x1
      ∧ (kernelRun0_A c i arg3 harg3 arg4 harg4 arg5 harg5 arg6 harg6 arg7 harg7 T0 T1 x0 x1 x2 x3 hc0 h2 h3).2.2.1 = k0_pay2 x2
      ∧ (kernelRun0_A c i arg3 harg3 arg4 harg4 arg5 harg5 arg6 harg6 arg7 harg7 T0 T1 x0 x1 x2 x3 hc0 h2 h3).2.2.2.1 = k0_pay3 x3
      ∧ arg7.view.read (Elt Ideal) (arg7.view.writes (Elt Ideal) f (kernelRun0_A c i arg3 harg3 arg4 harg4 arg5 harg5 arg6 harg6 arg7 harg7 T0 T1 x0 x1 x2 x3 hc0 h2 h3).1) = k0_pay4 (F := Ideal) x0 (k0_pay1 x1) (k0_pay2 x2) (k0_pay3 x3) := by
  unfold kernelRun0_A
  dsimp only
  delta kernelRun0_A.sl.HS0_1 kernelRun0_A.sl.HS1_1 kernelRun0_A.sl.HS2_1; dsimp only
  delta kernelRun0_A.sl.HO4_1; dsimp only
  refine ⟨whole_store _ _ _ ((View.read_writes_full (View.whole cc0_scratch0) _ _ _ []).trans (congrArg k0_pay1 (View.readAt_rep_full arg4.view x1 _))), ?_⟩
  refine ⟨whole_store _ _ _ ((View.read_writes_full (View.whole cc0_scratch1) _ _ _ []).trans (congrArg k0_pay2 (View.readAt_rep_full arg5.view x2 _))), ?_⟩
  refine ⟨whole_store _ _ _ ((View.read_writes_full (View.whole cc0_scratch2) _ _ _ []).trans (congrArg k0_pay3 (View.readAt_rep_full arg6.view x3 _))), ?_⟩
  refine (View.read_writes_full arg7.view f _ _ []).trans ?_
  delta kernelRun0_A.sl.v21 kernelRun0_A.sl.v23 kernelRun0_A.sl.v29; dsimp only
  delta kernelRun0_A.sl.HS0_1 kernelRun0_A.sl.HS1_1 kernelRun0_A.sl.HS2_1; dsimp only
  exact congr (congr (congr (congrArg _ (View.readAt_rep_full arg3.view x0 _))
    ((View.readCov_full (View.whole cc0_scratch0) _ _ _ []).trans (congrArg k0_pay1 (View.readAt_rep_full arg4.view x1 _))))
    ((View.readCov_full (View.whole cc0_scratch1) _ _ _ []).trans (congrArg k0_pay2 (View.readAt_rep_full arg5.view x2 _))))
    ((View.readCov_full (View.whole cc0_scratch2) _ _ _ []).trans (congrArg k0_pay3 (View.readAt_rep_full arg6.view x3 _)))

/-- What the run of a used tile of the expert before leaves. -/
theorem val_B (c : Dev nD) (i : grid0.Coords) (arg3 : Memref sig .tc .vmem S512x1024 .f32) (harg3 : arg3.IsWhole) (arg4 : Memref sig .tc .vmem S1x1024x512 .f32) (harg4 : arg4.IsWhole) (arg5 : Memref sig .tc .vmem S1x1024x512 .f32) (harg5 : arg5.IsWhole) (arg6 : Memref sig .tc .vmem S1x512x1024 .f32) (harg6 : arg6.IsWhole) (arg7 : Memref sig .tc .vmem S512x1024 .f32) (harg7 : arg7.IsWhole) (T0 : (S96.Idx → Elt Ideal .i32)) (T1 : (S1.Idx → Elt Ideal .i32))
    (x0 : (S512x1024.Idx → Elt Ideal .f32)) (x1 : (S1x1024x512.Idx → Elt Ideal .f32)) (x2 : (S1x1024x512.Idx → Elt Ideal .f32)) (x3 : (S1x512x1024.Idx → Elt Ideal .f32))
    (xa0 : Buf (Elt Ideal) ((c : Thread nD τ).loc cc0_scratch0)) (xa1 : Buf (Elt Ideal) ((c : Thread nD τ).loc cc0_scratch1)) (xa2 : Buf (Elt Ideal) ((c : Thread nD τ).loc cc0_scratch2))
    (hc0 : ¬Loads i T0) (h2 : (k0_cond2 i (used T1) = 1#1)) (h3 : ¬(k0_cond3 i (used T1) = 1#1)) (f : arg7.view.ty.Contents (Elt Ideal)) :
    (kernelRun0_B c i arg3 harg3 arg4 harg4 arg5 harg5 arg6 harg6 arg7 harg7 T0 T1 x0 x1 x2 x3 xa0 xa1 xa2 hc0 h2 h3).2.1 = xa0
      ∧ (kernelRun0_B c i arg3 harg3 arg4 harg4 arg5 harg5 arg6 harg6 arg7 harg7 T0 T1 x0 x1 x2 x3 xa0 xa1 xa2 hc0 h2 h3).2.2.1 = xa1
      ∧ (kernelRun0_B c i arg3 harg3 arg4 harg4 arg5 harg5 arg6 harg6 arg7 harg7 T0 T1 x0 x1 x2 x3 xa0 xa1 xa2 hc0 h2 h3).2.2.2.1 = xa2
      ∧ arg7.view.read (Elt Ideal) (arg7.view.writes (Elt Ideal) f (kernelRun0_B c i arg3 harg3 arg4 harg4 arg5 harg5 arg6 harg6 arg7 harg7 T0 T1 x0 x1 x2 x3 xa0 xa1 xa2 hc0 h2 h3).1) = k0_pay4 (F := Ideal) x0 xa0 xa1 xa2 := by
  unfold kernelRun0_B
  dsimp only
  delta kernelRun0_B.sl.HO4_1; dsimp only
  refine ⟨rfl, rfl, rfl, ?_⟩
  refine (View.read_writes_full arg7.view f _ _ []).trans ?_
  exact congr (congr (congr (congrArg _ (View.readAt_rep_full arg3.view x0 _)) (View.readAt_full (View.whole cc0_scratch0) xa0 _))
    (View.readAt_full (View.whole cc0_scratch1) xa1 _)) (View.readAt_full (View.whole cc0_scratch2) xa2 _)

/-- What the run of an unused tile that loads its expert leaves. -/
theorem val_C (c : Dev nD) (i : grid0.Coords) (arg3 : Memref sig .tc .vmem S512x1024 .f32) (harg3 : arg3.IsWhole) (arg4 : Memref sig .tc .vmem S1x1024x512 .f32) (harg4 : arg4.IsWhole) (arg5 : Memref sig .tc .vmem S1x1024x512 .f32) (harg5 : arg5.IsWhole) (arg6 : Memref sig .tc .vmem S1x512x1024 .f32) (harg6 : arg6.IsWhole) (arg7 : Memref sig .tc .vmem S512x1024 .f32) (harg7 : arg7.IsWhole) (T0 : (S96.Idx → Elt Ideal .i32)) (T1 : (S1.Idx → Elt Ideal .i32))
    (x0 : (S512x1024.Idx → Elt Ideal .f32)) (x1 : (S1x1024x512.Idx → Elt Ideal .f32)) (x2 : (S1x1024x512.Idx → Elt Ideal .f32)) (x3 : (S1x512x1024.Idx → Elt Ideal .f32))
    (hc0 : Loads i T0) (h2 : ¬(k0_cond2 i (used T1) = 1#1)) (h3 : (k0_cond3 i (used T1) = 1#1)) (f : arg7.view.ty.Contents (Elt Ideal)) :
    (kernelRun0_C c i arg3 harg3 arg4 harg4 arg5 harg5 arg6 harg6 arg7 harg7 T0 T1 x0 x1 x2 x3 hc0 h2 h3).2.1 = k0_pay1 x1
      ∧ (kernelRun0_C c i arg3 harg3 arg4 harg4 arg5 harg5 arg6 harg6 arg7 harg7 T0 T1 x0 x1 x2 x3 hc0 h2 h3).2.2.1 = k0_pay2 x2
      ∧ (kernelRun0_C c i arg3 harg3 arg4 harg4 arg5 harg5 arg6 harg6 arg7 harg7 T0 T1 x0 x1 x2 x3 hc0 h2 h3).2.2.2.1 = k0_pay3 x3
      ∧ arg7.view.read (Elt Ideal) (arg7.view.writes (Elt Ideal) f (kernelRun0_C c i arg3 harg3 arg4 harg4 arg5 harg5 arg6 harg6 arg7 harg7 T0 T1 x0 x1 x2 x3 hc0 h2 h3).1) = k0_pay5 (F := Ideal) := by
  unfold kernelRun0_C
  dsimp only
  delta kernelRun0_C.sl.HS0_1 kernelRun0_C.sl.HS1_1 kernelRun0_C.sl.HS2_1; dsimp only
  delta kernelRun0_C.sl.HO4_1; dsimp only
  refine ⟨whole_store _ _ _ ((View.read_writes_full (View.whole cc0_scratch0) _ _ _ []).trans (congrArg k0_pay1 (View.readAt_rep_full arg4.view x1 _))), ?_⟩
  refine ⟨whole_store _ _ _ ((View.read_writes_full (View.whole cc0_scratch1) _ _ _ []).trans (congrArg k0_pay2 (View.readAt_rep_full arg5.view x2 _))), ?_⟩
  refine ⟨whole_store _ _ _ ((View.read_writes_full (View.whole cc0_scratch2) _ _ _ []).trans (congrArg k0_pay3 (View.readAt_rep_full arg6.view x3 _))), ?_⟩
  exact View.read_writes_full arg7.view f _ _ []

/-- What the run of an unused tile of the expert before leaves. -/
theorem val_D (c : Dev nD) (i : grid0.Coords) (arg3 : Memref sig .tc .vmem S512x1024 .f32) (harg3 : arg3.IsWhole) (arg4 : Memref sig .tc .vmem S1x1024x512 .f32) (harg4 : arg4.IsWhole) (arg5 : Memref sig .tc .vmem S1x1024x512 .f32) (harg5 : arg5.IsWhole) (arg6 : Memref sig .tc .vmem S1x512x1024 .f32) (harg6 : arg6.IsWhole) (arg7 : Memref sig .tc .vmem S512x1024 .f32) (harg7 : arg7.IsWhole) (T0 : (S96.Idx → Elt Ideal .i32)) (T1 : (S1.Idx → Elt Ideal .i32))
    (x0 : (S512x1024.Idx → Elt Ideal .f32)) (x1 : (S1x1024x512.Idx → Elt Ideal .f32)) (x2 : (S1x1024x512.Idx → Elt Ideal .f32)) (x3 : (S1x512x1024.Idx → Elt Ideal .f32))
    (xa0 : Buf (Elt Ideal) ((c : Thread nD τ).loc cc0_scratch0)) (xa1 : Buf (Elt Ideal) ((c : Thread nD τ).loc cc0_scratch1)) (xa2 : Buf (Elt Ideal) ((c : Thread nD τ).loc cc0_scratch2))
    (hc0 : ¬Loads i T0) (h2 : ¬(k0_cond2 i (used T1) = 1#1)) (h3 : (k0_cond3 i (used T1) = 1#1)) (f : arg7.view.ty.Contents (Elt Ideal)) :
    (kernelRun0_D c i arg3 harg3 arg4 harg4 arg5 harg5 arg6 harg6 arg7 harg7 T0 T1 x0 x1 x2 x3 xa0 xa1 xa2 hc0 h2 h3).2.1 = xa0
      ∧ (kernelRun0_D c i arg3 harg3 arg4 harg4 arg5 harg5 arg6 harg6 arg7 harg7 T0 T1 x0 x1 x2 x3 xa0 xa1 xa2 hc0 h2 h3).2.2.1 = xa1
      ∧ (kernelRun0_D c i arg3 harg3 arg4 harg4 arg5 harg5 arg6 harg6 arg7 harg7 T0 T1 x0 x1 x2 x3 xa0 xa1 xa2 hc0 h2 h3).2.2.2.1 = xa2
      ∧ arg7.view.read (Elt Ideal) (arg7.view.writes (Elt Ideal) f (kernelRun0_D c i arg3 harg3 arg4 harg4 arg5 harg5 arg6 harg6 arg7 harg7 T0 T1 x0 x1 x2 x3 xa0 xa1 xa2 hc0 h2 h3).1) = k0_pay5 (F := Ideal) := by
  unfold kernelRun0_D
  dsimp only
  delta kernelRun0_D.sl.HO4_1; dsimp only
  refine ⟨rfl, rfl, rfl, ?_⟩
  exact View.read_writes_full arg7.view f _ _ []

set_option maxHeartbeats 1600000 in
/-- The body's run, its four control paths in one: the rounded weights and the output tile as the blocks say, whichever
    path is taken, once a tile that does not load finds its own expert's weights. -/
theorem exp_run (c : Dev nD) (i : grid0.Coords) (arg3 : Memref sig .tc .vmem S512x1024 .f32) (harg3 : arg3.IsWhole) (arg4 : Memref sig .tc .vmem S1x1024x512 .f32) (harg4 : arg4.IsWhole) (arg5 : Memref sig .tc .vmem S1x1024x512 .f32) (harg5 : arg5.IsWhole) (arg6 : Memref sig .tc .vmem S1x512x1024 .f32) (harg6 : arg6.IsWhole) (arg7 : Memref sig .tc .vmem S512x1024 .f32) (harg7 : arg7.IsWhole) (T0 : (S96.Idx → Elt Ideal .i32)) (T1 : (S1.Idx → Elt Ideal .i32))
    (x0 : (S512x1024.Idx → Elt Ideal .f32)) (x1 : (S1x1024x512.Idx → Elt Ideal .f32)) (x2 : (S1x1024x512.Idx → Elt Ideal .f32)) (x3 : (S1x512x1024.Idx → Elt Ideal .f32))
    (xa0 : Buf (Elt Ideal) ((c : Thread nD τ).loc cc0_scratch0)) (xa1 : Buf (Elt Ideal) ((c : Thread nD τ).loc cc0_scratch1)) (xa2 : Buf (Elt Ideal) ((c : Thread nD τ).loc cc0_scratch2))
    (hs : ¬ Loads i T0 → xa0 = k0_pay1 x1 ∧ xa1 = k0_pay2 x2 ∧ xa2 = k0_pay3 x3)
    (hx : k0_cond3 i (used T1) = 1#1 ↔ ¬ k0_cond2 i (used T1) = 1#1) (K : PUnit → sProp 𝕄) :
    iprop((owns (c : Thread nD τ) arg3 fullShare x0)
      ∗ (owns (c : Thread nD τ) arg4 fullShare x1)
      ∗ (owns (c : Thread nD τ) arg5 fullShare x2)
      ∗ (owns (c : Thread nD τ) arg6 fullShare x3)
      ∗ (tbM0_0.view.loc (c : Thread nD τ) ↦{fullShare.right} T0)
      ∗ (tbM0_1.view.loc (c : Thread nD τ) ↦{fullShare.right} T1)
      ∗ (∃ d, owns (c : Thread nD τ) arg7 fullShare d)
      ∗ (scM0_0.view.loc (c : Thread nD τ) ↦{fullShare} xa0)
      ∗ (scM0_1.view.loc (c : Thread nD τ) ↦{fullShare} xa1)
      ∗ (scM0_2.view.loc (c : Thread nD τ) ↦{fullShare} xa2)
      ∗ (iprop((owns (c : Thread nD τ) arg3 fullShare x0)
          ∗ (owns (c : Thread nD τ) arg4 fullShare x1)
          ∗ (owns (c : Thread nD τ) arg5 fullShare x2)
          ∗ (owns (c : Thread nD τ) arg6 fullShare x3)
          ∗ (tbM0_0.view.loc (c : Thread nD τ) ↦{fullShare.right} T0)
          ∗ (tbM0_1.view.loc (c : Thread nD τ) ↦{fullShare.right} T1)
          ∗ (owns (c : Thread nD τ) arg7 fullShare (outV i T1 x0 x1 x2 x3))
          ∗ (scM0_0.view.loc (c : Thread nD τ) ↦{fullShare} (show Buf (Elt Ideal) ((c : Thread nD τ).loc cc0_scratch0) from k0_pay1 x1))
          ∗ (scM0_1.view.loc (c : Thread nD τ) ↦{fullShare} (show Buf (Elt Ideal) ((c : Thread nD τ).loc cc0_scratch1) from k0_pay2 x2))
          ∗ (scM0_2.view.loc (c : Thread nD τ) ↦{fullShare} (show Buf (Elt Ideal) ((c : Thread nD τ).loc cc0_scratch2) from k0_pay3 x3))) -∗ K ⟨⟩))
      ⊢ wp frame (wpE (defs₀ (F := Ideal)) Variants.none c none) Set.univ (cc0_moe_experts i tbM0_0 (Memref.isWhole_whole _) tbM0_1 (Memref.isWhole_whole _) arg3 harg3 arg4 harg4 arg5 harg5 arg6 harg6 arg7 harg7 scM0_0 (Memref.isWhole_whole _) scM0_1 (Memref.isWhole_whole _) scM0_2 (Memref.isWhole_whole _)) K := by
  iintro ⟨H0, H1, H2, H3, HT0, HT1, H4, HS0, HS1, HS2, Hk⟩
  by_cases q0 : Loads i T0
  · by_cases q1 : k0_cond2 i (used T1) = 1#1
    · have q2 : ¬ k0_cond3 i (used T1) = 1#1 := fun h => hx.1 h q1
      iapply ((kernelRun0_A c i arg3 harg3 arg4 harg4 arg5 harg5 arg6 harg6 arg7 harg7 T0 T1 x0 x1 x2 x3 q0 q1 q2).2.2.2.2 xa0 xa1 xa2 _)
      isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      isplitl [HT1]; · iexact HT1
      isplitl [H4]; · iexact H4
      isplitl [HS0]; · iexact HS0
      isplitl [HS1]; · iexact HS1
      isplitl [HS2]; · iexact HS2
      iintro ⟨H0, H1, H2, H3, HT0, HT1, ⟨%e4, H4⟩, HS0, HS1, HS2⟩
      have hv := val_A c i arg3 harg3 arg4 harg4 arg5 harg5 arg6 harg6 arg7 harg7 T0 T1 x0 x1 x2 x3 q0 q1 q2 e4
      iapply Hk
      isplitl [H0]; · iapply owns_of_rep; iexact H0
      isplitl [H1]; · iapply owns_of_rep; iexact H1
      isplitl [H2]; · iapply owns_of_rep; iexact H2
      isplitl [H3]; · iapply owns_of_rep; iexact H3
      isplitl [HT0]; · iexact HT0
      isplitl [HT1]; · iexact HT1
      isplitl [H4]
      · unfold owns; iexists _; isplitr
        swap; · iexact H4
        ipureintro; refine hv.2.2.2.trans ?_
        unfold outV; rw [if_pos q1]
      isplitl [HS0]; · rw [← (show _ = _ from hv.1)]; iexact HS0
      isplitl [HS1]; · rw [← (show _ = _ from hv.2.1)]; iexact HS1
      rw [← (show _ = _ from hv.2.2.1)]; iexact HS2
    · have q2 : k0_cond3 i (used T1) = 1#1 := hx.2 q1
      iapply ((kernelRun0_C c i arg3 harg3 arg4 harg4 arg5 harg5 arg6 harg6 arg7 harg7 T0 T1 x0 x1 x2 x3 q0 q1 q2).2.2.2.2 xa0 xa1 xa2 _)
      isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      isplitl [HT1]; · iexact HT1
      isplitl [H4]; · iexact H4
      isplitl [HS0]; · iexact HS0
      isplitl [HS1]; · iexact HS1
      isplitl [HS2]; · iexact HS2
      iintro ⟨H0, H1, H2, H3, HT0, HT1, ⟨%e4, H4⟩, HS0, HS1, HS2⟩
      have hv := val_C c i arg3 harg3 arg4 harg4 arg5 harg5 arg6 harg6 arg7 harg7 T0 T1 x0 x1 x2 x3 q0 q1 q2 e4
      iapply Hk
      isplitl [H0]; · iapply owns_of_rep; iexact H0
      isplitl [H1]; · iapply owns_of_rep; iexact H1
      isplitl [H2]; · iapply owns_of_rep; iexact H2
      isplitl [H3]; · iapply owns_of_rep; iexact H3
      isplitl [HT0]; · iexact HT0
      isplitl [HT1]; · iexact HT1
      isplitl [H4]
      · unfold owns; iexists _; isplitr
        swap; · iexact H4
        ipureintro; refine hv.2.2.2.trans ?_
        unfold outV; rw [if_neg q1]
      isplitl [HS0]; · rw [← (show _ = _ from hv.1)]; iexact HS0
      isplitl [HS1]; · rw [← (show _ = _ from hv.2.1)]; iexact HS1
      rw [← (show _ = _ from hv.2.2.1)]; iexact HS2
  · by_cases q1 : k0_cond2 i (used T1) = 1#1
    · have q2 : ¬ k0_cond3 i (used T1) = 1#1 := fun h => hx.1 h q1
      iapply ((kernelRun0_B c i arg3 harg3 arg4 harg4 arg5 harg5 arg6 harg6 arg7 harg7 T0 T1 x0 x1 x2 x3 xa0 xa1 xa2 q0 q1 q2).2.2.2.2 _)
      isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      isplitl [HT1]; · iexact HT1
      isplitl [H4]; · iexact H4
      isplitl [HS0]; · iexact HS0
      isplitl [HS1]; · iexact HS1
      isplitl [HS2]; · iexact HS2
      iintro ⟨H0, H1, H2, H3, HT0, HT1, ⟨%e4, H4⟩, HS0, HS1, HS2⟩
      have hv := val_B c i arg3 harg3 arg4 harg4 arg5 harg5 arg6 harg6 arg7 harg7 T0 T1 x0 x1 x2 x3 xa0 xa1 xa2 q0 q1 q2 e4
      iapply Hk
      isplitl [H0]; · iapply owns_of_rep; iexact H0
      isplitl [H1]; · iapply owns_of_rep; iexact H1
      isplitl [H2]; · iapply owns_of_rep; iexact H2
      isplitl [H3]; · iapply owns_of_rep; iexact H3
      isplitl [HT0]; · iexact HT0
      isplitl [HT1]; · iexact HT1
      isplitl [H4]
      · unfold owns; iexists _; isplitr
        swap; · iexact H4
        ipureintro; refine hv.2.2.2.trans ?_
        unfold outV; rw [if_pos q1]; rw [(hs q0).1, (hs q0).2.1, (hs q0).2.2]
      isplitl [HS0]; · rw [← (show _ = _ from (hv.1.trans (hs q0).1))]; iexact HS0
      isplitl [HS1]; · rw [← (show _ = _ from (hv.2.1.trans (hs q0).2.1))]; iexact HS1
      rw [← (show _ = _ from (hv.2.2.1.trans (hs q0).2.2))]; iexact HS2
    · have q2 : k0_cond3 i (used T1) = 1#1 := hx.2 q1
      iapply ((kernelRun0_D c i arg3 harg3 arg4 harg4 arg5 harg5 arg6 harg6 arg7 harg7 T0 T1 x0 x1 x2 x3 xa0 xa1 xa2 q0 q1 q2).2.2.2.2 _)
      isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      isplitl [HT1]; · iexact HT1
      isplitl [H4]; · iexact H4
      isplitl [HS0]; · iexact HS0
      isplitl [HS1]; · iexact HS1
      isplitl [HS2]; · iexact HS2
      iintro ⟨H0, H1, H2, H3, HT0, HT1, ⟨%e4, H4⟩, HS0, HS1, HS2⟩
      have hv := val_D c i arg3 harg3 arg4 harg4 arg5 harg5 arg6 harg6 arg7 harg7 T0 T1 x0 x1 x2 x3 xa0 xa1 xa2 q0 q1 q2 e4
      iapply Hk
      isplitl [H0]; · iapply owns_of_rep; iexact H0
      isplitl [H1]; · iapply owns_of_rep; iexact H1
      isplitl [H2]; · iapply owns_of_rep; iexact H2
      isplitl [H3]; · iapply owns_of_rep; iexact H3
      isplitl [HT0]; · iexact HT0
      isplitl [HT1]; · iexact HT1
      isplitl [H4]
      · unfold owns; iexists _; isplitr
        swap; · iexact H4
        ipureintro; refine hv.2.2.2.trans ?_
        unfold outV; rw [if_neg q1]
      isplitl [HS0]; · rw [← (show _ = _ from (hv.1.trans (hs q0).1))]; iexact HS0
      isplitl [HS1]; · rw [← (show _ = _ from (hv.2.1.trans (hs q0).2.1))]; iexact HS1
      rw [← (show _ = _ from (hv.2.2.1.trans (hs q0).2.2))]; iexact HS2

end Cert.Kernel2Ideal.Exp

end
-- ==== Proof.ExpWordsKernel2Ideal.lean ====
module

public import proofs.«01_k».proof.Proof.ExpRunKernel2Ideal

@[expose] public section

set_option maxRecDepth 16384

noncomputable section

namespace Cert.Kernel2Ideal.Exp

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- The place of grid point `i` in the tile table. -/
def pt (i : grid0.Coords) : S96.Idx := fun a => ⟨(i 0).val, by fin_cases a; exact (i 0).isLt⟩
/-- The place of the point before it, or of itself when it is the first. -/
def ptB (i : grid0.Coords) : S96.Idx := fun a => ⟨(i 0).val - 1, by fin_cases a; exact lt_of_le_of_lt (Nat.sub_le _ _) (i 0).isLt⟩
/-- The place of the number of used tiles. -/
def pt1 : S1.Idx := fun a => ⟨0, by fin_cases a; exact Nat.one_pos⟩

theorem off1 : ∀ i : grid0.Coords, k0_off1 i = ![(i 0).val] := by decide +kernel
theorem off2 : ∀ i : grid0.Coords, k0_off2 i = ![(i 0).val - 1] := by decide +kernel

/-- The one index of a one-element rectangle. -/
theorem first_one (h : 0 < S1.numel) (a : Fin 1) : ((Shape.Idx.first (s := S1) h) a).val = 0 := by
  have := ((Shape.Idx.first (s := S1) h) a).isLt
  revert this; fin_cases a; intro h; exact Nat.lt_one_iff.1 h

theorem here_eq (i : grid0.Coords) (T0 : S96.Idx → Elt Ideal .i32) : here i T0 = T0 (pt i) :=
  congrArg T0 (funext fun a => Fin.ext (by
    show k0_off1 i a + 1 * ((Shape.Idx.first (s := S1) _) a).val = (i 0).val
    rw [first_one, off1]; fin_cases a; rfl))

theorem back_eq (i : grid0.Coords) (T0 : S96.Idx → Elt Ideal .i32) : back i T0 = T0 (ptB i) :=
  congrArg T0 (funext fun a => Fin.ext (by
    show k0_off2 i a + 1 * ((Shape.Idx.first (s := S1) _) a).val = (i 0).val - 1
    rw [first_one, off2]; fin_cases a; rfl))

theorem used_eq (T1 : S1.Idx → Elt Ideal .i32) : used T1 = T1 pt1 :=
  congrArg T1 (funext fun a => Fin.ext (by
    show (![0] : Fin 1 → Nat) a + 1 * ((Shape.Idx.first (s := S1) _) a).val = 0
    rw [first_one]; fin_cases a; rfl))

/-- The condition of the load, in words. -/
theorem loads_word (a b c : BitVec 32) (h : ¬ (Scalar.cmpi .ne (Scalar.extui (Scalar.ori (Scalar.cmpi .eq a 0#32) (Scalar.cmpi .ne b c)) : BitVec 32) 0#32) = 1#1) :
    a ≠ 0#32 ∧ b = c := by
  have h' : ¬ (Scalar.cmpi .ne (Scalar.extui (Scalar.ori (BitVec.ofBool (a == 0#32)) (BitVec.ofBool (b != c))) : BitVec 32) 0#32) = 1#1 := h
  have hb : ∀ p q : Bool, ¬ (Scalar.cmpi .ne (Scalar.extui (Scalar.ori (BitVec.ofBool p) (BitVec.ofBool q)) : BitVec 32) 0#32) = 1#1 → p = false ∧ q = false := by
    decide
  obtain ⟨h1, h2⟩ := hb _ _ h'
  exact ⟨by simpa using h1, by simpa using h2⟩

/-- A tile that does not load is not the first and has the expert of the tile before. -/
theorem not_loads (i : grid0.Coords) (T0 : S96.Idx → Elt Ideal .i32) (h : ¬ Loads i T0) : (i 0).val ≠ 0 ∧ T0 (pt i) = T0 (ptB i) := by
  have h' := loads_word _ _ _ h
  refine ⟨fun h0 => h'.1 (by rw [h0]), ?_⟩
  exact (here_eq i T0).symm.trans (h'.2.trans (back_eq i T0))

theorem bit_word (b : Bool) : (Scalar.cmpi .ne (Scalar.extui (BitVec.ofBool b) : BitVec 32) 0#32 = 1#1) ↔ b = true := by
  cases b <;> decide

theorem cond2_iff (i : grid0.Coords) (v : BitVec 32) : k0_cond2 i v = 1#1 ↔ (BitVec.ofNat 32 (i 0).val).slt v = true :=
  bit_word _
theorem cond3_iff (i : grid0.Coords) (v : BitVec 32) : k0_cond3 i v = 1#1 ↔ ¬ (BitVec.ofNat 32 (i 0).val).slt v = true := by
  refine Iff.trans (b := (v.sle (BitVec.ofNat 32 (i 0).val)) = true) (bit_word _) ?_
  simp [BitVec.sle, BitVec.slt]

theorem cond_xor (i : grid0.Coords) (v : BitVec 32) : k0_cond3 i v = 1#1 ↔ ¬ k0_cond2 i v = 1#1 := by
  rw [cond2_iff, cond3_iff]

/-- Positive words, as naturals. -/
theorem pos_word (v : BitVec 32) (h : 0 < v.toInt) : 1 ≤ v.toNat ∧ v.toNat < 2 ^ 31 ∧ v.toInt = v.toNat := by
  rw [BitVec.toInt_eq_toNat_cond] at h ⊢
  have := v.isLt
  split at h <;> rename_i h' <;> constructor <;> omega

theorem toInt_small (j : ℕ) (h : j < 96) : (BitVec.ofNat 32 j).toInt = j := by
  rw [BitVec.toInt_eq_toNat_cond, BitVec.toNat_ofNat, Nat.mod_eq_of_lt (by omega), if_pos (by omega)]

theorem cond2_lt (i : grid0.Coords) (v : BitVec 32) (h : 0 < v.toInt) : k0_cond2 i v = 1#1 ↔ (i 0).val < v.toNat := by
  have hi : (i 0).val < 96 := (i 0).isLt
  rw [cond2_iff, BitVec.slt, decide_eq_true_iff, toInt_small _ hi, (pos_word v h).2.2]; omega

/-- The row block of a tile: its own, the last used one past the end. -/
theorem min_word (j : ℕ) (hj : j < 96) (v : BitVec 32) (h : 0 < v.toInt) :
    (Scalar.minsi (BitVec.ofNat 32 j) (Scalar.subi v 1#32)).toNat = min j (v.toNat - 1) := by
  obtain ⟨h1, h2, h3⟩ := pos_word v h
  have hs : (Scalar.subi v 1#32).toNat = v.toNat - 1 := by
    show (v - 1#32).toNat = _
    rw [BitVec.toNat_sub]; simp; omega
  have hi : (Scalar.subi v 1#32).toInt = ((v.toNat - 1 : ℕ) : ℤ) := by
    rw [BitVec.toInt_eq_toNat_cond, hs, if_pos (by omega)]
  have hj' : (BitVec.ofNat 32 j).toNat = j := by rw [BitVec.toNat_ofNat, Nat.mod_eq_of_lt (by omega)]
  show (if (BitVec.ofNat 32 j).slt (Scalar.subi v 1#32) then _ else _ : BitVec 32).toNat = _
  rw [BitVec.slt, toInt_small j hj, hi]
  split <;> rename_i hc <;> simp only [decide_eq_true_iff] at hc
  · rw [hj']; omega
  · rw [hs]; omega

end Cert.Kernel2Ideal.Exp

end
-- ==== Proof.ExpDataKernel2Ideal.lean ====
module

public import proofs.«01_k».proof.Proof.ExpWordsKernel2Ideal
public import proofs.«01_k».proof.Proof.Gen.Kernel2Ideal.Launch

@[expose] public section

set_option maxRecDepth 16384

noncomputable section

namespace Cert.Kernel2Ideal.Exp

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

local notation "𝕄" => MT nD τ sig Unit (Elt Ideal) ℕ (UR sig nD τ) ℕ

/-- The tables the kernel may be run at: every tile's expert one of the 64, and at least one tile used. -/
structure Tabs where
  te : S96.Idx → Elt Ideal .i32
  nu : S1.Idx → Elt Ideal .i32
  te_lt : ∀ x, BitVec.toNat (te x) < 64
  nu_pos : ∀ x, 0 < BitVec.toInt (nu x)

variable (A : Tabs)

/-- The tables as the pipeline takes them. -/
def pfT : pre0.Contents (Elt Ideal) := fun | ⟨0, _⟩ => A.te | ⟨1, _⟩ => A.nu | ⟨_ + 2, h⟩ => absurd h (by simp)

/-- How many tiles are used, as a natural. -/
def nuN : ℕ := BitVec.toNat (A.nu pt1)
/-- The expert of a tile, as a natural. -/
def teN (i : grid0.Coords) : ℕ := BitVec.toNat (A.te (pt i))

theorem nuN_pos : 1 ≤ nuN A := (pos_word _ (A.nu_pos pt1)).1
theorem teN_lt (i : grid0.Coords) : teN A i < 64 := A.te_lt _

theorem at0 (i : grid0.Coords) (h : ∀ a, (k0_off1 i) a + S1.size a ≤ S96.size a) (n : S1.numel = 1) :
    (pfT A).at 0 (Rect.unit (s := S96) (k0_off1 i) S1.size h) n = A.te (pt i) := here_eq i A.te
theorem at1 (n : S1.numel = 1) :
    (pfT A).at 1 (Rect.unit (s := S1) ![0] S1.size inb_S1_S1_0) n = A.nu pt1 := used_eq A.nu

/-- The row window's block. -/
theorem ix_0 (i : grid0.Coords) : cc0_transform_0 inb_S1_S1_0 numel1_S1 (pfT A) i = ![min (i 0).val (nuN A - 1), 0] := by
  have h : (Scalar.minsi (BitVec.ofNat 32 (i 0).val) (Scalar.subi ((pfT A).at 1 (Rect.unit (s := S1) ![0] S1.size inb_S1_S1_0) numel1_S1) 1#32)).toNat
      = min (i 0).val (nuN A - 1) :=
    (congrArg (fun v : BitVec 32 => (Scalar.minsi (BitVec.ofNat 32 (i 0).val) (Scalar.subi v 1#32)).toNat) (at1 A numel1_S1)).trans
      (min_word _ (i 0).isLt _ (A.nu_pos pt1))
  unfold cc0_transform_0
  exact congrArg (fun n : ℕ => (![n, 0] : Fin 2 → ℕ)) h
/-- The weights' windows' blocks. -/
theorem ix_1 (i : grid0.Coords) : cc0_transform_1 k0_off1_inb numel1_S1 (pfT A) i = ![teN A i, 0, 0] := by
  unfold cc0_transform_1
  exact congrArg (fun v : BitVec 32 => (![v.toNat, 0, 0] : Fin 3 → ℕ)) (at0 A i (k0_off1_inb i) numel1_S1)
theorem ix_2 (i : grid0.Coords) : cc0_transform_2 k0_off1_inb numel1_S1 (pfT A) i = ![teN A i, 0, 0] := by
  unfold cc0_transform_2
  exact congrArg (fun v : BitVec 32 => (![v.toNat, 0, 0] : Fin 3 → ℕ)) (at0 A i (k0_off1_inb i) numel1_S1)
theorem ix_3 (i : grid0.Coords) : cc0_transform_3 k0_off1_inb numel1_S1 (pfT A) i = ![teN A i, 0, 0] := by
  unfold cc0_transform_3
  exact congrArg (fun v : BitVec 32 => (![v.toNat, 0, 0] : Fin 3 → ℕ)) (at0 A i (k0_off1_inb i) numel1_S1)
theorem ix_4 : ∀ i : grid0.Coords, cc0_transform_4 i = ![(i 0).val, 0] := by decide +kernel

/-- The side condition of the blocks, at such tables. -/
theorem okT : ok0 (F := Ideal) (pfT A) := by
  refine ⟨fun i => ⟨?_, .inl rfl⟩, fun i => ⟨?_, .inl rfl⟩, fun i => ⟨?_, .inl rfl⟩, fun i => ⟨?_, .inl rfl⟩⟩
  · have hi : (i 0).val < 96 := (i 0).isLt
    rw [ix_0]; intro a; fin_cases a
    · show (min (i 0).val (nuN A - 1) + 1) * 512 ≤ 49152; omega
    · show (0 + 1) * 1024 ≤ 1024; omega
  · have hi := teN_lt A i
    rw [ix_1]; intro a; fin_cases a
    · show (teN A i + 1) * 1 ≤ 64; omega
    · show (0 + 1) * 1024 ≤ 1024; omega
    · show (0 + 1) * 512 ≤ 512; omega
  · have hi := teN_lt A i
    rw [ix_2]; intro a; fin_cases a
    · show (teN A i + 1) * 1 ≤ 64; omega
    · show (0 + 1) * 1024 ≤ 1024; omega
    · show (0 + 1) * 512 ≤ 512; omega
  · have hi := teN_lt A i
    rw [ix_3]; intro a; fin_cases a
    · show (teN A i + 1) * 1 ≤ 64; omega
    · show (0 + 1) * 512 ≤ 512; omega
    · show (0 + 1) * 1024 ≤ 1024; omega

/-- The tables as admissible contents, and the pipeline there. -/
def admT : (pcfg0 (F := Ideal)).Adm := ⟨pfT A, okT A⟩
abbrev cfgT : Pipeline.Cfg sig Λ₀ := cfg0 (F := Ideal) (admT A)
abbrev pcsT : Fin 1 → Pipeline.Cfg sig Λ₀ := Pipeline.pin (pcfgs (F := Ideal)) fun _ => admT A

abbrev crdT (t : Fin (cfgT A).N) : (cfgT A).grid.Coords := (cfgT A).grid.coords t

/-- The output window is idle nowhere: every tile is used or not. -/
theorem idle4 (i : grid0.Coords) : (cfgT A).idle (4 : Fin 5) i = false := by
  show (!(k0_cond2 i ((pfT A).atD 1 ![0]) == 1#1) && !(k0_cond3 i ((pfT A).atD 1 ![0]) == 1#1)) = false
  have h := cond_xor i ((pfT A).atD 1 ![0])
  by_cases q : k0_cond2 i ((pfT A).atD 1 ![0]) = 1#1
  · rw [q]; rfl
  · rw [h.2 q]; simp

abbrev ms_0 (t : Fin (cfgT A).N) : Memref sig .tc .vmem S512x1024 .f32 := spec0_0.stage ((cfgT A).slots t (0 : Fin 5))
abbrev hs_0 (t : Fin (cfgT A).N) : (ms_0 A t).IsWhole := hstage0_0 (((cfgT A).slots t (0 : Fin 5)).cast nbuf0_0)
abbrev ms_1 (t : Fin (cfgT A).N) : Memref sig .tc .vmem S1x1024x512 .f32 := spec0_1.stage ((cfgT A).slots t (1 : Fin 5))
abbrev hs_1 (t : Fin (cfgT A).N) : (ms_1 A t).IsWhole := hstage0_1 (((cfgT A).slots t (1 : Fin 5)).cast nbuf0_1)
abbrev ms_2 (t : Fin (cfgT A).N) : Memref sig .tc .vmem S1x1024x512 .f32 := spec0_2.stage ((cfgT A).slots t (2 : Fin 5))
abbrev hs_2 (t : Fin (cfgT A).N) : (ms_2 A t).IsWhole := hstage0_2 (((cfgT A).slots t (2 : Fin 5)).cast nbuf0_2)
abbrev ms_3 (t : Fin (cfgT A).N) : Memref sig .tc .vmem S1x512x1024 .f32 := spec0_3.stage ((cfgT A).slots t (3 : Fin 5))
abbrev hs_3 (t : Fin (cfgT A).N) : (ms_3 A t).IsWhole := hstage0_3 (((cfgT A).slots t (3 : Fin 5)).cast nbuf0_3)
abbrev ms_4 (t : Fin (cfgT A).N) : Memref sig .tc .vmem S512x1024 .f32 := spec0_4.stage ((cfgT A).slots t (4 : Fin 5))
abbrev hs_4 (t : Fin (cfgT A).N) : (ms_4 A t).IsWhole := hstage0_4 (((cfgT A).slots t (4 : Fin 5)).cast nbuf0_4)

variable (m : (ℓ : Loc nD τ sig) → Buf (Elt Ideal) ℓ) (ρ : Dev nD → PrngReg)

/-- Window `w`'s block at point `t`, read off its array at launch. -/
def iblkT (c : Dev nD) (w : Fin (cfgT A).W) (t : Fin (cfgT A).N) : (((cfgT A).win w).xblock (crdT A t)).Idx → Elt Ideal ((cfgT A).win w).elt :=
  (((cfgT A).win w).blk t).view.read (Elt Ideal) (m (((cfgT A).win w).arr.view.loc (c : Thread nD τ)))

/-- The tile's rows: those of its own block, a tile past the used ones reading the last used block. -/
theorem iblk_0 (c : Dev nD) (t : Fin (cfgT A).N) (y : S512x1024.Idx) (z : S49152x1024.Idx)
    (h0 : (z 0).val = min (crdT A t 0).val (nuN A - 1) * 512 + (y 0).val) (h1 : (z 1).val = (y 1).val) :
    iblkT A m c (0 : Fin 5) t y = m ((c : Thread nD τ).loc main_arg0) z := by
  have e := ix_0 A (crdT A t)
  refine congrArg (m ((c : Thread nD τ).loc main_arg0)) (funext fun a => Fin.ext ?_)
  fin_cases a
  · show cc0_transform_0 inb_S1_S1_0 numel1_S1 (pfT A) (crdT A t) 0 * 512 + 1 * (y 0).val = (z 0).val
    rw [e, h0, one_mul]; rfl
  · show cc0_transform_0 inb_S1_S1_0 numel1_S1 (pfT A) (crdT A t) 1 * 1024 + 1 * (y 1).val = (z 1).val
    rw [e, h1, one_mul]; exact Nat.zero_add _
theorem iblk_1 (c : Dev nD) (t : Fin (cfgT A).N) (y : S1x1024x512.Idx) (z : S64x1024x512.Idx)
    (h0 : (z 0).val = teN A (crdT A t)) (h1 : (z 1).val = (y 1).val) (h2 : (z 2).val = (y 2).val) :
    iblkT A m c (1 : Fin 5) t y = m ((c : Thread nD τ).loc main_arg3) z := by
  have e := ix_1 A (crdT A t)
  have hy : (y 0).val = 0 := Nat.lt_one_iff.1 (y 0).isLt
  refine congrArg (m ((c : Thread nD τ).loc main_arg3)) (funext fun a => Fin.ext ?_)
  fin_cases a
  · show cc0_transform_1 k0_off1_inb numel1_S1 (pfT A) (crdT A t) 0 * 1 + 1 * (y 0).val = (z 0).val
    rw [e, h0, hy]; show teN A (crdT A t) * 1 + 1 * 0 = _; omega
  · show cc0_transform_1 k0_off1_inb numel1_S1 (pfT A) (crdT A t) 1 * 1024 + 1 * (y 1).val = (z 1).val
    rw [e, h1, one_mul]; exact Nat.zero_add _
  · show cc0_transform_1 k0_off1_inb numel1_S1 (pfT A) (crdT A t) 2 * 512 + 1 * (y 2).val = (z 2).val
    rw [e, h2, one_mul]; exact Nat.zero_add _
theorem iblk_2 (c : Dev nD) (t : Fin (cfgT A).N) (y : S1x1024x512.Idx) (z : S64x1024x512.Idx)
    (h0 : (z 0).val = teN A (crdT A t)) (h1 : (z 1).val = (y 1).val) (h2 : (z 2).val = (y 2).val) :
    iblkT A m c (2 : Fin 5) t y = m ((c : Thread nD τ).loc main_arg4) z := by
  have e := ix_2 A (crdT A t)
  have hy : (y 0).val = 0 := Nat.lt_one_iff.1 (y 0).isLt
  refine congrArg (m ((c : Thread nD τ).loc main_arg4)) (funext fun a => Fin.ext ?_)
  fin_cases a
  · show cc0_transform_2 k0_off1_inb numel1_S1 (pfT A) (crdT A t) 0 * 1 + 1 * (y 0).val = (z 0).val
    rw [e, h0, hy]; show teN A (crdT A t) * 1 + 1 * 0 = _; omega
  · show cc0_transform_2 k0_off1_inb numel1_S1 (pfT A) (crdT A t) 1 * 1024 + 1 * (y 1).val = (z 1).val
    rw [e, h1, one_mul]; exact Nat.zero_add _
  · show cc0_transform_2 k0_off1_inb numel1_S1 (pfT A) (crdT A t) 2 * 512 + 1 * (y 2).val = (z 2).val
    rw [e, h2, one_mul]; exact Nat.zero_add _
theorem iblk_3 (c : Dev nD) (t : Fin (cfgT A).N) (y : S1x512x1024.Idx) (z : S64x512x1024.Idx)
    (h0 : (z 0).val = teN A (crdT A t)) (h1 : (z 1).val = (y 1).val) (h2 : (z 2).val = (y 2).val) :
    iblkT A m c (3 : Fin 5) t y = m ((c : Thread nD τ).loc main_arg5) z := by
  have e := ix_3 A (crdT A t)
  have hy : (y 0).val = 0 := Nat.lt_one_iff.1 (y 0).isLt
  refine congrArg (m ((c : Thread nD τ).loc main_arg5)) (funext fun a => Fin.ext ?_)
  fin_cases a
  · show cc0_transform_3 k0_off1_inb numel1_S1 (pfT A) (crdT A t) 0 * 1 + 1 * (y 0).val = (z 0).val
    rw [e, h0, hy]; show teN A (crdT A t) * 1 + 1 * 0 = _; omega
  · show cc0_transform_3 k0_off1_inb numel1_S1 (pfT A) (crdT A t) 1 * 512 + 1 * (y 1).val = (z 1).val
    rw [e, h1, one_mul]; exact Nat.zero_add _
  · show cc0_transform_3 k0_off1_inb numel1_S1 (pfT A) (crdT A t) 2 * 1024 + 1 * (y 2).val = (z 2).val
    rw [e, h2, one_mul]; exact Nat.zero_add _

/-- Two tiles of one expert hold the same weights. -/
theorem same_1 (c : Dev nD) (t t' : Fin (cfgT A).N) (h : teN A (crdT A t) = teN A (crdT A t')) :
    (iblkT A m c (1 : Fin 5) t : S1x1024x512.Idx → Elt Ideal .f32) = iblkT A m c (1 : Fin 5) t' := by
  funext y
  exact (iblk_1 A m c t y (fun a => match a with | ⟨0, _⟩ => ⟨teN A (crdT A t), teN_lt A _⟩ | ⟨1, _⟩ => y 1 | ⟨2, _⟩ => y 2) rfl rfl rfl).trans
    (iblk_1 A m c t' y _ h rfl rfl).symm
theorem same_2 (c : Dev nD) (t t' : Fin (cfgT A).N) (h : teN A (crdT A t) = teN A (crdT A t')) :
    (iblkT A m c (2 : Fin 5) t : S1x1024x512.Idx → Elt Ideal .f32) = iblkT A m c (2 : Fin 5) t' := by
  funext y
  exact (iblk_2 A m c t y (fun a => match a with | ⟨0, _⟩ => ⟨teN A (crdT A t), teN_lt A _⟩ | ⟨1, _⟩ => y 1 | ⟨2, _⟩ => y 2) rfl rfl rfl).trans
    (iblk_2 A m c t' y _ h rfl rfl).symm
theorem same_3 (c : Dev nD) (t t' : Fin (cfgT A).N) (h : teN A (crdT A t) = teN A (crdT A t')) :
    (iblkT A m c (3 : Fin 5) t : S1x512x1024.Idx → Elt Ideal .f32) = iblkT A m c (3 : Fin 5) t' := by
  funext y
  exact (iblk_3 A m c t y (fun a => match a with | ⟨0, _⟩ => ⟨teN A (crdT A t), teN_lt A _⟩ | ⟨1, _⟩ => y 1 | ⟨2, _⟩ => y 2) rfl rfl rfl).trans
    (iblk_3 A m c t' y _ h rfl rfl).symm

/-- A point's one coordinate is its number. -/
theorem crd_val (t : Fin grid0.N) : (grid0.coords t 0).val = t.val := by
  revert t; decide +kernel

end Cert.Kernel2Ideal.Exp

end
-- ==== Proof.ExpFrameKernel2Ideal.lean ====
module

public import proofs.«01_k».proof.Proof.ExpDataKernel2Ideal

@[expose] public section

set_option maxRecDepth 16384

noncomputable section

namespace Cert.Kernel2Ideal.Exp

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

local notation "𝕄" => MT nD τ sig Unit (Elt Ideal) ℕ (UR sig nD τ) ℕ

open Idealize.ShloMosaic.Rounds

variable (A : Tabs) (m : (ℓ : Loc nD τ sig) → Buf (Elt Ideal) ℓ) (ρ : Dev nD → PrngReg)

/-- The launch's pipelines in the ghost state. -/
abbrev EP : Emb (UR sig nD τ) 𝕄 := emb₁

/-- The invariant before a point: past the first, the three scratch buffers hold the rounded weights of the point before's
    expert; the body's halves of the tables. -/
def PhiT (c : Dev nD) (t : Fin ((cfgT A).N + 1)) : sProp 𝕄 :=
  iprop((∃ a, ⌜∀ h : t.val ≠ 0, a = (show Buf (Elt Ideal) ((c : Thread nD τ).loc cc0_scratch0) from k0_pay1 (iblkT A m c (1 : Fin 5) ⟨t.val - 1, by omega⟩))⌝ ∗ (scM0_0.view.loc (c : Thread nD τ) ↦{fullShare} a)) ∗ (∃ a, ⌜∀ h : t.val ≠ 0, a = (show Buf (Elt Ideal) ((c : Thread nD τ).loc cc0_scratch1) from k0_pay2 (iblkT A m c (2 : Fin 5) ⟨t.val - 1, by omega⟩))⌝ ∗ (scM0_1.view.loc (c : Thread nD τ) ↦{fullShare} a)) ∗ (∃ a, ⌜∀ h : t.val ≠ 0, a = (show Buf (Elt Ideal) ((c : Thread nD τ).loc cc0_scratch2) from k0_pay3 (iblkT A m c (3 : Fin 5) ⟨t.val - 1, by omega⟩))⌝ ∗ (scM0_2.view.loc (c : Thread nD τ) ↦{fullShare} a))
    ∗ (tbM0_0.view.loc (c : Thread nD τ) ↦{fullShare.right} A.te) ∗ (tbM0_1.view.loc (c : Thread nD τ) ↦{fullShare.right} A.nu))

/-- The proof data: after each point the inputs' buffers at their blocks, the output's at the tile's result. -/
def dats (_ : Fin 1) (c : Dev nD) : Dat τ (Elt Ideal) Unit ℕ (UR sig nD τ) ℕ (cfgT A) c where
  A w := m (((cfgT A).win w).arr.view.loc (c : Thread nD τ))
  after w t := match w with
    | ⟨0, _⟩ => iblkT A m c (0 : Fin 5) t
    | ⟨1, _⟩ => iblkT A m c (1 : Fin 5) t
    | ⟨2, _⟩ => iblkT A m c (2 : Fin 5) t
    | ⟨3, _⟩ => iblkT A m c (3 : Fin 5) t
    | ⟨4, _⟩ => outV (crdT A t) A.nu (iblkT A m c (0 : Fin 5) t) (iblkT A m c (1 : Fin 5) t) (iblkT A m c (2 : Fin 5) t) (iblkT A m c (3 : Fin 5) t)
  Φ t := PhiT A m c t
  q _ := fullShare
  owed _ := 0

theorem after_0 (c : Dev nD) (t : Fin (cfgT A).N) : (dats A m 0 c).after (0 : Fin 5) t = iblkT A m c (0 : Fin 5) t := rfl
theorem after_1 (c : Dev nD) (t : Fin (cfgT A).N) : (dats A m 0 c).after (1 : Fin 5) t = iblkT A m c (1 : Fin 5) t := rfl
theorem after_2 (c : Dev nD) (t : Fin (cfgT A).N) : (dats A m 0 c).after (2 : Fin 5) t = iblkT A m c (2 : Fin 5) t := rfl
theorem after_3 (c : Dev nD) (t : Fin (cfgT A).N) : (dats A m 0 c).after (3 : Fin 5) t = iblkT A m c (3 : Fin 5) t := rfl
theorem after_4 (c : Dev nD) (t : Fin (cfgT A).N) : (dats A m 0 c).after (4 : Fin 5) t = outV (crdT A t) A.nu (iblkT A m c (0 : Fin 5) t) (iblkT A m c (1 : Fin 5) t) (iblkT A m c (2 : Fin 5) t) (iblkT A m c (3 : Fin 5) t) := rfl

theorem before_0 (c : Dev nD) (t : Fin (cfgT A).N) (d) : (dats A m 0 c).before (0 : Fin 5) t d = iblkT A m c (0 : Fin 5) t :=
  ((dats A m 0 c).before_in_eq_fetched (0 : Fin 5) rfl (fun _ => rfl) (fun _ _ _ => rfl) (fun t => by rw [after_0]; unfold Dat.blockOf iblkT; rfl) t d).trans
    (by unfold Dat.fetched Dat.blockOf iblkT; rfl)
theorem before_1 (c : Dev nD) (t : Fin (cfgT A).N) (d) : (dats A m 0 c).before (1 : Fin 5) t d = iblkT A m c (1 : Fin 5) t :=
  ((dats A m 0 c).before_in_eq_fetched (1 : Fin 5) rfl (fun _ => rfl) (fun _ _ _ => rfl) (fun t => by rw [after_1]; unfold Dat.blockOf iblkT; rfl) t d).trans
    (by unfold Dat.fetched Dat.blockOf iblkT; rfl)
theorem before_2 (c : Dev nD) (t : Fin (cfgT A).N) (d) : (dats A m 0 c).before (2 : Fin 5) t d = iblkT A m c (2 : Fin 5) t :=
  ((dats A m 0 c).before_in_eq_fetched (2 : Fin 5) rfl (fun _ => rfl) (fun _ _ _ => rfl) (fun t => by rw [after_2]; unfold Dat.blockOf iblkT; rfl) t d).trans
    (by unfold Dat.fetched Dat.blockOf iblkT; rfl)
theorem before_3 (c : Dev nD) (t : Fin (cfgT A).N) (d) : (dats A m 0 c).before (3 : Fin 5) t d = iblkT A m c (3 : Fin 5) t :=
  ((dats A m 0 c).before_in_eq_fetched (3 : Fin 5) rfl (fun _ => rfl) (fun _ _ _ => rfl) (fun t => by rw [after_3]; unfold Dat.blockOf iblkT; rfl) t d).trans
    (by unfold Dat.fetched Dat.blockOf iblkT; rfl)

/-- A tile that does not load has the weights of the tile before. -/
theorem prev_same (c : Dev nD) (t : Fin (cfgT A).N) (h : ¬ Loads (crdT A t) A.te) :
    ∃ h0 : t.val ≠ 0, teN A (crdT A ⟨t.val - 1, by omega⟩) = teN A (crdT A t) := by
  obtain ⟨h0, h1⟩ := not_loads _ _ h
  have e : (crdT A t 0).val = t.val := crd_val t
  refine ⟨fun h => h0 (e.trans h), congrArg BitVec.toNat ?_⟩
  refine Eq.trans (congrArg A.te (funext fun a => Fin.ext ?_)) h1.symm
  exact (crd_val ⟨t.val - 1, (by have := t.isLt; omega : t.val - 1 < (cfgT A).N)⟩).trans (congrArg (· - 1) e.symm)

/-- The body at point `t` on its staging memrefs. -/
abbrev bodyAt (t : Fin (cfgT A).N) : Prog (TpuEff nD τ sig (Elt Ideal) Λ₀ .tc) PUnit :=
  cc0_moe_experts (crdT A t) (Memref.whole main_arg1) (Memref.isWhole_whole _) (Memref.whole main_arg2) (Memref.isWhole_whole _) (ms_0 A t) (hs_0 A t) (ms_1 A t) (hs_1 A t) (ms_2 A t) (hs_2 A t) (ms_3 A t) (hs_3 A t) (ms_4 A t) (hs_4 A t) (Memref.whole cc0_scratch0) (Memref.isWhole_whole _) (Memref.whole cc0_scratch1) (Memref.isWhole_whole _) (Memref.whole cc0_scratch2) (Memref.isWhole_whole _)

set_option maxHeartbeats 4000000 in
/-- The obligation of the body at every point. -/
theorem sound_body (c : Dev nD) (t : Fin (cfgT A).N) :
    iprop((dats A m 0 c).Φ t.castSucc ∗ (dats A m 0 c).owesAt () t.castSucc
        ∗ (∃ d, owns (c : Thread nD τ) (ms_0 A t) fullShare ((dats A m 0 c).before (0 : Fin 5) t d))
        ∗ (∃ d, owns (c : Thread nD τ) (ms_1 A t) fullShare ((dats A m 0 c).before (1 : Fin 5) t d))
        ∗ (∃ d, owns (c : Thread nD τ) (ms_2 A t) fullShare ((dats A m 0 c).before (2 : Fin 5) t d))
        ∗ (∃ d, owns (c : Thread nD τ) (ms_3 A t) fullShare ((dats A m 0 c).before (3 : Fin 5) t d))
        ∗ (∃ d, owns (c : Thread nD τ) (ms_4 A t) fullShare ((dats A m 0 c).before (4 : Fin 5) t d)))
      ⊢ wp frame (wpE (defs₀ (F := Ideal)) Variants.none c none) Set.univ (bodyAt A t) fun _ =>
          iprop((dats A m 0 c).Φ t.succ ∗ (dats A m 0 c).owesAt () t.succ
            ∗ bigSep Finset.univ fun w : Fin (cfgT A).W =>
                match (cfgT A).idle w ((cfgT A).grid.coords t) with
                | true =>
                  match ((cfgT A).win w).flush t with
                  | false => iprop(∃ d, owns (c : Thread nD τ) (((cfgT A).win w).stage ((cfgT A).slots t w)) fullShare ((dats A m 0 c).before w t d))
                  | true => owns (c : Thread nD τ) (((cfgT A).win w).stage ((cfgT A).slots t w)) fullShare ((dats A m 0 c).after w t)
                | false => owns (c : Thread nD τ) (((cfgT A).win w).stage ((cfgT A).slots t w)) fullShare ((dats A m 0 c).after w t)) := by
  rw [bigSep_W0]
  rewrite [idle4]
  simp only [before_0, before_1, before_2, before_3, after_0, after_1, after_2, after_3, after_4]
  rewrite [show (dats A m 0 c).Φ t.succ = PhiT A m c t.succ from rfl, show (dats A m 0 c).Φ t.castSucc = PhiT A m c t.castSucc from rfl,
    show (dats A m 0 c).owesAt () t.succ = (dats A m 0 c).owesAt () t.castSucc from rfl]
  unfold PhiT
  iintro ⟨⟨⟨%a0, %ha0, HS0⟩, ⟨%a1, %ha1, HS1⟩, ⟨%a2, %ha2, HS2⟩, HT0, HT1⟩, Ho, ⟨%d0, H0⟩, ⟨%d1, H1⟩, ⟨%d2, H2⟩, ⟨%d3, H3⟩, ⟨%d4, H4⟩⟩
  iapply (exp_run c (crdT A t) (ms_0 A t) (hs_0 A t) (ms_1 A t) (hs_1 A t) (ms_2 A t) (hs_2 A t) (ms_3 A t) (hs_3 A t) (ms_4 A t) (hs_4 A t) A.te A.nu
    (iblkT A m c (0 : Fin 5) t) (iblkT A m c (1 : Fin 5) t) (iblkT A m c (2 : Fin 5) t) (iblkT A m c (3 : Fin 5) t) a0 a1 a2
    (fun hl => by
      obtain ⟨h0, hp⟩ := prev_same A c t hl
      exact ⟨(ha0 h0).trans (congrArg k0_pay1 (same_1 A m c _ _ hp)), (ha1 h0).trans (congrArg k0_pay2 (same_2 A m c _ _ hp)),
        (ha2 h0).trans (congrArg k0_pay3 (same_3 A m c _ _ hp))⟩)
    (cond_xor _ _) _)
  isplitl [H0]; · iexact H0
  isplitl [H1]; · iexact H1
  isplitl [H2]; · iexact H2
  isplitl [H3]; · iexact H3
  isplitl [HT0]; · iexact HT0
  isplitl [HT1]; · iexact HT1
  isplitl [H4]; · iexists _; iexact H4
  isplitl [HS0]; · iexact HS0
  isplitl [HS1]; · iexact HS1
  isplitl [HS2]; · iexact HS2
  iintro ⟨H0, H1, H2, H3, HT0, HT1, H4, HS0, HS1, HS2⟩
  isplitl [HS0 HS1 HS2 HT0 HT1]
  · isplitl [HS0]
    · iexists _; isplitr; swap
      · iexact HS0
      · ipureintro; intro _; rfl
    isplitl [HS1]
    · iexists _; isplitr; swap
      · iexact HS1
      · ipureintro; intro _; rfl
    isplitl [HS2]
    · iexists _; isplitr; swap
      · iexact HS2
      · ipureintro; intro _; rfl
    isplitl [HT0]; · iexact HT0
    iexact HT1
  isplitl [Ho]; · iexact Ho
  isplitl [H0]; · iexact H0
  isplitl [H1]; · iexact H1
  isplitl [H2]; · iexact H2
  isplitl [H3]; · iexact H3
  iexact H4

theorem body_obligation (c : Dev nD) : BodyObligation (dats A m 0 c) (defs₀ (F := Ideal)) Variants.none () Set.univ := fun t => by
  rw [bigSep_W0]
  exact sound_body A m c t

/-- The launch's ghost state. -/
def u₀ : UR sig nD τ :=
  initOf (Pipeline.cells (pcsT A) ((launch0 (F := Ideal)).cellOf_inj fun _ => admT A))
    (Pipeline.launchToks (pcsT A) ((launch0 (F := Ideal)).cellOf_inj fun _ => admT A))

theorem share_eq (c : Dev nD) (w : Fin (cfgT A).W) : (dats A m 0 c).share w = fullShare := by unfold Dat.share; split <;> rfl

/-- The tables as the launch hands them over, one by one. -/
theorem tabs_held (c : Dev nD) (q : Fin 2 → PosShare TreeShare) (v : pre0.Contents (Elt Ideal)) :
    (Pipeline.prefHeld (Ix := Unit) (Name := ℕ) (U := UR sig nD τ) (Lvl := ℕ) pre0 c q v : sProp 𝕄)
      = iprop((((c : Thread nD τ).loc main_arg1) ↦{q 0} v 0) ∗ (((c : Thread nD τ).loc main_arg2) ↦{q 1} v 1)) := by
  unfold Pipeline.prefHeld
  rw [show (Finset.univ : Finset (Fin 2)) = insert (0 : Fin 2) {(1 : Fin 2)} from by decide,
    bigSep_insert (by decide), bigSep_singleton]
  rfl

/-- The invariant at the first point, from the tables and the scratch buffers. -/
theorem phi_first (c : Dev nD) :
    iprop(BI.emp ∗ Pipeline.prefHeld pre0 c (fun _ => fullShare.right) (admT A).1 ∗ Pipeline.scopedRest spec0 c) ⊢ (dats A m 0 c).Φ 0 := by
  rw [tabs_held, scopedRest0_eq, show (dats A m 0 c).Φ 0 = PhiT A m c 0 from rfl]
  unfold PhiT
  iintro ⟨-, ⟨HT0, HT1⟩, ⟨%a0, HS0⟩, ⟨%a1, HS1⟩, ⟨%a2, HS2⟩⟩
  isplitl [HS0]
  · iexists a0; isplitr; swap
    · iexact HS0
    · ipureintro; intro h; exact absurd rfl h
  isplitl [HS1]
  · iexists a1; isplitr; swap
    · iexact HS1
    · ipureintro; intro h; exact absurd rfl h
  isplitl [HS2]
  · iexists a2; isplitr; swap
    · iexact HS2
    · ipureintro; intro h; exact absurd rfl h
  isplitl [HT0]; · iexact HT0
  iexact HT1

/-- At the last point it gives the scratch buffers back. -/
theorem phi_last (c : Dev nD) : (dats A m 0 c).Φ (Fin.last (cfgT A).N) ⊢ iprop(BI.emp ∗ Pipeline.scopedRest spec0 c) := by
  rw [scopedRest0_eq, show (dats A m 0 c).Φ (Fin.last (cfgT A).N) = PhiT A m c (Fin.last _) from rfl]
  unfold PhiT
  iintro ⟨⟨%a0, -, HS0⟩, ⟨%a1, -, HS1⟩, ⟨%a2, -, HS2⟩, -, -⟩
  isplitr; · iempintro
  isplitl [HS0]; · iexists a0; iexact HS0
  isplitl [HS1]; · iexists a1; iexact HS1
  iexists a2; iexact HS2

/-- The final state: every array at what the proof data computes, every table as it was. -/
def QC : PUnit × MemSt nD τ sig (Elt Ideal) → Prop := fun r =>
  ∀ c : Dev nD, (∀ w : Fin (cfgT A).W, r.2.mem (((cfgT A).win w).arr.view.loc (c : Thread nD τ)) = (dats A m 0 c).arrAt w (cfgT A).N)
    ∧ ∀ j, r.2.mem ((c : Thread nD τ).loc (pre0.ref j)) = (admT A).1 j

/-- The launch memory's tables are `A`'s. -/
def Holds : Prop :=
  (∀ c : Dev nD, m ((c : Thread nD τ).loc main_arg1) = A.te) ∧ (∀ c : Dev nD, m ((c : Thread nD τ).loc main_arg2) = A.nu)

theorem tab_mem (hp : Holds A m) (c : Dev nD) (j : Fin 2) : m ((c : Thread nD τ).loc (pre0.ref j)) = (admT A).1 j := by
  fin_cases j
  · exact hp.1 c
  · exact hp.2 c

set_option backward.isDefEq.respectTransparency.types false in
set_option maxHeartbeats 4000000 in
/-- The launch, with every semaphore counter at zero at the end. -/
theorem run_quiet (hp : Holds A m) : θ_run (defs (F := Ideal)) (onTc (τ := τ) (main (F := Ideal))) (s₀ m ρ) (fun r => QC A m r ∧ r.2.sem = fun _ => 0) :=
  Pipeline.θ_run_region_noSem_pf_quiescent pcfgs (fun _ => admT A) (dats A m) () ((launch0 (F := Ideal)).cellOf_inj fun _ => admT A) (0 : Fin 1)
    (launch0 (F := Ideal)).win.to₀ (launch0 (F := Ideal)).pre EP defs₀ Variants.none m ρ main
    (hbody := fun c => (body_obligation A m c).loose) (hne := (launch0 (F := Ideal)).block_pos)
    (harr := (launch0 (F := Ideal)).arr_whole) (hstage := (launch0 (F := Ideal)).stage_whole) (howed := fun _ _ => rfl)
    (u₀ := u₀ A) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcsT A) (dats A m) 0 (launch0 (F := Ideal)).win.arr_inj c (launch0 (F := Ideal)).arr_whole
      (share_eq A m c) _ _ fun _ => rfl)
    (hpf := tab_mem A m hp)
    (X := fun _ => iprop(emp)) (Y := fun _ => iprop(emp)) (Z := fun _ => iprop(emp))
    (hX := fun c => by rw [unscopedRestP0_eq]; iintro -; isplitr <;> iempintro)
    (hin := phi_first A m)
    (hout := phi_last A m)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

theorem run_main (hp : Holds A m) : θ_run (defs (F := Ideal)) (onTc (τ := τ) (main (F := Ideal))) (s₀ m ρ) (QC A m) :=
  (θ_run defs _ _).mono (fun _ h => h.1) (run_quiet A m ρ hp)

/-- The frame: every fair run ends with the arguments unchanged and every counter at zero. -/
theorem frame (hp : Holds A m) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨((h.1 c).1 (0 : Fin 5)).trans ((dats A m 0 c).arrAt_in (0 : Fin 5) rfl _),
    ((h.1 c).2 0).trans (hp.1 c).symm, ((h.1 c).2 1).trans (hp.2 c).symm,
    ((h.1 c).1 (1 : Fin 5)).trans ((dats A m 0 c).arrAt_in (1 : Fin 5) rfl _),
    ((h.1 c).1 (2 : Fin 5)).trans ((dats A m 0 c).arrAt_in (2 : Fin 5) rfl _),
    ((h.1 c).1 (3 : Fin 5)).trans ((dats A m 0 c).arrAt_in (3 : Fin 5) rfl _)⟩, h.2⟩) (run_quiet A m ρ hp)

end Cert.Kernel2Ideal.Exp

end
-- ==== Proof.ExpPre.lean ====
module

public import proofs.«01_k».proof.Defs
public import proofs.«01_k».proof.Proof.Gen.Pre_tables_in_range
public import Idealize.ShloMosaic.Lib.ReduceAll
public import Idealize.ShloMosaic.Lib.Pointwise

@[expose] public section

set_option maxRecDepth 16384

noncomputable section

namespace Cert.ExpPre

open Idealize.ShloMosaic Cert.Pre_tables_in_range

/-! What the precondition says: every tile's expert is one of the 64, and at least one tile is used. -/

theorem sge_word (a b : BitVec 32) (h : IntOp.cmpi .sge a b = 1#1) : b.toInt ≤ a.toInt := by
  have h' : BitVec.ofBool (b.sle a) = 1#1 := h
  revert h'; unfold BitVec.sle
  by_cases hc : b.toInt ≤ a.toInt
  · exact fun _ => hc
  · rw [decide_eq_false hc]; intro h; exact absurd h (by decide)

theorem slt_word (a b : BitVec 32) (h : IntOp.cmpi .slt a b = 1#1) : a.toInt < b.toInt := by
  have h' : BitVec.ofBool (a.slt b) = 1#1 := h
  revert h'; unfold BitVec.slt
  by_cases hc : a.toInt < b.toInt
  · exact fun _ => hc
  · rw [decide_eq_false hc]; intro h; exact absurd h (by decide)

theorem range_word (a : BitVec 32) (h0 : IntOp.cmpi .sge a 0#32 = 1#1) (h1 : IntOp.cmpi .slt a 64#32 = 1#1) : a.toNat < 64 := by
  have h0' := sge_word _ _ h0
  have h1' := slt_word _ _ h1
  rw [show (0#32).toInt = 0 from rfl] at h0'
  rw [show (64#32).toInt = 64 from rfl] at h1'
  rw [BitVec.toInt_eq_toNat_cond] at h0' h1'
  have := a.isLt
  split at h0' <;> omega

theorem tables {F : FTy → Type} [FloatOps F] (a0 : FVec F S49152x1024 .f32) (a1 : IVec S96 32) (a2 : IVec S1 32) (a3 a4 : FVec F S64x1024x512 .f32) (a5 : FVec F S64x512x1024 .f32)
    (h : Cert.Pre_tables_in_range.fn (F := F) a0 a1 a2 a3 a4 a5 = fun _ => 1#1) :
    (∀ x, BitVec.toNat (a1 x) < 64) ∧ ∀ x, 0 < BitVec.toInt (a2 x) := by
  have h' := congrFun h (Shape.Idx.first Gen.h_S_)
  unfold Cert.Pre_tables_in_range.fn at h'
  obtain ⟨h5, h7⟩ := IntOp.andi_eq_one.1 h'
  haveI : Subsingleton S_.Idx := ⟨fun a b => funext fun k => k.elim0⟩
  refine ⟨fun x => ?_, fun x => ?_⟩
  · have hi := Host.reduce_andi_all _ _ _ _ _ h5 x
    obtain ⟨hl, hr⟩ := IntOp.andi_eq_one.1 hi
    exact range_word _ hl hr
  · have hk := sge_word _ _ h7
    haveI : Subsingleton S1.Idx := ⟨fun a b => funext fun k => match k with | ⟨0, _⟩ => Subsingleton.elim (α := Fin 1) (a 0) (b 0)⟩
    have e : ∀ z, a2 z = a2 x := fun z => congrArg a2 (Subsingleton.elim _ _)
    have hx : (1#32 : BitVec 32).toInt ≤ (a2 x).toInt := (show _ = _ from congrArg BitVec.toInt (e _)) ▸ hk
    rw [show (1#32 : BitVec 32).toInt = 1 from rfl] at hx
    omega

end Cert.ExpPre
-- ==== Proof.ExpRefFrame.lean ====
module

public import proofs.«01_k».proof.Proof.Gen.Reference2Ideal.Run
public import Idealize.ShloMosaic.Lib.Quiescent

@[expose] public section

noncomputable section

namespace Cert.Reference2Ideal.Body

open Idealize.ShloMosaic Idealize.ShloMosaic.TcCoe Idealize.SL.Sem Cert.Reference2Ideal

/-- The reference's frame: every fair run ends with the arguments unchanged and every counter at zero. -/
theorem frame {F : FTy → Type} [FloatOps F] (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c => (h c).2, sem_eq_zero_of_no_sems (by decide) r.2⟩)
    (Cert.Reference2Ideal.Value.run m ρ)

end Cert.Reference2Ideal.Body

end
-- ==== Proof.ExpPay.lean ====
module

public import proofs.«01_k».proof.Proof.ExpDataKernel2Ideal
public import Idealize.ShloMosaic.Lib.Pointwise

@[expose] public section

set_option maxRecDepth 16384

noncomputable section

namespace Cert.Exp

open Cert.Kernel2Ideal Cert.Kernel2Ideal.Gen Cert.Kernel2Ideal.Exp
open Idealize.ShloMosaic Idealize.ShloMosaic.TcCoe

/-! What a tile's block holds, entry by entry, over the extended reals. -/

/-- A row's hidden entry `k` of an expert: the gate `a · σ(a)` times the other product. -/
def hidV (x : Fin 1024 → EReal) (w1 w3 : Fin 1024 → Fin 512 → EReal) (k : Fin 512) : EReal :=
  (∑ j, x j * w1 j k) * Ideal.logistic (∑ j, x j * w1 j k) * ∑ j, x j * w3 j k

/-- A row's result entry of an expert. -/
def rowV (x : Fin 1024 → EReal) (w1 w3 : Fin 1024 → Fin 512 → EReal) (w2 : Fin 512 → EReal) : EReal :=
  ∑ k, hidV x w1 w3 k * w2 k

theorem pay1_at (v : Vec Ideal S1x1024x512 .f32) (j : Fin 1024) (k : Fin 512) : k0_pay1 (F := Ideal) v (ix2 j k) = v (ix3 0 j k) := by
  pointwise [k0_pay1]
theorem pay2_at (v : Vec Ideal S1x1024x512 .f32) (j : Fin 1024) (k : Fin 512) : k0_pay2 (F := Ideal) v (ix2 j k) = v (ix3 0 j k) := by
  pointwise [k0_pay2]
theorem pay3_at (v : Vec Ideal S1x512x1024 .f32) (k : Fin 512) (d : Fin 1024) : k0_pay3 (F := Ideal) v (ix2 k d) = v (ix3 0 k d) := by
  pointwise [k0_pay3]

theorem pay4_at (x : Vec Ideal S512x1024 .f32) (w1 w3 : Vec Ideal S1024x512 .bf16) (w2 : Vec Ideal S512x1024 .bf16) (r : Fin 512) (d : Fin 1024) :
    k0_pay4 (F := Ideal) x w1 w3 w2 (ix2 r d) = rowV (fun j => x (ix2 r j)) (fun j k => w1 (ix2 j k)) (fun j k => w3 (ix2 j k)) (fun k => w2 (ix2 k d)) := by
  pointwise [k0_pay4, rowV, hidV]

theorem pay5_at (y : S512x1024.Idx) : k0_pay5 (F := Ideal) y = (0 : EReal) := by
  pointwise [k0_pay5]

theorem outV_at (i : grid0.Coords) (T1 : S1.Idx → Elt Ideal .i32) (hT : 0 < BitVec.toInt (T1 pt1)) (x0 : S512x1024.Idx → Elt Ideal .f32)
    (x1 x2 : S1x1024x512.Idx → Elt Ideal .f32) (x3 : S1x512x1024.Idx → Elt Ideal .f32) (r : Fin 512) (d : Fin 1024) :
    outV i T1 x0 x1 x2 x3 (ix2 r d)
      = if (i 0).val < BitVec.toNat (T1 pt1) then rowV (fun j => x0 (ix2 r j)) (fun j k => x1 (ix3 0 j k)) (fun j k => x2 (ix3 0 j k)) (fun k => x3 (ix3 0 k d)) else 0 := by
  unfold outV
  rw [used_eq]
  by_cases h : (i 0).val < BitVec.toNat (T1 pt1)
  · rw [if_pos ((cond2_lt i _ hT).2 h), if_pos h, pay4_at]
    simp only [pay1_at, pay2_at, pay3_at]
  · rw [if_neg (fun hc => h ((cond2_lt i _ hT).1 hc)), if_neg h, pay5_at]

end Cert.Exp
-- ==== Proof.ExpRef.lean ====
module

public import proofs.«01_k».proof.Proof.ExpPay
public import proofs.«01_k».proof.Proof.Gen.Reference2Ideal.Read
public import Idealize.ShloMosaic.Lib.Pointwise

@[expose] public section

set_option maxRecDepth 16384

noncomputable section

namespace Cert.ExpRef

open Cert.Reference2Ideal Cert.Reference2Ideal.Read Cert.Reference2Ideal.Gen Cert.Exp
open Idealize.ShloMosaic Idealize.ShloMosaic.TcCoe

/-! What the reference computes, entry by entry. -/

/-- The dimension numbers of `w[idx]`, matrices picked off axis 0. -/
abbrev pickDims (N n B C : ℕ) (wf : GatherDims.WF ⟨3, ![N, B, C]⟩ ⟨2, ![n, 1]⟩ ⟨3, ![n, B, C]⟩ [1, 2] [0] [] [0] [] 1 ![1, B, C]) :
    GatherDims ⟨3, ![N, B, C]⟩ ⟨2, ![n, 1]⟩ ⟨3, ![n, B, C]⟩ where
  offsetDims := [1, 2]
  collapsedSliceDims := [0]
  operandBatchingDims := []
  startIndicesBatchingDims := []
  startIndexMap := [0]
  indexVectorDim := 1
  sliceSizes := ![1, B, C]
  wf := wf

/-- `w[idx]` at an entry, the index at most the last. -/
theorem pick_at {α : Type} {N n B C : ℕ} (wf : GatherDims.WF ⟨3, ![N, B, C]⟩ ⟨2, ![n, 1]⟩ ⟨3, ![n, B, C]⟩ [1, 2] [0] [] [0] [] 1 ![1, B, C])
    (x : (⟨3, ![N, B, C]⟩ : Shape).Idx → α) (idx : IVec ⟨2, ![n, 1]⟩ 32) (t : Fin n) (b : Fin B) (c : Fin C) (e : Fin N)
    (he : (idx (ix2 t (0 : Fin 1))).toInt = (e.val : ℤ)) :
    Host.gather (pickDims N n B C wf) x idx (ix3 t b c) = x (ix3 e b c) := by
  unfold Host.gather
  congr 1
  funext a
  refine Fin.ext ?_
  show (pickDims N n B C wf).start (ix3 t b c) idx a + (pickDims N n B C wf).batchCoord (ix3 t b c) a + (pickDims N n B C wf).offCoord (ix3 t b c) a = _
  rw [GatherDims.batchCoord_eq_zero _ _ _ List.not_mem_nil]
  match a with
  | ⟨0, _⟩ =>
    rw [GatherDims.offCoord_eq_zero _ _ _ (fun h => ((GatherDims.mem_sKept _ _).mp h).1 (List.mem_singleton.mpr rfl))]
    simp only [Nat.add_zero]
    unfold GatherDims.start
    rw [dif_pos (show (⟨0, by decide⟩ : Fin 3) ∈ (pickDims N n B C wf).startIndexMap from List.mem_singleton.mpr rfl)]
    have hsi : (pickDims N n B C wf).siIdx (ix3 t b c) ⟨List.idxOf (⟨0, by decide⟩ : Fin 3) (pickDims N n B C wf).startIndexMap,
        List.idxOf_lt_length_iff.2 (List.mem_singleton.mpr rfl)⟩ = ix2 t (0 : Fin 1) := by
      funext k; refine Fin.ext ?_
      match k with
      | ⟨0, _⟩ => rfl
      | ⟨1, _⟩ => rfl
    rw [hsi, he]
    have := e.isLt
    show min ((e.val : ℤ)).toNat (N - 1) = e.val
    omega
  | ⟨1, _⟩ =>
    have h0 : (pickDims N n B C wf).start (ix3 t b c) idx ⟨1, by show 1 < 3; omega⟩ = 0 := by
      unfold GatherDims.start
      rw [dif_neg (fun h => by simp at h)]
    rw [h0]
    simp only [Nat.zero_add]
    unfold GatherDims.offCoord
    rw [dif_pos ((GatherDims.mem_sKept _ _).mpr ⟨fun h => by simp at h, List.not_mem_nil⟩)]
    rfl
  | ⟨2, _⟩ =>
    have h0 : (pickDims N n B C wf).start (ix3 t b c) idx ⟨2, by show 2 < 3; omega⟩ = 0 := by
      unfold GatherDims.start
      rw [dif_neg (fun h => by simp at h)]
    rw [h0]
    simp only [Nat.zero_add]
    unfold GatherDims.offCoord
    rw [dif_pos ((GatherDims.mem_sKept _ _).mpr ⟨fun h => by simp at h, List.not_mem_nil⟩)]
    rfl

/-- A word below 64, read signed. -/
theorem small_word (a : BitVec 32) (h : a.toNat < 64) : a.toInt = (a.toNat : ℤ) := by
  rw [BitVec.toInt_eq_toNat_cond, if_pos (by omega)]

/-- An index that is not negative is used as it is. -/
theorem wrap_word (a b : BitVec 32) (h : a.toNat < 64) : Scalar.select (IntOp.cmpi .slt a 0#32) b a = a := by
  have e : a.slt 0#32 = false := by
    rw [BitVec.slt, small_word a h]
    exact decide_eq_false (by rw [show (0#32).toInt = 0 from rfl]; omega)
  rw [show IntOp.cmpi .slt a 0#32 = 0#1 from (show BitVec.ofBool (a.slt 0#32) = 0#1 by rw [e]; rfl)]
  rfl

theorem v6_at (x1 : (⟨S96, .i32⟩ : BufTy).Contents (Elt Ideal)) (h : ∀ x, BitVec.toNat (x1 x) < 64) (t : Fin 96) :
    val_main_v6 (F := Ideal) x1 (ix2 t (0 : Fin 1)) = x1 (ix1 t) := by
  rw [val_main_v6_apply, val_main_v5_apply, val_main_v2_apply, val_main_v1_apply, val_main_c_apply, wrap_word _ _ (h _)]
  exact congrArg x1 (funext fun a => match a with | ⟨0, _⟩ => rfl)
theorem v14_at (x1 : (⟨S96, .i32⟩ : BufTy).Contents (Elt Ideal)) (h : ∀ x, BitVec.toNat (x1 x) < 64) (t : Fin 96) :
    val_main_v14 (F := Ideal) x1 (ix2 t (0 : Fin 1)) = x1 (ix1 t) := by
  rw [val_main_v14_apply, val_main_v13_apply, val_main_v10_apply, val_main_v9_apply, val_main_c_1_apply, wrap_word _ _ (h _)]
  exact congrArg x1 (funext fun a => match a with | ⟨0, _⟩ => rfl)
theorem v24_at (x1 : (⟨S96, .i32⟩ : BufTy).Contents (Elt Ideal)) (h : ∀ x, BitVec.toNat (x1 x) < 64) (t : Fin 96) :
    val_main_v24 (F := Ideal) x1 (ix2 t (0 : Fin 1)) = x1 (ix1 t) := by
  rw [val_main_v24_apply, val_main_v23_apply, val_main_v20_apply, val_main_v19_apply, val_main_c_3_apply, wrap_word _ _ (h _)]
  exact congrArg x1 (funext fun a => match a with | ⟨0, _⟩ => rfl)

/-- The matrices of a tile's expert. -/
theorem v7_at (x1 : (⟨S96, .i32⟩ : BufTy).Contents (Elt Ideal)) (x3 : (⟨S64x1024x512, .f32⟩ : BufTy).Contents (Elt Ideal)) (h : ∀ x, BitVec.toNat (x1 x) < 64)
    (t : Fin 96) (j : Fin 1024) (k : Fin 512) : val_main_v7 (F := Ideal) x1 x3 (ix3 t j k) = x3 (ix3 ⟨BitVec.toNat (x1 (ix1 t)), h _⟩ j k) := by
  unfold val_main_v7
  exact pick_at _ x3 _ t j k ⟨BitVec.toNat (x1 (ix1 t)), h _⟩ (by rw [v6_at x1 h]; exact small_word _ (h _))
theorem v15_at (x1 : (⟨S96, .i32⟩ : BufTy).Contents (Elt Ideal)) (x4 : (⟨S64x1024x512, .f32⟩ : BufTy).Contents (Elt Ideal)) (h : ∀ x, BitVec.toNat (x1 x) < 64)
    (t : Fin 96) (j : Fin 1024) (k : Fin 512) : val_main_v15 (F := Ideal) x1 x4 (ix3 t j k) = x4 (ix3 ⟨BitVec.toNat (x1 (ix1 t)), h _⟩ j k) := by
  unfold val_main_v15
  exact pick_at _ x4 _ t j k ⟨BitVec.toNat (x1 (ix1 t)), h _⟩ (by rw [v14_at x1 h]; exact small_word _ (h _))
theorem v25_at (x1 : (⟨S96, .i32⟩ : BufTy).Contents (Elt Ideal)) (x5 : (⟨S64x512x1024, .f32⟩ : BufTy).Contents (Elt Ideal)) (h : ∀ x, BitVec.toNat (x1 x) < 64)
    (t : Fin 96) (k : Fin 512) (d : Fin 1024) : val_main_v25 (F := Ideal) x1 x5 (ix3 t k d) = x5 (ix3 ⟨BitVec.toNat (x1 (ix1 t)), h _⟩ k d) := by
  unfold val_main_v25
  exact pick_at _ x5 _ t k d ⟨BitVec.toNat (x1 (ix1 t)), h _⟩ (by rw [v24_at x1 h]; exact small_word _ (h _))

/-- The sorted rows, tile by tile. -/
theorem v0_at (x0 : (⟨S49152x1024, .f32⟩ : BufTy).Contents (Elt Ideal)) (t : Fin 96) (n : Fin 512) (j : Fin 1024) :
    val_main_v0 (F := Ideal) x0 (ix3 t n j) = x0 (ix2 ⟨t.val * 512 + n.val, by omega⟩ j) := by
  rw [val_main_v0_apply]
  refine congrArg x0 (funext fun a => Fin.ext ?_)
  have := j.isLt
  match a with
  | ⟨0, _⟩ => show ((t.val * 512 + n.val) * 1024 + j.val) / 1024 = t.val * 512 + n.val; omega
  | ⟨1, _⟩ => show ((t.val * 512 + n.val) * 1024 + j.val) % 1024 = j.val; omega

theorem v8_at (x0 : (⟨S49152x1024, .f32⟩ : BufTy).Contents (Elt Ideal)) (x1 : (⟨S96, .i32⟩ : BufTy).Contents (Elt Ideal)) (x3 : (⟨S64x1024x512, .f32⟩ : BufTy).Contents (Elt Ideal))
    (h : ∀ x, BitVec.toNat (x1 x) < 64) (t : Fin 96) (n k : Fin 512) :
    val_main_v8 (F := Ideal) x0 x1 x3 (ix3 t n k)
      = (∑ j : Fin 1024, x0 (ix2 ⟨t.val * 512 + n.val, by omega⟩ j) * x3 (ix3 ⟨BitVec.toNat (x1 (ix1 t)), h _⟩ j k) : EReal) := by
  rw [val_main_v8_apply]
  refine Finset.sum_congr rfl fun j _ => ?_
  rw [← v0_at x0 t n j, ← v7_at x1 x3 h t j k]
  exact congrArg₂ (fun a b : EReal => a * b) (congrArg _ (funext fun a => match a with | ⟨0, _⟩ => rfl | ⟨1, _⟩ => rfl | ⟨2, _⟩ => rfl))
    (congrArg _ (funext fun a => match a with | ⟨0, _⟩ => rfl | ⟨1, _⟩ => rfl | ⟨2, _⟩ => rfl))
theorem v16_at (x0 : (⟨S49152x1024, .f32⟩ : BufTy).Contents (Elt Ideal)) (x1 : (⟨S96, .i32⟩ : BufTy).Contents (Elt Ideal)) (x4 : (⟨S64x1024x512, .f32⟩ : BufTy).Contents (Elt Ideal))
    (h : ∀ x, BitVec.toNat (x1 x) < 64) (t : Fin 96) (n k : Fin 512) :
    val_main_v16 (F := Ideal) x0 x1 x4 (ix3 t n k)
      = (∑ j : Fin 1024, x0 (ix2 ⟨t.val * 512 + n.val, by omega⟩ j) * x4 (ix3 ⟨BitVec.toNat (x1 (ix1 t)), h _⟩ j k) : EReal) := by
  rw [val_main_v16_apply]
  refine Finset.sum_congr rfl fun j _ => ?_
  rw [← v0_at x0 t n j, ← v15_at x1 x4 h t j k]
  exact congrArg₂ (fun a b : EReal => a * b) (congrArg _ (funext fun a => match a with | ⟨0, _⟩ => rfl | ⟨1, _⟩ => rfl | ⟨2, _⟩ => rfl))
    (congrArg _ (funext fun a => match a with | ⟨0, _⟩ => rfl | ⟨1, _⟩ => rfl | ⟨2, _⟩ => rfl))

theorem one_bits : (Ideal.ofBits .f32 0x3F800000#32 : EReal) = 1 := by
  unfold Ideal.ofBits Ideal.ieee
  simp
  rw [← EReal.coe_mul]
  norm_num

theorem v17_at (x0 : (⟨S49152x1024, .f32⟩ : BufTy).Contents (Elt Ideal)) (x1 : (⟨S96, .i32⟩ : BufTy).Contents (Elt Ideal)) (x3 : (⟨S64x1024x512, .f32⟩ : BufTy).Contents (Elt Ideal))
    (i : S96x512x512.Idx) :
    val_main_v17 (F := Ideal) x0 x1 x3 i = (val_main_v8 (F := Ideal) x0 x1 x3 i : EReal) * Ideal.logistic (val_main_v8 (F := Ideal) x0 x1 x3 i) := by
  rw [val_main_v17_apply, val_main_call0_v5_apply, val_main_call0_v4_apply, val_main_call0_cst_0_apply, val_main_call0_v3_apply, val_main_call0_v2_apply,
    val_main_call0_cst_apply, val_main_call0_v1_apply, val_main_call0_v0_apply]
  show (_ : EReal) * Ideal.div (Ideal.ofBits .f32 0x3F800000#32) (Ideal.ofBits .f32 0x3F800000#32 + Ideal.exp (-_)) = _
  rw [one_bits]
  rfl

theorem v18_at (x0 : (⟨S49152x1024, .f32⟩ : BufTy).Contents (Elt Ideal)) (x1 : (⟨S96, .i32⟩ : BufTy).Contents (Elt Ideal)) (x3 x4 : (⟨S64x1024x512, .f32⟩ : BufTy).Contents (Elt Ideal))
    (h : ∀ x, BitVec.toNat (x1 x) < 64) (t : Fin 96) (n k : Fin 512) :
    val_main_v18 (F := Ideal) x0 x1 x3 x4 (ix3 t n k)
      = hidV (fun j => x0 (ix2 ⟨t.val * 512 + n.val, by omega⟩ j)) (fun j k => x3 (ix3 ⟨BitVec.toNat (x1 (ix1 t)), h _⟩ j k))
          (fun j k => x4 (ix3 ⟨BitVec.toNat (x1 (ix1 t)), h _⟩ j k)) k := by
  rw [val_main_v18_apply, v17_at, v8_at x0 x1 x3 h, v16_at x0 x1 x4 h]
  rfl

theorem v26_at (x0 : (⟨S49152x1024, .f32⟩ : BufTy).Contents (Elt Ideal)) (x1 : (⟨S96, .i32⟩ : BufTy).Contents (Elt Ideal)) (x3 x4 : (⟨S64x1024x512, .f32⟩ : BufTy).Contents (Elt Ideal))
    (x5 : (⟨S64x512x1024, .f32⟩ : BufTy).Contents (Elt Ideal)) (h : ∀ x, BitVec.toNat (x1 x) < 64) (t : Fin 96) (n : Fin 512) (d : Fin 1024) :
    val_main_v26 (F := Ideal) x0 x1 x3 x4 x5 (ix3 t n d)
      = rowV (fun j => x0 (ix2 ⟨t.val * 512 + n.val, by omega⟩ j)) (fun j k => x3 (ix3 ⟨BitVec.toNat (x1 (ix1 t)), h _⟩ j k))
          (fun j k => x4 (ix3 ⟨BitVec.toNat (x1 (ix1 t)), h _⟩ j k)) (fun k => x5 (ix3 ⟨BitVec.toNat (x1 (ix1 t)), h _⟩ k d)) := by
  rw [val_main_v26_apply]
  refine Finset.sum_congr rfl fun k _ => ?_
  dsimp only
  rw [← v18_at x0 x1 x3 x4 h t n k, ← v25_at x1 x5 h t k d]
  exact congrArg₂ (fun a b : EReal => a * b) (congrArg _ (funext fun a => match a with | ⟨0, _⟩ => rfl | ⟨1, _⟩ => rfl | ⟨2, _⟩ => rfl))
    (congrArg _ (funext fun a => match a with | ⟨0, _⟩ => rfl | ⟨1, _⟩ => rfl | ⟨2, _⟩ => rfl))

/-- Whether a tile is used. -/
theorem used_word (t : Fin 96) (v : BitVec 32) (hv : 0 < v.toInt) (a b : EReal) :
    Scalar.select (IntOp.cmpi .slt (BitVec.ofNat 32 t.val) v) a b = if t.val < v.toNat then a else b := by
  have ht := t.isLt
  have e : (BitVec.ofNat 32 t.val).slt v = decide (t.val < v.toNat) := by
    rw [BitVec.slt, Cert.Kernel2Ideal.Exp.toInt_small _ ht, (Cert.Kernel2Ideal.Exp.pos_word v hv).2.2]
    exact decide_eq_decide.2 (by omega)
  rw [show IntOp.cmpi .slt (BitVec.ofNat 32 t.val) v = BitVec.ofBool (decide (t.val < v.toNat)) from congrArg BitVec.ofBool e]
  by_cases hc : t.val < v.toNat
  · rw [decide_eq_true hc, if_pos hc]; rfl
  · rw [decide_eq_false hc, if_neg hc]; rfl

theorem v29_at (x2 : (⟨S1, .i32⟩ : BufTy).Contents (Elt Ideal)) (i : S_.Idx) : val_main_v29 (F := Ideal) x2 i = x2 (ix1 (0 : Fin 1)) := by
  haveI : Subsingleton S1.Idx := ⟨fun a b => funext fun k => match k with | ⟨0, _⟩ => Subsingleton.elim (α := Fin 1) (a 0) (b 0)⟩
  unfold val_main_v29
  exact congrArg x2 (Subsingleton.elim _ _)

/-- The reference's result at a tile's row: the expert's row where the tile is used, else zero. -/
theorem v33_at (x0 : (⟨S49152x1024, .f32⟩ : BufTy).Contents (Elt Ideal)) (x1 : (⟨S96, .i32⟩ : BufTy).Contents (Elt Ideal)) (x2 : (⟨S1, .i32⟩ : BufTy).Contents (Elt Ideal))
    (x3 x4 : (⟨S64x1024x512, .f32⟩ : BufTy).Contents (Elt Ideal)) (x5 : (⟨S64x512x1024, .f32⟩ : BufTy).Contents (Elt Ideal))
    (h : ∀ x, BitVec.toNat (x1 x) < 64) (hn : ∀ x, 0 < BitVec.toInt (x2 x)) (t : Fin 96) (n : Fin 512) (d : Fin 1024) :
    val_main_v33 (F := Ideal) x0 x1 x2 x3 x4 x5 (ix2 ⟨t.val * 512 + n.val, by omega⟩ d)
      = if t.val < BitVec.toNat (x2 (ix1 (0 : Fin 1))) then
          rowV (fun j => x0 (ix2 ⟨t.val * 512 + n.val, by omega⟩ j)) (fun j k => x3 (ix3 ⟨BitVec.toNat (x1 (ix1 t)), h _⟩ j k))
            (fun j k => x4 (ix3 ⟨BitVec.toNat (x1 (ix1 t)), h _⟩ j k)) (fun k => x5 (ix3 ⟨BitVec.toNat (x1 (ix1 t)), h _⟩ k d))
        else 0 := by
  have e : idx_main_v33 (ix2 ⟨t.val * 512 + n.val, by omega⟩ d) = ix3 t n d := by
    have hn := n.isLt
    have hd := d.isLt
    refine funext fun a => Fin.ext ?_
    match a with
    | ⟨0, _⟩ => show ((t.val * 512 + n.val) * 1024 + d.val) / 524288 = t.val; omega
    | ⟨1, _⟩ => show ((t.val * 512 + n.val) * 1024 + d.val) / 1024 % 512 = n.val; omega
    | ⟨2, _⟩ => show ((t.val * 512 + n.val) * 1024 + d.val) % 1024 = d.val; omega
  rw [val_main_v33_apply, e, val_main_v32_apply, v26_at x0 x1 x3 x4 x5 h, val_main_call1_v1_apply, val_main_v31_apply, val_main_v28_apply, val_main_v27_apply,
    val_main_v30_apply, v29_at, val_main_call1_v2_apply, val_main_call1_v0_apply, val_main_cst_apply]
  refine (used_word t _ (hn _) _ _).trans ?_
  congr 1
  show Ideal.ofBits .f32 0x00000000#32 = (0 : EReal)
  unfold Ideal.ofBits Ideal.ieee
  simp

end Cert.ExpRef
-- ==== Proof.ExpValue.lean ====
module

public import proofs.«01_k».proof.Proof.ExpFrameKernel2Ideal
public import proofs.«01_k».proof.Proof.ExpRef
public import Idealize.ShloMosaic.Lib.Pipeline.ValueKit.Geometry
public import Idealize.ShloMosaic.Lib.Pipeline.Covers
public import Idealize.ShloMosaic.Lib.Claim

@[expose] public section

set_option maxRecDepth 16384

noncomputable section

namespace Cert.ExpValue

open Cert.Kernel2Ideal Cert.Kernel2Ideal.Gen Cert.Kernel2Ideal.Exp Cert.Exp
open Idealize.ShloMosaic Idealize.ShloMosaic.TcCoe

/-! The kernel's array is the reference's result. -/

variable (A : Tabs) (m : (ℓ : Loc nD τ sig) → Buf (Elt Ideal) ℓ)

/-- A tile's block at an entry: the reference's result there. -/
theorem entry (c : Dev nD) (t : Fin (cfgT A).N) (r : Fin 512) (d : Fin 1024) (x0 : S49152x1024.Idx → Elt Ideal .f32) (x3 x4 : S64x1024x512.Idx → Elt Ideal .f32)
    (x5 : S64x512x1024.Idx → Elt Ideal .f32)
    (h0 : m ((c : Thread nD τ).loc main_arg0) = x0) (h3 : m ((c : Thread nD τ).loc main_arg3) = x3) (h4 : m ((c : Thread nD τ).loc main_arg4) = x4)
    (h5 : m ((c : Thread nD τ).loc main_arg5) = x5) (hk : (crdT A t 0).val < 96) :
    outV (crdT A t) A.nu (iblkT A m c (0 : Fin 5) t) (iblkT A m c (1 : Fin 5) t) (iblkT A m c (2 : Fin 5) t) (iblkT A m c (3 : Fin 5) t) (ix2 r d)
      = Cert.Reference2Ideal.Read.val_main_v33 (F := Ideal) x0 A.te A.nu x3 x4 x5 (ix2 ⟨(crdT A t 0).val * 512 + r.val, by omega⟩ d) := by
  have en : A.nu (ix1 (0 : Fin 1)) = A.nu pt1 := congrArg A.nu (funext fun a => match a with | ⟨0, _⟩ => rfl)
  have et : A.te (ix1 (⟨(crdT A t 0).val, hk⟩ : Fin 96)) = A.te (pt (crdT A t)) := congrArg A.te (funext fun a => match a with | ⟨0, _⟩ => rfl)
  have etn : BitVec.toNat (A.te (ix1 (⟨(crdT A t 0).val, hk⟩ : Fin 96))) = teN A (crdT A t) := congrArg (fun w : BitVec 32 => w.toNat) et
  refine (outV_at _ _ (A.nu_pos _) _ _ _ _ r d).trans ?_
  refine Eq.trans ?_ (Cert.ExpRef.v33_at x0 A.te A.nu x3 x4 x5 A.te_lt A.nu_pos ⟨(crdT A t 0).val, hk⟩ r d).symm
  rw [en]
  by_cases hu : (crdT A t 0).val < BitVec.toNat (A.nu pt1)
  · rw [if_pos hu, if_pos hu]
    have hm : min (crdT A t 0).val (nuN A - 1) = (crdT A t 0).val := Nat.min_eq_left (Nat.le_sub_one_of_lt hu)
    have e0 : ∀ j : Fin 1024, iblkT A m c (0 : Fin 5) t (ix2 r j) = x0 (ix2 ⟨(crdT A t 0).val * 512 + r.val, by omega⟩ j) := fun j =>
      (iblk_0 A m c t _ (ix2 ⟨(crdT A t 0).val * 512 + r.val, by omega⟩ j) (by rw [hm]; rfl) rfl).trans (congrFun h0 _)
    have e1 : ∀ (j : Fin 1024) (k : Fin 512), iblkT A m c (1 : Fin 5) t (ix3 0 j k) = x3 (ix3 ⟨BitVec.toNat (A.te (ix1 (⟨(crdT A t 0).val, hk⟩ : Fin 96))), A.te_lt _⟩ j k) := fun j k =>
      (iblk_1 A m c t _ (ix3 ⟨BitVec.toNat (A.te (ix1 (⟨(crdT A t 0).val, hk⟩ : Fin 96))), A.te_lt _⟩ j k) etn rfl rfl).trans (congrFun h3 _)
    have e2 : ∀ (j : Fin 1024) (k : Fin 512), iblkT A m c (2 : Fin 5) t (ix3 0 j k) = x4 (ix3 ⟨BitVec.toNat (A.te (ix1 (⟨(crdT A t 0).val, hk⟩ : Fin 96))), A.te_lt _⟩ j k) := fun j k =>
      (iblk_2 A m c t _ (ix3 ⟨BitVec.toNat (A.te (ix1 (⟨(crdT A t 0).val, hk⟩ : Fin 96))), A.te_lt _⟩ j k) etn rfl rfl).trans (congrFun h4 _)
    have e3 : ∀ k : Fin 512, iblkT A m c (3 : Fin 5) t (ix3 0 k d) = x5 (ix3 ⟨BitVec.toNat (A.te (ix1 (⟨(crdT A t 0).val, hk⟩ : Fin 96))), A.te_lt _⟩ k d) := fun k =>
      (iblk_3 A m c t _ (ix3 ⟨BitVec.toNat (A.te (ix1 (⟨(crdT A t 0).val, hk⟩ : Fin 96))), A.te_lt _⟩ k d) etn rfl rfl).trans (congrFun h5 _)
    exact congr (congr (congr (congrArg rowV (funext e0)) (funext fun j => funext (e1 j))) (funext fun j => funext (e2 j))) (funext e3)
  · rw [if_neg hu, if_neg hu]

/-- Every block of the result is some tile's. -/
theorem covers : ((cfgT A).win (4 : Fin 5)).Covers := by
  refine Pipeline.Window.covers_of_indexMap_surj _ rfl (fun a => ?_) (fun β => ?_)
  · match a with
    | ⟨0, _⟩ => exact (by decide : 0 < 512)
    | ⟨1, _⟩ => exact (by decide : 0 < 1024)
  · have h0 : (β (0 : Fin 2)).val < 96 := lt_of_lt_of_eq (β (0 : Fin 2)).isLt (show (49152 + 512 - 1) / 512 = 96 from by decide)
    have h1 : (β (1 : Fin 2)).val < 1 := lt_of_lt_of_eq (β (1 : Fin 2)).isLt (show (1024 + 1024 - 1) / 1024 = 1 from by decide)
    let i : grid0.Coords := fun k => match k with | ⟨0, _⟩ => ⟨(β (0 : Fin 2)).val, h0⟩
    have e := ix_4 i
    refine ⟨i, fun a => ?_⟩
    show cc0_transform_4 i a = _
    rw [e]
    match a with
    | ⟨0, _⟩ => rfl
    | ⟨1, _⟩ => exact (Nat.lt_one_iff.1 h1).symm

/-- The kernel's array is the reference's result, at tables in range. -/
theorem result (c : Dev nD) (hp : Holds A m) :
    (dats A m 0 c).arrAt (4 : Fin 5) (cfgT A).N
      = Cert.Reference2Ideal.Read.val_main_v33 (F := Ideal) (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)) (m ((c.tc : Thread nD τ).loc main_arg5)) := by
  rw [show m ((c.tc : Thread nD τ).loc main_arg1) = A.te from hp.1 c, show m ((c.tc : Thread nD τ).loc main_arg2) = A.nu from hp.2 c]
  refine (dats A m 0 c).arrAt_eq_of_covers (4 : Fin 5) _ (covers A) fun t _ y => ?_
  blk_simp
  rw [after_4]
  obtain ⟨r, d, rfl⟩ : ∃ (r : Fin 512) (d : Fin 1024), y = ix2 r d := ⟨_, _, eq_ix2 y⟩
  have e4 : (pcfg0.win (admT A) 4).index t = ![(crdT A t 0).val, 0] := ix_4 (crdT A t)
  refine (entry A m c t r d _ _ _ _ rfl rfl rfl rfl (crdT A t 0).isLt).trans ?_
  refine congrArg _ ?_
  blk_ext [e4]

end Cert.ExpValue
-- ==== Proof.ProjRefFrame.lean ====
module

public import proofs.«01_k».proof.Proof.Gen.Reference3Ideal.Run
public import Idealize.ShloMosaic.Lib.Quiescent

@[expose] public section

noncomputable section

namespace Cert.Reference3Ideal.Body

open Idealize.ShloMosaic Idealize.ShloMosaic.TcCoe Idealize.SL.Sem Cert.Reference3Ideal

/-- The reference's frame: every fair run ends with the arguments unchanged and every counter at zero. -/
theorem frame {F : FTy → Type} [FloatOps F] (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => (h c).2.2.2, sem_eq_zero_of_no_sems (by decide) r.2⟩)
    (Cert.Reference3Ideal.Value.run m ρ)

end Cert.Reference3Ideal.Body

end
-- ==== Proof.ProjPay.lean ====
module

public import proofs.«01_k».proof.Proof.Gen.Kernel3Ideal.Frame
public import Idealize.ShloMosaic.Lib.Pointwise
public import Idealize.ShloMosaic.Lib.Pipeline.ValueKit
public import Idealize.ShloMosaic.Lib.Claim

@[expose] public section

set_option maxRecDepth 16384

noncomputable section

namespace Cert.Proj

open Cert.Kernel3Ideal Cert.Kernel3Ideal.Gen
open Idealize.ShloMosaic Idealize.ShloMosaic.TcCoe

/-! What a block of the projection holds, entry by entry, over the extended reals. -/

/-- The normed row, scaled and shifted, at entry `j`. -/
def hV (x sh sc g : Fin 1024 → EReal) (j : Fin 1024) : EReal :=
  x j * Ideal.rsqrt (Ideal.div (∑ k, x k * x k) (Ideal.ofBits .f32 0x44800000#32) + Ideal.ofBits .f32 0x358637BD#32) * g j
    * (1 + sc j) + sh j

/-- A projected entry: the weights' row against the normed row. -/
def pV (w h : Fin 1024 → EReal) : EReal := ∑ j, w j * h j

/-- The queries' factor. -/
abbrev qc : EReal := Ideal.ofBits .f32 0x3E38AA3B#32

theorem pay3_at (x : Vec Ideal S1x1024x1024 .f32) (md : Vec Ideal S1x6x1024 .f32) (g : Vec Ideal S1x1024 .f32) (r j : Fin 1024) :
    k0_pay3 (F := Ideal) x md g (ix2 r j)
      = hV (fun j => x (ix3 0 r j)) (fun j => md (ix3 0 0 j)) (fun j => md (ix3 0 1 j)) (fun j => g (ix2 0 j)) j := by
  pointwise [k0_pay3, hV]

theorem pay4_at (x : Vec Ideal S1x1024x1024 .f32) (md : Vec Ideal S1x6x1024 .f32) (g : Vec Ideal S1x1024 .f32) (w : Vec Ideal S512x1024 .bf16) (o : Fin 512) (r : Fin 1024) :
    k0_pay4 (F := Ideal) x md g w (ix3 0 o r) = pV (fun j => w (ix2 o j)) (fun j => k0_pay3 (F := Ideal) x md g (ix2 r j)) * qc := by
  pointwise [k0_pay4, pV]
theorem pay5_at (h : FVec Ideal S1024x1024 .bf16) (w : Vec Ideal S512x1024 .bf16) (o : Fin 512) (r : Fin 1024) :
    k0_pay5 (F := Ideal) h w (ix3 0 o r) = pV (fun j => w (ix2 o j)) (fun j => h (ix2 r j)) * qc := by
  pointwise [k0_pay5, pV]
theorem pay6_at (h : FVec Ideal S1024x1024 .bf16) (w : Vec Ideal S512x1024 .bf16) (o : Fin 512) (r : Fin 1024) :
    k0_pay6 (F := Ideal) h w (ix3 0 o r) = pV (fun j => w (ix2 o j)) (fun j => h (ix2 r j)) := by
  pointwise [k0_pay6, pV]
theorem pay7_at (h : FVec Ideal S1024x1024 .bf16) (w : Vec Ideal S512x1024 .bf16) (o : Fin 512) (r : Fin 1024) :
    k0_pay7 (F := Ideal) h w (ix3 0 o r) = pV (fun j => w (ix2 o j)) (fun j => h (ix2 r j)) := by
  pointwise [k0_pay7, pV]
theorem pay8_at (h : FVec Ideal S1024x1024 .bf16) (w : Vec Ideal S512x1024 .bf16) (o : Fin 512) (r : Fin 1024) :
    k0_pay1 (F := Ideal) (k0_pay8 (F := Ideal) h w) (ix3 0 o r) = pV (fun j => w (ix2 o j)) (fun j => h (ix2 r j)) := by
  pointwise [k0_pay1, k0_pay8, pV]
theorem pay2_at (h : FVec Ideal S1024x1024 .bf16) (w : Vec Ideal S512x1024 .bf16) (o : Fin 512) (r : Fin 1024) :
    k0_pay2 (F := Ideal) h w (ix3 0 o r) = pV (fun j => w (ix2 o j)) (fun j => h (ix2 r j)) := by
  pointwise [k0_pay2, pV]

/-- A block written in two halves of rows, read back. -/
theorem canon_halves (i0 : ∀ a, ![0, 0, 0] a + ![1, 512, 1024] a ≤ S1x1024x1024.size a) (i1 : ∀ a, ![0, 512, 0] a + ![1, 512, 1024] a ≤ S1x1024x1024.size a)
    (w0 w1 : S1x512x1024.Idx → Elt Ideal .bf16) (o r : Fin 1024) :
    View.canon [(⟨Rect.unit (s := S1x1024x1024) ![0, 512, 0] ![1, 512, 1024] i1, w1⟩ : View.Piece (Elt Ideal) S1x1024x1024 .bf16),
        ⟨Rect.unit (s := S1x1024x1024) ![0, 0, 0] ![1, 512, 1024] i0, w0⟩] (ix3 0 o r)
      = if h : o.val < 512 then w0 (ix3 0 ⟨o.val, h⟩ r) else w1 (ix3 0 ⟨o.val - 512, by omega⟩ r) := by
  by_cases h : o.val < 512
  · rw [dif_pos h]
    refine (View.canon_cons_of_not_mem _ _ ?_).trans ?_
    · intro hm
      have hm' : (ix3 0 o r : S1x1024x1024.Idx) ∈ (Rect.unit (s := S1x1024x1024) ![0, 512, 0] ![1, 512, 1024] i1).set := hm
      rw [Rect.mem_set_unit] at hm'
      exact absurd (hm' 1).1 (show ¬ 512 ≤ o.val by omega)
    · have hx : (ix3 0 o r : S1x1024x1024.Idx)
          = (Rect.unit (s := S1x1024x1024) ![0, 0, 0] ![1, 512, 1024] i0).emb (ix3 0 ⟨o.val, h⟩ r : S1x512x1024.Idx) := by
        funext a
        refine Fin.ext ?_
        rw [ValueKit.rect_emb_unit_val]
        match a with
        | ⟨0, _⟩ => rfl
        | ⟨1, _⟩ => exact (Nat.zero_add _).symm
        | ⟨2, _⟩ => exact (Nat.zero_add _).symm
      rw [hx]
      exact View.canon_cons_emb (Rect.unit (s := S1x1024x1024) ![0, 0, 0] ![1, 512, 1024] i0) w0 [] _
  · rw [dif_neg h]
    have hx : (ix3 0 o r : S1x1024x1024.Idx)
        = (Rect.unit (s := S1x1024x1024) ![0, 512, 0] ![1, 512, 1024] i1).emb (ix3 0 ⟨o.val - 512, by omega⟩ r : S1x512x1024.Idx) := by
      funext a
      refine Fin.ext ?_
      rw [ValueKit.rect_emb_unit_val]
      match a with
      | ⟨0, _⟩ => rfl
      | ⟨1, _⟩ => exact (show o.val = 512 + (o.val - 512) by omega)
      | ⟨2, _⟩ => exact (Nat.zero_add _).symm
    rw [hx]
    exact View.canon_cons_emb (Rect.unit (s := S1x1024x1024) ![0, 512, 0] ![1, 512, 1024] i1) w1 _ _

/-- 512 rows of the weights, from row `o` on. -/
theorem rows_at (X : S3072x1024.Idx → Elt Ideal .bf16) (o : ℕ) (inb : ∀ a, ![o, 0] a + ![512, 1024] a ≤ S3072x1024.size a) (i : Fin 512) (j : Fin 1024) (k : Fin 3072)
    (hk : k.val = o + i.val) : View.ld X (Rect.unit (s := S3072x1024) ![o, 0] ![512, 1024] inb) (ix2 i j : S512x1024.Idx) = X (ix2 k j) := by
  refine View.ld_unit_apply_of X _ _ inb _ _ fun a => ?_
  match a with
  | ⟨0, _⟩ => exact hk
  | ⟨1, _⟩ => exact (Nat.zero_add _).symm

theorem ld0 (X : Vec Ideal S1x1024x1024 .f32) : View.ld X r0_0 = X := View.ld_unit_lit' _ _ (by decide)
theorem ld1 (X : Vec Ideal S1x6x1024 .f32) : View.ld X r0_1 = X := View.ld_unit_lit' _ _ (by decide)
theorem ld2 (X : Vec Ideal S1x1024 .f32) : View.ld X r0_2 = X := View.ld_unit_lit' _ _ (by decide)

/-- A block's entry: the weights' row `k` against the row's normed entries. -/
def eV (x : Vec Ideal S1x1024x1024 .f32) (md : Vec Ideal S1x6x1024 .f32) (g : Vec Ideal S1x1024 .f32) (w : Vec Ideal S3072x1024 .bf16) (k : Fin 3072) (r : Fin 1024) : EReal :=
  pV (fun j => w (ix2 k j)) (hV (fun j => x (ix3 0 r j)) (fun j => md (ix3 0 0 j)) (fun j => md (ix3 0 1 j)) (fun j => g (ix2 0 j)))

variable (x : Vec Ideal S1x1024x1024 .f32) (md : Vec Ideal S1x6x1024 .f32) (g : Vec Ideal S1x1024 .f32) (w : Vec Ideal S3072x1024 .bf16)

theorem pay9_eq : k0_pay9 (F := Ideal) x md g w = k0_pay3 (F := Ideal) x md g := by
  unfold k0_pay9
  rw [ld0, ld1, ld2]

theorem pV_rows (o : ℕ) (inb : ∀ a, ![o, 0] a + ![512, 1024] a ≤ S3072x1024.size a) (i : Fin 512) (r : Fin 1024) (k : Fin 3072) (hk : k.val = o + i.val) :
    pV (fun j => View.ld w (Rect.unit (s := S3072x1024) ![o, 0] ![512, 1024] inb) (ix2 i j : S512x1024.Idx)) (fun j => k0_pay3 (F := Ideal) x md g (ix2 r j)) = eV x md g w k r :=
  congrArg₂ pV (funext fun j => rows_at w o inb i j k hk) (funext fun j => pay3_at x md g r j)

theorem out4_at (o r : Fin 1024) : out0_4 (F := Ideal) x md g w (ix3 0 o r) = eV x md g w ⟨o.val, by omega⟩ r * qc := by
  unfold out0_4
  rw [pay9_eq, ld0, ld1, ld2]
  refine (canon_halves _ _ _ _ o r).trans ?_
  by_cases h : o.val < 512
  · rw [dif_pos h, pay4_at]
    exact congrArg (· * qc) (pV_rows x md g w 0 _ _ r _ (Nat.zero_add _).symm)
  · rw [dif_neg h, pay5_at]
    exact congrArg (· * qc) (pV_rows x md g w 512 _ _ r _ (show o.val = 512 + (o.val - 512) by omega))

theorem out5_at (o r : Fin 1024) : out0_5 (F := Ideal) x md g w (ix3 0 o r) = eV x md g w ⟨1024 + o.val, by omega⟩ r := by
  unfold out0_5
  rw [pay9_eq]
  refine (canon_halves _ _ _ _ o r).trans ?_
  by_cases h : o.val < 512
  · rw [dif_pos h, pay6_at]
    exact pV_rows x md g w 1024 _ _ r _ rfl
  · rw [dif_neg h, pay7_at]
    exact pV_rows x md g w 1536 _ _ r _ (show 1024 + o.val = 1536 + (o.val - 512) by omega)

theorem out6_at (o r : Fin 1024) : out0_6 (F := Ideal) x md g w (ix3 0 o r) = eV x md g w ⟨2048 + o.val, by omega⟩ r := by
  unfold out0_6
  rw [pay9_eq]
  refine (canon_halves _ _ _ _ o r).trans ?_
  by_cases h : o.val < 512
  · rw [dif_pos h, pay8_at]
    exact pV_rows x md g w 2048 _ _ r _ rfl
  · rw [dif_neg h, pay2_at]
    exact pV_rows x md g w 2560 _ _ r _ (show 2048 + o.val = 2560 + (o.val - 512) by omega)

end Cert.Proj
-- ==== Proof.ProjRef.lean ====
module

public import proofs.«01_k».proof.Proof.ProjPay
public import proofs.«01_k».proof.Proof.Gen.Reference3Ideal.Read

@[expose] public section

set_option maxRecDepth 16384

noncomputable section

namespace Cert.ProjRef

open Cert.Reference3Ideal Cert.Reference3Ideal.Read Cert.Reference3Ideal.Gen Cert.Proj
open Idealize.ShloMosaic Idealize.ShloMosaic.TcCoe

/-! What the reference computes, entry by entry. -/

variable (x0 : (⟨S4x4096x1024, .f32⟩ : BufTy).Contents (Elt Ideal)) (x1 : (⟨S4x6x1024, .f32⟩ : BufTy).Contents (Elt Ideal)) (x2 : (⟨S1024, .f32⟩ : BufTy).Contents (Elt Ideal))
  (x3 : (⟨S1024x3072, .f32⟩ : BufTy).Contents (Elt Ideal))

theorem v20_at (b : Fin 4) (s : Fin 4096) (j : Fin 1024) :
    val_main_v20 (F := Ideal) x0 x1 x2 (ix3 b s j) = hV (fun j => x0 (ix3 b s j)) (fun j => x1 (ix3 b 0 j)) (fun j => x1 (ix3 b 1 j)) (fun j => x2 (ix1 j)) j := by
  pointwise [val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, hV]

theorem v21_at (b : Fin 4) (s : Fin 4096) (k : Fin 3072) :
    val_main_v21 (F := Ideal) x0 x1 x2 x3 (ix3 b s k) = pV (fun j => x3 (ix2 j k)) (hV (fun j => x0 (ix3 b s j)) (fun j => x1 (ix3 b 0 j)) (fun j => x1 (ix3 b 1 j)) (fun j => x2 (ix1 j))) := by
  rw [val_main_v21_apply]
  refine Finset.sum_congr rfl fun j _ => ?_
  rw [mul_comm]
  refine congrArg₂ (fun a b : EReal => a * b) (congrArg x3 (funext fun a => match a with | ⟨0, _⟩ => rfl | ⟨1, _⟩ => rfl)) ?_
  rw [← v20_at]
  exact congrArg _ (funext fun a => match a with | ⟨0, _⟩ => rfl | ⟨1, _⟩ => rfl | ⟨2, _⟩ => rfl)

theorem v28_at (b : Fin 4) (o : Fin 1024) (s : Fin 4096) :
    val_main_v28 (F := Ideal) x0 x1 x2 x3 (ix3 b o s) = val_main_v21 (F := Ideal) x0 x1 x2 x3 (ix3 b s ⟨o.val, by omega⟩) * qc := by
  pointwise [val_main_v28, val_main_v27, val_main_v26, val_main_v25, val_main_cst_3, val_main_v22]
theorem v30_at (b : Fin 4) (o : Fin 1024) (s : Fin 4096) :
    val_main_v30 (F := Ideal) x0 x1 x2 x3 (ix3 b o s) = val_main_v21 (F := Ideal) x0 x1 x2 x3 (ix3 b s ⟨1024 + o.val, by omega⟩) := by
  pointwise [val_main_v30, val_main_v29, val_main_v23]
theorem v32_at (b : Fin 4) (o : Fin 1024) (s : Fin 4096) :
    val_main_v32 (F := Ideal) x0 x1 x2 x3 (ix3 b o s) = val_main_v21 (F := Ideal) x0 x1 x2 x3 (ix3 b s ⟨2048 + o.val, by omega⟩) := by
  pointwise [val_main_v32, val_main_v31, val_main_v24]

end Cert.ProjRef
-- ==== Proof.ProjValue.lean ====
module

public import proofs.«01_k».proof.Proof.ProjRef
public import Idealize.ShloMosaic.Lib.Pipeline.ValueKit.Geometry
public import Idealize.ShloMosaic.Lib.Pipeline.Covers
public import Idealize.ShloMosaic.Lib.Claim

@[expose] public section

set_option maxRecDepth 16384

noncomputable section

namespace Cert.ProjValue

open Cert.Kernel3Ideal Cert.Kernel3Ideal.Gen Cert.Proj
open Idealize.ShloMosaic Idealize.ShloMosaic.TcCoe

/-! The equation of the three results: each output array block by block. -/

/-- Where each window's block lies at a point. -/
theorem idx : ∀ t : Fin cfg0.N,
    win0_0.index t = ![(grid0.coords t 0).val, (grid0.coords t 1).val, 0]
      ∧ win0_1.index t = ![(grid0.coords t 0).val, 0, 0]
      ∧ win0_2.index t = ![0, 0]
      ∧ win0_3.index t = ![0, 0]
      ∧ win0_4.index t = ![(grid0.coords t 0).val, 0, (grid0.coords t 1).val]
      ∧ win0_5.index t = ![(grid0.coords t 0).val, 0, (grid0.coords t 1).val]
      ∧ win0_6.index t = ![(grid0.coords t 0).val, 0, (grid0.coords t 1).val] :=
  (by decide +kernel : ∀ t : Fin grid0.N, _)

variable (m : (ℓ : Loc nD τ sig) → Buf (Elt Ideal) ℓ)

theorem blk0 (c : Dev nD) (t : Fin cfg0.N) (r j : Fin 1024) (b s : Fin 4) (hb : (grid0.coords t 0).val = b.val) (hs : (grid0.coords t 1).val = s.val) :
    (iblk m c 0 t : Vec Ideal S1x1024x1024 .f32) (ix3 0 r j) = (m ((c.tc : Thread nD τ).loc main_arg0) : S4x4096x1024.Idx → Elt Ideal .f32) (ix3 b ⟨s.val * 1024 + r.val, by omega⟩ j) := by
  obtain ⟨e0, e1, e2, e3, e4, e5, e6⟩ := idx t
  blk_simp [iblk]
  refine (congrFun (V_main_arg0 m c) _).trans ?_
  refine congrArg _ ?_
  blk_ext [e0]

theorem blk1 (c : Dev nD) (t : Fin cfg0.N) (i : Fin 6) (j : Fin 1024) (b : Fin 4) (hb : (grid0.coords t 0).val = b.val) :
    (iblk m c 1 t : Vec Ideal S1x6x1024 .f32) (ix3 0 i j) = (m ((c.tc : Thread nD τ).loc main_arg1) : S4x6x1024.Idx → Elt Ideal .f32) (ix3 b i j) := by
  obtain ⟨e0, e1, e2, e3, e4, e5, e6⟩ := idx t
  blk_simp [iblk]
  refine (congrFun (V_main_arg1 m c) _).trans ?_
  refine congrArg _ ?_
  blk_ext [e1]

theorem blk2 (c : Dev nD) (t : Fin cfg0.N) (j : Fin 1024) :
    (iblk m c 2 t : Vec Ideal S1x1024 .f32) (ix2 0 j) = (m ((c.tc : Thread nD τ).loc main_arg2) : S1024.Idx → Elt Ideal .f32) (ix1 j) := by
  obtain ⟨e0, e1, e2, e3, e4, e5, e6⟩ := idx t
  blk_simp [iblk]
  entry_read
  pointwise
  refine congrArg _ ?_
  blk_ext [e2]

theorem blk3 (c : Dev nD) (t : Fin cfg0.N) (k : Fin 3072) (j : Fin 1024) :
    (iblk m c 3 t : Vec Ideal S3072x1024 .bf16) (ix2 k j) = (m ((c.tc : Thread nD τ).loc main_arg3) : S1024x3072.Idx → Elt Ideal .f32) (ix2 j k) := by
  obtain ⟨e0, e1, e2, e3, e4, e5, e6⟩ := idx t
  blk_simp [iblk]
  entry_read
  pointwise
  refine congrArg _ ?_
  blk_ext [e3]

/-- A block's entry is the reference's product at the block's place. -/
theorem entry (c : Dev nD) (t : Fin cfg0.N) (b s : Fin 4) (hb : (grid0.coords t 0).val = b.val) (hs : (grid0.coords t 1).val = s.val) (k : Fin 3072) (r : Fin 1024) :
    eV (iblk m c 0 t) (iblk m c 1 t) (iblk m c 2 t) (iblk m c 3 t) k r
      = Cert.Reference3Ideal.Read.val_main_v21 (F := Ideal) (m ((c.tc : Thread nD τ).loc main_arg0)) (m ((c.tc : Thread nD τ).loc main_arg1)) (m ((c.tc : Thread nD τ).loc main_arg2)) (m ((c.tc : Thread nD τ).loc main_arg3))
          (ix3 b ⟨s.val * 1024 + r.val, by omega⟩ k) := by
  rw [Cert.ProjRef.v21_at]
  unfold eV
  have w0 := funext fun j => blk0 m c t r j b s hb hs
  have w1 := funext fun j => blk1 m c t 0 j b hb
  have w2 := funext fun j => blk1 m c t 1 j b hb
  have w3 := funext fun j => blk2 m c t j
  have w4 := funext fun j => blk3 m c t k j
  rw [w0, w1, w2, w3, w4]

/-- The queries: the kernel's array is the reference's result. -/
theorem result4 (c : Dev nD) : (dats m 0 c).arrAt 4 cfg0.N
    = Cert.Reference3Ideal.Read.val_main_v28 (F := Ideal) (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 4 _ (by decide +kernel) fun t _ y => ?_
  blk_simp
  rw [after0_4]
  obtain ⟨e0, e1, e2, e3, e4, e5, e6⟩ := idx t
  have hb : (grid0.coords t 0).val < 4 := (grid0.coords t 0).isLt
  have hs : (grid0.coords t 1).val < 4 := (grid0.coords t 1).isLt
  obtain ⟨z, o, r, rfl⟩ : ∃ (z : Fin 1) (o r : Fin 1024), y = ix3 z o r := ⟨_, _, _, eq_ix3 y⟩
  obtain rfl : z = 0 := Subsingleton.elim _ _
  refine (out4_at _ _ _ _ o r).trans ?_
  rw [entry m c t ⟨_, hb⟩ ⟨_, hs⟩ rfl rfl]
  refine (Cert.ProjRef.v28_at _ _ _ _ ⟨_, hb⟩ o ⟨(grid0.coords t 1).val * 1024 + r.val, by omega⟩).symm.trans ?_
  refine congrArg _ ?_
  blk_ext [e4]

/-- The keys: the kernel's array is the reference's result. -/
theorem result5 (c : Dev nD) : (dats m 0 c).arrAt 5 cfg0.N
    = Cert.Reference3Ideal.Read.val_main_v30 (F := Ideal) (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 5 _ (by decide +kernel) fun t _ y => ?_
  blk_simp
  rw [after0_5]
  obtain ⟨e0, e1, e2, e3, e4, e5, e6⟩ := idx t
  have hb : (grid0.coords t 0).val < 4 := (grid0.coords t 0).isLt
  have hs : (grid0.coords t 1).val < 4 := (grid0.coords t 1).isLt
  obtain ⟨z, o, r, rfl⟩ : ∃ (z : Fin 1) (o r : Fin 1024), y = ix3 z o r := ⟨_, _, _, eq_ix3 y⟩
  obtain rfl : z = 0 := Subsingleton.elim _ _
  refine (out5_at _ _ _ _ o r).trans ?_
  rw [entry m c t ⟨_, hb⟩ ⟨_, hs⟩ rfl rfl]
  refine (Cert.ProjRef.v30_at _ _ _ _ ⟨_, hb⟩ o ⟨(grid0.coords t 1).val * 1024 + r.val, by omega⟩).symm.trans ?_
  refine congrArg _ ?_
  blk_ext [e5]

/-- The values: the kernel's array is the reference's result. -/
theorem result6 (c : Dev nD) : (dats m 0 c).arrAt 6 cfg0.N
    = Cert.Reference3Ideal.Read.val_main_v32 (F := Ideal) (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 6 _ (by decide +kernel) fun t _ y => ?_
  blk_simp
  rw [after0_6]
  obtain ⟨e0, e1, e2, e3, e4, e5, e6⟩ := idx t
  have hb : (grid0.coords t 0).val < 4 := (grid0.coords t 0).isLt
  have hs : (grid0.coords t 1).val < 4 := (grid0.coords t 1).isLt
  obtain ⟨z, o, r, rfl⟩ : ∃ (z : Fin 1) (o r : Fin 1024), y = ix3 z o r := ⟨_, _, _, eq_ix3 y⟩
  obtain rfl : z = 0 := Subsingleton.elim _ _
  refine (out6_at _ _ _ _ o r).trans ?_
  rw [entry m c t ⟨_, hb⟩ ⟨_, hs⟩ rfl rfl]
  refine (Cert.ProjRef.v32_at _ _ _ _ ⟨_, hb⟩ o ⟨(grid0.coords t 1).val * 1024 + r.val, by omega⟩).symm.trans ?_
  refine congrArg _ ?_
  blk_ext [e6]

end Cert.ProjValue
-- ==== Proof.FoxRunKernel4Ideal.lean ====
module

public import proofs.«01_k».proof.Proof.Gen.Kernel4Ideal.Frame
public import proofs.«01_k».proof.Proof.Gen.Kernel4Ideal.Skeleton
public import Idealize.ShloMosaic.Lib.Exec

@[expose] public section

set_option maxRecDepth 16384

noncomputable section

namespace Cert.Kernel4Ideal.Body

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F] [Named F]

local notation "𝕄" => MT nD τ sig Unit (Elt F) ℕ (UR sig nD τ) ℕ

/-- The grid's last axis has one point, so the loop over the key tiles below the diagonal makes no trip. -/
theorem trips1 : ∀ i : grid0.Coords, (k0_t1_loop i).trips = 0 := by decide +kernel
/-- The same of the second loop. -/
theorem trips2 : ∀ i : grid0.Coords, (k0_t2_loop i).trips = 0 := by decide +kernel

/-- A loop of no trips returns what it starts from. -/
theorem for_zero.{v} {w : Nat} {E : Type → Type v} {σ : Type} (l : Scf.Loop w) (hok : l.OK) (init : σ)
    (body : Fin l.trips → σ → Prog E σ) (h : l.trips = 0) : Scf.Loop.for l hok init body = .ret init := by
  have hl : List.finRange l.trips = [] := by
    apply List.eq_nil_of_length_eq_zero; rw [List.length_finRange]; exact h
  rw [Scf.Loop.for, Scf.for_eq]
  exact (congrArg (fun ks => Scf.forFrom body ks init) hl)

set_option maxHeartbeats 4000000 in
/-- The body runs from the inputs at their contents and the other buffers at anything, leaves the inputs as they were, and
    leaves in the output buffer the pieces `L3`, which the run finds. -/
def kernelRun (c : Dev nD) (i : grid0.Coords) (arg3 : Memref sig .tc .vmem S1x160x4096 .bf16) (harg3 : arg3.IsWhole) (arg4 : Memref sig .tc .vmem S1x160x4096 .bf16) (harg4 : arg4.IsWhole) (arg5 : Memref sig .tc .vmem S1x128x4096 .bf16) (harg5 : arg5.IsWhole) (arg6 : Memref sig .tc .vmem S1x4096x128 .bf16) (harg6 : arg6.IsWhole) (arg7 : Memref sig .tc .vmem S1x4096 .f32) (harg7 : arg7.IsWhole) (arg8 : Memref sig .tc .vmem S1x4096 .f32) (harg8 : arg8.IsWhole) (arg9 : Memref sig .tc .vmem S1x4096 .f32) (harg9 : arg9.IsWhole) (arg10 : Memref sig .tc .vmem S1x4096 .f32) (harg10 : arg10.IsWhole) (arg11 : Memref sig .tc .vmem S64x4096 .f32) (harg11 : arg11.IsWhole) (arg12 : Memref sig .tc .vmem S64x4096 .f32) (harg12 : arg12.IsWhole)
    (x0 : Vec F S1x160x4096 .bf16) (x1 : Vec F S1x160x4096 .bf16) (x2 : Vec F S1x128x4096 .bf16) :
    { L3 : List (View.Piece (Elt F) S1x4096x128 .bf16) // ∀ (K : PUnit → sProp 𝕄),
    iprop(owns (c : Thread nD τ) arg3 fullShare x0 ∗ owns (c : Thread nD τ) arg4 fullShare x1 ∗ owns (c : Thread nD τ) arg5 fullShare x2 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
      ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)) -∗ K ⟨⟩))
    ⊢ wp frame (wpE (defs₀ (F := F)) Variants.none c none) Set.univ (cc0_attn_fox i arg3 harg3 arg4 harg4 arg5 harg5 arg6 harg6 arg7 harg7 arg8 harg8 arg9 harg9 arg10 harg10 arg11 harg11 arg12 harg12) K } := by
  refine ⟨?_, fun K => ?run⟩
  case run =>
    simp only [cc0_attn_fox_eq_skeleton]; unfold cc0_attn_fox_skel
    simp only [k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton]
    unfold k0_part6_skel k0_part7_skel k0_part8_skel k0_part9_skel k0_part10_skel k0_part11_skel k0_part12_skel k0_part13_skel k0_part14_skel k0_part15_skel
    simp only [for_zero _ _ _ _ (trips1 i), for_zero _ _ _ _ (trips2 i)]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, Hk⟩
    obtain rfl := harg3.eq_unread hf0; obtain rfl := harg4.eq_unread hf1; obtain rfl := harg5.eq_unread hf2
    sl_exec!
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [H4]
    · iexists _; iexists _; isplitr
      swap; · iexact H4
      ipureintro; rfl
    isplitl [H5]
    · iexists _; iexists _; isplitr
      swap; · iexact H5
      ipureintro; rfl
    isplitl [H6]
    · iexists _; iexists _; isplitr
      swap; · iexact H6
      ipureintro; rfl
    isplitl [H7]
    · iexists _; iexists _; isplitr
      swap; · iexact H7
      ipureintro; rfl
    isplitl [H8]
    · iexists _; iexists _; isplitr
      swap; · iexact H8
      ipureintro; rfl
    iexists _; iexists _; isplitr
    swap; · iexact H9
    ipureintro; rfl

end Cert.Kernel4Ideal.Body

end
-- ==== Proof.FoxFrameKernel4Ideal.lean ====
module

public import proofs.«01_k».proof.Proof.FoxRunKernel4Ideal
public import Idealize.ShloMosaic.Lib.Claim

@[expose] public section

set_option maxRecDepth 16384

noncomputable section

namespace Cert.Kernel4Ideal.Body

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The body's run on the buffers the pipeline gives it at point `t`, over blocks `x0 … x2`. -/
abbrev runAt (c : Dev nD) (t : Fin cfg0.N) (x0 : Vec F S1x160x4096 .bf16) (x1 : Vec F S1x160x4096 .bf16) (x2 : Vec F S1x128x4096 .bf16) :=
  kernelRun (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) x0 x1 x2

/-- The run's pieces cover the output block. -/
theorem cover3 (c : Dev nD) (t : Fin cfg0.N) (x0 : Vec F S1x160x4096 .bf16) (x1 : Vec F S1x160x4096 .bf16) (x2 : Vec F S1x128x4096 .bf16) (y : S1x4096x128.Idx) :
    ∃ pc ∈ (runAt (F := F) c t x0 x1 x2).1, y ∈ pc.1.set :=
  View.cover_of_tiledL (runAt (F := F) c t x0 x1 x2).1 S1x4096x128.size (by sl_kernel_rfl) y

/-- What the body leaves in the output block, from the input blocks: the pieces read back. -/
def outVal (c : Dev nD) (t : Fin cfg0.N) (x0 : Vec F S1x160x4096 .bf16) (x1 : Vec F S1x160x4096 .bf16) (x2 : Vec F S1x128x4096 .bf16) : Vec F S1x4096x128 .bf16 :=
  View.canon (runAt (F := F) c t x0 x1 x2).1

/-- The proof data of the pipeline: the arrays as the region finds them, after each point the inputs' buffers at their
    blocks and the output's at `outVal` of them. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outVal c t (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem before0_0 (c : Dev nD) (t : Fin cfg0.N) (d) : (dats m 0 c).before 0 t d = iblk m c 0 t :=
  before0_0_of m (dats m 0 c) (A_eq m c 0) (after0_0 m c) t d
theorem after0_1 (c : Dev nD) (t : Fin cfg0.N) : (dats m 0 c).after 1 t = iblk m c 1 t := by dsimp only [dats]
theorem before0_1 (c : Dev nD) (t : Fin cfg0.N) (d) : (dats m 0 c).before 1 t d = iblk m c 1 t :=
  before0_1_of m (dats m 0 c) (A_eq m c 1) (after0_1 m c) t d
theorem after0_2 (c : Dev nD) (t : Fin cfg0.N) : (dats m 0 c).after 2 t = iblk m c 2 t := by dsimp only [dats]
theorem before0_2 (c : Dev nD) (t : Fin cfg0.N) (d) : (dats m 0 c).before 2 t d = iblk m c 2 t :=
  before0_2_of m (dats m 0 c) (A_eq m c 2) (after0_2 m c) t d
theorem after0_3 (c : Dev nD) (t : Fin cfg0.N) : (dats m 0 c).after 3 t
    = outVal c t (iblk m c 0 t) (iblk m c 1 t) (iblk m c 2 t) := by dsimp only [dats]

/-- The pipeline's invariant: the six scratch buffers at some contents and the generator register. -/
theorem PhiA0_eq (c : Dev nD) : (Pipeline.ΦA spec0 c : sProp 𝕄)
    = iprop(((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d)) ∗ (∃ r, prngReg c r)) := by
  unfold Pipeline.ΦA; rw [scopedRest0_eq]; simp only [owns_whole]; try rfl

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  rw [show (dats m 0 c).Φ t.castSucc = Pipeline.ΦA spec0 c from rfl, PhiA0_eq]
  iintro ⟨⟨⟨HS0, HS1, HS2, HS3, HS4, HS5⟩, Hg⟩, Ho, ⟨%d0, H0⟩, ⟨%d1, H1⟩, ⟨%d2, H2⟩, ⟨%d3, H3⟩⟩
  iapply ((runAt (F := F) c t (iblk m c 0 t) (iblk m c 1 t) (iblk m c 2 t)).2 _)
  isplitl [H0]; · iexact H0
  isplitl [H1]; · iexact H1
  isplitl [H2]; · iexact H2
  isplitl [H3]; · iexists _; iexact H3
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, ⟨%e3, H3⟩, HS0, HS1, HS2, HS3, HS4, HS5⟩
  isplitl [HS0 HS1 HS2 HS3 HS4 HS5 Hg]
  · isplitl [HS0 HS1 HS2 HS3 HS4 HS5]
    · isplitl [HS0]; · iexact HS0
      isplitl [HS1]; · iexact HS1
      isplitl [HS2]; · iexact HS2
      isplitl [HS3]; · iexact HS3
      isplitl [HS4]; · iexact HS4
      iexact HS5
    iexact Hg
  isplitl [Ho]; · iexact Ho
  isplitl [H0]; · iexact H0
  isplitl [H1]; · iexact H1
  isplitl [H2]; · iexact H2
  unfold owns; iexists _; isplitr
  swap; · iexact H3
  ipureintro; exact View.read_writes_eq_canon _ _ _ (cover3 c t _ _ _)

theorem defs₀_row (t : Fin cfg0.N) :
    defs₀ (F := F) .tc cfg0.body (cfg0.bodyArgs t (cfg0.slots t)) = bodyAt0 t := by
  unfold defs₀; rw [Defs.onTc_tc]

/-- The pipeline's obligation of the body, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The launch, with every semaphore counter at zero at the end. -/
theorem run_main_quiescent : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- Every fair run ends with every array of the pipeline at what the proof data computes. -/
theorem run_main : θ_run defs (onTc (τ := τ) (main (F := F))) (s₀ m ρ) (Pipeline.FramePost cfgs (dats m) 0 (V m)) :=
  (θ_run defs _ _).mono (fun _ h => h.1) (run_main_quiescent m ρ)

/-- The frame: every fair run ends with the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

end Cert.Kernel4Ideal.Body

end
-- ==== Proof.FoxRefFrame.lean ====
module

public import proofs.«01_k».proof.Proof.Gen.Reference4Ideal.Run
public import Idealize.ShloMosaic.Lib.Quiescent

@[expose] public section

noncomputable section

namespace Cert.Reference4Ideal.Body

open Idealize.ShloMosaic Idealize.ShloMosaic.TcCoe Idealize.SL.Sem Cert.Reference4Ideal

/-- The reference's frame: every fair run ends with the arguments unchanged and every counter at zero. -/
theorem frame {F : FTy → Type} [FloatOps F] (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => (h c).2, sem_eq_zero_of_no_sems (by decide) r.2⟩)
    (Cert.Reference4Ideal.Value.run m ρ)

end Cert.Reference4Ideal.Body

end
-- ==== Proof.FoxStep.lean ====
module

public import proofs.«01_k».proof.Proof.AttnStep
public import proofs.«01_k».proof.Proof.Gen.Kernel4Ideal.Skeleton

@[expose] public section

set_option maxRecDepth 16384

noncomputable section

namespace Cert.Fox

open Cert.Kernel4Ideal Cert.Kernel4Ideal.Gen
open Idealize.ShloMosaic Idealize.ShloMosaic.TcCoe

/-! The masked scores of the forgetting attention: as in the other attention, over 80 rows. -/

/-- The masked score of key `j` of a tile and query `x`, both counted from the tile's first key. -/
def tileS (k q : Fin 80 → EReal) (j x : ℕ) : EReal := if j ≤ x then ∑ t, k t * q t else ⊥

/-- The mask's named constant is minus infinity. -/
theorem named_mask : (Named.named κ "mask" (φ := .f32) 0xF149F2CA#32 : Ideal .f32) = (⊥ : EReal) := rfl

end Cert.Fox
-- ==== Proof.FoxCol.lean ====
module

public import proofs.«01_k».proof.Proof.AttnCol
public import proofs.«01_k».proof.Proof.FoxStep
public import proofs.«01_k».proof.Proof.FoxRunKernel4Ideal
public import Idealize.ShloMosaic.Lib.Pipeline.ValueKit

@[expose] public section

set_option maxRecDepth 16384

noncomputable section

namespace Cert.Fox

open Cert.Kernel4Ideal Cert.Kernel4Ideal.Gen
open Cert.Attn (stepM stepL stepA)
open Idealize.ShloMosaic Idealize.ShloMosaic.TcCoe

/-! The state of one column of the scratch buffers after each key tile, for the two heads of a block. -/

/-- Key `j` of tile `d`, coordinate `t` of head `c`. -/
def kcol (x1 : Vec Ideal S1x160x4096 .bf16) (c d : ℕ) (j : Fin 1024) (t : Fin 80) : EReal :=
  x1 (ix3 0 ⟨(80 * c + t.val) % 160, Nat.mod_lt _ (by decide)⟩ ⟨(1024 * d + j.val) % 4096, Nat.mod_lt _ (by decide)⟩)

/-- Query `x`, coordinate `t` of head `c`. -/
def qcol (x0 : Vec Ideal S1x160x4096 .bf16) (c : ℕ) (x : Fin 4096) (t : Fin 80) : EReal :=
  x0 (ix3 0 ⟨(80 * c + t.val) % 160, Nat.mod_lt _ (by decide)⟩ x)

/-- Value `j` of tile `d`, coordinate `e` of head `c`. -/
def vcol (x2 : Vec Ideal S1x128x4096 .bf16) (c d : ℕ) (e : Fin 64) (j : Fin 1024) : EReal :=
  x2 (ix3 0 ⟨(64 * c + e.val) % 128, Nat.mod_lt _ (by decide)⟩ ⟨(1024 * d + j.val) % 4096, Nat.mod_lt _ (by decide)⟩)

/-- The masked scores of query `x` against tile `d`. -/
def scol (x0 x1 : Vec Ideal S1x160x4096 .bf16) (c d : ℕ) (x : Fin 4096) (j : Fin 1024) : EReal :=
  tileS (kcol x1 c d j) (qcol x0 c x) (1024 * d + j.val) x.val

/-- The running maximum of column `x` after the first tiles. -/
def stM (x0 x1 : Vec Ideal S1x160x4096 .bf16) (c : ℕ) (x : Fin 4096) : ℕ → EReal
  | 0 => ⊥
  | d + 1 => if 1024 * d ≤ x.val then stepM (stM x0 x1 c x d) (scol x0 x1 c d x) else stM x0 x1 c x d

/-- The running sum. -/
def stL (x0 x1 : Vec Ideal S1x160x4096 .bf16) (c : ℕ) (x : Fin 4096) : ℕ → EReal
  | 0 => 0
  | d + 1 => if 1024 * d ≤ x.val then stepL (stM x0 x1 c x d) (stL x0 x1 c x d) (scol x0 x1 c d x) else stL x0 x1 c x d

/-- Entry `e` of the running output. -/
def stA (x0 x1 : Vec Ideal S1x160x4096 .bf16) (x2 : Vec Ideal S1x128x4096 .bf16) (c : ℕ) (e : Fin 64) (x : Fin 4096) : ℕ → EReal
  | 0 => 0
  | d + 1 => if 1024 * d ≤ x.val then stepA (stM x0 x1 c x d) (stA x0 x1 x2 c e x d) (scol x0 x1 c d x) (vcol x2 c d e)
      else stA x0 x1 x2 c e x d

/-- What a load of part of an input block finds. -/
theorem readAt_at {R n w : ℕ} {arg : Memref sig .tc .vmem ⟨3, ![1, R, 4096]⟩ .bf16} (h : arg.IsWhole) (X : Vec Ideal ⟨3, ![1, R, 4096]⟩ .bf16)
    (off : Fin 3 → ℕ) (inb : ∀ a, off a + ![1, n, w] a ≤ (⟨3, ![1, R, 4096]⟩ : Shape).size a) (r c : ℕ) (hoff : off = ![0, r, c])
    (a : Fin n) (b : Fin w) (a' : Fin R) (b' : Fin 4096) (ha : r + a.val = a'.val) (hb : c + b.val = b'.val) :
    View.readAt (Elt Ideal) arg.view (Rect.unit (s := ⟨3, ![1, R, 4096]⟩) off ![1, n, w] inb).toLoadRect (h.unread X)
      (ix3 0 a b : (⟨3, ![1, n, w]⟩ : Shape).Idx) = X (ix3 0 a' b') := by
  rw [View.readAt_eq_ld, h.read_unread]
  refine congrArg X ?_
  subst hoff
  funext k
  refine Fin.ext ?_
  match k with
  | ⟨0, _⟩ => rfl
  | ⟨1, _⟩ => exact (show r + 1 * a.val = a'.val by omega)
  | ⟨2, _⟩ => exact (show c + 1 * b.val = b'.val by omega)

/-- The tile of values a load finds, at row `e`. -/
theorem read_vcol {arg : Memref sig .tc .vmem S1x128x4096 .bf16} (h : arg.IsWhole) (X : Vec Ideal S1x128x4096 .bf16)
    (off : Fin 3 → ℕ) (inb : ∀ a, off a + ![1, 64, 1024] a ≤ S1x128x4096.size a) (c d : ℕ) (hc : c < 2) (hd : d < 4) (hoff : off = ![0, 64 * c, 1024 * d])
    (e : Fin 64) :
    (fun j : Fin 1024 => (View.readAt (Elt Ideal) arg.view (Rect.unit (s := S1x128x4096) off ![1, 64, 1024] inb).toLoadRect (h.unread X)
      (ix3 0 e j : (⟨3, ![1, 64, 1024]⟩ : Shape).Idx) : EReal)) = vcol X c d e := by
  funext j
  exact readAt_at (R := 128) h X off inb (64 * c) (1024 * d) hoff e j _ _ (by simp only; omega) (by simp only; omega)

theorem tile_scol (x0 x1 : Vec Ideal S1x160x4096 .bf16) (c d : ℕ) (x : Fin 4096) (h : 1024 * d ≤ x.val) (y : ℕ)
    (hy : y = x.val - 1024 * d)
    (kk : Fin 80 → Fin 1024 → EReal) (qq : Fin 80 → EReal) (hk : ∀ t j, kk t j = kcol x1 c d j t) (hq : ∀ t, qq t = qcol x0 c x t) :
    (fun j : Fin 1024 => tileS (fun t => kk t j) qq j.val y) = scol x0 x1 c d x := by
  funext j
  unfold scol
  rw [show (fun t => kk t j) = kcol x1 c d j from funext fun t => hk t j, show qq = qcol x0 c x from funext hq]
  unfold tileS
  by_cases hj : j.val ≤ y
  · rw [if_pos hj, if_pos (by omega)]
  · rw [if_neg hj, if_neg (by omega)]

theorem stepM_st {x0 x1 : Vec Ideal S1x160x4096 .bf16} {c d : ℕ} {x : Fin 4096} (h : 1024 * d ≤ x.val)
    {mo : EReal} {s : Fin 1024 → EReal} (hm : mo = stM x0 x1 c x d) (hs : s = scol x0 x1 c d x) :
    stepM mo s = stM x0 x1 c x (d + 1) := by
  subst hm hs; rw [stM, if_pos h]

theorem stepL_st {x0 x1 : Vec Ideal S1x160x4096 .bf16} {c d : ℕ} {x : Fin 4096} (h : 1024 * d ≤ x.val)
    {mo lo : EReal} {s : Fin 1024 → EReal} (hm : mo = stM x0 x1 c x d) (hl : lo = stL x0 x1 c x d) (hs : s = scol x0 x1 c d x) :
    stepL mo lo s = stL x0 x1 c x (d + 1) := by
  subst hm hl hs; rw [stL, if_pos h]

theorem stepA_st {x0 x1 : Vec Ideal S1x160x4096 .bf16} {x2 : Vec Ideal S1x128x4096 .bf16} {c d : ℕ} {e : Fin 64} {x : Fin 4096} (h : 1024 * d ≤ x.val)
    {mo ao : EReal} {s v : Fin 1024 → EReal} (hm : mo = stM x0 x1 c x d) (ha : ao = stA x0 x1 x2 c e x d)
    (hs : s = scol x0 x1 c d x) (hv : v = vcol x2 c d e) :
    stepA mo ao s v = stA x0 x1 x2 c e x (d + 1) := by
  subst hm ha hs hv; rw [stA, if_pos h]

theorem i2_zero (i : grid0.Coords) : (i 2).val = 0 := by
  have h : (i 2).val < 1 := (i 2).isLt
  omega

theorem off9 (i : grid0.Coords) (d : Fin 4) : k0_off9 i (BitVec.ofNat 32 d.val) = ![0, 0, 1024 * d.val] := by
  unfold k0_off9; rw [i2_zero]; revert d; decide +kernel
theorem off10 (i : grid0.Coords) (d : Fin 4) : k0_off10 i (BitVec.ofNat 32 d.val) = ![0, 0, 1024 * d.val] := by
  unfold k0_off10; rw [i2_zero]; revert d; decide +kernel
theorem off11 (i : grid0.Coords) (d : Fin 4) : k0_off11 i (BitVec.ofNat 32 d.val) = ![0, 80, 1024 * d.val] := by
  unfold k0_off11; rw [i2_zero]; revert d; decide +kernel
theorem off12 (i : grid0.Coords) (d : Fin 4) : k0_off12 i (BitVec.ofNat 32 d.val) = ![0, 64, 1024 * d.val] := by
  unfold k0_off12; rw [i2_zero]; revert d; decide +kernel

end Cert.Fox
-- ==== Proof.FoxPay3.lean ====
module

public import proofs.«01_k».proof.Proof.FoxStep

@[expose] public section

set_option maxRecDepth 16384

noncomputable section

namespace Cert.Fox

open Cert.Kernel4Ideal Cert.Kernel4Ideal.Gen
open Cert.Attn (stepM stepL stepA negInf exp2_ideal colmax sel_sge mask_ite)
open Idealize.ShloMosaic Idealize.ShloMosaic.TcCoe

theorem redmax1024 (mo : FVec Ideal S1x1024 .f32) (s : FVec Ideal S1024x1024 .f32) (x : Fin 1024) :
    maximumf mo (shapeCast S1x1024 (multiReduction .maximumf [0] S1024 s 0xFF800000#32 reduces_S1024x1024_S1024 (.inl rfl) rfl) shapeCasts_S1024_S1x1024) (ix2 0 x)
      = max (mo (ix2 0 x)) (Finset.univ.fold max ⊥ fun j => s (ix2 j x)) := by
  have hm : ∀ v : FVec Ideal S1024 .f32, maximumf mo (shapeCast S1x1024 v shapeCasts_S1024_S1x1024) (ix2 0 x) = max (mo (ix2 0 x)) (v (ix1 x)) := by
    intro v; pointwise
  have hc : multiReduction .maximumf [0] S1024 s 0xFF800000#32 reduces_S1024x1024_S1024 (.inl rfl) rfl (ix1 x) = (Finset.univ.fold max ⊥ fun j => s (ix2 j x) : EReal) :=
    colmax s _ _ _ x
  rw [hm, hc]

theorem sc30 (k : Vec Ideal S1x80x1024 .bf16) (q : Vec Ideal S1x80x1024 .bf16) (j : Fin 1024) (x : Fin 1024) :
    k0_pay95 (F := Ideal) (k0_pay94 (F := Ideal) k q) (ix2 j x) = tileS (fun t => k (ix3 0 t j)) (fun t => q (ix3 0 t x)) j.val x.val := by
  pointwise [k0_pay94, k0_pay95, tileS, named_mask]
  exact sel_sge _ _ x.isLt j.isLt _ _

theorem mr30 (k : Vec Ideal S1x80x1024 .bf16) (q : Vec Ideal S1x80x1024 .bf16) (mo : Vec Ideal S1x1024 .f32) (x : Fin 1024) :
    k0_pay96 (F := Ideal) (k0_pay94 (F := Ideal) k q) mo (ix2 0 x) = stepM (mo (ix2 0 x)) (fun j => tileS (fun t => k (ix3 0 t j)) (fun t => q (ix3 0 t x)) j.val x.val) := by
  unfold k0_pay96 stepM
  exact (redmax1024 mo _ x).trans (by simp only [sc30])

theorem m30 (k : Vec Ideal S1x80x1024 .bf16) (q : Vec Ideal S1x80x1024 .bf16) (mo : Vec Ideal S1x1024 .f32) (x : Fin 1024) :
    k0_pay101 (F := Ideal) (k0_pay94 (F := Ideal) k q) mo (ix2 0 x) = stepM (mo (ix2 0 x)) (fun j => tileS (fun t => k (ix3 0 t j)) (fun t => q (ix3 0 t x)) j.val x.val) := by
  pointwise [k0_pay101, mr30]

theorem l30 (k : Vec Ideal S1x80x1024 .bf16) (q : Vec Ideal S1x80x1024 .bf16) (mo : Vec Ideal S1x1024 .f32) (lo : Vec Ideal S1x1024 .f32) (x : Fin 1024) :
    k0_pay99 (F := Ideal) (k0_pay94 (F := Ideal) k q) mo lo (ix2 0 x) = stepL (mo (ix2 0 x)) (lo (ix2 0 x)) (fun j => tileS (fun t => k (ix3 0 t j)) (fun t => q (ix3 0 t x)) j.val x.val) := by
  pointwise [k0_pay97, k0_pay98, k0_pay99, mr30, sc30, stepL, exp2_ideal]

theorem a30 (v : Vec Ideal S1x64x1024 .bf16) (k : Vec Ideal S1x80x1024 .bf16) (q : Vec Ideal S1x80x1024 .bf16) (mo : Vec Ideal S1x1024 .f32) (ao : Vec Ideal S64x1024 .f32) (e : Fin 64) (x : Fin 1024) :
    k0_pay100 (F := Ideal) (k0_pay93 (F := Ideal) v) (k0_pay94 (F := Ideal) k q) mo ao (ix2 e x) = stepA (mo (ix2 0 x)) (ao (ix2 e x)) (fun j => tileS (fun t => k (ix3 0 t j)) (fun t => q (ix3 0 t x)) j.val x.val) (fun j => v (ix3 0 e j)) := by
  pointwise [k0_pay93, k0_pay97, k0_pay98, k0_pay100, mr30, sc30, stepA, exp2_ideal]

theorem sc31 (k : Vec Ideal S1x80x1024 .bf16) (q : Vec Ideal S1x80x1024 .bf16) (j : Fin 1024) (x : Fin 1024) :
    k0_pay103 (F := Ideal) (k0_pay102 (F := Ideal) k) q (ix2 j x) = tileS (fun t => k (ix3 0 t j)) (fun t => q (ix3 0 t x)) j.val x.val := by
  pointwise [k0_pay102, k0_pay103, tileS, named_mask]
  exact sel_sge _ _ x.isLt j.isLt _ _

theorem mr31 (k : Vec Ideal S1x80x1024 .bf16) (q : Vec Ideal S1x80x1024 .bf16) (mo : Vec Ideal S1x1024 .f32) (x : Fin 1024) :
    k0_pay104 (F := Ideal) (k0_pay102 (F := Ideal) k) q mo (ix2 0 x) = stepM (mo (ix2 0 x)) (fun j => tileS (fun t => k (ix3 0 t j)) (fun t => q (ix3 0 t x)) j.val x.val) := by
  unfold k0_pay104 stepM
  exact (redmax1024 mo _ x).trans (by simp only [sc31])

theorem m31 (k : Vec Ideal S1x80x1024 .bf16) (q : Vec Ideal S1x80x1024 .bf16) (mo : Vec Ideal S1x1024 .f32) (x : Fin 1024) :
    k0_pay1 (F := Ideal) (k0_pay104 (F := Ideal) (k0_pay102 (F := Ideal) k) q mo) (ix2 0 x) = stepM (mo (ix2 0 x)) (fun j => tileS (fun t => k (ix3 0 t j)) (fun t => q (ix3 0 t x)) j.val x.val) := by
  pointwise [k0_pay1, mr31]

theorem l31 (k : Vec Ideal S1x80x1024 .bf16) (q : Vec Ideal S1x80x1024 .bf16) (mo : Vec Ideal S1x1024 .f32) (lo : Vec Ideal S1x1024 .f32) (x : Fin 1024) :
    k0_pay107 (F := Ideal) (k0_pay102 (F := Ideal) k) q mo lo (ix2 0 x) = stepL (mo (ix2 0 x)) (lo (ix2 0 x)) (fun j => tileS (fun t => k (ix3 0 t j)) (fun t => q (ix3 0 t x)) j.val x.val) := by
  pointwise [k0_pay105, k0_pay106, k0_pay107, mr31, sc31, stepL, exp2_ideal]

theorem a31 (v : Vec Ideal S1x64x1024 .bf16) (k : Vec Ideal S1x80x1024 .bf16) (q : Vec Ideal S1x80x1024 .bf16) (mo : Vec Ideal S1x1024 .f32) (ao : Vec Ideal S64x1024 .f32) (e : Fin 64) (x : Fin 1024) :
    k0_pay108 (F := Ideal) (k0_pay102 (F := Ideal) k) v q mo ao (ix2 e x) = stepA (mo (ix2 0 x)) (ao (ix2 e x)) (fun j => tileS (fun t => k (ix3 0 t j)) (fun t => q (ix3 0 t x)) j.val x.val) (fun j => v (ix3 0 e j)) := by
  pointwise [k0_pay105, k0_pay106, k0_pay108, mr31, sc31, stepA, exp2_ideal]

end Cert.Fox
-- ==== Proof.FoxPay2.lean ====
module

public import proofs.«01_k».proof.Proof.FoxStep

@[expose] public section

set_option maxRecDepth 16384

noncomputable section

namespace Cert.Fox

open Cert.Kernel4Ideal Cert.Kernel4Ideal.Gen
open Cert.Attn (stepM stepL stepA negInf exp2_ideal colmax sel_sge mask_ite)
open Idealize.ShloMosaic Idealize.ShloMosaic.TcCoe

theorem redmax2048 (mo : FVec Ideal S1x2048 .f32) (s : FVec Ideal S1024x2048 .f32) (x : Fin 2048) :
    maximumf mo (shapeCast S1x2048 (multiReduction .maximumf [0] S2048 s 0xFF800000#32 reduces_S1024x2048_S2048 (.inl rfl) rfl) shapeCasts_S2048_S1x2048) (ix2 0 x)
      = max (mo (ix2 0 x)) (Finset.univ.fold max ⊥ fun j => s (ix2 j x)) := by
  have hm : ∀ v : FVec Ideal S2048 .f32, maximumf mo (shapeCast S1x2048 v shapeCasts_S2048_S1x2048) (ix2 0 x) = max (mo (ix2 0 x)) (v (ix1 x)) := by
    intro v; pointwise
  have hc : multiReduction .maximumf [0] S2048 s 0xFF800000#32 reduces_S1024x2048_S2048 (.inl rfl) rfl (ix1 x) = (Finset.univ.fold max ⊥ fun j => s (ix2 j x) : EReal) :=
    colmax s _ _ _ x
  rw [hm, hc]

theorem sc20 (k : Vec Ideal S1x80x1024 .bf16) (q : Vec Ideal S1x80x2048 .bf16) (j : Fin 1024) (x : Fin 2048) :
    k0_pay77 (F := Ideal) k q (ix2 j x) = tileS (fun t => k (ix3 0 t j)) (fun t => q (ix3 0 t x)) j.val x.val := by
  pointwise [k0_pay77, tileS, named_mask]
  exact mask_ite (fun x => ∑ t, k (ix3 0 t j) * q (ix3 0 t x)) x j _

theorem mr20 (k : Vec Ideal S1x80x1024 .bf16) (q : Vec Ideal S1x80x2048 .bf16) (mo : Vec Ideal S1x2048 .f32) (x : Fin 2048) :
    k0_pay78 (F := Ideal) k q mo (ix2 0 x) = stepM (mo (ix2 0 x)) (fun j => tileS (fun t => k (ix3 0 t j)) (fun t => q (ix3 0 t x)) j.val x.val) := by
  unfold k0_pay78 stepM
  exact (redmax2048 mo _ x).trans (by simp only [sc20])

theorem m20 (k : Vec Ideal S1x80x1024 .bf16) (q : Vec Ideal S1x80x2048 .bf16) (mo : Vec Ideal S1x2048 .f32) (x : Fin 2048) :
    k0_pay84 (F := Ideal) (k0_pay78 (F := Ideal) k q mo) (ix2 0 x) = stepM (mo (ix2 0 x)) (fun j => tileS (fun t => k (ix3 0 t j)) (fun t => q (ix3 0 t x)) j.val x.val) := by
  pointwise [k0_pay84, mr20]

theorem l20 (k : Vec Ideal S1x80x1024 .bf16) (q : Vec Ideal S1x80x2048 .bf16) (mo : Vec Ideal S1x2048 .f32) (lo : Vec Ideal S1x2048 .f32) (x : Fin 2048) :
    k0_pay82 (F := Ideal) (k0_pay81 (F := Ideal) k q mo lo) (ix2 0 x) = stepL (mo (ix2 0 x)) (lo (ix2 0 x)) (fun j => tileS (fun t => k (ix3 0 t j)) (fun t => q (ix3 0 t x)) j.val x.val) := by
  pointwise [k0_pay79, k0_pay80, k0_pay81, k0_pay82, mr20, sc20, stepL, exp2_ideal]

theorem a20 (v : Vec Ideal S1x64x1024 .bf16) (k : Vec Ideal S1x80x1024 .bf16) (q : Vec Ideal S1x80x2048 .bf16) (mo : Vec Ideal S1x2048 .f32) (ao : Vec Ideal S64x2048 .f32) (e : Fin 64) (x : Fin 2048) :
    k0_pay83 (F := Ideal) (k0_pay76 (F := Ideal) v) (k0_pay79 (F := Ideal) k q mo) (k0_pay80 (F := Ideal) k q mo) ao (ix2 e x) = stepA (mo (ix2 0 x)) (ao (ix2 e x)) (fun j => tileS (fun t => k (ix3 0 t j)) (fun t => q (ix3 0 t x)) j.val x.val) (fun j => v (ix3 0 e j)) := by
  pointwise [k0_pay76, k0_pay79, k0_pay80, k0_pay83, mr20, sc20, stepA, exp2_ideal]

theorem sc21 (k : Vec Ideal S1x80x1024 .bf16) (q : Vec Ideal S1x80x2048 .bf16) (j : Fin 1024) (x : Fin 2048) :
    k0_pay86 (F := Ideal) k q (ix2 j x) = tileS (fun t => k (ix3 0 t j)) (fun t => q (ix3 0 t x)) j.val x.val := by
  pointwise [k0_pay86, tileS, named_mask]
  exact mask_ite (fun x => ∑ t, k (ix3 0 t j) * q (ix3 0 t x)) x j _

theorem mr21 (k : Vec Ideal S1x80x1024 .bf16) (q : Vec Ideal S1x80x2048 .bf16) (mo : Vec Ideal S1x2048 .f32) (x : Fin 2048) :
    k0_pay87 (F := Ideal) k q mo (ix2 0 x) = stepM (mo (ix2 0 x)) (fun j => tileS (fun t => k (ix3 0 t j)) (fun t => q (ix3 0 t x)) j.val x.val) := by
  unfold k0_pay87 stepM
  exact (redmax2048 mo _ x).trans (by simp only [sc21])

theorem m21 (k : Vec Ideal S1x80x1024 .bf16) (q : Vec Ideal S1x80x2048 .bf16) (mo : Vec Ideal S1x2048 .f32) (x : Fin 2048) :
    k0_pay92 (F := Ideal) (k0_pay87 (F := Ideal) k q mo) (ix2 0 x) = stepM (mo (ix2 0 x)) (fun j => tileS (fun t => k (ix3 0 t j)) (fun t => q (ix3 0 t x)) j.val x.val) := by
  pointwise [k0_pay92, mr21]

theorem l21 (k : Vec Ideal S1x80x1024 .bf16) (q : Vec Ideal S1x80x2048 .bf16) (mo : Vec Ideal S1x2048 .f32) (lo : Vec Ideal S1x2048 .f32) (x : Fin 2048) :
    k0_pay90 (F := Ideal) (k0_pay86 (F := Ideal) k q) (k0_pay87 (F := Ideal) k q mo) (k0_pay88 (F := Ideal) k q mo) lo (ix2 0 x) = stepL (mo (ix2 0 x)) (lo (ix2 0 x)) (fun j => tileS (fun t => k (ix3 0 t j)) (fun t => q (ix3 0 t x)) j.val x.val) := by
  pointwise [k0_pay88, k0_pay89, k0_pay90, mr21, sc21, stepL, exp2_ideal]

theorem a21 (v : Vec Ideal S1x64x1024 .bf16) (k : Vec Ideal S1x80x1024 .bf16) (q : Vec Ideal S1x80x2048 .bf16) (mo : Vec Ideal S1x2048 .f32) (ao : Vec Ideal S64x2048 .f32) (e : Fin 64) (x : Fin 2048) :
    k0_pay91 (F := Ideal) (k0_pay85 (F := Ideal) v) (k0_pay86 (F := Ideal) k q) (k0_pay87 (F := Ideal) k q mo) (k0_pay88 (F := Ideal) k q mo) ao (ix2 e x) = stepA (mo (ix2 0 x)) (ao (ix2 e x)) (fun j => tileS (fun t => k (ix3 0 t j)) (fun t => q (ix3 0 t x)) j.val x.val) (fun j => v (ix3 0 e j)) := by
  pointwise [k0_pay85, k0_pay88, k0_pay89, k0_pay91, mr21, sc21, stepA, exp2_ideal]

end Cert.Fox
-- ==== Proof.FoxPay1.lean ====
module

public import proofs.«01_k».proof.Proof.FoxStep

@[expose] public section

set_option maxRecDepth 16384

noncomputable section

namespace Cert.Fox

open Cert.Kernel4Ideal Cert.Kernel4Ideal.Gen
open Cert.Attn (stepM stepL stepA negInf exp2_ideal colmax sel_sge mask_ite)
open Idealize.ShloMosaic Idealize.ShloMosaic.TcCoe

theorem redmax3072 (mo : FVec Ideal S1x3072 .f32) (s : FVec Ideal S1024x3072 .f32) (x : Fin 3072) :
    maximumf mo (shapeCast S1x3072 (multiReduction .maximumf [0] S3072 s 0xFF800000#32 reduces_S1024x3072_S3072 (.inl rfl) rfl) shapeCasts_S3072_S1x3072) (ix2 0 x)
      = max (mo (ix2 0 x)) (Finset.univ.fold max ⊥ fun j => s (ix2 j x)) := by
  have hm : ∀ v : FVec Ideal S3072 .f32, maximumf mo (shapeCast S1x3072 v shapeCasts_S3072_S1x3072) (ix2 0 x) = max (mo (ix2 0 x)) (v (ix1 x)) := by
    intro v; pointwise
  have hc : multiReduction .maximumf [0] S3072 s 0xFF800000#32 reduces_S1024x3072_S3072 (.inl rfl) rfl (ix1 x) = (Finset.univ.fold max ⊥ fun j => s (ix2 j x) : EReal) :=
    colmax s _ _ _ x
  rw [hm, hc]

theorem sc10 (I0 I1 : IVec S1024x1024 32) (h0 : I0 = iota .tc S1024x1024 32 [0] iota_S1024x1024_d0_w32) (h1 : I1 = iota .tc S1024x1024 32 [1] iota_S1024x1024_d1_w32) (k : Vec Ideal S1x80x1024 .bf16) (q : Vec Ideal S1x80x3072 .bf16) (j : Fin 1024) (x : Fin 3072) :
    k0_pay61 (F := Ideal) (k0_pay60 (F := Ideal) k q) I0 I1 (ix2 j x) = tileS (fun t => k (ix3 0 t j)) (fun t => q (ix3 0 t x)) j.val x.val := by
  subst h0 h1
  pointwise [k0_pay60, k0_pay61, tileS, named_mask]
  exact mask_ite (fun x => ∑ t, k (ix3 0 t j) * q (ix3 0 t x)) x j _

theorem mr10 (I0 I1 : IVec S1024x1024 32) (h0 : I0 = iota .tc S1024x1024 32 [0] iota_S1024x1024_d0_w32) (h1 : I1 = iota .tc S1024x1024 32 [1] iota_S1024x1024_d1_w32) (k : Vec Ideal S1x80x1024 .bf16) (q : Vec Ideal S1x80x3072 .bf16) (mo : Vec Ideal S1x3072 .f32) (x : Fin 3072) :
    k0_pay62 (F := Ideal) (k0_pay60 (F := Ideal) k q) I0 I1 mo (ix2 0 x) = stepM (mo (ix2 0 x)) (fun j => tileS (fun t => k (ix3 0 t j)) (fun t => q (ix3 0 t x)) j.val x.val) := by
  unfold k0_pay62 stepM
  exact (redmax3072 mo _ x).trans (by simp only [sc10 I0 I1 h0 h1])

theorem m10 (I0 I1 : IVec S1024x1024 32) (h0 : I0 = iota .tc S1024x1024 32 [0] iota_S1024x1024_d0_w32) (h1 : I1 = iota .tc S1024x1024 32 [1] iota_S1024x1024_d1_w32) (k : Vec Ideal S1x80x1024 .bf16) (q : Vec Ideal S1x80x3072 .bf16) (mo : Vec Ideal S1x3072 .f32) (x : Fin 3072) :
    k0_pay67 (F := Ideal) (k0_pay60 (F := Ideal) k q) I0 I1 mo (ix2 0 x) = stepM (mo (ix2 0 x)) (fun j => tileS (fun t => k (ix3 0 t j)) (fun t => q (ix3 0 t x)) j.val x.val) := by
  pointwise [k0_pay67, mr10 I0 I1 h0 h1]

theorem l10 (I0 I1 : IVec S1024x1024 32) (h0 : I0 = iota .tc S1024x1024 32 [0] iota_S1024x1024_d0_w32) (h1 : I1 = iota .tc S1024x1024 32 [1] iota_S1024x1024_d1_w32) (k : Vec Ideal S1x80x1024 .bf16) (q : Vec Ideal S1x80x3072 .bf16) (mo : Vec Ideal S1x3072 .f32) (lo : Vec Ideal S1x3072 .f32) (x : Fin 3072) :
    k0_pay65 (F := Ideal) (k0_pay60 (F := Ideal) k q) I0 I1 mo lo (ix2 0 x) = stepL (mo (ix2 0 x)) (lo (ix2 0 x)) (fun j => tileS (fun t => k (ix3 0 t j)) (fun t => q (ix3 0 t x)) j.val x.val) := by
  pointwise [k0_pay63, k0_pay64, k0_pay65, mr10 I0 I1 h0 h1, sc10 I0 I1 h0 h1, stepL, exp2_ideal]

theorem a10 (I0 I1 : IVec S1024x1024 32) (h0 : I0 = iota .tc S1024x1024 32 [0] iota_S1024x1024_d0_w32) (h1 : I1 = iota .tc S1024x1024 32 [1] iota_S1024x1024_d1_w32) (v : Vec Ideal S1x64x1024 .bf16) (k : Vec Ideal S1x80x1024 .bf16) (q : Vec Ideal S1x80x3072 .bf16) (mo : Vec Ideal S1x3072 .f32) (ao : Vec Ideal S64x3072 .f32) (e : Fin 64) (x : Fin 3072) :
    k0_pay66 (F := Ideal) (k0_pay59 (F := Ideal) v) (k0_pay60 (F := Ideal) k q) I0 I1 mo ao (ix2 e x) = stepA (mo (ix2 0 x)) (ao (ix2 e x)) (fun j => tileS (fun t => k (ix3 0 t j)) (fun t => q (ix3 0 t x)) j.val x.val) (fun j => v (ix3 0 e j)) := by
  pointwise [k0_pay59, k0_pay63, k0_pay64, k0_pay66, mr10 I0 I1 h0 h1, sc10 I0 I1 h0 h1, stepA, exp2_ideal]

theorem sc11 (k : Vec Ideal S1x80x1024 .bf16) (q : Vec Ideal S1x80x3072 .bf16) (j : Fin 1024) (x : Fin 3072) :
    k0_pay69 (F := Ideal) (k0_pay68 (F := Ideal) k) q (ix2 j x) = tileS (fun t => k (ix3 0 t j)) (fun t => q (ix3 0 t x)) j.val x.val := by
  pointwise [k0_pay68, k0_pay69, tileS, named_mask]
  exact mask_ite (fun x => ∑ t, k (ix3 0 t j) * q (ix3 0 t x)) x j _

theorem mr11 (k : Vec Ideal S1x80x1024 .bf16) (q : Vec Ideal S1x80x3072 .bf16) (mo : Vec Ideal S1x3072 .f32) (x : Fin 3072) :
    k0_pay70 (F := Ideal) (k0_pay68 (F := Ideal) k) q mo (ix2 0 x) = stepM (mo (ix2 0 x)) (fun j => tileS (fun t => k (ix3 0 t j)) (fun t => q (ix3 0 t x)) j.val x.val) := by
  unfold k0_pay70 stepM
  exact (redmax3072 mo _ x).trans (by simp only [sc11])

theorem m11 (k : Vec Ideal S1x80x1024 .bf16) (q : Vec Ideal S1x80x3072 .bf16) (mo : Vec Ideal S1x3072 .f32) (x : Fin 3072) :
    k0_pay75 (F := Ideal) (k0_pay70 (F := Ideal) (k0_pay68 (F := Ideal) k) q mo) (ix2 0 x) = stepM (mo (ix2 0 x)) (fun j => tileS (fun t => k (ix3 0 t j)) (fun t => q (ix3 0 t x)) j.val x.val) := by
  pointwise [k0_pay75, mr11]

theorem l11 (k : Vec Ideal S1x80x1024 .bf16) (q : Vec Ideal S1x80x3072 .bf16) (mo : Vec Ideal S1x3072 .f32) (lo : Vec Ideal S1x3072 .f32) (x : Fin 3072) :
    k0_pay73 (F := Ideal) (k0_pay68 (F := Ideal) k) q mo lo (ix2 0 x) = stepL (mo (ix2 0 x)) (lo (ix2 0 x)) (fun j => tileS (fun t => k (ix3 0 t j)) (fun t => q (ix3 0 t x)) j.val x.val) := by
  pointwise [k0_pay71, k0_pay72, k0_pay73, mr11, sc11, stepL, exp2_ideal]

theorem a11 (v : Vec Ideal S1x64x1024 .bf16) (k : Vec Ideal S1x80x1024 .bf16) (q : Vec Ideal S1x80x3072 .bf16) (mo : Vec Ideal S1x3072 .f32) (ao : Vec Ideal S64x3072 .f32) (e : Fin 64) (x : Fin 3072) :
    k0_pay74 (F := Ideal) (k0_pay68 (F := Ideal) k) v q mo ao (ix2 e x) = stepA (mo (ix2 0 x)) (ao (ix2 e x)) (fun j => tileS (fun t => k (ix3 0 t j)) (fun t => q (ix3 0 t x)) j.val x.val) (fun j => v (ix3 0 e j)) := by
  pointwise [k0_pay71, k0_pay72, k0_pay74, mr11, sc11, stepA, exp2_ideal]

end Cert.Fox
-- ==== Proof.FoxPay0.lean ====
module

public import proofs.«01_k».proof.Proof.FoxStep

@[expose] public section

set_option maxRecDepth 16384

noncomputable section

namespace Cert.Fox

open Cert.Kernel4Ideal Cert.Kernel4Ideal.Gen
open Cert.Attn (stepM stepL stepA negInf exp2_ideal colmax sel_sge mask_ite)
open Idealize.ShloMosaic Idealize.ShloMosaic.TcCoe

theorem redmax4096 (mo : FVec Ideal S1x4096 .f32) (s : FVec Ideal S1024x4096 .f32) (x : Fin 4096) :
    maximumf mo (shapeCast S1x4096 (multiReduction .maximumf [0] S4096 s 0xFF800000#32 reduces_S1024x4096_S4096 (.inl rfl) rfl) shapeCasts_S4096_S1x4096) (ix2 0 x)
      = max (mo (ix2 0 x)) (Finset.univ.fold max ⊥ fun j => s (ix2 j x)) := by
  have hm : ∀ v : FVec Ideal S4096 .f32, maximumf mo (shapeCast S1x4096 v shapeCasts_S4096_S1x4096) (ix2 0 x) = max (mo (ix2 0 x)) (v (ix1 x)) := by
    intro v; pointwise
  have hc : multiReduction .maximumf [0] S4096 s 0xFF800000#32 reduces_S1024x4096_S4096 (.inl rfl) rfl (ix1 x) = (Finset.univ.fold max ⊥ fun j => s (ix2 j x) : EReal) :=
    colmax s _ _ _ x
  rw [hm, hc]

theorem sc00 (k : Vec Ideal S1x80x1024 .bf16) (q : Vec Ideal S1x80x4096 .bf16) (j : Fin 1024) (x : Fin 4096) :
    k0_pay42 (F := Ideal) k q (ix2 j x) = tileS (fun t => k (ix3 0 t j)) (fun t => q (ix3 0 t x)) j.val x.val := by
  pointwise [k0_pay42, tileS, named_mask]
  exact mask_ite (fun x => ∑ t, k (ix3 0 t j) * q (ix3 0 t x)) x j _

theorem mr00 (k : Vec Ideal S1x80x1024 .bf16) (q : Vec Ideal S1x80x4096 .bf16) (mo : Vec Ideal S1x4096 .f32) (x : Fin 4096) :
    k0_pay43 (F := Ideal) k q mo (ix2 0 x) = stepM (mo (ix2 0 x)) (fun j => tileS (fun t => k (ix3 0 t j)) (fun t => q (ix3 0 t x)) j.val x.val) := by
  unfold k0_pay43 stepM
  exact (redmax4096 mo _ x).trans (by simp only [sc00])

theorem m00 (k : Vec Ideal S1x80x1024 .bf16) (q : Vec Ideal S1x80x4096 .bf16) (mo : Vec Ideal S1x4096 .f32) (x : Fin 4096) :
    k0_pay49 (F := Ideal) (k0_pay43 (F := Ideal) k q mo) (ix2 0 x) = stepM (mo (ix2 0 x)) (fun j => tileS (fun t => k (ix3 0 t j)) (fun t => q (ix3 0 t x)) j.val x.val) := by
  pointwise [k0_pay49, mr00]

theorem l00 (k : Vec Ideal S1x80x1024 .bf16) (q : Vec Ideal S1x80x4096 .bf16) (mo : Vec Ideal S1x4096 .f32) (lo : Vec Ideal S1x4096 .f32) (x : Fin 4096) :
    k0_pay47 (F := Ideal) (k0_pay46 (F := Ideal) k q mo lo) (ix2 0 x) = stepL (mo (ix2 0 x)) (lo (ix2 0 x)) (fun j => tileS (fun t => k (ix3 0 t j)) (fun t => q (ix3 0 t x)) j.val x.val) := by
  pointwise [k0_pay44, k0_pay45, k0_pay46, k0_pay47, mr00, sc00, stepL, exp2_ideal]

theorem a00 (v : Vec Ideal S1x64x1024 .bf16) (k : Vec Ideal S1x80x1024 .bf16) (q : Vec Ideal S1x80x4096 .bf16) (mo : Vec Ideal S1x4096 .f32) (ao : Vec Ideal S64x4096 .f32) (e : Fin 64) (x : Fin 4096) :
    k0_pay48 (F := Ideal) (k0_pay41 (F := Ideal) v) (k0_pay44 (F := Ideal) k q mo) (k0_pay45 (F := Ideal) k q mo) ao (ix2 e x) = stepA (mo (ix2 0 x)) (ao (ix2 e x)) (fun j => tileS (fun t => k (ix3 0 t j)) (fun t => q (ix3 0 t x)) j.val x.val) (fun j => v (ix3 0 e j)) := by
  pointwise [k0_pay41, k0_pay44, k0_pay45, k0_pay48, mr00, sc00, stepA, exp2_ideal]

theorem sc01 (k : Vec Ideal S1x80x1024 .bf16) (q : Vec Ideal S1x80x4096 .bf16) (j : Fin 1024) (x : Fin 4096) :
    k0_pay51 (F := Ideal) k q (ix2 j x) = tileS (fun t => k (ix3 0 t j)) (fun t => q (ix3 0 t x)) j.val x.val := by
  pointwise [k0_pay51, tileS, named_mask]
  exact mask_ite (fun x => ∑ t, k (ix3 0 t j) * q (ix3 0 t x)) x j _

theorem mr01 (k : Vec Ideal S1x80x1024 .bf16) (q : Vec Ideal S1x80x4096 .bf16) (mo : Vec Ideal S1x4096 .f32) (x : Fin 4096) :
    k0_pay52 (F := Ideal) k q mo (ix2 0 x) = stepM (mo (ix2 0 x)) (fun j => tileS (fun t => k (ix3 0 t j)) (fun t => q (ix3 0 t x)) j.val x.val) := by
  unfold k0_pay52 stepM
  exact (redmax4096 mo _ x).trans (by simp only [sc01])

theorem m01 (k : Vec Ideal S1x80x1024 .bf16) (q : Vec Ideal S1x80x4096 .bf16) (mo : Vec Ideal S1x4096 .f32) (x : Fin 4096) :
    k0_pay58 (F := Ideal) (k0_pay52 (F := Ideal) k q mo) (ix2 0 x) = stepM (mo (ix2 0 x)) (fun j => tileS (fun t => k (ix3 0 t j)) (fun t => q (ix3 0 t x)) j.val x.val) := by
  pointwise [k0_pay58, mr01]

theorem l01 (k : Vec Ideal S1x80x1024 .bf16) (q : Vec Ideal S1x80x4096 .bf16) (mo : Vec Ideal S1x4096 .f32) (lo : Vec Ideal S1x4096 .f32) (x : Fin 4096) :
    k0_pay56 (F := Ideal) (k0_pay53 (F := Ideal) k q mo) (k0_pay54 (F := Ideal) k q mo) lo (ix2 0 x) = stepL (mo (ix2 0 x)) (lo (ix2 0 x)) (fun j => tileS (fun t => k (ix3 0 t j)) (fun t => q (ix3 0 t x)) j.val x.val) := by
  pointwise [k0_pay53, k0_pay54, k0_pay55, k0_pay56, mr01, sc01, stepL, exp2_ideal]

theorem a01 (v : Vec Ideal S1x64x1024 .bf16) (k : Vec Ideal S1x80x1024 .bf16) (q : Vec Ideal S1x80x4096 .bf16) (mo : Vec Ideal S1x4096 .f32) (ao : Vec Ideal S64x4096 .f32) (e : Fin 64) (x : Fin 4096) :
    k0_pay57 (F := Ideal) (k0_pay50 (F := Ideal) v) (k0_pay53 (F := Ideal) k q mo) (k0_pay54 (F := Ideal) k q mo) ao (ix2 e x) = stepA (mo (ix2 0 x)) (ao (ix2 e x)) (fun j => tileS (fun t => k (ix3 0 t j)) (fun t => q (ix3 0 t x)) j.val x.val) (fun j => v (ix3 0 e j)) := by
  pointwise [k0_pay50, k0_pay53, k0_pay54, k0_pay55, k0_pay57, mr01, sc01, stepA, exp2_ideal]

end Cert.Fox
-- ==== Proof.FoxBlock0.lean ====
module

public import proofs.«01_k».proof.Proof.FoxCol
public import proofs.«01_k».proof.Proof.FoxPay0

@[expose] public section

set_option maxRecDepth 16384

noncomputable section

namespace Cert.Fox

open Cert.Kernel4Ideal Cert.Kernel4Ideal.Gen Cert.Kernel4Ideal.Body
open Cert.Attn (stepM stepL stepA negInf canon_cols readCov_cols)
open Idealize.ShloMosaic Idealize.ShloMosaic.TcCoe

theorem H4_1_at (x0 : Vec Ideal S1x160x4096 .bf16) (x1 : Vec Ideal S1x160x4096 .bf16) (x : Fin 4096) :
    View.canon (kernelRun.sl.H4_1 (F := Ideal) ) (ix2 0 x) = stM x0 x1 0 x 0 := by
  unfold kernelRun.sl.H4_1
  refine (canon_cols (R := 1) (W := 4096) 0 rfl _ _ _ 0 x).trans ?_
  rw [dif_pos (Nat.zero_le _)]
  show _ = (⊥ : EReal)
  pointwise [kernelRun.sl.v3, kernelRun.sl.v0, kernelRun.sl.cst, negInf]

theorem H6_1_at (x0 : Vec Ideal S1x160x4096 .bf16) (x1 : Vec Ideal S1x160x4096 .bf16) (x : Fin 4096) :
    View.canon (kernelRun.sl.H6_1 (F := Ideal) ) (ix2 0 x) = stL x0 x1 0 x 0 := by
  unfold kernelRun.sl.H6_1
  refine (canon_cols (R := 1) (W := 4096) 0 rfl _ _ _ 0 x).trans ?_
  rw [dif_pos (Nat.zero_le _)]
  show _ = (0 : EReal)
  pointwise [kernelRun.sl.v11, kernelRun.sl.v8, kernelRun.sl.cst_4, negInf]

theorem H8_1_at (x0 : Vec Ideal S1x160x4096 .bf16) (x1 : Vec Ideal S1x160x4096 .bf16) (x2 : Vec Ideal S1x128x4096 .bf16) (e : Fin 64) (x : Fin 4096) :
    View.canon (kernelRun.sl.H8_1 (F := Ideal) ) (ix2 e x) = stA x0 x1 x2 0 e x 0 := by
  unfold kernelRun.sl.H8_1
  refine (canon_cols (R := 64) (W := 4096) 0 rfl _ _ _ e x).trans ?_
  rw [dif_pos (Nat.zero_le _)]
  show _ = (0 : EReal)
  pointwise [kernelRun.sl.v19, kernelRun.sl.v16, kernelRun.sl.cst_4, negInf]

theorem H4_1_at_c1 (x0 : Vec Ideal S1x160x4096 .bf16) (x1 : Vec Ideal S1x160x4096 .bf16) (x : Fin 4096) :
    View.canon (kernelRun.sl.H4_1 (F := Ideal) ) (ix2 0 x) = stM x0 x1 1 x 0 := by
  unfold kernelRun.sl.H4_1
  refine (canon_cols (R := 1) (W := 4096) 0 rfl _ _ _ 0 x).trans ?_
  rw [dif_pos (Nat.zero_le _)]
  show _ = (⊥ : EReal)
  pointwise [kernelRun.sl.v3, kernelRun.sl.v0, kernelRun.sl.cst, negInf]

theorem H6_1_at_c1 (x0 : Vec Ideal S1x160x4096 .bf16) (x1 : Vec Ideal S1x160x4096 .bf16) (x : Fin 4096) :
    View.canon (kernelRun.sl.H6_1 (F := Ideal) ) (ix2 0 x) = stL x0 x1 1 x 0 := by
  unfold kernelRun.sl.H6_1
  refine (canon_cols (R := 1) (W := 4096) 0 rfl _ _ _ 0 x).trans ?_
  rw [dif_pos (Nat.zero_le _)]
  show _ = (0 : EReal)
  pointwise [kernelRun.sl.v11, kernelRun.sl.v8, kernelRun.sl.cst_4, negInf]

theorem H8_1_at_c1 (x0 : Vec Ideal S1x160x4096 .bf16) (x1 : Vec Ideal S1x160x4096 .bf16) (x2 : Vec Ideal S1x128x4096 .bf16) (e : Fin 64) (x : Fin 4096) :
    View.canon (kernelRun.sl.H8_1 (F := Ideal) ) (ix2 e x) = stA x0 x1 x2 1 e x 0 := by
  unfold kernelRun.sl.H8_1
  refine (canon_cols (R := 64) (W := 4096) 0 rfl _ _ _ e x).trans ?_
  rw [dif_pos (Nat.zero_le _)]
  show _ = (0 : EReal)
  pointwise [kernelRun.sl.v19, kernelRun.sl.v16, kernelRun.sl.cst_4, negInf]

theorem H4_2_at (c : Dev nD) (i : grid0.Coords) (arg3 : Memref sig .tc .vmem S1x160x4096 .bf16) (harg3 : arg3.IsWhole) (arg4 : Memref sig .tc .vmem S1x160x4096 .bf16) (harg4 : arg4.IsWhole) (arg5 : Memref sig .tc .vmem S1x128x4096 .bf16) (harg5 : arg5.IsWhole) (arg7 : Memref sig .tc .vmem S1x4096 .f32) (arg9 : Memref sig .tc .vmem S1x4096 .f32) (x0 : Vec Ideal S1x160x4096 .bf16) (x1 : Vec Ideal S1x160x4096 .bf16) (x2 : Vec Ideal S1x128x4096 .bf16) (x : Fin 4096) :
    View.canon (kernelRun.sl.H4_2 (F := Ideal) c i arg3 harg3 arg4 harg4 arg5 harg5 arg7 arg9 x0 x1 x2) (ix2 0 x) = stM x0 x1 0 x 1 := by
  unfold kernelRun.sl.H4_2
  refine (canon_cols (R := 1) (W := 4096) 0 rfl _ _ _ 0 x).trans ?_
  by_cases h : 1024 * 0 ≤ x.val
  · rw [dif_pos (show 0 ≤ x.val by omega)]
    have hM : kernelRun.sl.v50 (F := Ideal) c arg7 (ix2 0 ⟨x.val - 0, by omega⟩) = stM x0 x1 0 x 0 := by
      unfold kernelRun.sl.v50
      exact (readCov_cols (R := 1) (W := 4096) _ 0 _ _ 0 ⟨x.val - 0, by omega⟩ x (by simp only; omega)).trans (H4_1_at x0 x1 x)
    try dsimp only
    refine Eq.trans (m00 _ _ _ _) ?_
    exact stepM_st (d := 0) h hM (tile_scol x0 x1 0 0 x h _ rfl _ _
        (fun t j => readAt_at (R := 160) harg4 x1 _ _ 0 0 (off9 i 0) t j _ _ (by simp only; omega) (by simp only; omega))
        (fun t => readAt_at (R := 160) harg3 x0 _ _ 0 0 rfl t ⟨x.val - 0, by omega⟩ _ _ (by simp only; omega) (by simp only; omega)))
  · rw [dif_neg (show ¬ 0 ≤ x.val by omega)]
    refine (H4_1_at x0 x1 x).trans ?_
    simp only [stM, stL, stA, if_neg h]

theorem H6_2_at (c : Dev nD) (i : grid0.Coords) (arg3 : Memref sig .tc .vmem S1x160x4096 .bf16) (harg3 : arg3.IsWhole) (arg4 : Memref sig .tc .vmem S1x160x4096 .bf16) (harg4 : arg4.IsWhole) (arg5 : Memref sig .tc .vmem S1x128x4096 .bf16) (harg5 : arg5.IsWhole) (arg7 : Memref sig .tc .vmem S1x4096 .f32) (arg9 : Memref sig .tc .vmem S1x4096 .f32) (x0 : Vec Ideal S1x160x4096 .bf16) (x1 : Vec Ideal S1x160x4096 .bf16) (x2 : Vec Ideal S1x128x4096 .bf16) (x : Fin 4096) :
    View.canon (kernelRun.sl.H6_2 (F := Ideal) c i arg3 harg3 arg4 harg4 arg5 harg5 arg7 arg9 x0 x1 x2) (ix2 0 x) = stL x0 x1 0 x 1 := by
  unfold kernelRun.sl.H6_2
  refine (canon_cols (R := 1) (W := 4096) 0 rfl _ _ _ 0 x).trans ?_
  by_cases h : 1024 * 0 ≤ x.val
  · rw [dif_pos (show 0 ≤ x.val by omega)]
    have hM : kernelRun.sl.v50 (F := Ideal) c arg7 (ix2 0 ⟨x.val - 0, by omega⟩) = stM x0 x1 0 x 0 := by
      unfold kernelRun.sl.v50
      exact (readCov_cols (R := 1) (W := 4096) _ 0 _ _ 0 ⟨x.val - 0, by omega⟩ x (by simp only; omega)).trans (H4_1_at x0 x1 x)
    have hL : kernelRun.sl.v59 (F := Ideal) c arg9 (ix2 0 ⟨x.val - 0, by omega⟩) = stL x0 x1 0 x 0 := by
      unfold kernelRun.sl.v59
      exact (readCov_cols (R := 1) (W := 4096) _ 0 _ _ 0 ⟨x.val - 0, by omega⟩ x (by simp only; omega)).trans (H6_1_at x0 x1 x)
    try dsimp only
    refine Eq.trans (l00 _ _ _ _ _) ?_
    exact stepL_st (d := 0) h hM hL (tile_scol x0 x1 0 0 x h _ rfl _ _
        (fun t j => readAt_at (R := 160) harg4 x1 _ _ 0 0 (off9 i 0) t j _ _ (by simp only; omega) (by simp only; omega))
        (fun t => readAt_at (R := 160) harg3 x0 _ _ 0 0 rfl t ⟨x.val - 0, by omega⟩ _ _ (by simp only; omega) (by simp only; omega)))
  · rw [dif_neg (show ¬ 0 ≤ x.val by omega)]
    refine (H6_1_at x0 x1 x).trans ?_
    simp only [stM, stL, stA, if_neg h]

theorem H8_2_at (c : Dev nD) (i : grid0.Coords) (arg3 : Memref sig .tc .vmem S1x160x4096 .bf16) (harg3 : arg3.IsWhole) (arg4 : Memref sig .tc .vmem S1x160x4096 .bf16) (harg4 : arg4.IsWhole) (arg5 : Memref sig .tc .vmem S1x128x4096 .bf16) (harg5 : arg5.IsWhole) (arg7 : Memref sig .tc .vmem S1x4096 .f32) (arg9 : Memref sig .tc .vmem S1x4096 .f32) (arg11 : Memref sig .tc .vmem S64x4096 .f32) (x0 : Vec Ideal S1x160x4096 .bf16) (x1 : Vec Ideal S1x160x4096 .bf16) (x2 : Vec Ideal S1x128x4096 .bf16) (e : Fin 64) (x : Fin 4096) :
    View.canon (kernelRun.sl.H8_2 (F := Ideal) c i arg3 harg3 arg4 harg4 arg5 harg5 arg7 arg9 arg11 x0 x1 x2) (ix2 e x) = stA x0 x1 x2 0 e x 1 := by
  unfold kernelRun.sl.H8_2
  refine (canon_cols (R := 64) (W := 4096) 0 rfl _ _ _ e x).trans ?_
  by_cases h : 1024 * 0 ≤ x.val
  · rw [dif_pos (show 0 ≤ x.val by omega)]
    have hM : kernelRun.sl.v50 (F := Ideal) c arg7 (ix2 0 ⟨x.val - 0, by omega⟩) = stM x0 x1 0 x 0 := by
      unfold kernelRun.sl.v50
      exact (readCov_cols (R := 1) (W := 4096) _ 0 _ _ 0 ⟨x.val - 0, by omega⟩ x (by simp only; omega)).trans (H4_1_at x0 x1 x)
    have hA : kernelRun.sl.v67 (F := Ideal) c arg11 (ix2 e ⟨x.val - 0, by omega⟩) = stA x0 x1 x2 0 e x 0 := by
      unfold kernelRun.sl.v67
      exact (readCov_cols (R := 64) (W := 4096) _ 0 _ _ e ⟨x.val - 0, by omega⟩ x (by simp only; omega)).trans (H8_1_at x0 x1 x2 e x)
    try dsimp only
    refine Eq.trans (a00 _ _ _ _ _ e _) ?_
    exact stepA_st (d := 0) h hM hA (tile_scol x0 x1 0 0 x h _ rfl _ _
        (fun t j => readAt_at (R := 160) harg4 x1 _ _ 0 0 (off9 i 0) t j _ _ (by simp only; omega) (by simp only; omega))
        (fun t => readAt_at (R := 160) harg3 x0 _ _ 0 0 rfl t ⟨x.val - 0, by omega⟩ _ _ (by simp only; omega) (by simp only; omega)))
        (read_vcol harg5 x2 _ _ 0 0 (by decide) (by decide) (off10 i 0) e)
  · rw [dif_neg (show ¬ 0 ≤ x.val by omega)]
    refine (H8_1_at x0 x1 x2 e x).trans ?_
    simp only [stM, stL, stA, if_neg h]

theorem H5_2_at (c : Dev nD) (i : grid0.Coords) (arg3 : Memref sig .tc .vmem S1x160x4096 .bf16) (harg3 : arg3.IsWhole) (arg4 : Memref sig .tc .vmem S1x160x4096 .bf16) (harg4 : arg4.IsWhole) (arg5 : Memref sig .tc .vmem S1x128x4096 .bf16) (harg5 : arg5.IsWhole) (arg8 : Memref sig .tc .vmem S1x4096 .f32) (x0 : Vec Ideal S1x160x4096 .bf16) (x1 : Vec Ideal S1x160x4096 .bf16) (x2 : Vec Ideal S1x128x4096 .bf16) (x : Fin 4096) :
    View.canon (kernelRun.sl.H5_2 (F := Ideal) c i arg3 harg3 arg4 harg4 arg5 harg5 arg8 x0 x1 x2) (ix2 0 x) = stM x0 x1 1 x 1 := by
  unfold kernelRun.sl.H5_2
  refine (canon_cols (R := 1) (W := 4096) 0 rfl _ _ _ 0 x).trans ?_
  by_cases h : 1024 * 0 ≤ x.val
  · rw [dif_pos (show 0 ≤ x.val by omega)]
    have hM : kernelRun.sl.v96 (F := Ideal) c arg8 (ix2 0 ⟨x.val - 0, by omega⟩) = stM x0 x1 1 x 0 := by
      unfold kernelRun.sl.v96
      exact (readCov_cols (R := 1) (W := 4096) _ 0 _ _ 0 ⟨x.val - 0, by omega⟩ x (by simp only; omega)).trans (H4_1_at_c1 x0 x1 x)
    try dsimp only
    refine Eq.trans (m01 _ _ _ _) ?_
    exact stepM_st (d := 0) h hM (tile_scol x0 x1 1 0 x h _ rfl _ _
        (fun t j => readAt_at (R := 160) harg4 x1 _ _ 80 0 (off11 i 0) t j _ _ (by simp only; omega) (by simp only; omega))
        (fun t => readAt_at (R := 160) harg3 x0 _ _ 80 0 rfl t ⟨x.val - 0, by omega⟩ _ _ (by simp only; omega) (by simp only; omega)))
  · rw [dif_neg (show ¬ 0 ≤ x.val by omega)]
    refine (H4_1_at_c1 x0 x1 x).trans ?_
    simp only [stM, stL, stA, if_neg h]

theorem H7_2_at (c : Dev nD) (i : grid0.Coords) (arg3 : Memref sig .tc .vmem S1x160x4096 .bf16) (harg3 : arg3.IsWhole) (arg4 : Memref sig .tc .vmem S1x160x4096 .bf16) (harg4 : arg4.IsWhole) (arg5 : Memref sig .tc .vmem S1x128x4096 .bf16) (harg5 : arg5.IsWhole) (arg8 : Memref sig .tc .vmem S1x4096 .f32) (arg10 : Memref sig .tc .vmem S1x4096 .f32) (x0 : Vec Ideal S1x160x4096 .bf16) (x1 : Vec Ideal S1x160x4096 .bf16) (x2 : Vec Ideal S1x128x4096 .bf16) (x : Fin 4096) :
    View.canon (kernelRun.sl.H7_2 (F := Ideal) c i arg3 harg3 arg4 harg4 arg5 harg5 arg8 arg10 x0 x1 x2) (ix2 0 x) = stL x0 x1 1 x 1 := by
  unfold kernelRun.sl.H7_2
  refine (canon_cols (R := 1) (W := 4096) 0 rfl _ _ _ 0 x).trans ?_
  by_cases h : 1024 * 0 ≤ x.val
  · rw [dif_pos (show 0 ≤ x.val by omega)]
    have hM : kernelRun.sl.v96 (F := Ideal) c arg8 (ix2 0 ⟨x.val - 0, by omega⟩) = stM x0 x1 1 x 0 := by
      unfold kernelRun.sl.v96
      exact (readCov_cols (R := 1) (W := 4096) _ 0 _ _ 0 ⟨x.val - 0, by omega⟩ x (by simp only; omega)).trans (H4_1_at_c1 x0 x1 x)
    have hL : kernelRun.sl.v105 (F := Ideal) c arg10 (ix2 0 ⟨x.val - 0, by omega⟩) = stL x0 x1 1 x 0 := by
      unfold kernelRun.sl.v105
      exact (readCov_cols (R := 1) (W := 4096) _ 0 _ _ 0 ⟨x.val - 0, by omega⟩ x (by simp only; omega)).trans (H6_1_at_c1 x0 x1 x)
    try dsimp only
    refine Eq.trans (l01 _ _ _ _ _) ?_
    exact stepL_st (d := 0) h hM hL (tile_scol x0 x1 1 0 x h _ rfl _ _
        (fun t j => readAt_at (R := 160) harg4 x1 _ _ 80 0 (off11 i 0) t j _ _ (by simp only; omega) (by simp only; omega))
        (fun t => readAt_at (R := 160) harg3 x0 _ _ 80 0 rfl t ⟨x.val - 0, by omega⟩ _ _ (by simp only; omega) (by simp only; omega)))
  · rw [dif_neg (show ¬ 0 ≤ x.val by omega)]
    refine (H6_1_at_c1 x0 x1 x).trans ?_
    simp only [stM, stL, stA, if_neg h]

theorem H9_2_at (c : Dev nD) (i : grid0.Coords) (arg3 : Memref sig .tc .vmem S1x160x4096 .bf16) (harg3 : arg3.IsWhole) (arg4 : Memref sig .tc .vmem S1x160x4096 .bf16) (harg4 : arg4.IsWhole) (arg5 : Memref sig .tc .vmem S1x128x4096 .bf16) (harg5 : arg5.IsWhole) (arg8 : Memref sig .tc .vmem S1x4096 .f32) (arg12 : Memref sig .tc .vmem S64x4096 .f32) (x0 : Vec Ideal S1x160x4096 .bf16) (x1 : Vec Ideal S1x160x4096 .bf16) (x2 : Vec Ideal S1x128x4096 .bf16) (e : Fin 64) (x : Fin 4096) :
    View.canon (kernelRun.sl.H9_2 (F := Ideal) c i arg3 harg3 arg4 harg4 arg5 harg5 arg8 arg12 x0 x1 x2) (ix2 e x) = stA x0 x1 x2 1 e x 1 := by
  unfold kernelRun.sl.H9_2
  refine (canon_cols (R := 64) (W := 4096) 0 rfl _ _ _ e x).trans ?_
  by_cases h : 1024 * 0 ≤ x.val
  · rw [dif_pos (show 0 ≤ x.val by omega)]
    have hM : kernelRun.sl.v96 (F := Ideal) c arg8 (ix2 0 ⟨x.val - 0, by omega⟩) = stM x0 x1 1 x 0 := by
      unfold kernelRun.sl.v96
      exact (readCov_cols (R := 1) (W := 4096) _ 0 _ _ 0 ⟨x.val - 0, by omega⟩ x (by simp only; omega)).trans (H4_1_at_c1 x0 x1 x)
    have hA : kernelRun.sl.v113 (F := Ideal) c arg12 (ix2 e ⟨x.val - 0, by omega⟩) = stA x0 x1 x2 1 e x 0 := by
      unfold kernelRun.sl.v113
      exact (readCov_cols (R := 64) (W := 4096) _ 0 _ _ e ⟨x.val - 0, by omega⟩ x (by simp only; omega)).trans (H8_1_at_c1 x0 x1 x2 e x)
    try dsimp only
    refine Eq.trans (a01 _ _ _ _ _ e _) ?_
    exact stepA_st (d := 0) h hM hA (tile_scol x0 x1 1 0 x h _ rfl _ _
        (fun t j => readAt_at (R := 160) harg4 x1 _ _ 80 0 (off11 i 0) t j _ _ (by simp only; omega) (by simp only; omega))
        (fun t => readAt_at (R := 160) harg3 x0 _ _ 80 0 rfl t ⟨x.val - 0, by omega⟩ _ _ (by simp only; omega) (by simp only; omega)))
        (read_vcol harg5 x2 _ _ 1 0 (by decide) (by decide) (off12 i 0) e)
  · rw [dif_neg (show ¬ 0 ≤ x.val by omega)]
    refine (H8_1_at_c1 x0 x1 x2 e x).trans ?_
    simp only [stM, stL, stA, if_neg h]

end Cert.Fox
-- ==== Proof.FoxBlock1.lean ====
module

public import proofs.«01_k».proof.Proof.FoxCol
public import proofs.«01_k».proof.Proof.FoxPay1
public import proofs.«01_k».proof.Proof.FoxBlock0

@[expose] public section

set_option maxRecDepth 16384

noncomputable section

namespace Cert.Fox

open Cert.Kernel4Ideal Cert.Kernel4Ideal.Gen Cert.Kernel4Ideal.Body
open Cert.Attn (stepM stepL stepA negInf canon_cols readCov_cols)
open Idealize.ShloMosaic Idealize.ShloMosaic.TcCoe

theorem H4_3_at (c : Dev nD) (i : grid0.Coords) (arg3 : Memref sig .tc .vmem S1x160x4096 .bf16) (harg3 : arg3.IsWhole) (arg4 : Memref sig .tc .vmem S1x160x4096 .bf16) (harg4 : arg4.IsWhole) (arg5 : Memref sig .tc .vmem S1x128x4096 .bf16) (harg5 : arg5.IsWhole) (arg7 : Memref sig .tc .vmem S1x4096 .f32) (arg9 : Memref sig .tc .vmem S1x4096 .f32) (x0 : Vec Ideal S1x160x4096 .bf16) (x1 : Vec Ideal S1x160x4096 .bf16) (x2 : Vec Ideal S1x128x4096 .bf16) (x : Fin 4096) :
    View.canon (kernelRun.sl.H4_3 (F := Ideal) c i arg3 harg3 arg4 harg4 arg5 harg5 arg7 arg9 x0 x1 x2) (ix2 0 x) = stM x0 x1 0 x 2 := by
  unfold kernelRun.sl.H4_3
  refine (canon_cols (R := 1) (W := 3072) 1024 rfl _ _ _ 0 x).trans ?_
  by_cases h : 1024 * 1 ≤ x.val
  · rw [dif_pos (show 1024 ≤ x.val by omega)]
    have hM : kernelRun.sl.v145 (F := Ideal) c i arg3 harg3 arg4 harg4 arg5 harg5 arg7 arg9 x0 x1 x2 (ix2 0 ⟨x.val - 1024, by omega⟩) = stM x0 x1 0 x 1 := by
      unfold kernelRun.sl.v145
      exact (readCov_cols (R := 1) (W := 3072) _ 1024 _ _ 0 ⟨x.val - 1024, by omega⟩ x (by simp only; omega)).trans (H4_2_at c i arg3 harg3 arg4 harg4 arg5 harg5 arg7 arg9 x0 x1 x2 x)
    try dsimp only
    refine Eq.trans (m10 _ _ rfl rfl _ _ _ _) ?_
    exact stepM_st (d := 1) h hM (tile_scol x0 x1 0 1 x h _ rfl _ _
        (fun t j => readAt_at (R := 160) harg4 x1 _ _ 0 1024 (off9 i 1) t j _ _ (by simp only; omega) (by simp only; omega))
        (fun t => readAt_at (R := 160) harg3 x0 _ _ 0 1024 rfl t ⟨x.val - 1024, by omega⟩ _ _ (by simp only; omega) (by simp only; omega)))
  · rw [dif_neg (show ¬ 1024 ≤ x.val by omega)]
    refine (H4_2_at c i arg3 harg3 arg4 harg4 arg5 harg5 arg7 arg9 x0 x1 x2 x).trans ?_
    simp only [stM, stL, stA, if_neg h]

theorem H6_3_at (c : Dev nD) (i : grid0.Coords) (arg3 : Memref sig .tc .vmem S1x160x4096 .bf16) (harg3 : arg3.IsWhole) (arg4 : Memref sig .tc .vmem S1x160x4096 .bf16) (harg4 : arg4.IsWhole) (arg5 : Memref sig .tc .vmem S1x128x4096 .bf16) (harg5 : arg5.IsWhole) (arg7 : Memref sig .tc .vmem S1x4096 .f32) (arg9 : Memref sig .tc .vmem S1x4096 .f32) (x0 : Vec Ideal S1x160x4096 .bf16) (x1 : Vec Ideal S1x160x4096 .bf16) (x2 : Vec Ideal S1x128x4096 .bf16) (x : Fin 4096) :
    View.canon (kernelRun.sl.H6_3 (F := Ideal) c i arg3 harg3 arg4 harg4 arg5 harg5 arg7 arg9 x0 x1 x2) (ix2 0 x) = stL x0 x1 0 x 2 := by
  unfold kernelRun.sl.H6_3
  refine (canon_cols (R := 1) (W := 3072) 1024 rfl _ _ _ 0 x).trans ?_
  by_cases h : 1024 * 1 ≤ x.val
  · rw [dif_pos (show 1024 ≤ x.val by omega)]
    have hM : kernelRun.sl.v145 (F := Ideal) c i arg3 harg3 arg4 harg4 arg5 harg5 arg7 arg9 x0 x1 x2 (ix2 0 ⟨x.val - 1024, by omega⟩) = stM x0 x1 0 x 1 := by
      unfold kernelRun.sl.v145
      exact (readCov_cols (R := 1) (W := 3072) _ 1024 _ _ 0 ⟨x.val - 1024, by omega⟩ x (by simp only; omega)).trans (H4_2_at c i arg3 harg3 arg4 harg4 arg5 harg5 arg7 arg9 x0 x1 x2 x)
    have hL : kernelRun.sl.v154 (F := Ideal) c i arg3 harg3 arg4 harg4 arg5 harg5 arg7 arg9 x0 x1 x2 (ix2 0 ⟨x.val - 1024, by omega⟩) = stL x0 x1 0 x 1 := by
      unfold kernelRun.sl.v154
      exact (readCov_cols (R := 1) (W := 3072) _ 1024 _ _ 0 ⟨x.val - 1024, by omega⟩ x (by simp only; omega)).trans (H6_2_at c i arg3 harg3 arg4 harg4 arg5 harg5 arg7 arg9 x0 x1 x2 x)
    try dsimp only
    refine Eq.trans (l10 _ _ rfl rfl _ _ _ _ _) ?_
    exact stepL_st (d := 1) h hM hL (tile_scol x0 x1 0 1 x h _ rfl _ _
        (fun t j => readAt_at (R := 160) harg4 x1 _ _ 0 1024 (off9 i 1) t j _ _ (by simp only; omega) (by simp only; omega))
        (fun t => readAt_at (R := 160) harg3 x0 _ _ 0 1024 rfl t ⟨x.val - 1024, by omega⟩ _ _ (by simp only; omega) (by simp only; omega)))
  · rw [dif_neg (show ¬ 1024 ≤ x.val by omega)]
    refine (H6_2_at c i arg3 harg3 arg4 harg4 arg5 harg5 arg7 arg9 x0 x1 x2 x).trans ?_
    simp only [stM, stL, stA, if_neg h]

theorem H8_3_at (c : Dev nD) (i : grid0.Coords) (arg3 : Memref sig .tc .vmem S1x160x4096 .bf16) (harg3 : arg3.IsWhole) (arg4 : Memref sig .tc .vmem S1x160x4096 .bf16) (harg4 : arg4.IsWhole) (arg5 : Memref sig .tc .vmem S1x128x4096 .bf16) (harg5 : arg5.IsWhole) (arg7 : Memref sig .tc .vmem S1x4096 .f32) (arg9 : Memref sig .tc .vmem S1x4096 .f32) (arg11 : Memref sig .tc .vmem S64x4096 .f32) (x0 : Vec Ideal S1x160x4096 .bf16) (x1 : Vec Ideal S1x160x4096 .bf16) (x2 : Vec Ideal S1x128x4096 .bf16) (e : Fin 64) (x : Fin 4096) :
    View.canon (kernelRun.sl.H8_3 (F := Ideal) c i arg3 harg3 arg4 harg4 arg5 harg5 arg7 arg9 arg11 x0 x1 x2) (ix2 e x) = stA x0 x1 x2 0 e x 2 := by
  unfold kernelRun.sl.H8_3
  refine (canon_cols (R := 64) (W := 3072) 1024 rfl _ _ _ e x).trans ?_
  by_cases h : 1024 * 1 ≤ x.val
  · rw [dif_pos (show 1024 ≤ x.val by omega)]
    have hM : kernelRun.sl.v145 (F := Ideal) c i arg3 harg3 arg4 harg4 arg5 harg5 arg7 arg9 x0 x1 x2 (ix2 0 ⟨x.val - 1024, by omega⟩) = stM x0 x1 0 x 1 := by
      unfold kernelRun.sl.v145
      exact (readCov_cols (R := 1) (W := 3072) _ 1024 _ _ 0 ⟨x.val - 1024, by omega⟩ x (by simp only; omega)).trans (H4_2_at c i arg3 harg3 arg4 harg4 arg5 harg5 arg7 arg9 x0 x1 x2 x)
    have hA : kernelRun.sl.v162 (F := Ideal) c i arg3 harg3 arg4 harg4 arg5 harg5 arg7 arg9 arg11 x0 x1 x2 (ix2 e ⟨x.val - 1024, by omega⟩) = stA x0 x1 x2 0 e x 1 := by
      unfold kernelRun.sl.v162
      exact (readCov_cols (R := 64) (W := 3072) _ 1024 _ _ e ⟨x.val - 1024, by omega⟩ x (by simp only; omega)).trans (H8_2_at c i arg3 harg3 arg4 harg4 arg5 harg5 arg7 arg9 arg11 x0 x1 x2 e x)
    try dsimp only
    refine Eq.trans (a10 _ _ rfl rfl _ _ _ _ _ e _) ?_
    exact stepA_st (d := 1) h hM hA (tile_scol x0 x1 0 1 x h _ rfl _ _
        (fun t j => readAt_at (R := 160) harg4 x1 _ _ 0 1024 (off9 i 1) t j _ _ (by simp only; omega) (by simp only; omega))
        (fun t => readAt_at (R := 160) harg3 x0 _ _ 0 1024 rfl t ⟨x.val - 1024, by omega⟩ _ _ (by simp only; omega) (by simp only; omega)))
        (read_vcol harg5 x2 _ _ 0 1 (by decide) (by decide) (off10 i 1) e)
  · rw [dif_neg (show ¬ 1024 ≤ x.val by omega)]
    refine (H8_2_at c i arg3 harg3 arg4 harg4 arg5 harg5 arg7 arg9 arg11 x0 x1 x2 e x).trans ?_
    simp only [stM, stL, stA, if_neg h]

theorem H5_3_at (c : Dev nD) (i : grid0.Coords) (arg3 : Memref sig .tc .vmem S1x160x4096 .bf16) (harg3 : arg3.IsWhole) (arg4 : Memref sig .tc .vmem S1x160x4096 .bf16) (harg4 : arg4.IsWhole) (arg5 : Memref sig .tc .vmem S1x128x4096 .bf16) (harg5 : arg5.IsWhole) (arg8 : Memref sig .tc .vmem S1x4096 .f32) (arg12 : Memref sig .tc .vmem S64x4096 .f32) (x0 : Vec Ideal S1x160x4096 .bf16) (x1 : Vec Ideal S1x160x4096 .bf16) (x2 : Vec Ideal S1x128x4096 .bf16) (x : Fin 4096) :
    View.canon (kernelRun.sl.H5_3 (F := Ideal) c i arg3 harg3 arg4 harg4 arg5 harg5 arg8 arg12 x0 x1 x2) (ix2 0 x) = stM x0 x1 1 x 2 := by
  unfold kernelRun.sl.H5_3
  refine (canon_cols (R := 1) (W := 3072) 1024 rfl _ _ _ 0 x).trans ?_
  by_cases h : 1024 * 1 ≤ x.val
  · rw [dif_pos (show 1024 ≤ x.val by omega)]
    have hM : kernelRun.sl.v191 (F := Ideal) c i arg3 harg3 arg4 harg4 arg5 harg5 arg8 x0 x1 x2 (ix2 0 ⟨x.val - 1024, by omega⟩) = stM x0 x1 1 x 1 := by
      unfold kernelRun.sl.v191
      exact (readCov_cols (R := 1) (W := 3072) _ 1024 _ _ 0 ⟨x.val - 1024, by omega⟩ x (by simp only; omega)).trans (H5_2_at c i arg3 harg3 arg4 harg4 arg5 harg5 arg8 x0 x1 x2 x)
    try dsimp only
    refine Eq.trans (m11 _ _ _ _) ?_
    exact stepM_st (d := 1) h hM (tile_scol x0 x1 1 1 x h _ rfl _ _
        (fun t j => readAt_at (R := 160) harg4 x1 _ _ 80 1024 (off11 i 1) t j _ _ (by simp only; omega) (by simp only; omega))
        (fun t => readAt_at (R := 160) harg3 x0 _ _ 80 1024 rfl t ⟨x.val - 1024, by omega⟩ _ _ (by simp only; omega) (by simp only; omega)))
  · rw [dif_neg (show ¬ 1024 ≤ x.val by omega)]
    refine (H5_2_at c i arg3 harg3 arg4 harg4 arg5 harg5 arg8 x0 x1 x2 x).trans ?_
    simp only [stM, stL, stA, if_neg h]

theorem H7_3_at (c : Dev nD) (i : grid0.Coords) (arg3 : Memref sig .tc .vmem S1x160x4096 .bf16) (harg3 : arg3.IsWhole) (arg4 : Memref sig .tc .vmem S1x160x4096 .bf16) (harg4 : arg4.IsWhole) (arg5 : Memref sig .tc .vmem S1x128x4096 .bf16) (harg5 : arg5.IsWhole) (arg8 : Memref sig .tc .vmem S1x4096 .f32) (arg10 : Memref sig .tc .vmem S1x4096 .f32) (x0 : Vec Ideal S1x160x4096 .bf16) (x1 : Vec Ideal S1x160x4096 .bf16) (x2 : Vec Ideal S1x128x4096 .bf16) (x : Fin 4096) :
    View.canon (kernelRun.sl.H7_3 (F := Ideal) c i arg3 harg3 arg4 harg4 arg5 harg5 arg8 arg10 x0 x1 x2) (ix2 0 x) = stL x0 x1 1 x 2 := by
  unfold kernelRun.sl.H7_3
  refine (canon_cols (R := 1) (W := 3072) 1024 rfl _ _ _ 0 x).trans ?_
  by_cases h : 1024 * 1 ≤ x.val
  · rw [dif_pos (show 1024 ≤ x.val by omega)]
    have hM : kernelRun.sl.v191 (F := Ideal) c i arg3 harg3 arg4 harg4 arg5 harg5 arg8 x0 x1 x2 (ix2 0 ⟨x.val - 1024, by omega⟩) = stM x0 x1 1 x 1 := by
      unfold kernelRun.sl.v191
      exact (readCov_cols (R := 1) (W := 3072) _ 1024 _ _ 0 ⟨x.val - 1024, by omega⟩ x (by simp only; omega)).trans (H5_2_at c i arg3 harg3 arg4 harg4 arg5 harg5 arg8 x0 x1 x2 x)
    have hL : kernelRun.sl.v200 (F := Ideal) c i arg3 harg3 arg4 harg4 arg5 harg5 arg8 arg10 x0 x1 x2 (ix2 0 ⟨x.val - 1024, by omega⟩) = stL x0 x1 1 x 1 := by
      unfold kernelRun.sl.v200
      exact (readCov_cols (R := 1) (W := 3072) _ 1024 _ _ 0 ⟨x.val - 1024, by omega⟩ x (by simp only; omega)).trans (H7_2_at c i arg3 harg3 arg4 harg4 arg5 harg5 arg8 arg10 x0 x1 x2 x)
    try dsimp only
    refine Eq.trans (l11 _ _ _ _ _) ?_
    exact stepL_st (d := 1) h hM hL (tile_scol x0 x1 1 1 x h _ rfl _ _
        (fun t j => readAt_at (R := 160) harg4 x1 _ _ 80 1024 (off11 i 1) t j _ _ (by simp only; omega) (by simp only; omega))
        (fun t => readAt_at (R := 160) harg3 x0 _ _ 80 1024 rfl t ⟨x.val - 1024, by omega⟩ _ _ (by simp only; omega) (by simp only; omega)))
  · rw [dif_neg (show ¬ 1024 ≤ x.val by omega)]
    refine (H7_2_at c i arg3 harg3 arg4 harg4 arg5 harg5 arg8 arg10 x0 x1 x2 x).trans ?_
    simp only [stM, stL, stA, if_neg h]

theorem H9_3_at (c : Dev nD) (i : grid0.Coords) (arg3 : Memref sig .tc .vmem S1x160x4096 .bf16) (harg3 : arg3.IsWhole) (arg4 : Memref sig .tc .vmem S1x160x4096 .bf16) (harg4 : arg4.IsWhole) (arg5 : Memref sig .tc .vmem S1x128x4096 .bf16) (harg5 : arg5.IsWhole) (arg8 : Memref sig .tc .vmem S1x4096 .f32) (arg12 : Memref sig .tc .vmem S64x4096 .f32) (x0 : Vec Ideal S1x160x4096 .bf16) (x1 : Vec Ideal S1x160x4096 .bf16) (x2 : Vec Ideal S1x128x4096 .bf16) (e : Fin 64) (x : Fin 4096) :
    View.canon (kernelRun.sl.H9_3 (F := Ideal) c i arg3 harg3 arg4 harg4 arg5 harg5 arg8 arg12 x0 x1 x2) (ix2 e x) = stA x0 x1 x2 1 e x 2 := by
  unfold kernelRun.sl.H9_3
  refine (canon_cols (R := 64) (W := 3072) 1024 rfl _ _ _ e x).trans ?_
  by_cases h : 1024 * 1 ≤ x.val
  · rw [dif_pos (show 1024 ≤ x.val by omega)]
    have hM : kernelRun.sl.v191 (F := Ideal) c i arg3 harg3 arg4 harg4 arg5 harg5 arg8 x0 x1 x2 (ix2 0 ⟨x.val - 1024, by omega⟩) = stM x0 x1 1 x 1 := by
      unfold kernelRun.sl.v191
      exact (readCov_cols (R := 1) (W := 3072) _ 1024 _ _ 0 ⟨x.val - 1024, by omega⟩ x (by simp only; omega)).trans (H5_2_at c i arg3 harg3 arg4 harg4 arg5 harg5 arg8 x0 x1 x2 x)
    have hA : kernelRun.sl.v208 (F := Ideal) c i arg3 harg3 arg4 harg4 arg5 harg5 arg8 arg12 x0 x1 x2 (ix2 e ⟨x.val - 1024, by omega⟩) = stA x0 x1 x2 1 e x 1 := by
      unfold kernelRun.sl.v208
      exact (readCov_cols (R := 64) (W := 3072) _ 1024 _ _ e ⟨x.val - 1024, by omega⟩ x (by simp only; omega)).trans (H9_2_at c i arg3 harg3 arg4 harg4 arg5 harg5 arg8 arg12 x0 x1 x2 e x)
    try dsimp only
    refine Eq.trans (a11 _ _ _ _ _ e _) ?_
    exact stepA_st (d := 1) h hM hA (tile_scol x0 x1 1 1 x h _ rfl _ _
        (fun t j => readAt_at (R := 160) harg4 x1 _ _ 80 1024 (off11 i 1) t j _ _ (by simp only; omega) (by simp only; omega))
        (fun t => readAt_at (R := 160) harg3 x0 _ _ 80 1024 rfl t ⟨x.val - 1024, by omega⟩ _ _ (by simp only; omega) (by simp only; omega)))
        (read_vcol harg5 x2 _ _ 1 1 (by decide) (by decide) (off12 i 1) e)
  · rw [dif_neg (show ¬ 1024 ≤ x.val by omega)]
    refine (H9_2_at c i arg3 harg3 arg4 harg4 arg5 harg5 arg8 arg12 x0 x1 x2 e x).trans ?_
    simp only [stM, stL, stA, if_neg h]

end Cert.Fox
-- ==== Proof.FoxBlock2.lean ====
module

public import proofs.«01_k».proof.Proof.FoxCol
public import proofs.«01_k».proof.Proof.FoxPay2
public import proofs.«01_k».proof.Proof.FoxBlock1

@[expose] public section

set_option maxRecDepth 16384

noncomputable section

namespace Cert.Fox

open Cert.Kernel4Ideal Cert.Kernel4Ideal.Gen Cert.Kernel4Ideal.Body
open Cert.Attn (stepM stepL stepA negInf canon_cols readCov_cols)
open Idealize.ShloMosaic Idealize.ShloMosaic.TcCoe

theorem H4_4_at (c : Dev nD) (i : grid0.Coords) (arg3 : Memref sig .tc .vmem S1x160x4096 .bf16) (harg3 : arg3.IsWhole) (arg4 : Memref sig .tc .vmem S1x160x4096 .bf16) (harg4 : arg4.IsWhole) (arg5 : Memref sig .tc .vmem S1x128x4096 .bf16) (harg5 : arg5.IsWhole) (arg7 : Memref sig .tc .vmem S1x4096 .f32) (arg9 : Memref sig .tc .vmem S1x4096 .f32) (x0 : Vec Ideal S1x160x4096 .bf16) (x1 : Vec Ideal S1x160x4096 .bf16) (x2 : Vec Ideal S1x128x4096 .bf16) (x : Fin 4096) :
    View.canon (kernelRun.sl.H4_4 (F := Ideal) c i arg3 harg3 arg4 harg4 arg5 harg5 arg7 arg9 x0 x1 x2) (ix2 0 x) = stM x0 x1 0 x 3 := by
  unfold kernelRun.sl.H4_4
  refine (canon_cols (R := 1) (W := 2048) 2048 rfl _ _ _ 0 x).trans ?_
  by_cases h : 1024 * 2 ≤ x.val
  · rw [dif_pos (show 2048 ≤ x.val by omega)]
    have hM : kernelRun.sl.v240 (F := Ideal) c i arg3 harg3 arg4 harg4 arg5 harg5 arg7 arg9 x0 x1 x2 (ix2 0 ⟨x.val - 2048, by omega⟩) = stM x0 x1 0 x 2 := by
      unfold kernelRun.sl.v240
      exact (readCov_cols (R := 1) (W := 2048) _ 2048 _ _ 0 ⟨x.val - 2048, by omega⟩ x (by simp only; omega)).trans (H4_3_at c i arg3 harg3 arg4 harg4 arg5 harg5 arg7 arg9 x0 x1 x2 x)
    try dsimp only
    refine Eq.trans (m20 _ _ _ _) ?_
    exact stepM_st (d := 2) h hM (tile_scol x0 x1 0 2 x h _ rfl _ _
        (fun t j => readAt_at (R := 160) harg4 x1 _ _ 0 2048 (off9 i 2) t j _ _ (by simp only; omega) (by simp only; omega))
        (fun t => readAt_at (R := 160) harg3 x0 _ _ 0 2048 rfl t ⟨x.val - 2048, by omega⟩ _ _ (by simp only; omega) (by simp only; omega)))
  · rw [dif_neg (show ¬ 2048 ≤ x.val by omega)]
    refine (H4_3_at c i arg3 harg3 arg4 harg4 arg5 harg5 arg7 arg9 x0 x1 x2 x).trans ?_
    simp only [stM, stL, stA, if_neg h]

theorem H6_4_at (c : Dev nD) (i : grid0.Coords) (arg3 : Memref sig .tc .vmem S1x160x4096 .bf16) (harg3 : arg3.IsWhole) (arg4 : Memref sig .tc .vmem S1x160x4096 .bf16) (harg4 : arg4.IsWhole) (arg5 : Memref sig .tc .vmem S1x128x4096 .bf16) (harg5 : arg5.IsWhole) (arg7 : Memref sig .tc .vmem S1x4096 .f32) (arg9 : Memref sig .tc .vmem S1x4096 .f32) (x0 : Vec Ideal S1x160x4096 .bf16) (x1 : Vec Ideal S1x160x4096 .bf16) (x2 : Vec Ideal S1x128x4096 .bf16) (x : Fin 4096) :
    View.canon (kernelRun.sl.H6_4 (F := Ideal) c i arg3 harg3 arg4 harg4 arg5 harg5 arg7 arg9 x0 x1 x2) (ix2 0 x) = stL x0 x1 0 x 3 := by
  unfold kernelRun.sl.H6_4
  refine (canon_cols (R := 1) (W := 2048) 2048 rfl _ _ _ 0 x).trans ?_
  by_cases h : 1024 * 2 ≤ x.val
  · rw [dif_pos (show 2048 ≤ x.val by omega)]
    have hM : kernelRun.sl.v240 (F := Ideal) c i arg3 harg3 arg4 harg4 arg5 harg5 arg7 arg9 x0 x1 x2 (ix2 0 ⟨x.val - 2048, by omega⟩) = stM x0 x1 0 x 2 := by
      unfold kernelRun.sl.v240
      exact (readCov_cols (R := 1) (W := 2048) _ 2048 _ _ 0 ⟨x.val - 2048, by omega⟩ x (by simp only; omega)).trans (H4_3_at c i arg3 harg3 arg4 harg4 arg5 harg5 arg7 arg9 x0 x1 x2 x)
    have hL : kernelRun.sl.v249 (F := Ideal) c i arg3 harg3 arg4 harg4 arg5 harg5 arg7 arg9 x0 x1 x2 (ix2 0 ⟨x.val - 2048, by omega⟩) = stL x0 x1 0 x 2 := by
      unfold kernelRun.sl.v249
      exact (readCov_cols (R := 1) (W := 2048) _ 2048 _ _ 0 ⟨x.val - 2048, by omega⟩ x (by simp only; omega)).trans (H6_3_at c i arg3 harg3 arg4 harg4 arg5 harg5 arg7 arg9 x0 x1 x2 x)
    try dsimp only
    refine Eq.trans (l20 _ _ _ _ _) ?_
    exact stepL_st (d := 2) h hM hL (tile_scol x0 x1 0 2 x h _ rfl _ _
        (fun t j => readAt_at (R := 160) harg4 x1 _ _ 0 2048 (off9 i 2) t j _ _ (by simp only; omega) (by simp only; omega))
        (fun t => readAt_at (R := 160) harg3 x0 _ _ 0 2048 rfl t ⟨x.val - 2048, by omega⟩ _ _ (by simp only; omega) (by simp only; omega)))
  · rw [dif_neg (show ¬ 2048 ≤ x.val by omega)]
    refine (H6_3_at c i arg3 harg3 arg4 harg4 arg5 harg5 arg7 arg9 x0 x1 x2 x).trans ?_
    simp only [stM, stL, stA, if_neg h]

theorem H8_4_at (c : Dev nD) (i : grid0.Coords) (arg3 : Memref sig .tc .vmem S1x160x4096 .bf16) (harg3 : arg3.IsWhole) (arg4 : Memref sig .tc .vmem S1x160x4096 .bf16) (harg4 : arg4.IsWhole) (arg5 : Memref sig .tc .vmem S1x128x4096 .bf16) (harg5 : arg5.IsWhole) (arg7 : Memref sig .tc .vmem S1x4096 .f32) (arg9 : Memref sig .tc .vmem S1x4096 .f32) (arg11 : Memref sig .tc .vmem S64x4096 .f32) (x0 : Vec Ideal S1x160x4096 .bf16) (x1 : Vec Ideal S1x160x4096 .bf16) (x2 : Vec Ideal S1x128x4096 .bf16) (e : Fin 64) (x : Fin 4096) :
    View.canon (kernelRun.sl.H8_4 (F := Ideal) c i arg3 harg3 arg4 harg4 arg5 harg5 arg7 arg9 arg11 x0 x1 x2) (ix2 e x) = stA x0 x1 x2 0 e x 3 := by
  unfold kernelRun.sl.H8_4
  refine (canon_cols (R := 64) (W := 2048) 2048 rfl _ _ _ e x).trans ?_
  by_cases h : 1024 * 2 ≤ x.val
  · rw [dif_pos (show 2048 ≤ x.val by omega)]
    have hM : kernelRun.sl.v240 (F := Ideal) c i arg3 harg3 arg4 harg4 arg5 harg5 arg7 arg9 x0 x1 x2 (ix2 0 ⟨x.val - 2048, by omega⟩) = stM x0 x1 0 x 2 := by
      unfold kernelRun.sl.v240
      exact (readCov_cols (R := 1) (W := 2048) _ 2048 _ _ 0 ⟨x.val - 2048, by omega⟩ x (by simp only; omega)).trans (H4_3_at c i arg3 harg3 arg4 harg4 arg5 harg5 arg7 arg9 x0 x1 x2 x)
    have hA : kernelRun.sl.v257 (F := Ideal) c i arg3 harg3 arg4 harg4 arg5 harg5 arg7 arg9 arg11 x0 x1 x2 (ix2 e ⟨x.val - 2048, by omega⟩) = stA x0 x1 x2 0 e x 2 := by
      unfold kernelRun.sl.v257
      exact (readCov_cols (R := 64) (W := 2048) _ 2048 _ _ e ⟨x.val - 2048, by omega⟩ x (by simp only; omega)).trans (H8_3_at c i arg3 harg3 arg4 harg4 arg5 harg5 arg7 arg9 arg11 x0 x1 x2 e x)
    try dsimp only
    refine Eq.trans (a20 _ _ _ _ _ e _) ?_
    exact stepA_st (d := 2) h hM hA (tile_scol x0 x1 0 2 x h _ rfl _ _
        (fun t j => readAt_at (R := 160) harg4 x1 _ _ 0 2048 (off9 i 2) t j _ _ (by simp only; omega) (by simp only; omega))
        (fun t => readAt_at (R := 160) harg3 x0 _ _ 0 2048 rfl t ⟨x.val - 2048, by omega⟩ _ _ (by simp only; omega) (by simp only; omega)))
        (read_vcol harg5 x2 _ _ 0 2 (by decide) (by decide) (off10 i 2) e)
  · rw [dif_neg (show ¬ 2048 ≤ x.val by omega)]
    refine (H8_3_at c i arg3 harg3 arg4 harg4 arg5 harg5 arg7 arg9 arg11 x0 x1 x2 e x).trans ?_
    simp only [stM, stL, stA, if_neg h]

theorem H5_4_at (c : Dev nD) (i : grid0.Coords) (arg3 : Memref sig .tc .vmem S1x160x4096 .bf16) (harg3 : arg3.IsWhole) (arg4 : Memref sig .tc .vmem S1x160x4096 .bf16) (harg4 : arg4.IsWhole) (arg5 : Memref sig .tc .vmem S1x128x4096 .bf16) (harg5 : arg5.IsWhole) (arg8 : Memref sig .tc .vmem S1x4096 .f32) (arg12 : Memref sig .tc .vmem S64x4096 .f32) (x0 : Vec Ideal S1x160x4096 .bf16) (x1 : Vec Ideal S1x160x4096 .bf16) (x2 : Vec Ideal S1x128x4096 .bf16) (x : Fin 4096) :
    View.canon (kernelRun.sl.H5_4 (F := Ideal) c i arg3 harg3 arg4 harg4 arg5 harg5 arg8 arg12 x0 x1 x2) (ix2 0 x) = stM x0 x1 1 x 3 := by
  unfold kernelRun.sl.H5_4
  refine (canon_cols (R := 1) (W := 2048) 2048 rfl _ _ _ 0 x).trans ?_
  by_cases h : 1024 * 2 ≤ x.val
  · rw [dif_pos (show 2048 ≤ x.val by omega)]
    have hM : kernelRun.sl.v286 (F := Ideal) c i arg3 harg3 arg4 harg4 arg5 harg5 arg8 arg12 x0 x1 x2 (ix2 0 ⟨x.val - 2048, by omega⟩) = stM x0 x1 1 x 2 := by
      unfold kernelRun.sl.v286
      exact (readCov_cols (R := 1) (W := 2048) _ 2048 _ _ 0 ⟨x.val - 2048, by omega⟩ x (by simp only; omega)).trans (H5_3_at c i arg3 harg3 arg4 harg4 arg5 harg5 arg8 arg12 x0 x1 x2 x)
    try dsimp only
    refine Eq.trans (m21 _ _ _ _) ?_
    exact stepM_st (d := 2) h hM (tile_scol x0 x1 1 2 x h _ rfl _ _
        (fun t j => readAt_at (R := 160) harg4 x1 _ _ 80 2048 (off11 i 2) t j _ _ (by simp only; omega) (by simp only; omega))
        (fun t => readAt_at (R := 160) harg3 x0 _ _ 80 2048 rfl t ⟨x.val - 2048, by omega⟩ _ _ (by simp only; omega) (by simp only; omega)))
  · rw [dif_neg (show ¬ 2048 ≤ x.val by omega)]
    refine (H5_3_at c i arg3 harg3 arg4 harg4 arg5 harg5 arg8 arg12 x0 x1 x2 x).trans ?_
    simp only [stM, stL, stA, if_neg h]

theorem H7_4_at (c : Dev nD) (i : grid0.Coords) (arg3 : Memref sig .tc .vmem S1x160x4096 .bf16) (harg3 : arg3.IsWhole) (arg4 : Memref sig .tc .vmem S1x160x4096 .bf16) (harg4 : arg4.IsWhole) (arg5 : Memref sig .tc .vmem S1x128x4096 .bf16) (harg5 : arg5.IsWhole) (arg8 : Memref sig .tc .vmem S1x4096 .f32) (arg10 : Memref sig .tc .vmem S1x4096 .f32) (arg12 : Memref sig .tc .vmem S64x4096 .f32) (x0 : Vec Ideal S1x160x4096 .bf16) (x1 : Vec Ideal S1x160x4096 .bf16) (x2 : Vec Ideal S1x128x4096 .bf16) (x : Fin 4096) :
    View.canon (kernelRun.sl.H7_4 (F := Ideal) c i arg3 harg3 arg4 harg4 arg5 harg5 arg8 arg10 arg12 x0 x1 x2) (ix2 0 x) = stL x0 x1 1 x 3 := by
  unfold kernelRun.sl.H7_4
  refine (canon_cols (R := 1) (W := 2048) 2048 rfl _ _ _ 0 x).trans ?_
  by_cases h : 1024 * 2 ≤ x.val
  · rw [dif_pos (show 2048 ≤ x.val by omega)]
    have hM : kernelRun.sl.v286 (F := Ideal) c i arg3 harg3 arg4 harg4 arg5 harg5 arg8 arg12 x0 x1 x2 (ix2 0 ⟨x.val - 2048, by omega⟩) = stM x0 x1 1 x 2 := by
      unfold kernelRun.sl.v286
      exact (readCov_cols (R := 1) (W := 2048) _ 2048 _ _ 0 ⟨x.val - 2048, by omega⟩ x (by simp only; omega)).trans (H5_3_at c i arg3 harg3 arg4 harg4 arg5 harg5 arg8 arg12 x0 x1 x2 x)
    have hL : kernelRun.sl.v295 (F := Ideal) c i arg3 harg3 arg4 harg4 arg5 harg5 arg8 arg10 x0 x1 x2 (ix2 0 ⟨x.val - 2048, by omega⟩) = stL x0 x1 1 x 2 := by
      unfold kernelRun.sl.v295
      exact (readCov_cols (R := 1) (W := 2048) _ 2048 _ _ 0 ⟨x.val - 2048, by omega⟩ x (by simp only; omega)).trans (H7_3_at c i arg3 harg3 arg4 harg4 arg5 harg5 arg8 arg10 x0 x1 x2 x)
    try dsimp only
    refine Eq.trans (l21 _ _ _ _ _) ?_
    exact stepL_st (d := 2) h hM hL (tile_scol x0 x1 1 2 x h _ rfl _ _
        (fun t j => readAt_at (R := 160) harg4 x1 _ _ 80 2048 (off11 i 2) t j _ _ (by simp only; omega) (by simp only; omega))
        (fun t => readAt_at (R := 160) harg3 x0 _ _ 80 2048 rfl t ⟨x.val - 2048, by omega⟩ _ _ (by simp only; omega) (by simp only; omega)))
  · rw [dif_neg (show ¬ 2048 ≤ x.val by omega)]
    refine (H7_3_at c i arg3 harg3 arg4 harg4 arg5 harg5 arg8 arg10 x0 x1 x2 x).trans ?_
    simp only [stM, stL, stA, if_neg h]

theorem H9_4_at (c : Dev nD) (i : grid0.Coords) (arg3 : Memref sig .tc .vmem S1x160x4096 .bf16) (harg3 : arg3.IsWhole) (arg4 : Memref sig .tc .vmem S1x160x4096 .bf16) (harg4 : arg4.IsWhole) (arg5 : Memref sig .tc .vmem S1x128x4096 .bf16) (harg5 : arg5.IsWhole) (arg8 : Memref sig .tc .vmem S1x4096 .f32) (arg12 : Memref sig .tc .vmem S64x4096 .f32) (x0 : Vec Ideal S1x160x4096 .bf16) (x1 : Vec Ideal S1x160x4096 .bf16) (x2 : Vec Ideal S1x128x4096 .bf16) (e : Fin 64) (x : Fin 4096) :
    View.canon (kernelRun.sl.H9_4 (F := Ideal) c i arg3 harg3 arg4 harg4 arg5 harg5 arg8 arg12 x0 x1 x2) (ix2 e x) = stA x0 x1 x2 1 e x 3 := by
  unfold kernelRun.sl.H9_4
  refine (canon_cols (R := 64) (W := 2048) 2048 rfl _ _ _ e x).trans ?_
  by_cases h : 1024 * 2 ≤ x.val
  · rw [dif_pos (show 2048 ≤ x.val by omega)]
    have hM : kernelRun.sl.v286 (F := Ideal) c i arg3 harg3 arg4 harg4 arg5 harg5 arg8 arg12 x0 x1 x2 (ix2 0 ⟨x.val - 2048, by omega⟩) = stM x0 x1 1 x 2 := by
      unfold kernelRun.sl.v286
      exact (readCov_cols (R := 1) (W := 2048) _ 2048 _ _ 0 ⟨x.val - 2048, by omega⟩ x (by simp only; omega)).trans (H5_3_at c i arg3 harg3 arg4 harg4 arg5 harg5 arg8 arg12 x0 x1 x2 x)
    have hA : kernelRun.sl.v303 (F := Ideal) c i arg3 harg3 arg4 harg4 arg5 harg5 arg8 arg12 x0 x1 x2 (ix2 e ⟨x.val - 2048, by omega⟩) = stA x0 x1 x2 1 e x 2 := by
      unfold kernelRun.sl.v303
      exact (readCov_cols (R := 64) (W := 2048) _ 2048 _ _ e ⟨x.val - 2048, by omega⟩ x (by simp only; omega)).trans (H9_3_at c i arg3 harg3 arg4 harg4 arg5 harg5 arg8 arg12 x0 x1 x2 e x)
    try dsimp only
    refine Eq.trans (a21 _ _ _ _ _ e _) ?_
    exact stepA_st (d := 2) h hM hA (tile_scol x0 x1 1 2 x h _ rfl _ _
        (fun t j => readAt_at (R := 160) harg4 x1 _ _ 80 2048 (off11 i 2) t j _ _ (by simp only; omega) (by simp only; omega))
        (fun t => readAt_at (R := 160) harg3 x0 _ _ 80 2048 rfl t ⟨x.val - 2048, by omega⟩ _ _ (by simp only; omega) (by simp only; omega)))
        (read_vcol harg5 x2 _ _ 1 2 (by decide) (by decide) (off12 i 2) e)
  · rw [dif_neg (show ¬ 2048 ≤ x.val by omega)]
    refine (H9_3_at c i arg3 harg3 arg4 harg4 arg5 harg5 arg8 arg12 x0 x1 x2 e x).trans ?_
    simp only [stM, stL, stA, if_neg h]

end Cert.Fox
-- ==== Proof.FoxBlock3.lean ====
module

public import proofs.«01_k».proof.Proof.FoxCol
public import proofs.«01_k».proof.Proof.FoxPay3
public import proofs.«01_k».proof.Proof.FoxBlock2

@[expose] public section

set_option maxRecDepth 16384

noncomputable section

namespace Cert.Fox

open Cert.Kernel4Ideal Cert.Kernel4Ideal.Gen Cert.Kernel4Ideal.Body
open Cert.Attn (stepM stepL stepA negInf canon_cols readCov_cols)
open Idealize.ShloMosaic Idealize.ShloMosaic.TcCoe

theorem H4_5_at (c : Dev nD) (i : grid0.Coords) (arg3 : Memref sig .tc .vmem S1x160x4096 .bf16) (harg3 : arg3.IsWhole) (arg4 : Memref sig .tc .vmem S1x160x4096 .bf16) (harg4 : arg4.IsWhole) (arg5 : Memref sig .tc .vmem S1x128x4096 .bf16) (harg5 : arg5.IsWhole) (arg7 : Memref sig .tc .vmem S1x4096 .f32) (arg9 : Memref sig .tc .vmem S1x4096 .f32) (x0 : Vec Ideal S1x160x4096 .bf16) (x1 : Vec Ideal S1x160x4096 .bf16) (x2 : Vec Ideal S1x128x4096 .bf16) (x : Fin 4096) :
    View.canon (kernelRun.sl.H4_5 (F := Ideal) c i arg3 harg3 arg4 harg4 arg5 harg5 arg7 arg9 x0 x1 x2) (ix2 0 x) = stM x0 x1 0 x 4 := by
  unfold kernelRun.sl.H4_5
  refine (canon_cols (R := 1) (W := 1024) 3072 rfl _ _ _ 0 x).trans ?_
  by_cases h : 1024 * 3 ≤ x.val
  · rw [dif_pos (show 3072 ≤ x.val by omega)]
    have hM : kernelRun.sl.v332 (F := Ideal) c i arg3 harg3 arg4 harg4 arg5 harg5 arg7 arg9 x0 x1 x2 (ix2 0 ⟨x.val - 3072, by omega⟩) = stM x0 x1 0 x 3 := by
      unfold kernelRun.sl.v332
      exact (readCov_cols (R := 1) (W := 1024) _ 3072 _ _ 0 ⟨x.val - 3072, by omega⟩ x (by simp only; omega)).trans (H4_4_at c i arg3 harg3 arg4 harg4 arg5 harg5 arg7 arg9 x0 x1 x2 x)
    try dsimp only
    refine Eq.trans (m30 _ _ _ _) ?_
    exact stepM_st (d := 3) h hM (tile_scol x0 x1 0 3 x h _ rfl _ _
        (fun t j => readAt_at (R := 160) harg4 x1 _ _ 0 3072 (off9 i 3) t j _ _ (by simp only; omega) (by simp only; omega))
        (fun t => readAt_at (R := 160) harg3 x0 _ _ 0 3072 rfl t ⟨x.val - 3072, by omega⟩ _ _ (by simp only; omega) (by simp only; omega)))
  · rw [dif_neg (show ¬ 3072 ≤ x.val by omega)]
    refine (H4_4_at c i arg3 harg3 arg4 harg4 arg5 harg5 arg7 arg9 x0 x1 x2 x).trans ?_
    simp only [stM, stL, stA, if_neg h]

theorem H6_5_at (c : Dev nD) (i : grid0.Coords) (arg3 : Memref sig .tc .vmem S1x160x4096 .bf16) (harg3 : arg3.IsWhole) (arg4 : Memref sig .tc .vmem S1x160x4096 .bf16) (harg4 : arg4.IsWhole) (arg5 : Memref sig .tc .vmem S1x128x4096 .bf16) (harg5 : arg5.IsWhole) (arg7 : Memref sig .tc .vmem S1x4096 .f32) (arg9 : Memref sig .tc .vmem S1x4096 .f32) (x0 : Vec Ideal S1x160x4096 .bf16) (x1 : Vec Ideal S1x160x4096 .bf16) (x2 : Vec Ideal S1x128x4096 .bf16) (x : Fin 4096) :
    View.canon (kernelRun.sl.H6_5 (F := Ideal) c i arg3 harg3 arg4 harg4 arg5 harg5 arg7 arg9 x0 x1 x2) (ix2 0 x) = stL x0 x1 0 x 4 := by
  unfold kernelRun.sl.H6_5
  refine (canon_cols (R := 1) (W := 1024) 3072 rfl _ _ _ 0 x).trans ?_
  by_cases h : 1024 * 3 ≤ x.val
  · rw [dif_pos (show 3072 ≤ x.val by omega)]
    have hM : kernelRun.sl.v332 (F := Ideal) c i arg3 harg3 arg4 harg4 arg5 harg5 arg7 arg9 x0 x1 x2 (ix2 0 ⟨x.val - 3072, by omega⟩) = stM x0 x1 0 x 3 := by
      unfold kernelRun.sl.v332
      exact (readCov_cols (R := 1) (W := 1024) _ 3072 _ _ 0 ⟨x.val - 3072, by omega⟩ x (by simp only; omega)).trans (H4_4_at c i arg3 harg3 arg4 harg4 arg5 harg5 arg7 arg9 x0 x1 x2 x)
    have hL : kernelRun.sl.v341 (F := Ideal) c i arg3 harg3 arg4 harg4 arg5 harg5 arg7 arg9 x0 x1 x2 (ix2 0 ⟨x.val - 3072, by omega⟩) = stL x0 x1 0 x 3 := by
      unfold kernelRun.sl.v341
      exact (readCov_cols (R := 1) (W := 1024) _ 3072 _ _ 0 ⟨x.val - 3072, by omega⟩ x (by simp only; omega)).trans (H6_4_at c i arg3 harg3 arg4 harg4 arg5 harg5 arg7 arg9 x0 x1 x2 x)
    try dsimp only
    refine Eq.trans (l30 _ _ _ _ _) ?_
    exact stepL_st (d := 3) h hM hL (tile_scol x0 x1 0 3 x h _ rfl _ _
        (fun t j => readAt_at (R := 160) harg4 x1 _ _ 0 3072 (off9 i 3) t j _ _ (by simp only; omega) (by simp only; omega))
        (fun t => readAt_at (R := 160) harg3 x0 _ _ 0 3072 rfl t ⟨x.val - 3072, by omega⟩ _ _ (by simp only; omega) (by simp only; omega)))
  · rw [dif_neg (show ¬ 3072 ≤ x.val by omega)]
    refine (H6_4_at c i arg3 harg3 arg4 harg4 arg5 harg5 arg7 arg9 x0 x1 x2 x).trans ?_
    simp only [stM, stL, stA, if_neg h]

theorem H8_5_at (c : Dev nD) (i : grid0.Coords) (arg3 : Memref sig .tc .vmem S1x160x4096 .bf16) (harg3 : arg3.IsWhole) (arg4 : Memref sig .tc .vmem S1x160x4096 .bf16) (harg4 : arg4.IsWhole) (arg5 : Memref sig .tc .vmem S1x128x4096 .bf16) (harg5 : arg5.IsWhole) (arg7 : Memref sig .tc .vmem S1x4096 .f32) (arg9 : Memref sig .tc .vmem S1x4096 .f32) (arg11 : Memref sig .tc .vmem S64x4096 .f32) (x0 : Vec Ideal S1x160x4096 .bf16) (x1 : Vec Ideal S1x160x4096 .bf16) (x2 : Vec Ideal S1x128x4096 .bf16) (e : Fin 64) (x : Fin 4096) :
    View.canon (kernelRun.sl.H8_5 (F := Ideal) c i arg3 harg3 arg4 harg4 arg5 harg5 arg7 arg9 arg11 x0 x1 x2) (ix2 e x) = stA x0 x1 x2 0 e x 4 := by
  unfold kernelRun.sl.H8_5
  refine (canon_cols (R := 64) (W := 1024) 3072 rfl _ _ _ e x).trans ?_
  by_cases h : 1024 * 3 ≤ x.val
  · rw [dif_pos (show 3072 ≤ x.val by omega)]
    have hM : kernelRun.sl.v332 (F := Ideal) c i arg3 harg3 arg4 harg4 arg5 harg5 arg7 arg9 x0 x1 x2 (ix2 0 ⟨x.val - 3072, by omega⟩) = stM x0 x1 0 x 3 := by
      unfold kernelRun.sl.v332
      exact (readCov_cols (R := 1) (W := 1024) _ 3072 _ _ 0 ⟨x.val - 3072, by omega⟩ x (by simp only; omega)).trans (H4_4_at c i arg3 harg3 arg4 harg4 arg5 harg5 arg7 arg9 x0 x1 x2 x)
    have hA : kernelRun.sl.v349 (F := Ideal) c i arg3 harg3 arg4 harg4 arg5 harg5 arg7 arg9 arg11 x0 x1 x2 (ix2 e ⟨x.val - 3072, by omega⟩) = stA x0 x1 x2 0 e x 3 := by
      unfold kernelRun.sl.v349
      exact (readCov_cols (R := 64) (W := 1024) _ 3072 _ _ e ⟨x.val - 3072, by omega⟩ x (by simp only; omega)).trans (H8_4_at c i arg3 harg3 arg4 harg4 arg5 harg5 arg7 arg9 arg11 x0 x1 x2 e x)
    try dsimp only
    refine Eq.trans (a30 _ _ _ _ _ e _) ?_
    exact stepA_st (d := 3) h hM hA (tile_scol x0 x1 0 3 x h _ rfl _ _
        (fun t j => readAt_at (R := 160) harg4 x1 _ _ 0 3072 (off9 i 3) t j _ _ (by simp only; omega) (by simp only; omega))
        (fun t => readAt_at (R := 160) harg3 x0 _ _ 0 3072 rfl t ⟨x.val - 3072, by omega⟩ _ _ (by simp only; omega) (by simp only; omega)))
        (read_vcol harg5 x2 _ _ 0 3 (by decide) (by decide) (off10 i 3) e)
  · rw [dif_neg (show ¬ 3072 ≤ x.val by omega)]
    refine (H8_4_at c i arg3 harg3 arg4 harg4 arg5 harg5 arg7 arg9 arg11 x0 x1 x2 e x).trans ?_
    simp only [stM, stL, stA, if_neg h]

theorem H5_5_at (c : Dev nD) (i : grid0.Coords) (arg3 : Memref sig .tc .vmem S1x160x4096 .bf16) (harg3 : arg3.IsWhole) (arg4 : Memref sig .tc .vmem S1x160x4096 .bf16) (harg4 : arg4.IsWhole) (arg5 : Memref sig .tc .vmem S1x128x4096 .bf16) (harg5 : arg5.IsWhole) (arg8 : Memref sig .tc .vmem S1x4096 .f32) (arg12 : Memref sig .tc .vmem S64x4096 .f32) (x0 : Vec Ideal S1x160x4096 .bf16) (x1 : Vec Ideal S1x160x4096 .bf16) (x2 : Vec Ideal S1x128x4096 .bf16) (x : Fin 4096) :
    View.canon (kernelRun.sl.H5_5 (F := Ideal) c i arg3 harg3 arg4 harg4 arg5 harg5 arg8 arg12 x0 x1 x2) (ix2 0 x) = stM x0 x1 1 x 4 := by
  unfold kernelRun.sl.H5_5
  refine (canon_cols (R := 1) (W := 1024) 3072 rfl _ _ _ 0 x).trans ?_
  by_cases h : 1024 * 3 ≤ x.val
  · rw [dif_pos (show 3072 ≤ x.val by omega)]
    have hM : kernelRun.sl.v375 (F := Ideal) c i arg3 harg3 arg4 harg4 arg5 harg5 arg8 arg12 x0 x1 x2 (ix2 0 ⟨x.val - 3072, by omega⟩) = stM x0 x1 1 x 3 := by
      unfold kernelRun.sl.v375
      exact (readCov_cols (R := 1) (W := 1024) _ 3072 _ _ 0 ⟨x.val - 3072, by omega⟩ x (by simp only; omega)).trans (H5_4_at c i arg3 harg3 arg4 harg4 arg5 harg5 arg8 arg12 x0 x1 x2 x)
    try dsimp only
    refine Eq.trans (m31 _ _ _ _) ?_
    exact stepM_st (d := 3) h hM (tile_scol x0 x1 1 3 x h _ rfl _ _
        (fun t j => readAt_at (R := 160) harg4 x1 _ _ 80 3072 (off11 i 3) t j _ _ (by simp only; omega) (by simp only; omega))
        (fun t => readAt_at (R := 160) harg3 x0 _ _ 80 3072 rfl t ⟨x.val - 3072, by omega⟩ _ _ (by simp only; omega) (by simp only; omega)))
  · rw [dif_neg (show ¬ 3072 ≤ x.val by omega)]
    refine (H5_4_at c i arg3 harg3 arg4 harg4 arg5 harg5 arg8 arg12 x0 x1 x2 x).trans ?_
    simp only [stM, stL, stA, if_neg h]

theorem H7_5_at (c : Dev nD) (i : grid0.Coords) (arg3 : Memref sig .tc .vmem S1x160x4096 .bf16) (harg3 : arg3.IsWhole) (arg4 : Memref sig .tc .vmem S1x160x4096 .bf16) (harg4 : arg4.IsWhole) (arg5 : Memref sig .tc .vmem S1x128x4096 .bf16) (harg5 : arg5.IsWhole) (arg8 : Memref sig .tc .vmem S1x4096 .f32) (arg10 : Memref sig .tc .vmem S1x4096 .f32) (arg12 : Memref sig .tc .vmem S64x4096 .f32) (x0 : Vec Ideal S1x160x4096 .bf16) (x1 : Vec Ideal S1x160x4096 .bf16) (x2 : Vec Ideal S1x128x4096 .bf16) (x : Fin 4096) :
    View.canon (kernelRun.sl.H7_5 (F := Ideal) c i arg3 harg3 arg4 harg4 arg5 harg5 arg8 arg10 arg12 x0 x1 x2) (ix2 0 x) = stL x0 x1 1 x 4 := by
  unfold kernelRun.sl.H7_5
  refine (canon_cols (R := 1) (W := 1024) 3072 rfl _ _ _ 0 x).trans ?_
  by_cases h : 1024 * 3 ≤ x.val
  · rw [dif_pos (show 3072 ≤ x.val by omega)]
    have hM : kernelRun.sl.v375 (F := Ideal) c i arg3 harg3 arg4 harg4 arg5 harg5 arg8 arg12 x0 x1 x2 (ix2 0 ⟨x.val - 3072, by omega⟩) = stM x0 x1 1 x 3 := by
      unfold kernelRun.sl.v375
      exact (readCov_cols (R := 1) (W := 1024) _ 3072 _ _ 0 ⟨x.val - 3072, by omega⟩ x (by simp only; omega)).trans (H5_4_at c i arg3 harg3 arg4 harg4 arg5 harg5 arg8 arg12 x0 x1 x2 x)
    have hL : kernelRun.sl.v384 (F := Ideal) c i arg3 harg3 arg4 harg4 arg5 harg5 arg8 arg10 arg12 x0 x1 x2 (ix2 0 ⟨x.val - 3072, by omega⟩) = stL x0 x1 1 x 3 := by
      unfold kernelRun.sl.v384
      exact (readCov_cols (R := 1) (W := 1024) _ 3072 _ _ 0 ⟨x.val - 3072, by omega⟩ x (by simp only; omega)).trans (H7_4_at c i arg3 harg3 arg4 harg4 arg5 harg5 arg8 arg10 arg12 x0 x1 x2 x)
    try dsimp only
    refine Eq.trans (l31 _ _ _ _ _) ?_
    exact stepL_st (d := 3) h hM hL (tile_scol x0 x1 1 3 x h _ rfl _ _
        (fun t j => readAt_at (R := 160) harg4 x1 _ _ 80 3072 (off11 i 3) t j _ _ (by simp only; omega) (by simp only; omega))
        (fun t => readAt_at (R := 160) harg3 x0 _ _ 80 3072 rfl t ⟨x.val - 3072, by omega⟩ _ _ (by simp only; omega) (by simp only; omega)))
  · rw [dif_neg (show ¬ 3072 ≤ x.val by omega)]
    refine (H7_4_at c i arg3 harg3 arg4 harg4 arg5 harg5 arg8 arg10 arg12 x0 x1 x2 x).trans ?_
    simp only [stM, stL, stA, if_neg h]

theorem H9_5_at (c : Dev nD) (i : grid0.Coords) (arg3 : Memref sig .tc .vmem S1x160x4096 .bf16) (harg3 : arg3.IsWhole) (arg4 : Memref sig .tc .vmem S1x160x4096 .bf16) (harg4 : arg4.IsWhole) (arg5 : Memref sig .tc .vmem S1x128x4096 .bf16) (harg5 : arg5.IsWhole) (arg8 : Memref sig .tc .vmem S1x4096 .f32) (arg12 : Memref sig .tc .vmem S64x4096 .f32) (x0 : Vec Ideal S1x160x4096 .bf16) (x1 : Vec Ideal S1x160x4096 .bf16) (x2 : Vec Ideal S1x128x4096 .bf16) (e : Fin 64) (x : Fin 4096) :
    View.canon (kernelRun.sl.H9_5 (F := Ideal) c i arg3 harg3 arg4 harg4 arg5 harg5 arg8 arg12 x0 x1 x2) (ix2 e x) = stA x0 x1 x2 1 e x 4 := by
  unfold kernelRun.sl.H9_5
  refine (canon_cols (R := 64) (W := 1024) 3072 rfl _ _ _ e x).trans ?_
  by_cases h : 1024 * 3 ≤ x.val
  · rw [dif_pos (show 3072 ≤ x.val by omega)]
    have hM : kernelRun.sl.v375 (F := Ideal) c i arg3 harg3 arg4 harg4 arg5 harg5 arg8 arg12 x0 x1 x2 (ix2 0 ⟨x.val - 3072, by omega⟩) = stM x0 x1 1 x 3 := by
      unfold kernelRun.sl.v375
      exact (readCov_cols (R := 1) (W := 1024) _ 3072 _ _ 0 ⟨x.val - 3072, by omega⟩ x (by simp only; omega)).trans (H5_4_at c i arg3 harg3 arg4 harg4 arg5 harg5 arg8 arg12 x0 x1 x2 x)
    have hA : kernelRun.sl.v392 (F := Ideal) c i arg3 harg3 arg4 harg4 arg5 harg5 arg8 arg12 x0 x1 x2 (ix2 e ⟨x.val - 3072, by omega⟩) = stA x0 x1 x2 1 e x 3 := by
      unfold kernelRun.sl.v392
      exact (readCov_cols (R := 64) (W := 1024) _ 3072 _ _ e ⟨x.val - 3072, by omega⟩ x (by simp only; omega)).trans (H9_4_at c i arg3 harg3 arg4 harg4 arg5 harg5 arg8 arg12 x0 x1 x2 e x)
    try dsimp only
    refine Eq.trans (a31 _ _ _ _ _ e _) ?_
    exact stepA_st (d := 3) h hM hA (tile_scol x0 x1 1 3 x h _ rfl _ _
        (fun t j => readAt_at (R := 160) harg4 x1 _ _ 80 3072 (off11 i 3) t j _ _ (by simp only; omega) (by simp only; omega))
        (fun t => readAt_at (R := 160) harg3 x0 _ _ 80 3072 rfl t ⟨x.val - 3072, by omega⟩ _ _ (by simp only; omega) (by simp only; omega)))
        (read_vcol harg5 x2 _ _ 1 3 (by decide) (by decide) (off12 i 3) e)
  · rw [dif_neg (show ¬ 3072 ≤ x.val by omega)]
    refine (H9_4_at c i arg3 harg3 arg4 harg4 arg5 harg5 arg8 arg12 x0 x1 x2 e x).trans ?_
    simp only [stM, stL, stA, if_neg h]

end Cert.Fox
-- ==== Proof.FoxMath.lean ====
module

public import proofs.«01_k».proof.Proof.AttnMath

@[expose] public section

noncomputable section

namespace Cert.Fox

open Idealize.ShloMosaic
open Cert.Attn (stepM stepL stepA coe_sum fold_real exp2_sub_ite psum psum_shift psum_tile psum_past psum_one_pos)

/-! The online softmax with real scores and any values, infinities among them: a positive real factor goes through a sum
of extended reals, so rescaling the running output and dividing it at the end are exact. -/

theorem mul_sum_pos {ι : Type} (r : ℝ) (hr : 0 ≤ r) (s : Finset ι) (f : ι → EReal) : (r : EReal) * ∑ i ∈ s, f i = ∑ i ∈ s, (r : EReal) * f i := by
  classical
  induction s using Finset.induction_on with
  | empty => simp
  | insert a s ha ih =>
    rw [Finset.sum_insert ha, Finset.sum_insert ha, ← ih]
    exact EReal.left_distrib_of_nonneg_of_ne_top (EReal.coe_nonneg.mpr hr) (EReal.coe_ne_top r) _ _

/-- The partial sum of values `w` times powers over the keys below `n` that are not past the query `x`. -/
def psumE (s : ℕ → ℝ) (w : ℕ → EReal) (x : ℕ) (μ : ℝ) (n : ℕ) : EReal :=
  ∑ j ∈ Finset.range n, if j ≤ x then w j * (((2 : ℝ) ^ (s j - μ) : ℝ) : EReal) else 0

theorem psumE_shift (s : ℕ → ℝ) (w : ℕ → EReal) (x : ℕ) (μ μ' : ℝ) (n : ℕ) :
    (((2 : ℝ) ^ (μ - μ') : ℝ) : EReal) * psumE s w x μ n = psumE s w x μ' n := by
  unfold psumE
  rw [mul_sum_pos _ (Real.rpow_pos_of_pos (by norm_num) _).le]
  refine Finset.sum_congr rfl fun j _ => ?_
  split
  · rw [mul_left_comm, ← EReal.coe_mul, ← Real.rpow_add (by norm_num : (0 : ℝ) < 2)]; congr 3; ring
  · exact mul_zero _

theorem psumE_tile (s : ℕ → ℝ) (w : ℕ → EReal) (x : ℕ) (μ : ℝ) (d : ℕ) :
    psumE s w x μ (1024 * (d + 1)) = psumE s w x μ (1024 * d)
      + ∑ j : Fin 1024, if 1024 * d + j.val ≤ x then w (1024 * d + j.val) * (((2 : ℝ) ^ (s (1024 * d + j.val) - μ) : ℝ) : EReal) else 0 := by
  unfold psumE
  rw [show 1024 * (d + 1) = 1024 * d + 1024 by ring, Finset.sum_range_add,
    ← Fin.sum_univ_eq_sum_range (fun j => if 1024 * d + j ≤ x then w (1024 * d + j) * (((2 : ℝ) ^ (s (1024 * d + j) - μ) : ℝ) : EReal) else 0)]

theorem psumE_past (s : ℕ → ℝ) (w : ℕ → EReal) (x : ℕ) (μ : ℝ) (d : ℕ) (h : ¬ 1024 * d ≤ x) :
    psumE s w x μ (1024 * (d + 1)) = psumE s w x μ (1024 * d) := by
  rw [psumE_tile, Finset.sum_eq_zero, add_zero]
  intro j _
  rw [if_neg (by omega)]

/-- What the state is after `d` tiles. -/
def InvE (s : ℕ → ℝ) (w : ℕ → EReal) (x d : ℕ) (M L A : EReal) : Prop :=
  ∃ μ : ℝ, M = (μ : EReal) ∧ L = ((psum s (fun _ => 1) x μ (1024 * d) : ℝ) : EReal) ∧ A = psumE s w x μ (1024 * d)

/-- One tile, from a state that is real or the first one. -/
theorem invE_step (s : ℕ → ℝ) (w : ℕ → EReal) (x d : ℕ) (hx : 1024 * d ≤ x) (M L A : EReal)
    (h : InvE s w x d M L A ∨ (d = 0 ∧ M = ⊥ ∧ L = 0 ∧ A = 0))
    (sc : Fin 1024 → EReal) (hsc : ∀ j, sc j = if 1024 * d + j.val ≤ x then (s (1024 * d + j.val) : EReal) else ⊥)
    (vc : Fin 1024 → EReal) (hvc : ∀ j, vc j = w (1024 * d + j.val)) :
    InvE s w x (d + 1) (stepM M sc) (stepL M L sc) (stepA M A sc vc) := by
  obtain ⟨m, hm⟩ := fold_real sc (fun j => 1024 * d + j.val ≤ x) (fun j => s (1024 * d + j.val)) hsc ⟨0, by norm_num⟩ (by simpa using hx)
  have hM : ∃ μ' : ℝ, stepM M sc = (μ' : EReal) := by
    unfold stepM
    rw [hm]
    rcases h with ⟨μ, h, -, -⟩ | ⟨-, h, -, -⟩
    · exact ⟨max μ m, by rw [h]; exact (EReal.coe_strictMono.monotone.map_max (a := μ) (b := m)).symm⟩
    · exact ⟨m, by rw [h]; exact max_eq_right bot_le⟩
  obtain ⟨μ', hμ⟩ := hM
  have hE : ∀ j, Ideal.exp2 (sc j - (μ' : EReal)) = ((if 1024 * d + j.val ≤ x then (2 : ℝ) ^ (s (1024 * d + j.val) - μ') else 0 : ℝ) : EReal) := by
    intro j; rw [hsc j, exp2_sub_ite]
  have hP : ∀ μ : ℝ, Ideal.exp2 ((μ : EReal) - (μ' : EReal)) = (((2 : ℝ) ^ (μ - μ') : ℝ) : EReal) := by
    intro μ; rw [← EReal.coe_sub]; rfl
  refine ⟨μ', hμ, ?_, ?_⟩
  · unfold stepL
    rw [hμ, psum_tile, EReal.coe_add, Finset.sum_congr rfl fun j _ => hE j, coe_sum]
    congr 1
    · rcases h with ⟨μ, h, h', -⟩ | ⟨h0, h, h', -⟩
      · rw [h, h', hP, ← EReal.coe_mul, psum_shift]
      · rw [h', h0, mul_zero]; simp [psum]
    · simp only [one_mul]
  · unfold stepA
    rw [hμ, psumE_tile]
    congr 1
    · rcases h with ⟨μ, h, -, h'⟩ | ⟨h0, h, -, h'⟩
      · rw [h, h', hP, psumE_shift]
      · rw [h', h0, mul_zero]; simp [psumE]
    · refine Finset.sum_congr rfl fun j _ => ?_
      rw [hE j, hvc j]
      split
      · rfl
      · exact mul_zero _

theorem invE_past (s : ℕ → ℝ) (w : ℕ → EReal) (x d : ℕ) (hx : ¬ 1024 * d ≤ x) (M L A : EReal)
    (h : InvE s w x d M L A) : InvE s w x (d + 1) M L A := by
  obtain ⟨μ, hM, hL, hA⟩ := h
  exact ⟨μ, hM, by rw [hL, psum_past _ _ _ _ _ hx], by rw [hA, psumE_past _ _ _ _ _ hx]⟩

/-- The softmax-weighted mean of `w` over the keys below 4096 that are not past `x`. -/
def smeanE (s : ℕ → ℝ) (w : ℕ → EReal) (x : ℕ) : EReal :=
  psumE s w x 0 4096 * ((1 / psum s (fun _ => 1) x 0 4096 : ℝ) : EReal)

theorem smeanE_eq (s : ℕ → ℝ) (w : ℕ → EReal) (x : ℕ) (μ : ℝ) :
    psumE s w x μ 4096 * ((1 / psum s (fun _ => 1) x μ 4096 : ℝ) : EReal) = smeanE s w x := by
  have hc : (2 : ℝ) ^ (0 - μ) ≠ 0 := (Real.rpow_pos_of_pos (by norm_num) _).ne'
  have hp : psum s (fun _ => 1) x 0 4096 ≠ 0 := (psum_one_pos s x 0 _ (by norm_num)).ne'
  unfold smeanE
  rw [← psumE_shift s w x 0 μ, ← psum_shift s (fun _ => 1) x 0 μ, mul_comm _ (psumE s w x 0 4096), mul_assoc, ← EReal.coe_mul]
  congr 2
  field_simp

/-- The quotient the kernel forms at the end, from the last state. -/
theorem invE_last (s : ℕ → ℝ) (w : ℕ → EReal) (x : ℕ) (M L A : EReal) (h : InvE s w x 4 M L A) :
    A * Ideal.div 1 L = smeanE s w x := by
  obtain ⟨μ, hM, hL, hA⟩ := h
  rw [hL, hA, Ideal.div_coe (psum_one_pos s x μ _ (by norm_num)).ne', one_mul, smeanE_eq]

/-- The mean from the reference's weights. -/
theorem ref_meanE (s : ℕ → ℝ) (w : ℕ → EReal) (x : Fin 4096) (μ : ℝ) :
    (∑ j : Fin 4096, w j.val * (((if j.val ≤ x.val then (2 : ℝ) ^ (s j.val - μ) else 0) / psum s (fun _ => 1) x μ 4096 : ℝ) : EReal)) = smeanE s w x := by
  have hp := psum_one_pos s x μ 4096 (by norm_num)
  rw [← smeanE_eq s w x μ, mul_comm]
  unfold psumE
  rw [mul_sum_pos _ (one_div_pos.mpr hp).le,
    ← Fin.sum_univ_eq_sum_range (fun j => ((1 / psum s (fun _ => 1) x μ 4096 : ℝ) : EReal) * (if j ≤ x.val then w j * (((2 : ℝ) ^ (s j - μ) : ℝ) : EReal) else 0))]
  refine Finset.sum_congr rfl fun j _ => ?_
  split
  · rw [mul_left_comm, ← EReal.coe_mul]; congr 2; ring
  · rw [zero_div, EReal.coe_zero, mul_zero, mul_zero]

end Cert.Fox
-- ==== Proof.FoxOut.lean ====
module

public import proofs.«01_k».proof.Proof.FoxBlock3
public import proofs.«01_k».proof.Proof.FoxMath
public import proofs.«01_k».proof.Proof.FoxFrameKernel4Ideal

@[expose] public section

set_option maxRecDepth 16384

noncomputable section

namespace Cert.Fox

open Cert.Kernel4Ideal Cert.Kernel4Ideal.Gen Cert.Kernel4Ideal.Body
open Cert.Attn (stepM stepL stepA readCov_cols coe_sum)
open Idealize.ShloMosaic Idealize.ShloMosaic.TcCoe

/-! What the body leaves in the output block, entry by entry. -/

/-- Entry `e` of head `c` at query `x`, from the last state. -/
def headV (x0 x1 : Vec Ideal S1x160x4096 .bf16) (x2 : Vec Ideal S1x128x4096 .bf16) (c : ℕ) (x : Fin 4096) (e : Fin 64) : EReal :=
  stA x0 x1 x2 c e x 4 * Ideal.div 1 (stL x0 x1 c x 4)

theorem pay2_lo (a0 a1 : Vec Ideal S64x4096 .f32) (l0 l1 : Vec Ideal S1x4096 .f32) (e : Fin 128) (x : Fin 4096) (h : e.val < 64) :
    k0_pay2 (F := Ideal) a0 l0 a1 l1 (ix3 0 x e) = a0 (ix2 ⟨e.val, h⟩ x) * Ideal.div 1 (l0 (ix2 0 x)) := by
  pointwise [k0_pay2]
  rw [dif_pos h]

theorem pay2_hi (a0 a1 : Vec Ideal S64x4096 .f32) (l0 l1 : Vec Ideal S1x4096 .f32) (e : Fin 128) (x : Fin 4096) (h : ¬ e.val < 64) :
    k0_pay2 (F := Ideal) a0 l0 a1 l1 (ix3 0 x e) = a1 (ix2 ⟨e.val - 64, by omega⟩ x) * Ideal.div 1 (l1 (ix2 0 x)) := by
  pointwise [k0_pay2]
  rw [dif_neg h]

/-- A whole block written at once, read back. -/
theorem canon_whole (inb : ∀ a, ![0, 0, 0] a + ![1, 4096, 128] a ≤ S1x4096x128.size a) (w : S1x4096x128.Idx → Elt Ideal .bf16) :
    View.canon [(⟨Rect.unit (s := S1x4096x128) ![0, 0, 0] ![1, 4096, 128] inb, w⟩ : View.Piece (Elt Ideal) S1x4096x128 .bf16)] = w :=
  View.canon_cons_unit_lit' _ _ _ (by decide)

theorem H3_1_at (c : Dev nD) (i : grid0.Coords) (arg3 : Memref sig .tc .vmem S1x160x4096 .bf16) (harg3 : arg3.IsWhole) (arg4 : Memref sig .tc .vmem S1x160x4096 .bf16) (harg4 : arg4.IsWhole) (arg5 : Memref sig .tc .vmem S1x128x4096 .bf16) (harg5 : arg5.IsWhole)
    (arg7 arg8 arg9 arg10 : Memref sig .tc .vmem S1x4096 .f32) (arg11 arg12 : Memref sig .tc .vmem S64x4096 .f32)
    (x0 x1 : Vec Ideal S1x160x4096 .bf16) (x2 : Vec Ideal S1x128x4096 .bf16) (x : Fin 4096) (e : Fin 128) :
    View.canon (kernelRun.sl.H3_1 (F := Ideal) c i arg3 harg3 arg4 harg4 arg5 harg5 arg7 arg8 arg9 arg10 arg11 arg12 x0 x1 x2) (ix3 0 x e)
      = headV x0 x1 x2 (e.val / 64) x ⟨e.val % 64, Nat.mod_lt _ (by decide)⟩ := by
  unfold kernelRun.sl.H3_1
  refine (congrFun (canon_whole _ _) _).trans ?_
  unfold headV
  by_cases h : e.val < 64
  · have hc : e.val / 64 = 0 := by omega
    have he : (⟨e.val % 64, Nat.mod_lt _ (by decide)⟩ : Fin 64) = ⟨e.val, h⟩ := Fin.ext (Nat.mod_eq_of_lt h)
    rw [hc, he]
    refine (pay2_lo _ _ _ _ e x h).trans ?_
    congr 1
    · exact (readCov_cols (R := 64) (W := 4096) _ 0 _ _ _ x x (Nat.zero_add _)).trans (H8_5_at c i arg3 harg3 arg4 harg4 arg5 harg5 arg7 arg9 arg11 x0 x1 x2 _ x)
    · exact congrArg _ ((readCov_cols (R := 1) (W := 4096) _ 0 _ _ 0 x x (Nat.zero_add _)).trans (H6_5_at c i arg3 harg3 arg4 harg4 arg5 harg5 arg7 arg9 x0 x1 x2 x))
  · have hc : e.val / 64 = 1 := by omega
    have he : (⟨e.val % 64, Nat.mod_lt _ (by decide)⟩ : Fin 64) = ⟨e.val - 64, by omega⟩ := Fin.ext (by simp only; omega)
    rw [hc, he]
    refine (pay2_hi _ _ _ _ e x h).trans ?_
    congr 1
    · exact (readCov_cols (R := 64) (W := 4096) _ 0 _ _ _ x x (Nat.zero_add _)).trans (H9_5_at c i arg3 harg3 arg4 harg4 arg5 harg5 arg8 arg12 x0 x1 x2 _ x)
    · exact congrArg _ ((readCov_cols (R := 1) (W := 4096) _ 0 _ _ 0 x x (Nat.zero_add _)).trans (H7_5_at c i arg3 harg3 arg4 harg4 arg5 harg5 arg8 arg10 arg12 x0 x1 x2 x))

theorem outVal_at (c : Dev nD) (t : Fin cfg0.N) (x0 x1 : Vec Ideal S1x160x4096 .bf16) (x2 : Vec Ideal S1x128x4096 .bf16) (x : Fin 4096) (e : Fin 128) :
    outVal (F := Ideal) c t x0 x1 x2 (ix3 0 x e) = headV x0 x1 x2 (e.val / 64) x ⟨e.val % 64, Nat.mod_lt _ (by decide)⟩ := by
  unfold outVal
  exact H3_1_at c (grid0.coords t) _ _ _ _ _ _ _ _ _ _ _ _ x0 x1 x2 x e

/-! Over real queries and keys, with any values. -/

/-- The score of key `j` and query `x` in head `c`. -/
def scR (f0 f1 : ℕ → ℕ → ℝ) (c x j : ℕ) : ℝ := ∑ t : Fin 80, f0 (80 * c + t.val) x * f1 (80 * c + t.val) j

/-- Entry `e` of key `n`'s values in head `c`. -/
def vV (x2 : Vec Ideal S1x128x4096 .bf16) (c : ℕ) (e : Fin 64) (n : ℕ) : EReal :=
  x2 (ix3 0 ⟨(64 * c + e.val) % 128, Nat.mod_lt _ (by decide)⟩ ⟨n % 4096, Nat.mod_lt _ (by decide)⟩)

theorem inv_all (x0 x1 : Vec Ideal S1x160x4096 .bf16) (x2 : Vec Ideal S1x128x4096 .bf16) (f0 f1 : ℕ → ℕ → ℝ)
    (h0 : ∀ (r : Fin 160) (x : Fin 4096), x0 (ix3 0 r x) = (f0 r.val x.val : EReal))
    (h1 : ∀ (r : Fin 160) (x : Fin 4096), x1 (ix3 0 r x) = (f1 r.val x.val : EReal))
    (c : ℕ) (hc : c < 2) (x : Fin 4096) (e : Fin 64) (d : ℕ) (hd : d < 4) :
    InvE (scR f0 f1 c x.val) (vV x2 c e) x.val (d + 1) (stM x0 x1 c x (d + 1)) (stL x0 x1 c x (d + 1)) (stA x0 x1 x2 c e x (d + 1)) := by
  have hsc : ∀ d < 4, ∀ j : Fin 1024, scol x0 x1 c d x j
      = if 1024 * d + j.val ≤ x.val then (scR f0 f1 c x.val (1024 * d + j.val) : EReal) else ⊥ := by
    intro d hd j
    unfold scol tileS
    congr 1
    unfold scR
    rw [← coe_sum]
    refine Finset.sum_congr rfl fun t _ => ?_
    unfold kcol qcol
    rw [h0, h1, ← EReal.coe_mul, mul_comm]
    simp only [Nat.mod_eq_of_lt (show 80 * c + t.val < 160 by omega), Nat.mod_eq_of_lt (show 1024 * d + j.val < 4096 by omega)]
  have step : ∀ d < 4, 1024 * d ≤ x.val →
      (InvE (scR f0 f1 c x.val) (vV x2 c e) x.val d (stM x0 x1 c x d) (stL x0 x1 c x d) (stA x0 x1 x2 c e x d)
        ∨ (d = 0 ∧ stM x0 x1 c x d = ⊥ ∧ stL x0 x1 c x d = 0 ∧ stA x0 x1 x2 c e x d = 0)) →
      InvE (scR f0 f1 c x.val) (vV x2 c e) x.val (d + 1) (stM x0 x1 c x (d + 1)) (stL x0 x1 c x (d + 1)) (stA x0 x1 x2 c e x (d + 1)) := by
    intro d hd hx h
    rw [stM, if_pos hx, stL, if_pos hx, stA, if_pos hx]
    exact invE_step (scR f0 f1 c x.val) (vV x2 c e) x.val d hx _ _ _ h (scol x0 x1 c d x) (hsc d hd) (vcol x2 c d e) (fun j => rfl)
  induction d with
  | zero => exact step 0 (by norm_num) (Nat.zero_le _) (Or.inr ⟨rfl, rfl, rfl, rfl⟩)
  | succ d ih =>
    have hi := ih (by omega)
    by_cases hx : 1024 * (d + 1) ≤ x.val
    · exact step (d + 1) hd hx (Or.inl hi)
    · rw [stM, if_neg hx, stL, if_neg hx, stA, if_neg hx]
      exact invE_past _ _ _ _ hx _ _ _ hi

/-- A head's entry over real queries and keys: the softmax-weighted mean of the values. -/
theorem headV_real (x0 x1 : Vec Ideal S1x160x4096 .bf16) (x2 : Vec Ideal S1x128x4096 .bf16) (f0 f1 : ℕ → ℕ → ℝ)
    (h0 : ∀ (r : Fin 160) (x : Fin 4096), x0 (ix3 0 r x) = (f0 r.val x.val : EReal))
    (h1 : ∀ (r : Fin 160) (x : Fin 4096), x1 (ix3 0 r x) = (f1 r.val x.val : EReal))
    (c : ℕ) (hc : c < 2) (x : Fin 4096) (e : Fin 64) :
    headV x0 x1 x2 c x e = smeanE (scR f0 f1 c x.val) (vV x2 c e) x.val :=
  invE_last _ _ _ _ _ _ (inv_all x0 x1 x2 f0 f1 h0 h1 c hc x e 3 (by norm_num))

end Cert.Fox
-- ==== Proof.FoxRef.lean ====
module

public import proofs.«01_k».proof.Proof.FoxOut
public import proofs.«01_k».proof.Proof.AttnRef
public import proofs.«01_k».proof.Proof.Gen.Reference4Ideal.Read
public import Idealize.ShloMosaic.Lib.Pointwise
public import Idealize.ShloMosaic.Lib.WordCmp

@[expose] public section

set_option maxRecDepth 16384

noncomputable section

namespace Cert.FoxRef

open Cert.Reference4Ideal Cert.Reference4Ideal.Read Cert.Reference4Ideal.Gen Cert.Fox
open Cert.Attn (coe_sum negInf psum ref_weights)
open Cert.AttnRef (sel_sge two)
open Idealize.ShloMosaic Idealize.ShloMosaic.TcCoe

/-! What the reference computes, entry by entry. -/

/-- A maximum over the last axis. -/
theorem lastmax {m n q r : ℕ} (s : FVec Ideal ⟨4, ![m, n, q, r]⟩ .f32) (cst : FVec Ideal ⟨0, ![]⟩ .f32)
    (h : Shape.ReducesTo ⟨4, ![m, n, q, r]⟩ [3] ⟨3, ![m, n, q]⟩) (h0 : 0 < (⟨0, ![]⟩ : Shape).numel)
    (b : Fin m) (hh : Fin n) (x : Fin q) :
    Host.reduce (α := Ideal .f32) (s := ⟨4, ![m, n, q, r]⟩) (axes := [3]) FloatOps.maximumf s cst h h0 (ix3 b hh x)
      = (Finset.univ.fold max (cst (Shape.Idx.first h0)) fun j => s (ix4 b hh x j) : EReal) := by
  pointwise []

theorem v2_at (x0 : (⟨S4x640x4096, .bf16⟩ : BufTy).Contents (Elt Ideal)) (b : Fin 4) (h : Fin 8) (t : Fin 80) (x : Fin 4096) :
    val_main_v2 (F := Ideal) x0 (ix4 b x h t) = x0 (ix3 b ⟨h.val * 80 + t.val, by omega⟩ x) := by
  pointwise [val_main_v2, val_main_v1, val_main_v0]

theorem v5_at (x1 : (⟨S4x640x4096, .bf16⟩ : BufTy).Contents (Elt Ideal)) (b : Fin 4) (h : Fin 8) (t : Fin 80) (x : Fin 4096) :
    val_main_v5 (F := Ideal) x1 (ix4 b x h t) = x1 (ix3 b ⟨h.val * 80 + t.val, by omega⟩ x) := by
  pointwise [val_main_v5, val_main_v4, val_main_v3]

theorem v8_at (x2 : (⟨S4x512x4096, .bf16⟩ : BufTy).Contents (Elt Ideal)) (b : Fin 4) (h : Fin 8) (e : Fin 64) (x : Fin 4096) :
    val_main_v8 (F := Ideal) x2 (ix4 b x h e) = x2 (ix3 b ⟨h.val * 64 + e.val, by omega⟩ x) := by
  pointwise [val_main_v8, val_main_v7, val_main_v6]

theorem v17_at (x0 x1 : (⟨S4x640x4096, .bf16⟩ : BufTy).Contents (Elt Ideal)) (b : Fin 4) (h : Fin 8) (x j : Fin 4096) :
    val_main_v17 (F := Ideal) x0 x1 (ix4 b h x j)
      = if j.val ≤ x.val then ∑ t, val_main_v2 (F := Ideal) x0 (ix4 b x h t) * val_main_v5 (F := Ideal) x1 (ix4 b j h t) else ⊥ := by
  rw [← sel_sge]
  pointwise [val_main_v17, val_main_v16, val_main_v15, val_main_v14, val_main_v13, val_main_v12, val_main_v11, val_main_v10, val_main_v9, val_main_call0_v1, val_main_call0_v2, val_main_call0_v0, val_main_cst, id, negInf]

theorem v19_at (x0 x1 : (⟨S4x640x4096, .bf16⟩ : BufTy).Contents (Elt Ideal)) (b : Fin 4) (h : Fin 8) (x : Fin 4096) :
    val_main_v19 (F := Ideal) x0 x1 (ix3 b h x) = (Finset.univ.fold max ⊥ fun j => val_main_v17 (F := Ideal) x0 x1 (ix4 b h x j) : EReal) := by
  unfold val_main_v19
  refine (lastmax _ _ _ _ b h x).trans ?_
  rw [show (val_main_cst_1 (F := Ideal) (Shape.Idx.first h_S_) : EReal) = ⊥ from negInf]

theorem v27_at (x0 x1 : (⟨S4x640x4096, .bf16⟩ : BufTy).Contents (Elt Ideal)) (b : Fin 4) (h : Fin 8) (x j : Fin 4096) :
    val_main_v27 (F := Ideal) x0 x1 (ix4 b h x j)
      = Ideal.div (Ideal.pow ((2 : ℝ) : EReal) (val_main_v17 (F := Ideal) x0 x1 (ix4 b h x j) - val_main_v19 (F := Ideal) x0 x1 (ix3 b h x)))
          (∑ k : Fin 4096, Ideal.pow ((2 : ℝ) : EReal) (val_main_v17 (F := Ideal) x0 x1 (ix4 b h x k) - val_main_v19 (F := Ideal) x0 x1 (ix3 b h x))) := by
  pointwise [val_main_v27, val_main_v26, val_main_v25, val_main_v24, val_main_v23, val_main_v22, val_main_v21, val_main_v20, val_main_v18, val_main_cst_0, val_main_cst_2, two]

theorem v29_at (x0 x1 : (⟨S4x640x4096, .bf16⟩ : BufTy).Contents (Elt Ideal)) (x2 : (⟨S4x512x4096, .bf16⟩ : BufTy).Contents (Elt Ideal)) (b : Fin 4) (h : Fin 8) (e : Fin 64) (x : Fin 4096) :
    val_main_v29 (F := Ideal) x0 x1 x2 (ix4 b x h e)
      = ∑ j, val_main_v8 (F := Ideal) x2 (ix4 b j h e) * val_main_v27 (F := Ideal) x0 x1 (ix4 b h x j) := by
  pointwise [val_main_v29, val_main_v28]

/-- The reference over real queries and keys, for head `2 * g + c` of batch `b`. -/
theorem v29_real (x0 x1 : (⟨S4x640x4096, .bf16⟩ : BufTy).Contents (Elt Ideal)) (x2 : (⟨S4x512x4096, .bf16⟩ : BufTy).Contents (Elt Ideal))
    (b : Fin 4) (g : Fin 4) (c : ℕ) (hc : c < 2) (f0 f1 : ℕ → ℕ → ℝ) (w : ℕ → EReal) (x : Fin 4096) (e : Fin 64)
    (h0 : ∀ (r : Fin 160) (x : Fin 4096), x0 (ix3 b ⟨g.val * 160 + r.val, by omega⟩ x) = (f0 r.val x.val : EReal))
    (h1 : ∀ (r : Fin 160) (x : Fin 4096), x1 (ix3 b ⟨g.val * 160 + r.val, by omega⟩ x) = (f1 r.val x.val : EReal))
    (hw : ∀ j : Fin 4096, x2 (ix3 b ⟨g.val * 128 + (64 * c + e.val), by omega⟩ j) = w j.val) :
    val_main_v29 (F := Ideal) x0 x1 x2 (ix4 b x ⟨2 * g.val + c, by omega⟩ e) = smeanE (scR f0 f1 c x.val) w x.val := by
  have hs : ∀ j : Fin 4096, val_main_v17 (F := Ideal) x0 x1 (ix4 b ⟨2 * g.val + c, by omega⟩ x j)
      = if j.val ≤ x.val then (scR f0 f1 c x.val j.val : EReal) else ⊥ := by
    intro j
    rw [v17_at]
    congr 1
    unfold scR
    rw [← coe_sum]
    refine Finset.sum_congr rfl fun t _ => ?_
    rw [v2_at, v5_at, EReal.coe_mul]
    have q0 := h0 ⟨80 * c + t.val, by omega⟩ x
    have q1 := h1 ⟨80 * c + t.val, by omega⟩ j
    rw [← q0, ← q1]
    congr 3 <;> (refine Fin.ext ?_; simp only; omega)
  obtain ⟨μ, hμ⟩ := ref_weights (scR f0 f1 c x.val) x (fun j => val_main_v17 (F := Ideal) x0 x1 (ix4 b ⟨2 * g.val + c, by omega⟩ x j)) hs
  rw [v29_at, ← ref_meanE (scR f0 f1 c x.val) w x μ]
  refine Finset.sum_congr rfl fun j _ => ?_
  rw [v27_at, v19_at, hμ j, v8_at, ← hw j]
  congr 3
  refine Fin.ext ?_
  simp only
  omega

theorem v31_at (x0 x1 : (⟨S4x640x4096, .bf16⟩ : BufTy).Contents (Elt Ideal)) (x2 : (⟨S4x512x4096, .bf16⟩ : BufTy).Contents (Elt Ideal)) (b : Fin 4) (r : Fin 512) (x : Fin 4096) :
    val_main_v31 (F := Ideal) x0 x1 x2 (ix3 b x r)
      = val_main_v29 (F := Ideal) x0 x1 x2 (ix4 b x ⟨r.val / 64, by omega⟩ ⟨r.val % 64, by omega⟩) := by
  pointwise [val_main_v31, val_main_v30]

end Cert.FoxRef
-- ==== Proof.FoxPre.lean ====
module

public import proofs.«01_k».proof.Defs
public import proofs.«01_k».proof.Proof.AttnPre
public import proofs.«01_k».proof.Proof.Gen.Pre_rows_finite

@[expose] public section

set_option maxRecDepth 16384

noncomputable section

namespace Cert.FoxPre

open Idealize.ShloMosaic Cert.Pre_rows_finite Cert.AttnPre

/-! What the precondition says: every entry of the queries and keys is real. -/

theorem inputs (a0 a1 : FVec Ideal S4x640x4096 .bf16) (a2 : FVec Ideal S4x512x4096 .bf16)
    (h : Cert.Pre_rows_finite.fn (F := Ideal) a0 a1 a2 = fun _ => 1#1) :
    (∀ i, ∃ r : ℝ, (a0 i : EReal) = (r : EReal)) ∧ (∀ i, ∃ r : ℝ, (a1 i : EReal) = (r : EReal)) := by
  have h' := congrFun h (Shape.Idx.first Gen.h_S_)
  unfold Cert.Pre_rows_finite.fn at h'
  obtain ⟨h0, h1⟩ := IntOp.andi_eq_one.1 h'
  exact ⟨all_real _ _ _ _ _ _ h0, all_real _ _ _ _ _ _ h1⟩

end Cert.FoxPre
-- ==== Proof.FoxValue.lean ====
module

public import proofs.«01_k».proof.Proof.FoxRef
public import proofs.«01_k».proof.Proof.FoxPre
public import proofs.«01_k».proof.Proof.AttnValue
public import Idealize.ShloMosaic.Lib.Claim

@[expose] public section

set_option maxRecDepth 16384

noncomputable section

namespace Cert.FoxValue

open Cert.Kernel4Ideal Cert.Kernel4Ideal.Gen Cert.Kernel4Ideal.Body Cert.Fox
open Cert.AttnValue (real_of)
open Idealize.ShloMosaic Idealize.ShloMosaic.TcCoe

/-! The equation of the two results: the output array block by block. -/

/-- Where each window's block lies at a point. -/
theorem idx : ∀ t : Fin cfg0.N,
    win0_0.index t = ![(grid0.coords t 0).val, (grid0.coords t 1).val, 0]
      ∧ win0_1.index t = ![(grid0.coords t 0).val, (grid0.coords t 1).val, 0]
      ∧ win0_2.index t = ![(grid0.coords t 0).val, (grid0.coords t 1).val, 0]
      ∧ win0_3.index t = ![(grid0.coords t 0).val, 0, (grid0.coords t 1).val] :=
  (by decide +kernel : ∀ t : Fin grid0.N, _)

variable (m : (ℓ : Loc nD τ sig) → Buf (Elt Ideal) ℓ)

theorem blk0 (c : Dev nD) (t : Fin cfg0.N) (r : Fin 160) (x : Fin 4096) (b : Fin 4) (h : Fin 4) (hb : (grid0.coords t 0).val = b.val) (hh : (grid0.coords t 1).val = h.val) :
    (iblk m c 0 t : Vec Ideal S1x160x4096 .bf16) (ix3 0 r x) = (m ((c.tc : Thread nD τ).loc main_arg0) : S4x640x4096.Idx → Elt Ideal .bf16) (ix3 b ⟨h.val * 160 + r.val, by omega⟩ x) := by
  obtain ⟨e0, e1, e2, e3⟩ := idx t
  blk_simp [iblk]
  refine (congrFun (V_main_arg0 m c) _).trans ?_
  refine congrArg _ ?_
  blk_ext [e0]

theorem blk1 (c : Dev nD) (t : Fin cfg0.N) (r : Fin 160) (x : Fin 4096) (b : Fin 4) (h : Fin 4) (hb : (grid0.coords t 0).val = b.val) (hh : (grid0.coords t 1).val = h.val) :
    (iblk m c 1 t : Vec Ideal S1x160x4096 .bf16) (ix3 0 r x) = (m ((c.tc : Thread nD τ).loc main_arg1) : S4x640x4096.Idx → Elt Ideal .bf16) (ix3 b ⟨h.val * 160 + r.val, by omega⟩ x) := by
  obtain ⟨e0, e1, e2, e3⟩ := idx t
  blk_simp [iblk]
  refine (congrFun (V_main_arg1 m c) _).trans ?_
  refine congrArg _ ?_
  blk_ext [e1]

theorem blk2 (c : Dev nD) (t : Fin cfg0.N) (r : Fin 128) (x : Fin 4096) (b : Fin 4) (h : Fin 4) (hb : (grid0.coords t 0).val = b.val) (hh : (grid0.coords t 1).val = h.val) :
    (iblk m c 2 t : Vec Ideal S1x128x4096 .bf16) (ix3 0 r x) = (m ((c.tc : Thread nD τ).loc main_arg2) : S4x512x4096.Idx → Elt Ideal .bf16) (ix3 b ⟨h.val * 128 + r.val, by omega⟩ x) := by
  obtain ⟨e0, e1, e2, e3⟩ := idx t
  blk_simp [iblk]
  refine (congrFun (V_main_arg2 m c) _).trans ?_
  refine congrArg _ ?_
  blk_ext [e2]

/-- Real entries of one block, as a function of the row and the column. -/
theorem reals {R n : ℕ} (a : (⟨3, ![4, R, 4096]⟩ : Shape).Idx → EReal) (ra : ∀ i, ∃ r : ℝ, a i = r) (b : Fin 4) (o : ℕ) (ho : o + n ≤ R) :
    ∃ f : ℕ → ℕ → ℝ, ∀ (r : Fin n) (x : Fin 4096), a (ix3 b ⟨o + r.val, by omega⟩ x) = (f r.val x.val : EReal) := by
  refine ⟨fun r x => if hr : r < n then if hx : x < 4096 then (a (ix3 b ⟨o + r, by omega⟩ ⟨x, hx⟩)).toReal else 0 else 0, fun r x => ?_⟩
  simp only [r.isLt, x.isLt, dif_pos]
  exact real_of (ra _)

/-- The block's values and the reference's at one point. -/
theorem entry (c : Dev nD) (t : Fin cfg0.N) (a0 a1 : S4x640x4096.Idx → Elt Ideal .bf16) (a2 : S4x512x4096.Idx → Elt Ideal .bf16)
    (x0 x1 : Vec Ideal S1x160x4096 .bf16) (x2 : Vec Ideal S1x128x4096 .bf16) (b h : Fin 4)
    (r0 : ∀ i, ∃ r : ℝ, (a0 i : EReal) = r) (r1 : ∀ i, ∃ r : ℝ, (a1 i : EReal) = r)
    (h0 : ∀ (r : Fin 160) (x : Fin 4096), x0 (ix3 0 r x) = a0 (ix3 b ⟨h.val * 160 + r.val, by omega⟩ x))
    (h1 : ∀ (r : Fin 160) (x : Fin 4096), x1 (ix3 0 r x) = a1 (ix3 b ⟨h.val * 160 + r.val, by omega⟩ x))
    (h2 : ∀ (r : Fin 128) (x : Fin 4096), x2 (ix3 0 r x) = a2 (ix3 b ⟨h.val * 128 + r.val, by omega⟩ x)) (x : Fin 4096) (e : Fin 128) :
    outVal (F := Ideal) c t x0 x1 x2 (ix3 0 x e) = Cert.Reference4Ideal.Read.val_main_v31 a0 a1 a2 (ix3 b x ⟨h.val * 128 + e.val, by omega⟩) := by
  obtain ⟨f0, k0⟩ := reals (n := 160) a0 r0 b (h.val * 160) (by omega)
  obtain ⟨f1, k1⟩ := reals (n := 160) a1 r1 b (h.val * 160) (by omega)
  rw [outVal_at, Cert.FoxRef.v31_at]
  have e1 : (⟨(h.val * 128 + e.val) / 64, by omega⟩ : Fin 8) = ⟨2 * h.val + e.val / 64, by omega⟩ := Fin.ext (by simp only []; omega)
  have e2 : (⟨(h.val * 128 + e.val) % 64, by omega⟩ : Fin 64) = ⟨e.val % 64, Nat.mod_lt _ (by decide)⟩ := Fin.ext (by simp only []; omega)
  simp only [e1, e2]
  have hw : ∀ j : Fin 4096, a2 (ix3 b ⟨h.val * 128 + (64 * (e.val / 64) + e.val % 64), by omega⟩ j)
      = vV x2 (e.val / 64) ⟨e.val % 64, Nat.mod_lt _ (by decide)⟩ j.val := by
    intro j
    unfold vV
    rw [h2]
    simp only [Nat.mod_eq_of_lt (show 64 * (e.val / 64) + e.val % 64 < 128 by omega), Nat.mod_eq_of_lt j.isLt]
  rw [headV_real x0 x1 x2 f0 f1 (fun r x => (h0 r x).trans (k0 r x)) (fun r x => (h1 r x).trans (k1 r x)) (e.val / 64) (by omega) x _,
    Cert.FoxRef.v29_real a0 a1 a2 b h (e.val / 64) (by omega) f0 f1 _ x _ k0 k1 hw]

/-- The kernel's array is the reference's result, the queries and keys being real numbers. -/
theorem result (c : Dev nD) (hp : Cert.Pre_rows_finite.fn (F := Ideal) (m ((c.tc : Thread nD τ).loc main_arg0)) (m ((c.tc : Thread nD τ).loc main_arg1)) (m ((c.tc : Thread nD τ).loc main_arg2)) = fun _ => 1#1) :
    (dats m 0 c).arrAt 3 cfg0.N = Cert.Reference4Ideal.Read.val_main_v31 (F := Ideal) (m ((c.tc : Thread nD τ).loc main_arg0)) (m ((c.tc : Thread nD τ).loc main_arg1)) (m ((c.tc : Thread nD τ).loc main_arg2)) := by
  obtain ⟨r0, r1⟩ := Cert.FoxPre.inputs _ _ _ hp
  refine (dats m 0 c).arrAt_eq_of_covers 3 _ (by decide +kernel) fun t _ y => ?_
  blk_simp
  rw [after0_3]
  obtain ⟨e0, e1, e2, e3⟩ := idx t
  have hb : (grid0.coords t 0).val < 4 := (grid0.coords t 0).isLt
  have hh : (grid0.coords t 1).val < 4 := (grid0.coords t 1).isLt
  obtain ⟨z, x, e, rfl⟩ : ∃ (z : Fin 1) (x : Fin 4096) (e : Fin 128), y = ix3 z x e := ⟨_, _, _, eq_ix3 y⟩
  obtain rfl : z = 0 := Subsingleton.elim _ _
  refine (entry c t (m ((c.tc : Thread nD τ).loc main_arg0)) (m ((c.tc : Thread nD τ).loc main_arg1)) (m ((c.tc : Thread nD τ).loc main_arg2)) _ _ _ ⟨_, hb⟩ ⟨_, hh⟩ r0 r1
    (fun r x => blk0 m c t r x _ _ rfl rfl) (fun r x => blk1 m c t r x _ _ rfl rfl) (fun r x => blk2 m c t r x _ _ rfl rfl) x e).trans ?_
  refine congrArg _ ?_
  blk_ext [e3]

end Cert.FoxValue
-- ==== Proof.lean ====
module

public import proofs.«01_k».proof.Defs
public import proofs.«01_k».proof.Proof.AttnFrameKernel
public import proofs.«01_k».proof.Proof.AttnFrameKernelIdeal
public import proofs.«01_k».proof.Proof.AttnRefFrame
public import proofs.«01_k».proof.Proof.AttnValue
public import proofs.«01_k».proof.Proof.Gen.ReferenceIdeal.Read
public import proofs.«01_k».proof.Proof.Gen.Pre_inputs_finite
public import proofs.«01_k».proof.Proof.Gen.Kernel2
public import proofs.«01_k».proof.Proof.ExpFrameKernel2
public import proofs.«01_k».proof.Proof.Gen.Kernel2Ideal
public import proofs.«01_k».proof.Proof.ExpFrameKernel2Ideal
public import proofs.«01_k».proof.Proof.Gen.Reference2Ideal
public import proofs.«01_k».proof.Proof.Gen.Reference2Ideal.Read
public import proofs.«01_k».proof.Proof.Gen.Pre_tables_in_range
public import proofs.«01_k».proof.Proof.ExpPre
public import proofs.«01_k».proof.Proof.ExpRefFrame
public import proofs.«01_k».proof.Proof.ExpValue
public import proofs.«01_k».proof.Proof.Gen.Kernel3
public import proofs.«01_k».proof.Proof.Gen.Kernel3.Frame
public import proofs.«01_k».proof.Proof.Gen.Kernel3.Skeleton
public import proofs.«01_k».proof.Proof.Gen.Kernel3Ideal
public import proofs.«01_k».proof.Proof.Gen.Kernel3Ideal.Frame
public import proofs.«01_k».proof.Proof.Gen.Kernel3Ideal.Skeleton
public import proofs.«01_k».proof.Proof.Gen.Reference3Ideal
public import proofs.«01_k».proof.Proof.Gen.Reference3Ideal.Read
public import proofs.«01_k».proof.Proof.ProjRefFrame
public import proofs.«01_k».proof.Proof.ProjValue
public import proofs.«01_k».proof.Proof.Gen.Kernel4
public import proofs.«01_k».proof.Proof.Gen.Kernel4.Frame
public import proofs.«01_k».proof.Proof.Gen.Kernel4.Skeleton
public import proofs.«01_k».proof.Proof.Gen.Kernel4Ideal
public import proofs.«01_k».proof.Proof.Gen.Kernel4Ideal.Frame
public import proofs.«01_k».proof.Proof.Gen.Kernel4Ideal.Skeleton
public import proofs.«01_k».proof.Proof.Gen.Reference4Ideal
public import proofs.«01_k».proof.Proof.Gen.Reference4Ideal.Read
public import proofs.«01_k».proof.Proof.Gen.Reference4Ideal.Run
public import proofs.«01_k».proof.Proof.Gen.Pre_rows_finite
public import proofs.«01_k».proof.Proof.FoxFrameKernel4
public import proofs.«01_k».proof.Proof.FoxFrameKernel4Ideal
public import proofs.«01_k».proof.Proof.FoxRefFrame
public import proofs.«01_k».proof.Proof.FoxValue
public import Idealize.ShloMosaic.Adequacy
public import Idealize.ShloMosaic.Init
public import Idealize.ShloMosaic.Lib.Claim

@[expose] public section

noncomputable section

namespace Cert.Proof

open Idealize.ShloMosaic Idealize.SL.Sem Cert.Kernel

/-- The attention over the extended reals: the kernel's result is the reference's. -/
theorem attn : Cert.algebraic_KernelIdeal_ReferenceIdeal_pre_inputs_finite := by
  pair_intro
  · run_from Cert.KernelIdeal.Body.run_main m g
  · run_from Cert.ReferenceIdeal.Value.run m' g'
    obtain ⟨h0, h1, h2, h3, h4⟩ := hagree c
    refine (Cert.ReferenceIdeal.Read.val_main_v69_eq m' c).trans ?_
    rw [h0, h1, h2, h3, h4]
    exact (Cert.AttnValue.result m c (hpre c)).symm

/-- The tables of a launch memory that the precondition holds of. -/
def tabsBits (m : (ℓ : Loc Cert.Kernel2.nD Cert.Kernel2.τ Cert.Kernel2.sig) → Buf (Elt Bits) ℓ) (h : Cert.Pre_Kernel2 m) : Cert.Kernel2.Exp.Tabs where
  te := m (((0 : Dev Cert.Kernel2.nD).tc : Thread Cert.Kernel2.nD Cert.Kernel2.τ).loc Cert.Kernel2.main_arg1)
  nu := m (((0 : Dev Cert.Kernel2.nD).tc : Thread Cert.Kernel2.nD Cert.Kernel2.τ).loc Cert.Kernel2.main_arg2)
  te_lt := (Cert.ExpPre.tables (F := Bits) _ _ _ _ _ _ (h 0)).1
  nu_pos := (Cert.ExpPre.tables (F := Bits) _ _ _ _ _ _ (h 0)).2

theorem holdsBits (m : (ℓ : Loc Cert.Kernel2.nD Cert.Kernel2.τ Cert.Kernel2.sig) → Buf (Elt Bits) ℓ) (h : Cert.Pre_Kernel2 m) :
    Cert.Kernel2.Exp.Holds (tabsBits m h) m :=
  ⟨fun c => by obtain rfl : c = (0 : Fin 1) := Subsingleton.elim (α := Fin 1) _ _; rfl,
    fun c => by obtain rfl : c = (0 : Fin 1) := Subsingleton.elim (α := Fin 1) _ _; rfl⟩

/-- The same over the extended reals. -/
def tabsIdeal (m : (ℓ : Loc Cert.Kernel2Ideal.nD Cert.Kernel2Ideal.τ Cert.Kernel2Ideal.sig) → Buf (Elt Ideal) ℓ) (h : Cert.Pre_Kernel2Ideal m) : Cert.Kernel2Ideal.Exp.Tabs where
  te := m (((0 : Dev Cert.Kernel2Ideal.nD).tc : Thread Cert.Kernel2Ideal.nD Cert.Kernel2Ideal.τ).loc Cert.Kernel2Ideal.main_arg1)
  nu := m (((0 : Dev Cert.Kernel2Ideal.nD).tc : Thread Cert.Kernel2Ideal.nD Cert.Kernel2Ideal.τ).loc Cert.Kernel2Ideal.main_arg2)
  te_lt := (Cert.ExpPre.tables (F := Ideal) _ _ _ _ _ _ (h 0)).1
  nu_pos := (Cert.ExpPre.tables (F := Ideal) _ _ _ _ _ _ (h 0)).2

theorem holdsIdeal (m : (ℓ : Loc Cert.Kernel2Ideal.nD Cert.Kernel2Ideal.τ Cert.Kernel2Ideal.sig) → Buf (Elt Ideal) ℓ) (h : Cert.Pre_Kernel2Ideal m) :
    Cert.Kernel2Ideal.Exp.Holds (tabsIdeal m h) m :=
  ⟨fun c => by obtain rfl : c = (0 : Fin 1) := Subsingleton.elim (α := Fin 1) _ _; rfl,
    fun c => by obtain rfl : c = (0 : Fin 1) := Subsingleton.elim (α := Fin 1) _ _; rfl⟩

/-- The kernel's run of the experts, with what its result holds. -/
theorem expertsRun (m : (ℓ : Loc Cert.Kernel2Ideal.nD Cert.Kernel2Ideal.τ Cert.Kernel2Ideal.sig) → Buf (Elt Ideal) ℓ) (g : Dev Cert.Kernel2Ideal.nD → PrngReg)
    (h : Cert.Pre_Kernel2Ideal m) :
    θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
      r.2.mem ((c.tc : Thread Cert.Kernel2Ideal.nD Cert.Kernel2Ideal.τ).loc Cert.Kernel2Ideal.main_v0)
        = (Cert.Kernel2Ideal.Exp.dats (tabsIdeal m h) m 0 c).arrAt (4 : Fin 5) (Cert.Kernel2Ideal.Exp.cfgT (tabsIdeal m h)).N
      ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)) := by
  have hp := holdsIdeal m h
  refine (θ_run _ _ _).mono (fun r hr c => ?_) (Cert.Kernel2Ideal.Exp.run_main (tabsIdeal m h) m g hp)
  have hc := hr c
  exact ⟨hc.1 (4 : Fin 5), (hc.1 (0 : Fin 5)).trans ((Cert.Kernel2Ideal.Exp.dats (tabsIdeal m h) m 0 c).arrAt_in (0 : Fin 5) rfl _),
    (hc.2 0).trans (hp.1 c).symm, (hc.2 1).trans (hp.2 c).symm,
    (hc.1 (1 : Fin 5)).trans ((Cert.Kernel2Ideal.Exp.dats (tabsIdeal m h) m 0 c).arrAt_in (1 : Fin 5) rfl _),
    (hc.1 (2 : Fin 5)).trans ((Cert.Kernel2Ideal.Exp.dats (tabsIdeal m h) m 0 c).arrAt_in (2 : Fin 5) rfl _),
    (hc.1 (3 : Fin 5)).trans ((Cert.Kernel2Ideal.Exp.dats (tabsIdeal m h) m 0 c).arrAt_in (3 : Fin 5) rfl _)⟩

/-- The experts over the extended reals: the kernel's result is the reference's. -/
theorem experts : Cert.algebraic_Kernel2Ideal_Reference2Ideal := by
  intro m g m' g' hpre hagree
  refine ⟨fun c => (Cert.Kernel2Ideal.Exp.dats (tabsIdeal m hpre) m 0 c).arrAt (4 : Fin 5) (Cert.Kernel2Ideal.Exp.cfgT (tabsIdeal m hpre)).N, expertsRun m g hpre, ?_⟩
  refine (θ_run _ _ _).mono (fun r hr c => ⟨?_, (hr c).2⟩) (Cert.Reference2Ideal.Value.run m' g')
  refine (hr c).1.trans ?_
  obtain ⟨h0, h1, h2, h3, h4, h5⟩ := hagree c
  refine (Cert.Reference2Ideal.Read.val_main_v33_eq _ _ _ _ _ _).trans ?_
  rw [h0, h1, h2, h3, h4, h5]
  exact (Cert.ExpValue.result (tabsIdeal m hpre) m c (holdsIdeal m hpre)).symm

/-- The projection over the extended reals: the kernel's three results are the reference's. -/
theorem proj : Cert.algebraic_Kernel3Ideal_Reference3Ideal := by
  intro m g m' g' hpre hagree
  refine ⟨fun c => (Cert.Kernel3Ideal.Gen.dats m 0 c).arrAt 4 Cert.Kernel3Ideal.cfg0.N, fun c => (Cert.Kernel3Ideal.Gen.dats m 0 c).arrAt 5 Cert.Kernel3Ideal.cfg0.N,
    fun c => (Cert.Kernel3Ideal.Gen.dats m 0 c).arrAt 6 Cert.Kernel3Ideal.cfg0.N, ?_, ?_⟩
  · refine (θ_run _ _ _).mono (fun r hr c => ?_) (θ_run_and (Cert.Kernel3Ideal.Gen.run_main m g) (Cert.Kernel3Ideal.Gen.unchanged m g))
    exact ⟨(hr.1 c).1 4, (hr.1 c).1 5, (hr.1 c).1 6, hr.2 c⟩
  · refine (θ_run _ _ _).mono (fun r hr c => ?_) (Cert.Reference3Ideal.Value.run m' g')
    obtain ⟨h0, h1, h2, h3⟩ := hagree c
    refine ⟨(hr c).1.trans ((Cert.Reference3Ideal.Read.val_main_v28_eq _ _ _ _).trans ?_), (hr c).2.1.trans ((Cert.Reference3Ideal.Read.val_main_v30_eq _ _ _ _).trans ?_),
      (hr c).2.2.1.trans ((Cert.Reference3Ideal.Read.val_main_v32_eq _ _ _ _).trans ?_), (hr c).2.2.2⟩
    · rw [h0, h1, h2, h3]
      exact (Cert.ProjValue.result4 m c).symm
    · rw [h0, h1, h2, h3]
      exact (Cert.ProjValue.result5 m c).symm
    · rw [h0, h1, h2, h3]
      exact (Cert.ProjValue.result6 m c).symm

/-- The forgetting attention over the extended reals: the kernel's result is the reference's. -/
theorem fox : Cert.algebraic_Kernel4Ideal_Reference4Ideal_pre_rows_finite := by
  pair_intro
  · run_from Cert.Kernel4Ideal.Body.run_main m g
  · run_from Cert.Reference4Ideal.Value.run m' g'
    obtain ⟨h0, h1, h2⟩ := hagree c
    refine (Cert.Reference4Ideal.Read.val_main_v31_eq m' c).trans ?_
    rw [h0, h1, h2]
    exact (Cert.FoxValue.result m c (hpre c)).symm

theorem claim : Cert.Claim := ⟨Cert.Kernel.Gen.facts, Cert.KernelIdeal.Gen.facts, Cert.ReferenceIdeal.Gen.facts, Cert.Kernel2.Gen.facts, Cert.Kernel2Ideal.Gen.facts,
  Cert.Reference2Ideal.Gen.facts, Cert.Kernel3.Gen.facts, Cert.Kernel3Ideal.Gen.facts, Cert.Reference3Ideal.Gen.facts, Cert.Kernel4.Gen.facts, Cert.Kernel4Ideal.Gen.facts,
  Cert.Reference4Ideal.Gen.facts, Cert.Pre_inputs_finite.Gen.facts, Cert.Pre_tables_in_range.Gen.facts, Cert.Pre_rows_finite.Gen.facts,
  fun m ρ _ => Cert.Kernel.Body.frame m ρ,
  fun m ρ _ => Cert.KernelIdeal.Body.frame m ρ,
  fun m ρ _ => Cert.KernelIdeal.Body.frame m ρ,
  fun m ρ _ => Cert.ReferenceIdeal.Body.frame m ρ,
  fun m ρ _ => Cert.ReferenceIdeal.Body.frame m ρ,
  fun m ρ h => Cert.Kernel2.Exp.frame (tabsBits m h) m ρ (holdsBits m h),
  fun m ρ h => Cert.Kernel2Ideal.Exp.frame (tabsIdeal m h) m ρ (holdsIdeal m h),
  fun m ρ _ => Cert.Reference2Ideal.Body.frame m ρ,
  fun m ρ _ => Cert.Reference2Ideal.Body.frame m ρ,
  fun m ρ _ => Cert.Kernel3.Gen.frame m ρ,
  fun m ρ _ => Cert.Kernel3Ideal.Gen.frame m ρ,
  fun m ρ _ => Cert.Reference3Ideal.Body.frame m ρ,
  fun m ρ _ => Cert.Kernel4.Body.frame m ρ,
  fun m ρ _ => Cert.Kernel4Ideal.Body.frame m ρ,
  fun m ρ _ => Cert.Kernel4Ideal.Body.frame m ρ,
  fun m ρ _ => Cert.Reference4Ideal.Body.frame m ρ,
  fun m ρ _ => Cert.Reference4Ideal.Body.frame m ρ,
  IdealRules.named_const.statement Cert.KernelIdeal.κ "mask" .f32 0xF149F2CA#32 ⊥ rfl,
  attn,
  trivial,
  experts,
  trivial,
  proj,
  IdealRules.named_const.statement Cert.Kernel4Ideal.κ "mask" .f32 0xF149F2CA#32 ⊥ rfl,
  fox⟩

end Cert.Proof

end
